-- ==== Defs.lean ====
def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBRefIdeal (m : (ℓ : Loc Cert.PoolBRefIdeal.nD Cert.PoolBRefIdeal.τ Cert.PoolBRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFRefIdeal (m : (ℓ : Loc Cert.PoolFRefIdeal.nD Cert.PoolFRefIdeal.τ Cert.PoolFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InW0 (m : (ℓ : Loc Cert.InW0.nD Cert.InW0.τ Cert.InW0.sig) → Buf (Elt Bits) ℓ) : Prop :=
  True

def Pre_InW0Ideal (m : (ℓ : Loc Cert.InW0Ideal.nD Cert.InW0Ideal.τ Cert.InW0Ideal.sig) → Buf (Elt Ideal) ℓ) : Prop :=
  True

def Pre_InW0RefIdeal (m : (ℓ : Loc Cert.InW0RefIdeal.nD Cert.InW0RefIdeal.τ Cert.InW0RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamWa (m : (ℓ : Loc Cert.AdamWa.nD Cert.AdamWa.τ Cert.AdamWa.sig) → Buf (Elt Bits) ℓ) : Prop :=
  True

def Pre_AdamWaIdeal (m : (ℓ : Loc Cert.AdamWaIdeal.nD Cert.AdamWaIdeal.τ Cert.AdamWaIdeal.sig) → Buf (Elt Ideal) ℓ) : Prop :=
  True

def Pre_AdamWaRefIdeal (m : (ℓ : Loc Cert.AdamWaRefIdeal.nD Cert.AdamWaRefIdeal.τ Cert.AdamWaRefIdeal.sig) → Buf (Elt Ideal) ℓ) : Prop :=
  True

def Pre_AdamWx (m : (ℓ : Loc Cert.AdamWx.nD Cert.AdamWx.τ Cert.AdamWx.sig) → Buf (Elt Bits) ℓ) : Prop :=
  True

def Pre_AdamWxIdeal (m : (ℓ : Loc Cert.AdamWxIdeal.nD Cert.AdamWxIdeal.τ Cert.AdamWxIdeal.sig) → Buf (Elt Ideal) ℓ) : Prop :=
  True

def Pre_AdamWxRefIdeal (m : (ℓ : Loc Cert.AdamWxRefIdeal.nD Cert.AdamWxRefIdeal.τ Cert.AdamWxRefIdeal.sig) → Buf (Elt Ideal) ℓ) : Prop :=
  True

def Pre_ModRep (m : (ℓ : Loc Cert.ModRep.nD Cert.ModRep.τ Cert.ModRep.sig) → Buf (Elt Bits) ℓ) : Prop :=
  True

def Pre_ModRepIdeal (m : (ℓ : Loc Cert.ModRepIdeal.nD Cert.ModRepIdeal.τ Cert.ModRepIdeal.sig) → Buf (Elt Ideal) ℓ) : Prop :=
  True

def Pre_ModRepRefIdeal (m : (ℓ : Loc Cert.ModRepRefIdeal.nD Cert.ModRepRefIdeal.τ Cert.ModRepRefIdeal.sig) → Buf (Elt Ideal) ℓ) : Prop :=
  True

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0)
      ∧ r.2.mem ((c.tc : Thread Cert.PoolB.nD Cert.PoolB.τ).loc Cert.PoolB.main_arg1) = m ((c.tc : Thread Cert.PoolB.nD Cert.PoolB.τ).loc Cert.PoolB.main_arg1)
      ∧ r.2.mem ((c.tc : Thread Cert.PoolB.nD Cert.PoolB.τ).loc Cert.PoolB.main_arg2) = m ((c.tc : Thread Cert.PoolB.nD Cert.PoolB.τ).loc Cert.PoolB.main_arg2)
      ∧ r.2.mem ((c.tc : Thread Cert.PoolB.nD Cert.PoolB.τ).loc Cert.PoolB.main_arg3) = m ((c.tc : Thread Cert.PoolB.nD Cert.PoolB.τ).loc Cert.PoolB.main_arg3)
      ∧ r.2.mem ((c.tc : Thread Cert.PoolB.nD Cert.PoolB.τ).loc Cert.PoolB.main_arg4) = m ((c.tc : Thread Cert.PoolB.nD Cert.PoolB.τ).loc Cert.PoolB.main_arg4))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
      ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
      ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3)
      ∧ r.2.mem ((c.tc : Thread Cert.PoolBIdeal.nD Cert.PoolBIdeal.τ).loc Cert.PoolBIdeal.main_arg4) = m ((c.tc : Thread Cert.PoolBIdeal.nD Cert.PoolBIdeal.τ).loc Cert.PoolBIdeal.main_arg4))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1)
      ∧ r.2.mem ((c.tc : Thread Cert.PoolBRefIdeal.nD Cert.PoolBRefIdeal.τ).loc Cert.PoolBRefIdeal.main_arg2) = m ((c.tc : Thread Cert.PoolBRefIdeal.nD Cert.PoolBRefIdeal.τ).loc Cert.PoolBRefIdeal.main_arg2)
      ∧ r.2.mem ((c.tc : Thread Cert.PoolBRefIdeal.nD Cert.PoolBRefIdeal.τ).loc Cert.PoolBRefIdeal.main_arg3) = m ((c.tc : Thread Cert.PoolBRefIdeal.nD Cert.PoolBRefIdeal.τ).loc Cert.PoolBRefIdeal.main_arg3)
      ∧ r.2.mem ((c.tc : Thread Cert.PoolBRefIdeal.nD Cert.PoolBRefIdeal.τ).loc Cert.PoolBRefIdeal.main_arg4) = m ((c.tc : Thread Cert.PoolBRefIdeal.nD Cert.PoolBRefIdeal.τ).loc Cert.PoolBRefIdeal.main_arg4))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2)
      ∧ r.2.mem ((c.tc : Thread Cert.InF.nD Cert.InF.τ).loc Cert.InF.main_arg3) = m ((c.tc : Thread Cert.InF.nD Cert.InF.τ).loc Cert.InF.main_arg3))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
      ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2)
      ∧ r.2.mem ((c.tc : Thread Cert.InFRefIdeal.nD Cert.InFRefIdeal.τ).loc Cert.InFRefIdeal.main_arg3) = m ((c.tc : Thread Cert.InFRefIdeal.nD Cert.InFRefIdeal.τ).loc Cert.InFRefIdeal.main_arg3))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4)
      ∧ r.2.mem ((c.tc : Thread Cert.OutF.nD Cert.OutF.τ).loc Cert.OutF.main_arg5) = m ((c.tc : Thread Cert.OutF.nD Cert.OutF.τ).loc Cert.OutF.main_arg5)
      ∧ r.2.mem ((c.tc : Thread Cert.OutF.nD Cert.OutF.τ).loc Cert.OutF.main_arg6) = m ((c.tc : Thread Cert.OutF.nD Cert.OutF.τ).loc Cert.OutF.main_arg6))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
      ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5)
      ∧ r.2.mem ((c.tc : Thread Cert.OutFIdeal.nD Cert.OutFIdeal.τ).loc Cert.OutFIdeal.main_arg6) = m ((c.tc : Thread Cert.OutFIdeal.nD Cert.OutFIdeal.τ).loc Cert.OutFIdeal.main_arg6))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3)
      ∧ r.2.mem ((c.tc : Thread Cert.OutFRefIdeal.nD Cert.OutFRefIdeal.τ).loc Cert.OutFRefIdeal.main_arg4) = m ((c.tc : Thread Cert.OutFRefIdeal.nD Cert.OutFRefIdeal.τ).loc Cert.OutFRefIdeal.main_arg4)
      ∧ r.2.mem ((c.tc : Thread Cert.OutFRefIdeal.nD Cert.OutFRefIdeal.τ).loc Cert.OutFRefIdeal.main_arg5) = m ((c.tc : Thread Cert.OutFRefIdeal.nD Cert.OutFRefIdeal.τ).loc Cert.OutFRefIdeal.main_arg5)
      ∧ r.2.mem ((c.tc : Thread Cert.OutFRefIdeal.nD Cert.OutFRefIdeal.τ).loc Cert.OutFRefIdeal.main_arg6) = m ((c.tc : Thread Cert.OutFRefIdeal.nD Cert.OutFRefIdeal.τ).loc Cert.OutFRefIdeal.main_arg6))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2)
      ∧ r.2.mem ((c.tc : Thread Cert.OutW.nD Cert.OutW.τ).loc Cert.OutW.main_arg3) = m ((c.tc : Thread Cert.OutW.nD Cert.OutW.τ).loc Cert.OutW.main_arg3))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
      ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2)
      ∧ r.2.mem ((c.tc : Thread Cert.OutWRefIdeal.nD Cert.OutWRefIdeal.τ).loc Cert.OutWRefIdeal.main_arg3) = m ((c.tc : Thread Cert.OutWRefIdeal.nD Cert.OutWRefIdeal.τ).loc Cert.OutWRefIdeal.main_arg3))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3)
      ∧ r.2.mem ((c.tc : Thread Cert.InW.nD Cert.InW.τ).loc Cert.InW.main_arg4) = m ((c.tc : Thread Cert.InW.nD Cert.InW.τ).loc Cert.InW.main_arg4)
      ∧ r.2.mem ((c.tc : Thread Cert.InW.nD Cert.InW.τ).loc Cert.InW.main_arg5) = m ((c.tc : Thread Cert.InW.nD Cert.InW.τ).loc Cert.InW.main_arg5))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
      ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
      ∧ r.2.mem ((c.tc : Thread Cert.InWIdeal.nD Cert.InWIdeal.τ).loc Cert.InWIdeal.main_arg5) = m ((c.tc : Thread Cert.InWIdeal.nD Cert.InWIdeal.τ).loc Cert.InWIdeal.main_arg5))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3)
      ∧ r.2.mem ((c.tc : Thread Cert.InWRefIdeal.nD Cert.InWRefIdeal.τ).loc Cert.InWRefIdeal.main_arg4) = m ((c.tc : Thread Cert.InWRefIdeal.nD Cert.InWRefIdeal.τ).loc Cert.InWRefIdeal.main_arg4)
      ∧ r.2.mem ((c.tc : Thread Cert.InWRefIdeal.nD Cert.InWRefIdeal.τ).loc Cert.InWRefIdeal.main_arg5) = m ((c.tc : Thread Cert.InWRefIdeal.nD Cert.InWRefIdeal.τ).loc Cert.InWRefIdeal.main_arg5))
      ∧ r.2.sem = fun _ => 0)

def quiescent_InW0 [hInW0 : Cert.InW0.Facts] : Prop :=
  ∀ (m : (ℓ : Loc Cert.InW0.nD Cert.InW0.τ Cert.InW0.sig) → Buf (Elt Bits) ℓ) (g : Dev Cert.InW0.nD → PrngReg), Pre_InW0 m →
    θ_run (Cert.InW0.defs (F := Bits)) (onTc (τ := Cert.InW0.τ) (Cert.InW0.main (F := Bits))) ⟨m, fun _ => 0, g⟩ (fun r => (∀ c : Dev Cert.InW0.nD,
      r.2.mem ((c.tc : Thread Cert.InW0.nD Cert.InW0.τ).loc Cert.InW0.main_arg0) = m ((c.tc : Thread Cert.InW0.nD Cert.InW0.τ).loc Cert.InW0.main_arg0)
      ∧ r.2.mem ((c.tc : Thread Cert.InW0.nD Cert.InW0.τ).loc Cert.InW0.main_arg1) = m ((c.tc : Thread Cert.InW0.nD Cert.InW0.τ).loc Cert.InW0.main_arg1)
      ∧ r.2.mem ((c.tc : Thread Cert.InW0.nD Cert.InW0.τ).loc Cert.InW0.main_arg2) = m ((c.tc : Thread Cert.InW0.nD Cert.InW0.τ).loc Cert.InW0.main_arg2)
      ∧ r.2.mem ((c.tc : Thread Cert.InW0.nD Cert.InW0.τ).loc Cert.InW0.main_arg3) = m ((c.tc : Thread Cert.InW0.nD Cert.InW0.τ).loc Cert.InW0.main_arg3)
      ∧ r.2.mem ((c.tc : Thread Cert.InW0.nD Cert.InW0.τ).loc Cert.InW0.main_arg4) = m ((c.tc : Thread Cert.InW0.nD Cert.InW0.τ).loc Cert.InW0.main_arg4)
      ∧ r.2.mem ((c.tc : Thread Cert.InW0.nD Cert.InW0.τ).loc Cert.InW0.main_arg5) = m ((c.tc : Thread Cert.InW0.nD Cert.InW0.τ).loc Cert.InW0.main_arg5)
      ∧ r.2.mem ((c.tc : Thread Cert.InW0.nD Cert.InW0.τ).loc Cert.InW0.main_arg6) = m ((c.tc : Thread Cert.InW0.nD Cert.InW0.τ).loc Cert.InW0.main_arg6))
      ∧ r.2.sem = fun _ => 0)

def quiescent_InW0Ideal [hInW0Ideal : Cert.InW0Ideal.Facts] : Prop :=
  ∀ (m : (ℓ : Loc Cert.InW0Ideal.nD Cert.InW0Ideal.τ Cert.InW0Ideal.sig) → Buf (Elt Ideal) ℓ) (g : Dev Cert.InW0Ideal.nD → PrngReg), Pre_InW0Ideal m →
    θ_run (Cert.InW0Ideal.defs (F := Ideal)) (onTc (τ := Cert.InW0Ideal.τ) (Cert.InW0Ideal.main (F := Ideal))) ⟨m, fun _ => 0, g⟩ (fun r => (∀ c : Dev Cert.InW0Ideal.nD,
      r.2.mem ((c.tc : Thread Cert.InW0Ideal.nD Cert.InW0Ideal.τ).loc Cert.InW0Ideal.main_arg0) = m ((c.tc : Thread Cert.InW0Ideal.nD Cert.InW0Ideal.τ).loc Cert.InW0Ideal.main_arg0)
      ∧ r.2.mem ((c.tc : Thread Cert.InW0Ideal.nD Cert.InW0Ideal.τ).loc Cert.InW0Ideal.main_arg1) = m ((c.tc : Thread Cert.InW0Ideal.nD Cert.InW0Ideal.τ).loc Cert.InW0Ideal.main_arg1)
      ∧ r.2.mem ((c.tc : Thread Cert.InW0Ideal.nD Cert.InW0Ideal.τ).loc Cert.InW0Ideal.main_arg2) = m ((c.tc : Thread Cert.InW0Ideal.nD Cert.InW0Ideal.τ).loc Cert.InW0Ideal.main_arg2)
      ∧ r.2.mem ((c.tc : Thread Cert.InW0Ideal.nD Cert.InW0Ideal.τ).loc Cert.InW0Ideal.main_arg3) = m ((c.tc : Thread Cert.InW0Ideal.nD Cert.InW0Ideal.τ).loc Cert.InW0Ideal.main_arg3)
      ∧ r.2.mem ((c.tc : Thread Cert.InW0Ideal.nD Cert.InW0Ideal.τ).loc Cert.InW0Ideal.main_arg4) = m ((c.tc : Thread Cert.InW0Ideal.nD Cert.InW0Ideal.τ).loc Cert.InW0Ideal.main_arg4)
      ∧ r.2.mem ((c.tc : Thread Cert.InW0Ideal.nD Cert.InW0Ideal.τ).loc Cert.InW0Ideal.main_arg5) = m ((c.tc : Thread Cert.InW0Ideal.nD Cert.InW0Ideal.τ).loc Cert.InW0Ideal.main_arg5)
      ∧ r.2.mem ((c.tc : Thread Cert.InW0Ideal.nD Cert.InW0Ideal.τ).loc Cert.InW0Ideal.main_arg6) = m ((c.tc : Thread Cert.InW0Ideal.nD Cert.InW0Ideal.τ).loc Cert.InW0Ideal.main_arg6))
      ∧ r.2.sem = fun _ => 0)

def quiescent_InW0RefIdeal [hInW0RefIdeal : Cert.InW0RefIdeal.Facts] : Prop :=
  ∀ (m : (ℓ : Loc Cert.InW0RefIdeal.nD Cert.InW0RefIdeal.τ Cert.InW0RefIdeal.sig) → Buf (Elt Ideal) ℓ) (g : Dev Cert.InW0RefIdeal.nD → PrngReg), Pre_InW0RefIdeal m →
    θ_run (Cert.InW0RefIdeal.defs (F := Ideal)) (onTc (τ := Cert.InW0RefIdeal.τ) (Cert.InW0RefIdeal.main (F := Ideal))) ⟨m, fun _ => 0, g⟩ (fun r => (∀ c : Dev Cert.InW0RefIdeal.nD,
      r.2.mem ((c.tc : Thread Cert.InW0RefIdeal.nD Cert.InW0RefIdeal.τ).loc Cert.InW0RefIdeal.main_arg0) = m ((c.tc : Thread Cert.InW0RefIdeal.nD Cert.InW0RefIdeal.τ).loc Cert.InW0RefIdeal.main_arg0)
      ∧ r.2.mem ((c.tc : Thread Cert.InW0RefIdeal.nD Cert.InW0RefIdeal.τ).loc Cert.InW0RefIdeal.main_arg1) = m ((c.tc : Thread Cert.InW0RefIdeal.nD Cert.InW0RefIdeal.τ).loc Cert.InW0RefIdeal.main_arg1)
      ∧ r.2.mem ((c.tc : Thread Cert.InW0RefIdeal.nD Cert.InW0RefIdeal.τ).loc Cert.InW0RefIdeal.main_arg2) = m ((c.tc : Thread Cert.InW0RefIdeal.nD Cert.InW0RefIdeal.τ).loc Cert.InW0RefIdeal.main_arg2)
      ∧ r.2.mem ((c.tc : Thread Cert.InW0RefIdeal.nD Cert.InW0RefIdeal.τ).loc Cert.InW0RefIdeal.main_arg3) = m ((c.tc : Thread Cert.InW0RefIdeal.nD Cert.InW0RefIdeal.τ).loc Cert.InW0RefIdeal.main_arg3)
      ∧ r.2.mem ((c.tc : Thread Cert.InW0RefIdeal.nD Cert.InW0RefIdeal.τ).loc Cert.InW0RefIdeal.main_arg4) = m ((c.tc : Thread Cert.InW0RefIdeal.nD Cert.InW0RefIdeal.τ).loc Cert.InW0RefIdeal.main_arg4)
      ∧ r.2.mem ((c.tc : Thread Cert.InW0RefIdeal.nD Cert.InW0RefIdeal.τ).loc Cert.InW0RefIdeal.main_arg5) = m ((c.tc : Thread Cert.InW0RefIdeal.nD Cert.InW0RefIdeal.τ).loc Cert.InW0RefIdeal.main_arg5)
      ∧ r.2.mem ((c.tc : Thread Cert.InW0RefIdeal.nD Cert.InW0RefIdeal.τ).loc Cert.InW0RefIdeal.main_arg6) = m ((c.tc : Thread Cert.InW0RefIdeal.nD Cert.InW0RefIdeal.τ).loc Cert.InW0RefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3)
      ∧ r.2.mem ((c.tc : Thread Cert.AdamMod.nD Cert.AdamMod.τ).loc Cert.AdamMod.main_arg4) = m ((c.tc : Thread Cert.AdamMod.nD Cert.AdamMod.τ).loc Cert.AdamMod.main_arg4))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
      ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3)
      ∧ r.2.mem ((c.tc : Thread Cert.AdamModRefIdeal.nD Cert.AdamModRefIdeal.τ).loc Cert.AdamModRefIdeal.main_arg4) = m ((c.tc : Thread Cert.AdamModRefIdeal.nD Cert.AdamModRefIdeal.τ).loc Cert.AdamModRefIdeal.main_arg4))
      ∧ r.2.sem = fun _ => 0)

def quiescent_AdamWa [hAdamWa : Cert.AdamWa.Facts] : Prop :=
  ∀ (m : (ℓ : Loc Cert.AdamWa.nD Cert.AdamWa.τ Cert.AdamWa.sig) → Buf (Elt Bits) ℓ) (g : Dev Cert.AdamWa.nD → PrngReg), Pre_AdamWa m →
    θ_run (Cert.AdamWa.defs (F := Bits)) (onTc (τ := Cert.AdamWa.τ) (Cert.AdamWa.main (F := Bits))) ⟨m, fun _ => 0, g⟩ (fun r => (∀ c : Dev Cert.AdamWa.nD,
      r.2.mem ((c.tc : Thread Cert.AdamWa.nD Cert.AdamWa.τ).loc Cert.AdamWa.main_arg0) = m ((c.tc : Thread Cert.AdamWa.nD Cert.AdamWa.τ).loc Cert.AdamWa.main_arg0)
      ∧ r.2.mem ((c.tc : Thread Cert.AdamWa.nD Cert.AdamWa.τ).loc Cert.AdamWa.main_arg1) = m ((c.tc : Thread Cert.AdamWa.nD Cert.AdamWa.τ).loc Cert.AdamWa.main_arg1)
      ∧ r.2.mem ((c.tc : Thread Cert.AdamWa.nD Cert.AdamWa.τ).loc Cert.AdamWa.main_arg2) = m ((c.tc : Thread Cert.AdamWa.nD Cert.AdamWa.τ).loc Cert.AdamWa.main_arg2)
      ∧ r.2.mem ((c.tc : Thread Cert.AdamWa.nD Cert.AdamWa.τ).loc Cert.AdamWa.main_arg3) = m ((c.tc : Thread Cert.AdamWa.nD Cert.AdamWa.τ).loc Cert.AdamWa.main_arg3))
      ∧ r.2.sem = fun _ => 0)

def quiescent_AdamWaIdeal [hAdamWaIdeal : Cert.AdamWaIdeal.Facts] : Prop :=
  ∀ (m : (ℓ : Loc Cert.AdamWaIdeal.nD Cert.AdamWaIdeal.τ Cert.AdamWaIdeal.sig) → Buf (Elt Ideal) ℓ) (g : Dev Cert.AdamWaIdeal.nD → PrngReg), Pre_AdamWaIdeal m →
    θ_run (Cert.AdamWaIdeal.defs (F := Ideal)) (onTc (τ := Cert.AdamWaIdeal.τ) (Cert.AdamWaIdeal.main (F := Ideal))) ⟨m, fun _ => 0, g⟩ (fun r => (∀ c : Dev Cert.AdamWaIdeal.nD,
      r.2.mem ((c.tc : Thread Cert.AdamWaIdeal.nD Cert.AdamWaIdeal.τ).loc Cert.AdamWaIdeal.main_arg0) = m ((c.tc : Thread Cert.AdamWaIdeal.nD Cert.AdamWaIdeal.τ).loc Cert.AdamWaIdeal.main_arg0)
      ∧ r.2.mem ((c.tc : Thread Cert.AdamWaIdeal.nD Cert.AdamWaIdeal.τ).loc Cert.AdamWaIdeal.main_arg1) = m ((c.tc : Thread Cert.AdamWaIdeal.nD Cert.AdamWaIdeal.τ).loc Cert.AdamWaIdeal.main_arg1)
      ∧ r.2.mem ((c.tc : Thread Cert.AdamWaIdeal.nD Cert.AdamWaIdeal.τ).loc Cert.AdamWaIdeal.main_arg2) = m ((c.tc : Thread Cert.AdamWaIdeal.nD Cert.AdamWaIdeal.τ).loc Cert.AdamWaIdeal.main_arg2)
      ∧ r.2.mem ((c.tc : Thread Cert.AdamWaIdeal.nD Cert.AdamWaIdeal.τ).loc Cert.AdamWaIdeal.main_arg3) = m ((c.tc : Thread Cert.AdamWaIdeal.nD Cert.AdamWaIdeal.τ).loc Cert.AdamWaIdeal.main_arg3))
      ∧ r.2.sem = fun _ => 0)

def quiescent_AdamWaRefIdeal [hAdamWaRefIdeal : Cert.AdamWaRefIdeal.Facts] : Prop :=
  ∀ (m : (ℓ : Loc Cert.AdamWaRefIdeal.nD Cert.AdamWaRefIdeal.τ Cert.AdamWaRefIdeal.sig) → Buf (Elt Ideal) ℓ) (g : Dev Cert.AdamWaRefIdeal.nD → PrngReg), Pre_AdamWaRefIdeal m →
    θ_run (Cert.AdamWaRefIdeal.defs (F := Ideal)) (onTc (τ := Cert.AdamWaRefIdeal.τ) (Cert.AdamWaRefIdeal.main (F := Ideal))) ⟨m, fun _ => 0, g⟩ (fun r => (∀ c : Dev Cert.AdamWaRefIdeal.nD,
      r.2.mem ((c.tc : Thread Cert.AdamWaRefIdeal.nD Cert.AdamWaRefIdeal.τ).loc Cert.AdamWaRefIdeal.main_arg0) = m ((c.tc : Thread Cert.AdamWaRefIdeal.nD Cert.AdamWaRefIdeal.τ).loc Cert.AdamWaRefIdeal.main_arg0)
      ∧ r.2.mem ((c.tc : Thread Cert.AdamWaRefIdeal.nD Cert.AdamWaRefIdeal.τ).loc Cert.AdamWaRefIdeal.main_arg1) = m ((c.tc : Thread Cert.AdamWaRefIdeal.nD Cert.AdamWaRefIdeal.τ).loc Cert.AdamWaRefIdeal.main_arg1)
      ∧ r.2.mem ((c.tc : Thread Cert.AdamWaRefIdeal.nD Cert.AdamWaRefIdeal.τ).loc Cert.AdamWaRefIdeal.main_arg2) = m ((c.tc : Thread Cert.AdamWaRefIdeal.nD Cert.AdamWaRefIdeal.τ).loc Cert.AdamWaRefIdeal.main_arg2)
      ∧ r.2.mem ((c.tc : Thread Cert.AdamWaRefIdeal.nD Cert.AdamWaRefIdeal.τ).loc Cert.AdamWaRefIdeal.main_arg3) = m ((c.tc : Thread Cert.AdamWaRefIdeal.nD Cert.AdamWaRefIdeal.τ).loc Cert.AdamWaRefIdeal.main_arg3))
      ∧ r.2.sem = fun _ => 0)

def quiescent_AdamWx [hAdamWx : Cert.AdamWx.Facts] : Prop :=
  ∀ (m : (ℓ : Loc Cert.AdamWx.nD Cert.AdamWx.τ Cert.AdamWx.sig) → Buf (Elt Bits) ℓ) (g : Dev Cert.AdamWx.nD → PrngReg), Pre_AdamWx m →
    θ_run (Cert.AdamWx.defs (F := Bits)) (onTc (τ := Cert.AdamWx.τ) (Cert.AdamWx.main (F := Bits))) ⟨m, fun _ => 0, g⟩ (fun r => (∀ c : Dev Cert.AdamWx.nD,
      r.2.mem ((c.tc : Thread Cert.AdamWx.nD Cert.AdamWx.τ).loc Cert.AdamWx.main_arg0) = m ((c.tc : Thread Cert.AdamWx.nD Cert.AdamWx.τ).loc Cert.AdamWx.main_arg0)
      ∧ r.2.mem ((c.tc : Thread Cert.AdamWx.nD Cert.AdamWx.τ).loc Cert.AdamWx.main_arg1) = m ((c.tc : Thread Cert.AdamWx.nD Cert.AdamWx.τ).loc Cert.AdamWx.main_arg1)
      ∧ r.2.mem ((c.tc : Thread Cert.AdamWx.nD Cert.AdamWx.τ).loc Cert.AdamWx.main_arg2) = m ((c.tc : Thread Cert.AdamWx.nD Cert.AdamWx.τ).loc Cert.AdamWx.main_arg2)
      ∧ r.2.mem ((c.tc : Thread Cert.AdamWx.nD Cert.AdamWx.τ).loc Cert.AdamWx.main_arg3) = m ((c.tc : Thread Cert.AdamWx.nD Cert.AdamWx.τ).loc Cert.AdamWx.main_arg3))
      ∧ r.2.sem = fun _ => 0)

def quiescent_AdamWxIdeal [hAdamWxIdeal : Cert.AdamWxIdeal.Facts] : Prop :=
  ∀ (m : (ℓ : Loc Cert.AdamWxIdeal.nD Cert.AdamWxIdeal.τ Cert.AdamWxIdeal.sig) → Buf (Elt Ideal) ℓ) (g : Dev Cert.AdamWxIdeal.nD → PrngReg), Pre_AdamWxIdeal m →
    θ_run (Cert.AdamWxIdeal.defs (F := Ideal)) (onTc (τ := Cert.AdamWxIdeal.τ) (Cert.AdamWxIdeal.main (F := Ideal))) ⟨m, fun _ => 0, g⟩ (fun r => (∀ c : Dev Cert.AdamWxIdeal.nD,
      r.2.mem ((c.tc : Thread Cert.AdamWxIdeal.nD Cert.AdamWxIdeal.τ).loc Cert.AdamWxIdeal.main_arg0) = m ((c.tc : Thread Cert.AdamWxIdeal.nD Cert.AdamWxIdeal.τ).loc Cert.AdamWxIdeal.main_arg0)
      ∧ r.2.mem ((c.tc : Thread Cert.AdamWxIdeal.nD Cert.AdamWxIdeal.τ).loc Cert.AdamWxIdeal.main_arg1) = m ((c.tc : Thread Cert.AdamWxIdeal.nD Cert.AdamWxIdeal.τ).loc Cert.AdamWxIdeal.main_arg1)
      ∧ r.2.mem ((c.tc : Thread Cert.AdamWxIdeal.nD Cert.AdamWxIdeal.τ).loc Cert.AdamWxIdeal.main_arg2) = m ((c.tc : Thread Cert.AdamWxIdeal.nD Cert.AdamWxIdeal.τ).loc Cert.AdamWxIdeal.main_arg2)
      ∧ r.2.mem ((c.tc : Thread Cert.AdamWxIdeal.nD Cert.AdamWxIdeal.τ).loc Cert.AdamWxIdeal.main_arg3) = m ((c.tc : Thread Cert.AdamWxIdeal.nD Cert.AdamWxIdeal.τ).loc Cert.AdamWxIdeal.main_arg3))
      ∧ r.2.sem = fun _ => 0)

def quiescent_AdamWxRefIdeal [hAdamWxRefIdeal : Cert.AdamWxRefIdeal.Facts] : Prop :=
  ∀ (m : (ℓ : Loc Cert.AdamWxRefIdeal.nD Cert.AdamWxRefIdeal.τ Cert.AdamWxRefIdeal.sig) → Buf (Elt Ideal) ℓ) (g : Dev Cert.AdamWxRefIdeal.nD → PrngReg), Pre_AdamWxRefIdeal m →
    θ_run (Cert.AdamWxRefIdeal.defs (F := Ideal)) (onTc (τ := Cert.AdamWxRefIdeal.τ) (Cert.AdamWxRefIdeal.main (F := Ideal))) ⟨m, fun _ => 0, g⟩ (fun r => (∀ c : Dev Cert.AdamWxRefIdeal.nD,
      r.2.mem ((c.tc : Thread Cert.AdamWxRefIdeal.nD Cert.AdamWxRefIdeal.τ).loc Cert.AdamWxRefIdeal.main_arg0) = m ((c.tc : Thread Cert.AdamWxRefIdeal.nD Cert.AdamWxRefIdeal.τ).loc Cert.AdamWxRefIdeal.main_arg0)
      ∧ r.2.mem ((c.tc : Thread Cert.AdamWxRefIdeal.nD Cert.AdamWxRefIdeal.τ).loc Cert.AdamWxRefIdeal.main_arg1) = m ((c.tc : Thread Cert.AdamWxRefIdeal.nD Cert.AdamWxRefIdeal.τ).loc Cert.AdamWxRefIdeal.main_arg1)
      ∧ r.2.mem ((c.tc : Thread Cert.AdamWxRefIdeal.nD Cert.AdamWxRefIdeal.τ).loc Cert.AdamWxRefIdeal.main_arg2) = m ((c.tc : Thread Cert.AdamWxRefIdeal.nD Cert.AdamWxRefIdeal.τ).loc Cert.AdamWxRefIdeal.main_arg2)
      ∧ r.2.mem ((c.tc : Thread Cert.AdamWxRefIdeal.nD Cert.AdamWxRefIdeal.τ).loc Cert.AdamWxRefIdeal.main_arg3) = m ((c.tc : Thread Cert.AdamWxRefIdeal.nD Cert.AdamWxRefIdeal.τ).loc Cert.AdamWxRefIdeal.main_arg3))
      ∧ r.2.sem = fun _ => 0)

def quiescent_ModRep [hModRep : Cert.ModRep.Facts] : Prop :=
  ∀ (m : (ℓ : Loc Cert.ModRep.nD Cert.ModRep.τ Cert.ModRep.sig) → Buf (Elt Bits) ℓ) (g : Dev Cert.ModRep.nD → PrngReg), Pre_ModRep m →
    θ_run (Cert.ModRep.defs (F := Bits)) (onTc (τ := Cert.ModRep.τ) (Cert.ModRep.main (F := Bits))) ⟨m, fun _ => 0, g⟩ (fun r => (∀ c : Dev Cert.ModRep.nD,
      r.2.mem ((c.tc : Thread Cert.ModRep.nD Cert.ModRep.τ).loc Cert.ModRep.main_arg0) = m ((c.tc : Thread Cert.ModRep.nD Cert.ModRep.τ).loc Cert.ModRep.main_arg0))
      ∧ r.2.sem = fun _ => 0)

def quiescent_ModRepIdeal [hModRepIdeal : Cert.ModRepIdeal.Facts] : Prop :=
  ∀ (m : (ℓ : Loc Cert.ModRepIdeal.nD Cert.ModRepIdeal.τ Cert.ModRepIdeal.sig) → Buf (Elt Ideal) ℓ) (g : Dev Cert.ModRepIdeal.nD → PrngReg), Pre_ModRepIdeal m →
    θ_run (Cert.ModRepIdeal.defs (F := Ideal)) (onTc (τ := Cert.ModRepIdeal.τ) (Cert.ModRepIdeal.main (F := Ideal))) ⟨m, fun _ => 0, g⟩ (fun r => (∀ c : Dev Cert.ModRepIdeal.nD,
      r.2.mem ((c.tc : Thread Cert.ModRepIdeal.nD Cert.ModRepIdeal.τ).loc Cert.ModRepIdeal.main_arg0) = m ((c.tc : Thread Cert.ModRepIdeal.nD Cert.ModRepIdeal.τ).loc Cert.ModRepIdeal.main_arg0))
      ∧ r.2.sem = fun _ => 0)

def quiescent_ModRepRefIdeal [hModRepRefIdeal : Cert.ModRepRefIdeal.Facts] : Prop :=
  ∀ (m : (ℓ : Loc Cert.ModRepRefIdeal.nD Cert.ModRepRefIdeal.τ Cert.ModRepRefIdeal.sig) → Buf (Elt Ideal) ℓ) (g : Dev Cert.ModRepRefIdeal.nD → PrngReg), Pre_ModRepRefIdeal m →
    θ_run (Cert.ModRepRefIdeal.defs (F := Ideal)) (onTc (τ := Cert.ModRepRefIdeal.τ) (Cert.ModRepRefIdeal.main (F := Ideal))) ⟨m, fun _ => 0, g⟩ (fun r => (∀ c : Dev Cert.ModRepRefIdeal.nD,
      r.2.mem ((c.tc : Thread Cert.ModRepRefIdeal.nD Cert.ModRepRefIdeal.τ).loc Cert.ModRepRefIdeal.main_arg0) = m ((c.tc : Thread Cert.ModRepRefIdeal.nD Cert.ModRepRefIdeal.τ).loc Cert.ModRepRefIdeal.main_arg0))
      ∧ r.2.sem = fun _ => 0)

def preserves_PoolB_PoolBIdeal : Prop :=
  True

def algebraic_PoolBIdeal_PoolBRefIdeal [hPoolBIdeal : Cert.PoolBIdeal.Facts] [hPoolBRefIdeal : Cert.PoolBRefIdeal.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)
      ∧ m' ((c.tc : Thread Cert.PoolBRefIdeal.nD Cert.PoolBRefIdeal.τ).loc Cert.PoolBRefIdeal.main_arg1) = m ((c.tc : Thread Cert.PoolBIdeal.nD Cert.PoolBIdeal.τ).loc Cert.PoolBIdeal.main_arg1)
      ∧ m' ((c.tc : Thread Cert.PoolBRefIdeal.nD Cert.PoolBRefIdeal.τ).loc Cert.PoolBRefIdeal.main_arg2) = m ((c.tc : Thread Cert.PoolBIdeal.nD Cert.PoolBIdeal.τ).loc Cert.PoolBIdeal.main_arg2)
      ∧ m' ((c.tc : Thread Cert.PoolBRefIdeal.nD Cert.PoolBRefIdeal.τ).loc Cert.PoolBRefIdeal.main_arg3) = m ((c.tc : Thread Cert.PoolBIdeal.nD Cert.PoolBIdeal.τ).loc Cert.PoolBIdeal.main_arg3)
      ∧ m' ((c.tc : Thread Cert.PoolBRefIdeal.nD Cert.PoolBRefIdeal.τ).loc Cert.PoolBRefIdeal.main_arg4) = m ((c.tc : Thread Cert.PoolBIdeal.nD Cert.PoolBIdeal.τ).loc Cert.PoolBIdeal.main_arg4)) →
    ∃ (v0 : (c : Dev Cert.PoolBIdeal.nD) → Buf (Elt Ideal) ((c.tc : Thread Cert.PoolBIdeal.nD Cert.PoolBIdeal.τ).loc Cert.PoolBIdeal.main_v10_0)) (v1 : (c : Dev Cert.PoolBIdeal.nD) → Buf (Elt Ideal) ((c.tc : Thread Cert.PoolBIdeal.nD Cert.PoolBIdeal.τ).loc Cert.PoolBIdeal.main_v10_1)) (v2 : (c : Dev Cert.PoolBIdeal.nD) → Buf (Elt Ideal) ((c.tc : Thread Cert.PoolBIdeal.nD Cert.PoolBIdeal.τ).loc Cert.PoolBIdeal.main_v10_2)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v10_0) = v0 c
          ∧ r.2.mem ((c.tc : Thread Cert.PoolBIdeal.nD Cert.PoolBIdeal.τ).loc Cert.PoolBIdeal.main_v10_1) = v1 c
          ∧ r.2.mem ((c.tc : Thread Cert.PoolBIdeal.nD Cert.PoolBIdeal.τ).loc Cert.PoolBIdeal.main_v10_2) = v2 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
          ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
          ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
          ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3)
          ∧ r.2.mem ((c.tc : Thread Cert.PoolBIdeal.nD Cert.PoolBIdeal.τ).loc Cert.PoolBIdeal.main_arg4) = m ((c.tc : Thread Cert.PoolBIdeal.nD Cert.PoolBIdeal.τ).loc Cert.PoolBIdeal.main_arg4))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v64) = v0 c
          ∧ r.2.mem ((c.tc : Thread Cert.PoolBRefIdeal.nD Cert.PoolBRefIdeal.τ).loc Cert.PoolBRefIdeal.main_v66) = v1 c
          ∧ r.2.mem ((c.tc : Thread Cert.PoolBRefIdeal.nD Cert.PoolBRefIdeal.τ).loc Cert.PoolBRefIdeal.main_v67) = v2 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0)
          ∧ r.2.mem ((c.tc : Thread Cert.PoolBRefIdeal.nD Cert.PoolBRefIdeal.τ).loc Cert.PoolBRefIdeal.main_arg1) = m' ((c.tc : Thread Cert.PoolBRefIdeal.nD Cert.PoolBRefIdeal.τ).loc Cert.PoolBRefIdeal.main_arg1)
          ∧ r.2.mem ((c.tc : Thread Cert.PoolBRefIdeal.nD Cert.PoolBRefIdeal.τ).loc Cert.PoolBRefIdeal.main_arg2) = m' ((c.tc : Thread Cert.PoolBRefIdeal.nD Cert.PoolBRefIdeal.τ).loc Cert.PoolBRefIdeal.main_arg2)
          ∧ r.2.mem ((c.tc : Thread Cert.PoolBRefIdeal.nD Cert.PoolBRefIdeal.τ).loc Cert.PoolBRefIdeal.main_arg3) = m' ((c.tc : Thread Cert.PoolBRefIdeal.nD Cert.PoolBRefIdeal.τ).loc Cert.PoolBRefIdeal.main_arg3)
          ∧ r.2.mem ((c.tc : Thread Cert.PoolBRefIdeal.nD Cert.PoolBRefIdeal.τ).loc Cert.PoolBRefIdeal.main_arg4) = m' ((c.tc : Thread Cert.PoolBRefIdeal.nD Cert.PoolBRefIdeal.τ).loc Cert.PoolBRefIdeal.main_arg4))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)) →
    ∃ (v0 : (c : Dev Cert.InXIdeal.nD) → Buf (Elt Ideal) ((c.tc : Thread Cert.InXIdeal.nD Cert.InXIdeal.τ).loc Cert.InXIdeal.main_v8_0)) (v1 : (c : Dev Cert.InXIdeal.nD) → Buf (Elt Ideal) ((c.tc : Thread Cert.InXIdeal.nD Cert.InXIdeal.τ).loc Cert.InXIdeal.main_v8_1)) (v2 : (c : Dev Cert.InXIdeal.nD) → Buf (Elt Ideal) ((c.tc : Thread Cert.InXIdeal.nD Cert.InXIdeal.τ).loc Cert.InXIdeal.main_v8_2)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v8_0) = v0 c
          ∧ r.2.mem ((c.tc : Thread Cert.InXIdeal.nD Cert.InXIdeal.τ).loc Cert.InXIdeal.main_v8_1) = v1 c
          ∧ r.2.mem ((c.tc : Thread Cert.InXIdeal.nD Cert.InXIdeal.τ).loc Cert.InXIdeal.main_v8_2) = v2 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v23) = v0 c
          ∧ r.2.mem ((c.tc : Thread Cert.InXRefIdeal.nD Cert.InXRefIdeal.τ).loc Cert.InXRefIdeal.main_v24) = v1 c
          ∧ r.2.mem ((c.tc : Thread Cert.InXRefIdeal.nD Cert.InXRefIdeal.τ).loc Cert.InXRefIdeal.main_v25) = v2 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)
      ∧ m' ((c.tc : Thread Cert.InFRefIdeal.nD Cert.InFRefIdeal.τ).loc Cert.InFRefIdeal.main_arg3) = m ((c.tc : Thread Cert.InFIdeal.nD Cert.InFIdeal.τ).loc Cert.InFIdeal.main_arg3)) →
    ∃ (v0 : (c : Dev Cert.InFIdeal.nD) → Buf (Elt Ideal) ((c.tc : Thread Cert.InFIdeal.nD Cert.InFIdeal.τ).loc Cert.InFIdeal.main_v7_0)) (v1 : (c : Dev Cert.InFIdeal.nD) → Buf (Elt Ideal) ((c.tc : Thread Cert.InFIdeal.nD Cert.InFIdeal.τ).loc Cert.InFIdeal.main_v7_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v7_0) = v0 c
          ∧ r.2.mem ((c.tc : Thread Cert.InFIdeal.nD Cert.InFIdeal.τ).loc Cert.InFIdeal.main_v7_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
          ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v12) = v0 c
          ∧ r.2.mem ((c.tc : Thread Cert.InFRefIdeal.nD Cert.InFRefIdeal.τ).loc Cert.InFRefIdeal.main_v15) = v1 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2)
          ∧ r.2.mem ((c.tc : Thread Cert.InFRefIdeal.nD Cert.InFRefIdeal.τ).loc Cert.InFRefIdeal.main_arg3) = m' ((c.tc : Thread Cert.InFRefIdeal.nD Cert.InFRefIdeal.τ).loc Cert.InFRefIdeal.main_arg3))

def preserves_PoolF_PoolFIdeal : Prop :=
  True

def algebraic_PoolFIdeal_PoolFRefIdeal [hPoolFIdeal : Cert.PoolFIdeal.Facts] [hPoolFRefIdeal : Cert.PoolFRefIdeal.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v7)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v7) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v22) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)
      ∧ m' ((c.tc : Thread Cert.OutFRefIdeal.nD Cert.OutFRefIdeal.τ).loc Cert.OutFRefIdeal.main_arg4) = m ((c.tc : Thread Cert.OutFIdeal.nD Cert.OutFIdeal.τ).loc Cert.OutFIdeal.main_arg4)
      ∧ m' ((c.tc : Thread Cert.OutFRefIdeal.nD Cert.OutFRefIdeal.τ).loc Cert.OutFRefIdeal.main_arg5) = m ((c.tc : Thread Cert.OutFIdeal.nD Cert.OutFIdeal.τ).loc Cert.OutFIdeal.main_arg5)
      ∧ m' ((c.tc : Thread Cert.OutFRefIdeal.nD Cert.OutFRefIdeal.τ).loc Cert.OutFRefIdeal.main_arg6) = m ((c.tc : Thread Cert.OutFIdeal.nD Cert.OutFIdeal.τ).loc Cert.OutFIdeal.main_arg6)) →
    ∃ (v0 : (c : Dev Cert.OutFIdeal.nD) → Buf (Elt Ideal) ((c.tc : Thread Cert.OutFIdeal.nD Cert.OutFIdeal.τ).loc Cert.OutFIdeal.main_v10_0)) (v1 : (c : Dev Cert.OutFIdeal.nD) → Buf (Elt Ideal) ((c.tc : Thread Cert.OutFIdeal.nD Cert.OutFIdeal.τ).loc Cert.OutFIdeal.main_v10_1)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v10_0) = v0 c
          ∧ r.2.mem ((c.tc : Thread Cert.OutFIdeal.nD Cert.OutFIdeal.τ).loc Cert.OutFIdeal.main_v10_1) = v1 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
          ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5)
          ∧ r.2.mem ((c.tc : Thread Cert.OutFIdeal.nD Cert.OutFIdeal.τ).loc Cert.OutFIdeal.main_arg6) = m ((c.tc : Thread Cert.OutFIdeal.nD Cert.OutFIdeal.τ).loc Cert.OutFIdeal.main_arg6))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v2) = v0 c
          ∧ r.2.mem ((c.tc : Thread Cert.OutFRefIdeal.nD Cert.OutFRefIdeal.τ).loc Cert.OutFRefIdeal.main_v35) = v1 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3)
          ∧ r.2.mem ((c.tc : Thread Cert.OutFRefIdeal.nD Cert.OutFRefIdeal.τ).loc Cert.OutFRefIdeal.main_arg4) = m' ((c.tc : Thread Cert.OutFRefIdeal.nD Cert.OutFRefIdeal.τ).loc Cert.OutFRefIdeal.main_arg4)
          ∧ r.2.mem ((c.tc : Thread Cert.OutFRefIdeal.nD Cert.OutFRefIdeal.τ).loc Cert.OutFRefIdeal.main_arg5) = m' ((c.tc : Thread Cert.OutFRefIdeal.nD Cert.OutFRefIdeal.τ).loc Cert.OutFRefIdeal.main_arg5)
          ∧ r.2.mem ((c.tc : Thread Cert.OutFRefIdeal.nD Cert.OutFRefIdeal.τ).loc Cert.OutFRefIdeal.main_arg6) = m' ((c.tc : Thread Cert.OutFRefIdeal.nD Cert.OutFRefIdeal.τ).loc Cert.OutFRefIdeal.main_arg6))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)
      ∧ m' ((c.tc : Thread Cert.OutWRefIdeal.nD Cert.OutWRefIdeal.τ).loc Cert.OutWRefIdeal.main_arg3) = m ((c.tc : Thread Cert.OutWIdeal.nD Cert.OutWIdeal.τ).loc Cert.OutWIdeal.main_arg3)) →
    ∃ (v0 : (c : Dev Cert.OutWIdeal.nD) → Buf (Elt Ideal) ((c.tc : Thread Cert.OutWIdeal.nD Cert.OutWIdeal.τ).loc Cert.OutWIdeal.main_v7)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v7) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
          ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v9) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2)
          ∧ r.2.mem ((c.tc : Thread Cert.OutWRefIdeal.nD Cert.OutWRefIdeal.τ).loc Cert.OutWRefIdeal.main_arg3) = m' ((c.tc : Thread Cert.OutWRefIdeal.nD Cert.OutWRefIdeal.τ).loc Cert.OutWRefIdeal.main_arg3))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)
      ∧ m' ((c.tc : Thread Cert.InWRefIdeal.nD Cert.InWRefIdeal.τ).loc Cert.InWRefIdeal.main_arg4) = m ((c.tc : Thread Cert.InWIdeal.nD Cert.InWIdeal.τ).loc Cert.InWIdeal.main_arg4)
      ∧ m' ((c.tc : Thread Cert.InWRefIdeal.nD Cert.InWRefIdeal.τ).loc Cert.InWRefIdeal.main_arg5) = m ((c.tc : Thread Cert.InWIdeal.nD Cert.InWIdeal.τ).loc Cert.InWIdeal.main_arg5)) →
    ∃ (v0 : (c : Dev Cert.InWIdeal.nD) → Buf (Elt Ideal) ((c.tc : Thread Cert.InWIdeal.nD Cert.InWIdeal.τ).loc Cert.InWIdeal.main_v6)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v6) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
          ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
          ∧ r.2.mem ((c.tc : Thread Cert.InWIdeal.nD Cert.InWIdeal.τ).loc Cert.InWIdeal.main_arg5) = m ((c.tc : Thread Cert.InWIdeal.nD Cert.InWIdeal.τ).loc Cert.InWIdeal.main_arg5))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v18) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3)
          ∧ r.2.mem ((c.tc : Thread Cert.InWRefIdeal.nD Cert.InWRefIdeal.τ).loc Cert.InWRefIdeal.main_arg4) = m' ((c.tc : Thread Cert.InWRefIdeal.nD Cert.InWRefIdeal.τ).loc Cert.InWRefIdeal.main_arg4)
          ∧ r.2.mem ((c.tc : Thread Cert.InWRefIdeal.nD Cert.InWRefIdeal.τ).loc Cert.InWRefIdeal.main_arg5) = m' ((c.tc : Thread Cert.InWRefIdeal.nD Cert.InWRefIdeal.τ).loc Cert.InWRefIdeal.main_arg5))

def preserves_InW0_InW0Ideal : Prop :=
  True

def algebraic_InW0Ideal_InW0RefIdeal [hInW0Ideal : Cert.InW0Ideal.Facts] [hInW0RefIdeal : Cert.InW0RefIdeal.Facts] : Prop :=
  ∀ (m : (ℓ : Loc Cert.InW0Ideal.nD Cert.InW0Ideal.τ Cert.InW0Ideal.sig) → Buf (Elt Ideal) ℓ) (g : Dev Cert.InW0Ideal.nD → PrngReg)
    (m' : (ℓ : Loc Cert.InW0RefIdeal.nD Cert.InW0RefIdeal.τ Cert.InW0RefIdeal.sig) → Buf (Elt Ideal) ℓ) (g' : Dev Cert.InW0RefIdeal.nD → PrngReg), Pre_InW0Ideal m →
    (∀ c : Dev Cert.InW0Ideal.nD,
      m' ((c.tc : Thread Cert.InW0RefIdeal.nD Cert.InW0RefIdeal.τ).loc Cert.InW0RefIdeal.main_arg0) = m ((c.tc : Thread Cert.InW0Ideal.nD Cert.InW0Ideal.τ).loc Cert.InW0Ideal.main_arg0)
      ∧ m' ((c.tc : Thread Cert.InW0RefIdeal.nD Cert.InW0RefIdeal.τ).loc Cert.InW0RefIdeal.main_arg1) = m ((c.tc : Thread Cert.InW0Ideal.nD Cert.InW0Ideal.τ).loc Cert.InW0Ideal.main_arg1)
      ∧ m' ((c.tc : Thread Cert.InW0RefIdeal.nD Cert.InW0RefIdeal.τ).loc Cert.InW0RefIdeal.main_arg2) = m ((c.tc : Thread Cert.InW0Ideal.nD Cert.InW0Ideal.τ).loc Cert.InW0Ideal.main_arg2)
      ∧ m' ((c.tc : Thread Cert.InW0RefIdeal.nD Cert.InW0RefIdeal.τ).loc Cert.InW0RefIdeal.main_arg3) = m ((c.tc : Thread Cert.InW0Ideal.nD Cert.InW0Ideal.τ).loc Cert.InW0Ideal.main_arg3)
      ∧ m' ((c.tc : Thread Cert.InW0RefIdeal.nD Cert.InW0RefIdeal.τ).loc Cert.InW0RefIdeal.main_arg4) = m ((c.tc : Thread Cert.InW0Ideal.nD Cert.InW0Ideal.τ).loc Cert.InW0Ideal.main_arg4)
      ∧ m' ((c.tc : Thread Cert.InW0RefIdeal.nD Cert.InW0RefIdeal.τ).loc Cert.InW0RefIdeal.main_arg5) = m ((c.tc : Thread Cert.InW0Ideal.nD Cert.InW0Ideal.τ).loc Cert.InW0Ideal.main_arg5)
      ∧ m' ((c.tc : Thread Cert.InW0RefIdeal.nD Cert.InW0RefIdeal.τ).loc Cert.InW0RefIdeal.main_arg6) = m ((c.tc : Thread Cert.InW0Ideal.nD Cert.InW0Ideal.τ).loc Cert.InW0Ideal.main_arg6)) →
    ∃ (v0 : (c : Dev Cert.InW0Ideal.nD) → Buf (Elt Ideal) ((c.tc : Thread Cert.InW0Ideal.nD Cert.InW0Ideal.τ).loc Cert.InW0Ideal.main_v6)),
      θ_run (Cert.InW0Ideal.defs (F := Ideal)) (onTc (τ := Cert.InW0Ideal.τ) (Cert.InW0Ideal.main (F := Ideal))) ⟨m, fun _ => 0, g⟩ (fun r => ∀ c : Dev Cert.InW0Ideal.nD,
          r.2.mem ((c.tc : Thread Cert.InW0Ideal.nD Cert.InW0Ideal.τ).loc Cert.InW0Ideal.main_v6) = v0 c
          ∧ r.2.mem ((c.tc : Thread Cert.InW0Ideal.nD Cert.InW0Ideal.τ).loc Cert.InW0Ideal.main_arg0) = m ((c.tc : Thread Cert.InW0Ideal.nD Cert.InW0Ideal.τ).loc Cert.InW0Ideal.main_arg0)
          ∧ r.2.mem ((c.tc : Thread Cert.InW0Ideal.nD Cert.InW0Ideal.τ).loc Cert.InW0Ideal.main_arg1) = m ((c.tc : Thread Cert.InW0Ideal.nD Cert.InW0Ideal.τ).loc Cert.InW0Ideal.main_arg1)
          ∧ r.2.mem ((c.tc : Thread Cert.InW0Ideal.nD Cert.InW0Ideal.τ).loc Cert.InW0Ideal.main_arg2) = m ((c.tc : Thread Cert.InW0Ideal.nD Cert.InW0Ideal.τ).loc Cert.InW0Ideal.main_arg2)
          ∧ r.2.mem ((c.tc : Thread Cert.InW0Ideal.nD Cert.InW0Ideal.τ).loc Cert.InW0Ideal.main_arg3) = m ((c.tc : Thread Cert.InW0Ideal.nD Cert.InW0Ideal.τ).loc Cert.InW0Ideal.main_arg3)
          ∧ r.2.mem ((c.tc : Thread Cert.InW0Ideal.nD Cert.InW0Ideal.τ).loc Cert.InW0Ideal.main_arg4) = m ((c.tc : Thread Cert.InW0Ideal.nD Cert.InW0Ideal.τ).loc Cert.InW0Ideal.main_arg4)
          ∧ r.2.mem ((c.tc : Thread Cert.InW0Ideal.nD Cert.InW0Ideal.τ).loc Cert.InW0Ideal.main_arg5) = m ((c.tc : Thread Cert.InW0Ideal.nD Cert.InW0Ideal.τ).loc Cert.InW0Ideal.main_arg5)
          ∧ r.2.mem ((c.tc : Thread Cert.InW0Ideal.nD Cert.InW0Ideal.τ).loc Cert.InW0Ideal.main_arg6) = m ((c.tc : Thread Cert.InW0Ideal.nD Cert.InW0Ideal.τ).loc Cert.InW0Ideal.main_arg6))
      ∧ θ_run (Cert.InW0RefIdeal.defs (F := Ideal)) (onTc (τ := Cert.InW0RefIdeal.τ) (Cert.InW0RefIdeal.main (F := Ideal))) ⟨m', fun _ => 0, g'⟩ (fun r => ∀ c : Dev Cert.InW0RefIdeal.nD,
          r.2.mem ((c.tc : Thread Cert.InW0RefIdeal.nD Cert.InW0RefIdeal.τ).loc Cert.InW0RefIdeal.main_v19) = v0 c
          ∧ r.2.mem ((c.tc : Thread Cert.InW0RefIdeal.nD Cert.InW0RefIdeal.τ).loc Cert.InW0RefIdeal.main_arg0) = m' ((c.tc : Thread Cert.InW0RefIdeal.nD Cert.InW0RefIdeal.τ).loc Cert.InW0RefIdeal.main_arg0)
          ∧ r.2.mem ((c.tc : Thread Cert.InW0RefIdeal.nD Cert.InW0RefIdeal.τ).loc Cert.InW0RefIdeal.main_arg1) = m' ((c.tc : Thread Cert.InW0RefIdeal.nD Cert.InW0RefIdeal.τ).loc Cert.InW0RefIdeal.main_arg1)
          ∧ r.2.mem ((c.tc : Thread Cert.InW0RefIdeal.nD Cert.InW0RefIdeal.τ).loc Cert.InW0RefIdeal.main_arg2) = m' ((c.tc : Thread Cert.InW0RefIdeal.nD Cert.InW0RefIdeal.τ).loc Cert.InW0RefIdeal.main_arg2)
          ∧ r.2.mem ((c.tc : Thread Cert.InW0RefIdeal.nD Cert.InW0RefIdeal.τ).loc Cert.InW0RefIdeal.main_arg3) = m' ((c.tc : Thread Cert.InW0RefIdeal.nD Cert.InW0RefIdeal.τ).loc Cert.InW0RefIdeal.main_arg3)
          ∧ r.2.mem ((c.tc : Thread Cert.InW0RefIdeal.nD Cert.InW0RefIdeal.τ).loc Cert.InW0RefIdeal.main_arg4) = m' ((c.tc : Thread Cert.InW0RefIdeal.nD Cert.InW0RefIdeal.τ).loc Cert.InW0RefIdeal.main_arg4)
          ∧ r.2.mem ((c.tc : Thread Cert.InW0RefIdeal.nD Cert.InW0RefIdeal.τ).loc Cert.InW0RefIdeal.main_arg5) = m' ((c.tc : Thread Cert.InW0RefIdeal.nD Cert.InW0RefIdeal.τ).loc Cert.InW0RefIdeal.main_arg5)
          ∧ r.2.mem ((c.tc : Thread Cert.InW0RefIdeal.nD Cert.InW0RefIdeal.τ).loc Cert.InW0RefIdeal.main_arg6) = m' ((c.tc : Thread Cert.InW0RefIdeal.nD Cert.InW0RefIdeal.τ).loc Cert.InW0RefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v4) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v9) = v2 c
          ∧ r.2.mem ((c.tc : Thread Cert.AdamOutRefIdeal.nD Cert.AdamOutRefIdeal.τ).loc Cert.AdamOutRefIdeal.main_v15) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v3_0)) (v1 : (c : Dev Cert.AdamPoolIdeal.nD) → Buf (Elt Ideal) ((c.tc : Thread Cert.AdamPoolIdeal.nD Cert.AdamPoolIdeal.τ).loc Cert.AdamPoolIdeal.main_v3_1)) (v2 : (c : Dev Cert.AdamPoolIdeal.nD) → Buf (Elt Ideal) ((c.tc : Thread Cert.AdamPoolIdeal.nD Cert.AdamPoolIdeal.τ).loc Cert.AdamPoolIdeal.main_v3_2)) (v3 : (c : Dev Cert.AdamPoolIdeal.nD) → Buf (Elt Ideal) ((c.tc : Thread Cert.AdamPoolIdeal.nD Cert.AdamPoolIdeal.τ).loc Cert.AdamPoolIdeal.main_v3_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v3_0) = v0 c
          ∧ r.2.mem ((c.tc : Thread Cert.AdamPoolIdeal.nD Cert.AdamPoolIdeal.τ).loc Cert.AdamPoolIdeal.main_v3_1) = v1 c
          ∧ r.2.mem ((c.tc : Thread Cert.AdamPoolIdeal.nD Cert.AdamPoolIdeal.τ).loc Cert.AdamPoolIdeal.main_v3_2) = v2 c
          ∧ r.2.mem ((c.tc : Thread Cert.AdamPoolIdeal.nD Cert.AdamPoolIdeal.τ).loc Cert.AdamPoolIdeal.main_v3_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v3) = v0 c
          ∧ r.2.mem ((c.tc : Thread Cert.AdamPoolRefIdeal.nD Cert.AdamPoolRefIdeal.τ).loc Cert.AdamPoolRefIdeal.main_v30) = v1 c
          ∧ r.2.mem ((c.tc : Thread Cert.AdamPoolRefIdeal.nD Cert.AdamPoolRefIdeal.τ).loc Cert.AdamPoolRefIdeal.main_v11) = v2 c
          ∧ r.2.mem ((c.tc : Thread Cert.AdamPoolRefIdeal.nD Cert.AdamPoolRefIdeal.τ).loc Cert.AdamPoolRefIdeal.main_v17) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)
      ∧ m' ((c.tc : Thread Cert.AdamModRefIdeal.nD Cert.AdamModRefIdeal.τ).loc Cert.AdamModRefIdeal.main_arg4) = m ((c.tc : Thread Cert.AdamModIdeal.nD Cert.AdamModIdeal.τ).loc Cert.AdamModIdeal.main_arg4)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
          ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg3) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3)
          ∧ r.2.mem ((c.tc : Thread Cert.AdamModRefIdeal.nD Cert.AdamModRefIdeal.τ).loc Cert.AdamModRefIdeal.main_arg4) = m' ((c.tc : Thread Cert.AdamModRefIdeal.nD Cert.AdamModRefIdeal.τ).loc Cert.AdamModRefIdeal.main_arg4))

def preserves_AdamWa_AdamWaIdeal : Prop :=
  True

def algebraic_AdamWaIdeal_AdamWaRefIdeal [hAdamWaIdeal : Cert.AdamWaIdeal.Facts] [hAdamWaRefIdeal : Cert.AdamWaRefIdeal.Facts] : Prop :=
  ∀ (m : (ℓ : Loc Cert.AdamWaIdeal.nD Cert.AdamWaIdeal.τ Cert.AdamWaIdeal.sig) → Buf (Elt Ideal) ℓ) (g : Dev Cert.AdamWaIdeal.nD → PrngReg)
    (m' : (ℓ : Loc Cert.AdamWaRefIdeal.nD Cert.AdamWaRefIdeal.τ Cert.AdamWaRefIdeal.sig) → Buf (Elt Ideal) ℓ) (g' : Dev Cert.AdamWaRefIdeal.nD → PrngReg), Pre_AdamWaIdeal m →
    (∀ c : Dev Cert.AdamWaIdeal.nD,
      m' ((c.tc : Thread Cert.AdamWaRefIdeal.nD Cert.AdamWaRefIdeal.τ).loc Cert.AdamWaRefIdeal.main_arg0) = m ((c.tc : Thread Cert.AdamWaIdeal.nD Cert.AdamWaIdeal.τ).loc Cert.AdamWaIdeal.main_arg0)
      ∧ m' ((c.tc : Thread Cert.AdamWaRefIdeal.nD Cert.AdamWaRefIdeal.τ).loc Cert.AdamWaRefIdeal.main_arg1) = m ((c.tc : Thread Cert.AdamWaIdeal.nD Cert.AdamWaIdeal.τ).loc Cert.AdamWaIdeal.main_arg1)
      ∧ m' ((c.tc : Thread Cert.AdamWaRefIdeal.nD Cert.AdamWaRefIdeal.τ).loc Cert.AdamWaRefIdeal.main_arg2) = m ((c.tc : Thread Cert.AdamWaIdeal.nD Cert.AdamWaIdeal.τ).loc Cert.AdamWaIdeal.main_arg2)
      ∧ m' ((c.tc : Thread Cert.AdamWaRefIdeal.nD Cert.AdamWaRefIdeal.τ).loc Cert.AdamWaRefIdeal.main_arg3) = m ((c.tc : Thread Cert.AdamWaIdeal.nD Cert.AdamWaIdeal.τ).loc Cert.AdamWaIdeal.main_arg3)) →
    ∃ (v0 : (c : Dev Cert.AdamWaIdeal.nD) → Buf (Elt Ideal) ((c.tc : Thread Cert.AdamWaIdeal.nD Cert.AdamWaIdeal.τ).loc Cert.AdamWaIdeal.main_v3_0)) (v1 : (c : Dev Cert.AdamWaIdeal.nD) → Buf (Elt Ideal) ((c.tc : Thread Cert.AdamWaIdeal.nD Cert.AdamWaIdeal.τ).loc Cert.AdamWaIdeal.main_v3_1)) (v2 : (c : Dev Cert.AdamWaIdeal.nD) → Buf (Elt Ideal) ((c.tc : Thread Cert.AdamWaIdeal.nD Cert.AdamWaIdeal.τ).loc Cert.AdamWaIdeal.main_v3_2)) (v3 : (c : Dev Cert.AdamWaIdeal.nD) → Buf (Elt Ideal) ((c.tc : Thread Cert.AdamWaIdeal.nD Cert.AdamWaIdeal.τ).loc Cert.AdamWaIdeal.main_v3_3)),
      θ_run (Cert.AdamWaIdeal.defs (F := Ideal)) (onTc (τ := Cert.AdamWaIdeal.τ) (Cert.AdamWaIdeal.main (F := Ideal))) ⟨m, fun _ => 0, g⟩ (fun r => ∀ c : Dev Cert.AdamWaIdeal.nD,
          r.2.mem ((c.tc : Thread Cert.AdamWaIdeal.nD Cert.AdamWaIdeal.τ).loc Cert.AdamWaIdeal.main_v3_0) = v0 c
          ∧ r.2.mem ((c.tc : Thread Cert.AdamWaIdeal.nD Cert.AdamWaIdeal.τ).loc Cert.AdamWaIdeal.main_v3_1) = v1 c
          ∧ r.2.mem ((c.tc : Thread Cert.AdamWaIdeal.nD Cert.AdamWaIdeal.τ).loc Cert.AdamWaIdeal.main_v3_2) = v2 c
          ∧ r.2.mem ((c.tc : Thread Cert.AdamWaIdeal.nD Cert.AdamWaIdeal.τ).loc Cert.AdamWaIdeal.main_v3_3) = v3 c
          ∧ r.2.mem ((c.tc : Thread Cert.AdamWaIdeal.nD Cert.AdamWaIdeal.τ).loc Cert.AdamWaIdeal.main_arg0) = m ((c.tc : Thread Cert.AdamWaIdeal.nD Cert.AdamWaIdeal.τ).loc Cert.AdamWaIdeal.main_arg0)
          ∧ r.2.mem ((c.tc : Thread Cert.AdamWaIdeal.nD Cert.AdamWaIdeal.τ).loc Cert.AdamWaIdeal.main_arg1) = m ((c.tc : Thread Cert.AdamWaIdeal.nD Cert.AdamWaIdeal.τ).loc Cert.AdamWaIdeal.main_arg1)
          ∧ r.2.mem ((c.tc : Thread Cert.AdamWaIdeal.nD Cert.AdamWaIdeal.τ).loc Cert.AdamWaIdeal.main_arg2) = m ((c.tc : Thread Cert.AdamWaIdeal.nD Cert.AdamWaIdeal.τ).loc Cert.AdamWaIdeal.main_arg2)
          ∧ r.2.mem ((c.tc : Thread Cert.AdamWaIdeal.nD Cert.AdamWaIdeal.τ).loc Cert.AdamWaIdeal.main_arg3) = m ((c.tc : Thread Cert.AdamWaIdeal.nD Cert.AdamWaIdeal.τ).loc Cert.AdamWaIdeal.main_arg3))
      ∧ θ_run (Cert.AdamWaRefIdeal.defs (F := Ideal)) (onTc (τ := Cert.AdamWaRefIdeal.τ) (Cert.AdamWaRefIdeal.main (F := Ideal))) ⟨m', fun _ => 0, g'⟩ (fun r => ∀ c : Dev Cert.AdamWaRefIdeal.nD,
          r.2.mem ((c.tc : Thread Cert.AdamWaRefIdeal.nD Cert.AdamWaRefIdeal.τ).loc Cert.AdamWaRefIdeal.main_v28) = v0 c
          ∧ r.2.mem ((c.tc : Thread Cert.AdamWaRefIdeal.nD Cert.AdamWaRefIdeal.τ).loc Cert.AdamWaRefIdeal.main_v29) = v1 c
          ∧ r.2.mem ((c.tc : Thread Cert.AdamWaRefIdeal.nD Cert.AdamWaRefIdeal.τ).loc Cert.AdamWaRefIdeal.main_v30) = v2 c
          ∧ r.2.mem ((c.tc : Thread Cert.AdamWaRefIdeal.nD Cert.AdamWaRefIdeal.τ).loc Cert.AdamWaRefIdeal.main_v31) = v3 c
          ∧ r.2.mem ((c.tc : Thread Cert.AdamWaRefIdeal.nD Cert.AdamWaRefIdeal.τ).loc Cert.AdamWaRefIdeal.main_arg0) = m' ((c.tc : Thread Cert.AdamWaRefIdeal.nD Cert.AdamWaRefIdeal.τ).loc Cert.AdamWaRefIdeal.main_arg0)
          ∧ r.2.mem ((c.tc : Thread Cert.AdamWaRefIdeal.nD Cert.AdamWaRefIdeal.τ).loc Cert.AdamWaRefIdeal.main_arg1) = m' ((c.tc : Thread Cert.AdamWaRefIdeal.nD Cert.AdamWaRefIdeal.τ).loc Cert.AdamWaRefIdeal.main_arg1)
          ∧ r.2.mem ((c.tc : Thread Cert.AdamWaRefIdeal.nD Cert.AdamWaRefIdeal.τ).loc Cert.AdamWaRefIdeal.main_arg2) = m' ((c.tc : Thread Cert.AdamWaRefIdeal.nD Cert.AdamWaRefIdeal.τ).loc Cert.AdamWaRefIdeal.main_arg2)
          ∧ r.2.mem ((c.tc : Thread Cert.AdamWaRefIdeal.nD Cert.AdamWaRefIdeal.τ).loc Cert.AdamWaRefIdeal.main_arg3) = m' ((c.tc : Thread Cert.AdamWaRefIdeal.nD Cert.AdamWaRefIdeal.τ).loc Cert.AdamWaRefIdeal.main_arg3))

def preserves_AdamWx_AdamWxIdeal : Prop :=
  True

def algebraic_AdamWxIdeal_AdamWxRefIdeal [hAdamWxIdeal : Cert.AdamWxIdeal.Facts] [hAdamWxRefIdeal : Cert.AdamWxRefIdeal.Facts] : Prop :=
  ∀ (m : (ℓ : Loc Cert.AdamWxIdeal.nD Cert.AdamWxIdeal.τ Cert.AdamWxIdeal.sig) → Buf (Elt Ideal) ℓ) (g : Dev Cert.AdamWxIdeal.nD → PrngReg)
    (m' : (ℓ : Loc Cert.AdamWxRefIdeal.nD Cert.AdamWxRefIdeal.τ Cert.AdamWxRefIdeal.sig) → Buf (Elt Ideal) ℓ) (g' : Dev Cert.AdamWxRefIdeal.nD → PrngReg), Pre_AdamWxIdeal m →
    (∀ c : Dev Cert.AdamWxIdeal.nD,
      m' ((c.tc : Thread Cert.AdamWxRefIdeal.nD Cert.AdamWxRefIdeal.τ).loc Cert.AdamWxRefIdeal.main_arg0) = m ((c.tc : Thread Cert.AdamWxIdeal.nD Cert.AdamWxIdeal.τ).loc Cert.AdamWxIdeal.main_arg0)
      ∧ m' ((c.tc : Thread Cert.AdamWxRefIdeal.nD Cert.AdamWxRefIdeal.τ).loc Cert.AdamWxRefIdeal.main_arg1) = m ((c.tc : Thread Cert.AdamWxIdeal.nD Cert.AdamWxIdeal.τ).loc Cert.AdamWxIdeal.main_arg1)
      ∧ m' ((c.tc : Thread Cert.AdamWxRefIdeal.nD Cert.AdamWxRefIdeal.τ).loc Cert.AdamWxRefIdeal.main_arg2) = m ((c.tc : Thread Cert.AdamWxIdeal.nD Cert.AdamWxIdeal.τ).loc Cert.AdamWxIdeal.main_arg2)
      ∧ m' ((c.tc : Thread Cert.AdamWxRefIdeal.nD Cert.AdamWxRefIdeal.τ).loc Cert.AdamWxRefIdeal.main_arg3) = m ((c.tc : Thread Cert.AdamWxIdeal.nD Cert.AdamWxIdeal.τ).loc Cert.AdamWxIdeal.main_arg3)) →
    ∃ (v0 : (c : Dev Cert.AdamWxIdeal.nD) → Buf (Elt Ideal) ((c.tc : Thread Cert.AdamWxIdeal.nD Cert.AdamWxIdeal.τ).loc Cert.AdamWxIdeal.main_v3_0)) (v1 : (c : Dev Cert.AdamWxIdeal.nD) → Buf (Elt Ideal) ((c.tc : Thread Cert.AdamWxIdeal.nD Cert.AdamWxIdeal.τ).loc Cert.AdamWxIdeal.main_v3_1)) (v2 : (c : Dev Cert.AdamWxIdeal.nD) → Buf (Elt Ideal) ((c.tc : Thread Cert.AdamWxIdeal.nD Cert.AdamWxIdeal.τ).loc Cert.AdamWxIdeal.main_v3_2)) (v3 : (c : Dev Cert.AdamWxIdeal.nD) → Buf (Elt Ideal) ((c.tc : Thread Cert.AdamWxIdeal.nD Cert.AdamWxIdeal.τ).loc Cert.AdamWxIdeal.main_v3_3)),
      θ_run (Cert.AdamWxIdeal.defs (F := Ideal)) (onTc (τ := Cert.AdamWxIdeal.τ) (Cert.AdamWxIdeal.main (F := Ideal))) ⟨m, fun _ => 0, g⟩ (fun r => ∀ c : Dev Cert.AdamWxIdeal.nD,
          r.2.mem ((c.tc : Thread Cert.AdamWxIdeal.nD Cert.AdamWxIdeal.τ).loc Cert.AdamWxIdeal.main_v3_0) = v0 c
          ∧ r.2.mem ((c.tc : Thread Cert.AdamWxIdeal.nD Cert.AdamWxIdeal.τ).loc Cert.AdamWxIdeal.main_v3_1) = v1 c
          ∧ r.2.mem ((c.tc : Thread Cert.AdamWxIdeal.nD Cert.AdamWxIdeal.τ).loc Cert.AdamWxIdeal.main_v3_2) = v2 c
          ∧ r.2.mem ((c.tc : Thread Cert.AdamWxIdeal.nD Cert.AdamWxIdeal.τ).loc Cert.AdamWxIdeal.main_v3_3) = v3 c
          ∧ r.2.mem ((c.tc : Thread Cert.AdamWxIdeal.nD Cert.AdamWxIdeal.τ).loc Cert.AdamWxIdeal.main_arg0) = m ((c.tc : Thread Cert.AdamWxIdeal.nD Cert.AdamWxIdeal.τ).loc Cert.AdamWxIdeal.main_arg0)
          ∧ r.2.mem ((c.tc : Thread Cert.AdamWxIdeal.nD Cert.AdamWxIdeal.τ).loc Cert.AdamWxIdeal.main_arg1) = m ((c.tc : Thread Cert.AdamWxIdeal.nD Cert.AdamWxIdeal.τ).loc Cert.AdamWxIdeal.main_arg1)
          ∧ r.2.mem ((c.tc : Thread Cert.AdamWxIdeal.nD Cert.AdamWxIdeal.τ).loc Cert.AdamWxIdeal.main_arg2) = m ((c.tc : Thread Cert.AdamWxIdeal.nD Cert.AdamWxIdeal.τ).loc Cert.AdamWxIdeal.main_arg2)
          ∧ r.2.mem ((c.tc : Thread Cert.AdamWxIdeal.nD Cert.AdamWxIdeal.τ).loc Cert.AdamWxIdeal.main_arg3) = m ((c.tc : Thread Cert.AdamWxIdeal.nD Cert.AdamWxIdeal.τ).loc Cert.AdamWxIdeal.main_arg3))
      ∧ θ_run (Cert.AdamWxRefIdeal.defs (F := Ideal)) (onTc (τ := Cert.AdamWxRefIdeal.τ) (Cert.AdamWxRefIdeal.main (F := Ideal))) ⟨m', fun _ => 0, g'⟩ (fun r => ∀ c : Dev Cert.AdamWxRefIdeal.nD,
          r.2.mem ((c.tc : Thread Cert.AdamWxRefIdeal.nD Cert.AdamWxRefIdeal.τ).loc Cert.AdamWxRefIdeal.main_v28) = v0 c
          ∧ r.2.mem ((c.tc : Thread Cert.AdamWxRefIdeal.nD Cert.AdamWxRefIdeal.τ).loc Cert.AdamWxRefIdeal.main_v29) = v1 c
          ∧ r.2.mem ((c.tc : Thread Cert.AdamWxRefIdeal.nD Cert.AdamWxRefIdeal.τ).loc Cert.AdamWxRefIdeal.main_v30) = v2 c
          ∧ r.2.mem ((c.tc : Thread Cert.AdamWxRefIdeal.nD Cert.AdamWxRefIdeal.τ).loc Cert.AdamWxRefIdeal.main_v31) = v3 c
          ∧ r.2.mem ((c.tc : Thread Cert.AdamWxRefIdeal.nD Cert.AdamWxRefIdeal.τ).loc Cert.AdamWxRefIdeal.main_arg0) = m' ((c.tc : Thread Cert.AdamWxRefIdeal.nD Cert.AdamWxRefIdeal.τ).loc Cert.AdamWxRefIdeal.main_arg0)
          ∧ r.2.mem ((c.tc : Thread Cert.AdamWxRefIdeal.nD Cert.AdamWxRefIdeal.τ).loc Cert.AdamWxRefIdeal.main_arg1) = m' ((c.tc : Thread Cert.AdamWxRefIdeal.nD Cert.AdamWxRefIdeal.τ).loc Cert.AdamWxRefIdeal.main_arg1)
          ∧ r.2.mem ((c.tc : Thread Cert.AdamWxRefIdeal.nD Cert.AdamWxRefIdeal.τ).loc Cert.AdamWxRefIdeal.main_arg2) = m' ((c.tc : Thread Cert.AdamWxRefIdeal.nD Cert.AdamWxRefIdeal.τ).loc Cert.AdamWxRefIdeal.main_arg2)
          ∧ r.2.mem ((c.tc : Thread Cert.AdamWxRefIdeal.nD Cert.AdamWxRefIdeal.τ).loc Cert.AdamWxRefIdeal.main_arg3) = m' ((c.tc : Thread Cert.AdamWxRefIdeal.nD Cert.AdamWxRefIdeal.τ).loc Cert.AdamWxRefIdeal.main_arg3))

def preserves_ModRep_ModRepIdeal : Prop :=
  True

def algebraic_ModRepIdeal_ModRepRefIdeal [hModRepIdeal : Cert.ModRepIdeal.Facts] [hModRepRefIdeal : Cert.ModRepRefIdeal.Facts] : Prop :=
  ∀ (m : (ℓ : Loc Cert.ModRepIdeal.nD Cert.ModRepIdeal.τ Cert.ModRepIdeal.sig) → Buf (Elt Ideal) ℓ) (g : Dev Cert.ModRepIdeal.nD → PrngReg)
    (m' : (ℓ : Loc Cert.ModRepRefIdeal.nD Cert.ModRepRefIdeal.τ Cert.ModRepRefIdeal.sig) → Buf (Elt Ideal) ℓ) (g' : Dev Cert.ModRepRefIdeal.nD → PrngReg), Pre_ModRepIdeal m →
    (∀ c : Dev Cert.ModRepIdeal.nD,
      m' ((c.tc : Thread Cert.ModRepRefIdeal.nD Cert.ModRepRefIdeal.τ).loc Cert.ModRepRefIdeal.main_arg0) = m ((c.tc : Thread Cert.ModRepIdeal.nD Cert.ModRepIdeal.τ).loc Cert.ModRepIdeal.main_arg0)) →
    ∃ (v0 : (c : Dev Cert.ModRepIdeal.nD) → Buf (Elt Ideal) ((c.tc : Thread Cert.ModRepIdeal.nD Cert.ModRepIdeal.τ).loc Cert.ModRepIdeal.main_v1_0)) (v1 : (c : Dev Cert.ModRepIdeal.nD) → Buf (Elt Ideal) ((c.tc : Thread Cert.ModRepIdeal.nD Cert.ModRepIdeal.τ).loc Cert.ModRepIdeal.main_v1_1)) (v2 : (c : Dev Cert.ModRepIdeal.nD) → Buf (Elt Ideal) ((c.tc : Thread Cert.ModRepIdeal.nD Cert.ModRepIdeal.τ).loc Cert.ModRepIdeal.main_v1_2)) (v3 : (c : Dev Cert.ModRepIdeal.nD) → Buf (Elt Ideal) ((c.tc : Thread Cert.ModRepIdeal.nD Cert.ModRepIdeal.τ).loc Cert.ModRepIdeal.main_v1_3)) (v4 : (c : Dev Cert.ModRepIdeal.nD) → Buf (Elt Ideal) ((c.tc : Thread Cert.ModRepIdeal.nD Cert.ModRepIdeal.τ).loc Cert.ModRepIdeal.main_v1_4)) (v5 : (c : Dev Cert.ModRepIdeal.nD) → Buf (Elt Ideal) ((c.tc : Thread Cert.ModRepIdeal.nD Cert.ModRepIdeal.τ).loc Cert.ModRepIdeal.main_v1_5)) (v6 : (c : Dev Cert.ModRepIdeal.nD) → Buf (Elt Ideal) ((c.tc : Thread Cert.ModRepIdeal.nD Cert.ModRepIdeal.τ).loc Cert.ModRepIdeal.main_v1_6)) (v7 : (c : Dev Cert.ModRepIdeal.nD) → Buf (Elt Ideal) ((c.tc : Thread Cert.ModRepIdeal.nD Cert.ModRepIdeal.τ).loc Cert.ModRepIdeal.main_v1_7)) (v8 : (c : Dev Cert.ModRepIdeal.nD) → Buf (Elt Ideal) ((c.tc : Thread Cert.ModRepIdeal.nD Cert.ModRepIdeal.τ).loc Cert.ModRepIdeal.main_v1_8)) (v9 : (c : Dev Cert.ModRepIdeal.nD) → Buf (Elt Ideal) ((c.tc : Thread Cert.ModRepIdeal.nD Cert.ModRepIdeal.τ).loc Cert.ModRepIdeal.main_v1_9)),
      θ_run (Cert.ModRepIdeal.defs (F := Ideal)) (onTc (τ := Cert.ModRepIdeal.τ) (Cert.ModRepIdeal.main (F := Ideal))) ⟨m, fun _ => 0, g⟩ (fun r => ∀ c : Dev Cert.ModRepIdeal.nD,
          r.2.mem ((c.tc : Thread Cert.ModRepIdeal.nD Cert.ModRepIdeal.τ).loc Cert.ModRepIdeal.main_v1_0) = v0 c
          ∧ r.2.mem ((c.tc : Thread Cert.ModRepIdeal.nD Cert.ModRepIdeal.τ).loc Cert.ModRepIdeal.main_v1_1) = v1 c
          ∧ r.2.mem ((c.tc : Thread Cert.ModRepIdeal.nD Cert.ModRepIdeal.τ).loc Cert.ModRepIdeal.main_v1_2) = v2 c
          ∧ r.2.mem ((c.tc : Thread Cert.ModRepIdeal.nD Cert.ModRepIdeal.τ).loc Cert.ModRepIdeal.main_v1_3) = v3 c
          ∧ r.2.mem ((c.tc : Thread Cert.ModRepIdeal.nD Cert.ModRepIdeal.τ).loc Cert.ModRepIdeal.main_v1_4) = v4 c
          ∧ r.2.mem ((c.tc : Thread Cert.ModRepIdeal.nD Cert.ModRepIdeal.τ).loc Cert.ModRepIdeal.main_v1_5) = v5 c
          ∧ r.2.mem ((c.tc : Thread Cert.ModRepIdeal.nD Cert.ModRepIdeal.τ).loc Cert.ModRepIdeal.main_v1_6) = v6 c
          ∧ r.2.mem ((c.tc : Thread Cert.ModRepIdeal.nD Cert.ModRepIdeal.τ).loc Cert.ModRepIdeal.main_v1_7) = v7 c
          ∧ r.2.mem ((c.tc : Thread Cert.ModRepIdeal.nD Cert.ModRepIdeal.τ).loc Cert.ModRepIdeal.main_v1_8) = v8 c
          ∧ r.2.mem ((c.tc : Thread Cert.ModRepIdeal.nD Cert.ModRepIdeal.τ).loc Cert.ModRepIdeal.main_v1_9) = v9 c
          ∧ r.2.mem ((c.tc : Thread Cert.ModRepIdeal.nD Cert.ModRepIdeal.τ).loc Cert.ModRepIdeal.main_arg0) = m ((c.tc : Thread Cert.ModRepIdeal.nD Cert.ModRepIdeal.τ).loc Cert.ModRepIdeal.main_arg0))
      ∧ θ_run (Cert.ModRepRefIdeal.defs (F := Ideal)) (onTc (τ := Cert.ModRepRefIdeal.τ) (Cert.ModRepRefIdeal.main (F := Ideal))) ⟨m', fun _ => 0, g'⟩ (fun r => ∀ c : Dev Cert.ModRepRefIdeal.nD,
          r.2.mem ((c.tc : Thread Cert.ModRepRefIdeal.nD Cert.ModRepRefIdeal.τ).loc Cert.ModRepRefIdeal.main_v14) = v0 c
          ∧ r.2.mem ((c.tc : Thread Cert.ModRepRefIdeal.nD Cert.ModRepRefIdeal.τ).loc Cert.ModRepRefIdeal.main_v25) = v1 c
          ∧ r.2.mem ((c.tc : Thread Cert.ModRepRefIdeal.nD Cert.ModRepRefIdeal.τ).loc Cert.ModRepRefIdeal.main_v15) = v2 c
          ∧ r.2.mem ((c.tc : Thread Cert.ModRepRefIdeal.nD Cert.ModRepRefIdeal.τ).loc Cert.ModRepRefIdeal.main_v17) = v3 c
          ∧ r.2.mem ((c.tc : Thread Cert.ModRepRefIdeal.nD Cert.ModRepRefIdeal.τ).loc Cert.ModRepRefIdeal.main_v16) = v4 c
          ∧ r.2.mem ((c.tc : Thread Cert.ModRepRefIdeal.nD Cert.ModRepRefIdeal.τ).loc Cert.ModRepRefIdeal.main_v20) = v5 c
          ∧ r.2.mem ((c.tc : Thread Cert.ModRepRefIdeal.nD Cert.ModRepRefIdeal.τ).loc Cert.ModRepRefIdeal.main_v21) = v6 c
          ∧ r.2.mem ((c.tc : Thread Cert.ModRepRefIdeal.nD Cert.ModRepRefIdeal.τ).loc Cert.ModRepRefIdeal.main_v22) = v7 c
          ∧ r.2.mem ((c.tc : Thread Cert.ModRepRefIdeal.nD Cert.ModRepRefIdeal.τ).loc Cert.ModRepRefIdeal.main_v23) = v8 c
          ∧ r.2.mem ((c.tc : Thread Cert.ModRepRefIdeal.nD Cert.ModRepRefIdeal.τ).loc Cert.ModRepRefIdeal.main_v24) = v9 c
          ∧ r.2.mem ((c.tc : Thread Cert.ModRepRefIdeal.nD Cert.ModRepRefIdeal.τ).loc Cert.ModRepRefIdeal.main_arg0) = m' ((c.tc : Thread Cert.ModRepRefIdeal.nD Cert.ModRepRefIdeal.τ).loc Cert.ModRepRefIdeal.main_arg0))

def Claim : Prop :=
  ∃ (hPoolB : Cert.PoolB.Facts) (hPoolBIdeal : Cert.PoolBIdeal.Facts) (hPoolBRefIdeal : Cert.PoolBRefIdeal.Facts) (hInX : Cert.InX.Facts) (hInXIdeal : Cert.InXIdeal.Facts) (hInXRefIdeal : Cert.InXRefIdeal.Facts) (hInF : Cert.InF.Facts) (hInFIdeal : Cert.InFIdeal.Facts) (hInFRefIdeal : Cert.InFRefIdeal.Facts) (hPoolF : Cert.PoolF.Facts) (hPoolFIdeal : Cert.PoolFIdeal.Facts) (hPoolFRefIdeal : Cert.PoolFRefIdeal.Facts) (hOutF : Cert.OutF.Facts) (hOutFIdeal : Cert.OutFIdeal.Facts) (hOutFRefIdeal : Cert.OutFRefIdeal.Facts) (hOutW : Cert.OutW.Facts) (hOutWIdeal : Cert.OutWIdeal.Facts) (hOutWRefIdeal : Cert.OutWRefIdeal.Facts) (hInW : Cert.InW.Facts) (hInWIdeal : Cert.InWIdeal.Facts) (hInWRefIdeal : Cert.InWRefIdeal.Facts) (hInW0 : Cert.InW0.Facts) (hInW0Ideal : Cert.InW0Ideal.Facts) (hInW0RefIdeal : Cert.InW0RefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamPool : Cert.AdamPool.Facts) (hAdamPoolIdeal : Cert.AdamPoolIdeal.Facts) (hAdamPoolRefIdeal : Cert.AdamPoolRefIdeal.Facts) (hAdamMod : Cert.AdamMod.Facts) (hAdamModIdeal : Cert.AdamModIdeal.Facts) (hAdamModRefIdeal : Cert.AdamModRefIdeal.Facts) (hAdamWa : Cert.AdamWa.Facts) (hAdamWaIdeal : Cert.AdamWaIdeal.Facts) (hAdamWaRefIdeal : Cert.AdamWaRefIdeal.Facts) (hAdamWx : Cert.AdamWx.Facts) (hAdamWxIdeal : Cert.AdamWxIdeal.Facts) (hAdamWxRefIdeal : Cert.AdamWxRefIdeal.Facts) (hModRep : Cert.ModRep.Facts) (hModRepIdeal : Cert.ModRepIdeal.Facts) (hModRepRefIdeal : Cert.ModRepRefIdeal.Facts),
    quiescent_PoolB (hPoolB := hPoolB)
    ∧ quiescent_PoolBIdeal (hPoolBIdeal := hPoolBIdeal)
    ∧ quiescent_PoolBRefIdeal (hPoolBRefIdeal := hPoolBRefIdeal)
    ∧ quiescent_InX (hInX := hInX)
    ∧ quiescent_InXIdeal (hInXIdeal := hInXIdeal)
    ∧ quiescent_InXRefIdeal (hInXRefIdeal := hInXRefIdeal)
    ∧ quiescent_InF (hInF := hInF)
    ∧ quiescent_InFIdeal (hInFIdeal := hInFIdeal)
    ∧ quiescent_InFRefIdeal (hInFRefIdeal := hInFRefIdeal)
    ∧ quiescent_PoolF (hPoolF := hPoolF)
    ∧ quiescent_PoolFIdeal (hPoolFIdeal := hPoolFIdeal)
    ∧ quiescent_PoolFRefIdeal (hPoolFRefIdeal := hPoolFRefIdeal)
    ∧ quiescent_OutF (hOutF := hOutF)
    ∧ quiescent_OutFIdeal (hOutFIdeal := hOutFIdeal)
    ∧ quiescent_OutFRefIdeal (hOutFRefIdeal := hOutFRefIdeal)
    ∧ quiescent_OutW (hOutW := hOutW)
    ∧ quiescent_OutWIdeal (hOutWIdeal := hOutWIdeal)
    ∧ quiescent_OutWRefIdeal (hOutWRefIdeal := hOutWRefIdeal)
    ∧ quiescent_InW (hInW := hInW)
    ∧ quiescent_InWIdeal (hInWIdeal := hInWIdeal)
    ∧ quiescent_InWRefIdeal (hInWRefIdeal := hInWRefIdeal)
    ∧ quiescent_InW0 (hInW0 := hInW0)
    ∧ quiescent_InW0Ideal (hInW0Ideal := hInW0Ideal)
    ∧ quiescent_InW0RefIdeal (hInW0RefIdeal := hInW0RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamWa (hAdamWa := hAdamWa)
    ∧ quiescent_AdamWaIdeal (hAdamWaIdeal := hAdamWaIdeal)
    ∧ quiescent_AdamWaRefIdeal (hAdamWaRefIdeal := hAdamWaRefIdeal)
    ∧ quiescent_AdamWx (hAdamWx := hAdamWx)
    ∧ quiescent_AdamWxIdeal (hAdamWxIdeal := hAdamWxIdeal)
    ∧ quiescent_AdamWxRefIdeal (hAdamWxRefIdeal := hAdamWxRefIdeal)
    ∧ quiescent_ModRep (hModRep := hModRep)
    ∧ quiescent_ModRepIdeal (hModRepIdeal := hModRepIdeal)
    ∧ quiescent_ModRepRefIdeal (hModRepRefIdeal := hModRepRefIdeal)
    ∧ preserves_PoolB_PoolBIdeal
    ∧ algebraic_PoolBIdeal_PoolBRefIdeal (hPoolBIdeal := hPoolBIdeal) (hPoolBRefIdeal := hPoolBRefIdeal)
    ∧ preserves_InX_InXIdeal
    ∧ algebraic_InXIdeal_InXRefIdeal (hInXIdeal := hInXIdeal) (hInXRefIdeal := hInXRefIdeal)
    ∧ preserves_InF_InFIdeal
    ∧ algebraic_InFIdeal_InFRefIdeal (hInFIdeal := hInFIdeal) (hInFRefIdeal := hInFRefIdeal)
    ∧ preserves_PoolF_PoolFIdeal
    ∧ algebraic_PoolFIdeal_PoolFRefIdeal (hPoolFIdeal := hPoolFIdeal) (hPoolFRefIdeal := hPoolFRefIdeal)
    ∧ preserves_OutF_OutFIdeal
    ∧ algebraic_OutFIdeal_OutFRefIdeal (hOutFIdeal := hOutFIdeal) (hOutFRefIdeal := hOutFRefIdeal)
    ∧ preserves_OutW_OutWIdeal
    ∧ algebraic_OutWIdeal_OutWRefIdeal (hOutWIdeal := hOutWIdeal) (hOutWRefIdeal := hOutWRefIdeal)
    ∧ preserves_InW_InWIdeal
    ∧ algebraic_InWIdeal_InWRefIdeal (hInWIdeal := hInWIdeal) (hInWRefIdeal := hInWRefIdeal)
    ∧ preserves_InW0_InW0Ideal
    ∧ algebraic_InW0Ideal_InW0RefIdeal (hInW0Ideal := hInW0Ideal) (hInW0RefIdeal := hInW0RefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamMod_AdamModIdeal
    ∧ algebraic_AdamModIdeal_AdamModRefIdeal (hAdamModIdeal := hAdamModIdeal) (hAdamModRefIdeal := hAdamModRefIdeal)
    ∧ preserves_AdamWa_AdamWaIdeal
    ∧ algebraic_AdamWaIdeal_AdamWaRefIdeal (hAdamWaIdeal := hAdamWaIdeal) (hAdamWaRefIdeal := hAdamWaRefIdeal)
    ∧ preserves_AdamWx_AdamWxIdeal
    ∧ algebraic_AdamWxIdeal_AdamWxRefIdeal (hAdamWxIdeal := hAdamWxIdeal) (hAdamWxRefIdeal := hAdamWxRefIdeal)
    ∧ preserves_ModRep_ModRepIdeal
    ∧ algebraic_ModRepIdeal_ModRepRefIdeal (hModRepIdeal := hModRepIdeal) (hModRepRefIdeal := hModRepRefIdeal)
-- ==== PoolB.lean ====
abbrev S8192x2048 : Shape := ⟨2, ![8192, 2048]⟩
abbrev S4x512x512 : Shape := ⟨3, ![4, 512, 512]⟩
abbrev S2048 : Shape := ⟨1, ![2048]⟩
abbrev S4x1792x1024 : Shape := ⟨3, ![4, 1792, 1024]⟩
abbrev S8192x16x128 : Shape := ⟨3, ![8192, 16, 128]⟩
abbrev S16x8192x128 : Shape := ⟨3, ![16, 8192, 128]⟩
abbrev S4x4x128x512 : Shape := ⟨4, ![4, 4, 128, 512]⟩
abbrev S1x2048 : Shape := ⟨2, ![1, 2048]⟩
abbrev S4x1024x128 : Shape := ⟨3, ![4, 1024, 128]⟩
abbrev S4x1x128x512 : Shape := ⟨4, ![4, 1, 128, 512]⟩
abbrev S1x512 : Shape := ⟨2, ![1, 512]⟩
abbrev S4x128x512 : Shape := ⟨3, ![4, 128, 512]⟩
abbrev S512x512 : Shape := ⟨2, ![512, 512]⟩
abbrev S1x1024x128 : Shape := ⟨3, ![1, 1024, 128]⟩
abbrev S1024x128 : Shape := ⟨2, ![1024, 128]⟩
abbrev S1024x512 : Shape := ⟨2, ![1024, 512]⟩
abbrev S1x1x128x512 : Shape := ⟨4, ![1, 1, 128, 512]⟩
abbrev S128x512 : Shape := ⟨2, ![128, 512]⟩
abbrev S512 : Shape := ⟨1, ![512]⟩

abbrev nBuf : Space → Nat
  | .hbm => 18
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S4x1792x1024, .f32⟩
  | .hbm, ⟨5, _⟩ => ⟨S8192x16x128, .f32⟩
  | .hbm, ⟨6, _⟩ => ⟨S16x8192x128, .f32⟩
  | .hbm, ⟨7, _⟩ => ⟨S16x8192x128, .bf16⟩
  | .hbm, ⟨8, _⟩ => ⟨S8192x16x128, .f32⟩
  | .hbm, ⟨9, _⟩ => ⟨S16x8192x128, .f32⟩
  | .hbm, ⟨10, _⟩ => ⟨S16x8192x128, .bf16⟩
  | .hbm, ⟨11, _⟩ => ⟨S4x512x512, .bf16⟩
  | .hbm, ⟨12, _⟩ => ⟨S4x4x128x512, .bf16⟩
  | .hbm, ⟨13, _⟩ => ⟨S4x4x128x512, .bf16⟩
  | .hbm, ⟨14, _⟩ => ⟨S1x2048, .f32⟩
  | .hbm, ⟨15, _⟩ => ⟨S16x8192x128, .f32⟩
  | .hbm, ⟨16, _⟩ => ⟨S4x1792x1024, .f32⟩
  | .hbm, ⟨17, _⟩ => ⟨S1x2048, .f32⟩
  | .local _ .vmem, ⟨0, _⟩ => ⟨S4x1024x128, .bf16⟩
  | .local _ .vmem, ⟨1, _⟩ => ⟨S4x1024x128, .bf16⟩
  | .local _ .vmem, ⟨2, _⟩ => ⟨S4x1024x128, .bf16⟩
  | .local _ .vmem, ⟨3, _⟩ => ⟨S4x1024x128, .bf16⟩
  | .local _ .vmem, ⟨4, _⟩ => ⟨S4x1x128x512, .bf16⟩
  | .local _ .vmem, ⟨5, _⟩ => ⟨S4x1x128x512, .bf16⟩
  | .local _ .vmem, ⟨6, _⟩ => ⟨S1x512, .f32⟩
  | .local _ .vmem, ⟨7, _⟩ => ⟨S1x512, .f32⟩
  | .local _ .vmem, ⟨8, _⟩ => ⟨S4x1024x128, .f32⟩
  | .local _ .vmem, ⟨9, _⟩ => ⟨S4x1024x128, .f32⟩
  | .local _ .vmem, ⟨10, _⟩ => ⟨S4x128x512, .f32⟩
  | .local _ .vmem, ⟨11, _⟩ => ⟨S4x128x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_62 : BitVec 32 := 0#32
  let v69 : BitVec 1 := Scalar.cmpi .ne v68 c0_i32_62
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v17.toNat, v27.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PoolBRefIdeal.lean ====
abbrev S8192x2048 : Shape := ⟨2, ![8192, 2048]⟩
abbrev S4x512x512 : Shape := ⟨3, ![4, 512, 512]⟩
abbrev S2048 : Shape := ⟨1, ![2048]⟩
abbrev S4x1792x1024 : Shape := ⟨3, ![4, 1792, 1024]⟩
abbrev S8192x512 : Shape := ⟨2, ![8192, 512]⟩
abbrev S1x512x512 : Shape := ⟨3, ![1, 512, 512]⟩
abbrev S512x512 : Shape := ⟨2, ![512, 512]⟩
abbrev S1x2048 : Shape := ⟨2, ![1, 2048]⟩
abbrev S_ : Shape := ⟨0, ![]⟩
abbrev S2x2x4x128x512 : Shape := ⟨5, ![2, 2, 4, 128, 512]⟩
abbrev S4x2x128x2x512 : Shape := ⟨5, ![4, 2, 128, 2, 512]⟩
abbrev S4x256x1024 : Shape := ⟨3, ![4, 256, 1024]⟩
abbrev S8192x16x128 : Shape := ⟨3, ![8192, 16, 128]⟩
abbrev S16x8192x128 : Shape := ⟨3, ![16, 8192, 128]⟩
abbrev S4x1536x1024 : Shape := ⟨3, ![4, 1536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S4x1792x1024, .f32⟩
  | .hbm, ⟨5, _⟩ => ⟨S8192x512, .f32⟩
  | .hbm, ⟨6, _⟩ => ⟨S1x512x512, .f32⟩
  | .hbm, ⟨7, _⟩ => ⟨S512x512, .f32⟩
  | .hbm, ⟨8, _⟩ => ⟨S8192x512, .f32⟩
  | .hbm, ⟨9, _⟩ => ⟨S8192x512, .f32⟩
  | .hbm, ⟨10, _⟩ => ⟨S1x512x512, .f32⟩
  | .hbm, ⟨11, _⟩ => ⟨S512x512, .f32⟩
  | .hbm, ⟨12, _⟩ => ⟨S8192x512, .f32⟩
  | .hbm, ⟨13, _⟩ => ⟨S8192x512, .f32⟩
  | .hbm, ⟨14, _⟩ => ⟨S1x512x512, .f32⟩
  | .hbm, ⟨15, _⟩ => ⟨S512x512, .f32⟩
  | .hbm, ⟨16, _⟩ => ⟨S8192x512, .f32⟩
  | .hbm, ⟨17, _⟩ => ⟨S8192x512, .f32⟩
  | .hbm, ⟨18, _⟩ => ⟨S1x512x512, .f32⟩
  | .hbm, ⟨19, _⟩ => ⟨S512x512, .f32⟩
  | .hbm, ⟨20, _⟩ => ⟨S8192x512, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S512x512, .f32⟩
  | .hbm, ⟨38, _⟩ => ⟨S512x512, .f32⟩
  | .hbm, ⟨39, _⟩ => ⟨S8192x512, .f32⟩
  | .hbm, ⟨40, _⟩ => ⟨S1x512x512, .f32⟩
  | .hbm, ⟨41, _⟩ => ⟨S_, .f32⟩
  | .hbm, ⟨42, _⟩ => ⟨S4x512x512, .f32⟩
  | .hbm, ⟨43, _⟩ => ⟨S_, .f32⟩
  | .hbm, ⟨44, _⟩ => ⟨S8192x2048, .f32⟩
  | .hbm, ⟨45, _⟩ => ⟨S512x512, .f32⟩
  | .hbm, ⟨46, _⟩ => ⟨S512x512, .f32⟩
  | .hbm, ⟨47, _⟩ => ⟨S8192x512, .f32⟩
  | .hbm, ⟨48, _⟩ => ⟨S1x512x512, .f32⟩
  | .hbm, ⟨49, _⟩ => ⟨S_, .f32⟩
  | .hbm, ⟨50, _⟩ => ⟨S4x512x512, .f32⟩
  | .hbm, ⟨51, _⟩ => ⟨S4x512x512, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S512x512, .f32⟩
  | .hbm, ⟨56, _⟩ => ⟨S512x512, .f32⟩
  | .hbm, ⟨57, _⟩ => ⟨S8192x512, .f32⟩
  | .hbm, ⟨58, _⟩ => ⟨S1x512x512, .f32⟩
  | .hbm, ⟨59, _⟩ => ⟨S_, .f32⟩
  | .hbm, ⟨60, _⟩ => ⟨S4x512x512, .f32⟩
  | .hbm, ⟨61, _⟩ => ⟨S4x512x512, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S512x512, .f32⟩
  | .hbm, ⟨66, _⟩ => ⟨S512x512, .f32⟩
  | .hbm, ⟨67, _⟩ => ⟨S8192x512, .f32⟩
  | .hbm, ⟨68, _⟩ => ⟨S1x512x512, .f32⟩
  | .hbm, ⟨69, _⟩ => ⟨S_, .f32⟩
  | .hbm, ⟨70, _⟩ => ⟨S4x512x512, .f32⟩
  | .hbm, ⟨71, _⟩ => ⟨S4x512x512, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S2x2x4x128x512, .f32⟩
  | .hbm, ⟨76, _⟩ => ⟨S4x2x128x2x512, .f32⟩
  | .hbm, ⟨77, _⟩ => ⟨S4x256x1024, .f32⟩
  | .hbm, ⟨78, _⟩ => ⟨S8192x16x128, .f32⟩
  | .hbm, ⟨79, _⟩ => ⟨S16x8192x128, .f32⟩
  | .hbm, ⟨80, _⟩ => ⟨S4x1536x1024, .f32⟩
  | .hbm, ⟨81, _⟩ => ⟨S4x1792x1024, .f32⟩
  | .hbm, ⟨82, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== InX.lean ====
abbrev S8192x1024 : Shape := ⟨2, ![8192, 1024]⟩
abbrev S1024 : Shape := ⟨1, ![1024]⟩
abbrev S1024x4096 : Shape := ⟨2, ![1024, 4096]⟩
abbrev S8192x2048 : Shape := ⟨2, ![8192, 2048]⟩
abbrev S1x1024 : Shape := ⟨2, ![1, 1024]⟩
abbrev S_ : Shape := ⟨0, ![]⟩
abbrev S1024x4x1024 : Shape := ⟨3, ![1024, 4, 1024]⟩
abbrev S4x1024x1024 : Shape := ⟨3, ![4, 1024, 1024]⟩
abbrev S512x2048 : Shape := ⟨2, ![512, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x2048, .f32⟩
  | .hbm, ⟨4, _⟩ => ⟨S8192x2048, .f32⟩
  | .hbm, ⟨5, _⟩ => ⟨S8192x1024, .f32⟩
  | .hbm, ⟨6, _⟩ => ⟨S8192x2048, .bf16⟩
  | .hbm, ⟨7, _⟩ => ⟨S8192x2048, .bf16⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1024x4096, .bf16⟩
  | .hbm, ⟨13, _⟩ => ⟨S1024x4x1024, .bf16⟩
  | .hbm, ⟨14, _⟩ => ⟨S4x1024x1024, .bf16⟩
  | .hbm, ⟨15, _⟩ => ⟨S8192x1024, .f32⟩
  | .hbm, ⟨16, _⟩ => ⟨S1x1024, .f32⟩
  | .hbm, ⟨17, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InXRefIdeal.lean ====
abbrev S8192x1024 : Shape := ⟨2, ![8192, 1024]⟩
abbrev S1024 : Shape := ⟨1, ![1024]⟩
abbrev S1024x4096 : Shape := ⟨2, ![1024, 4096]⟩
abbrev S8192x2048 : Shape := ⟨2, ![8192, 2048]⟩
abbrev S_ : Shape := ⟨0, ![]⟩
abbrev S1x1024 : Shape := ⟨2, ![1, 1024]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x2048, .f32⟩
  | .hbm, ⟨4, _⟩ => ⟨S8192x2048, .f32⟩
  | .hbm, ⟨5, _⟩ => ⟨S8192x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x4096, .f32⟩
  | .hbm, ⟨18, _⟩ => ⟨S8192x2048, .f32⟩
  | .hbm, ⟨19, _⟩ => ⟨S8192x2048, .f32⟩
  | .hbm, ⟨20, _⟩ => ⟨S8192x4096, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S1x1024, .f32⟩
  | .hbm, ⟨37, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== InF.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S_ : Shape := ⟨0, ![]⟩
abbrev S1024x4x1024 : Shape := ⟨3, ![1024, 4, 1024]⟩
abbrev S4x1024x1024 : Shape := ⟨3, ![4, 1024, 1024]⟩
abbrev S16x8192x128 : Shape := ⟨3, ![16, 8192, 128]⟩
abbrev S512x1024 : Shape := ⟨2, ![512, 1024]⟩
abbrev S16x512x128 : Shape := ⟨3, ![16, 512, 128]⟩
abbrev S1x1024x1024 : Shape := ⟨3, ![1, 1024, 1024]⟩
abbrev S1024x1024 : Shape := ⟨2, ![1024, 1024]⟩
abbrev S512x128 : Shape := ⟨2, ![512, 128]⟩
abbrev S1x512x128 : Shape := ⟨3, ![1, 512, 128]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | .hbm, ⟨12, _⟩ => ⟨S16x8192x128, .f32⟩
  | .hbm, ⟨13, _⟩ => ⟨S16x8192x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1024, .bf16⟩
  | .local _ .vmem, ⟨5, _⟩ => ⟨S16x512x128, .f32⟩
  | .local _ .vmem, ⟨6, _⟩ => ⟨S16x512x128, .f32⟩
  | .local _ .vmem, ⟨7, _⟩ => ⟨S16x512x128, .bf16⟩
  | .local _ .vmem, ⟨8, _⟩ => ⟨S16x512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFRefIdeal.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S_ : Shape := ⟨0, ![]⟩
abbrev S8192x4096 : Shape := ⟨2, ![8192, 4096]⟩
abbrev S8192x2048 : Shape := ⟨2, ![8192, 2048]⟩
abbrev S8192x16x128 : Shape := ⟨3, ![8192, 16, 128]⟩
abbrev S16x8192x128 : Shape := ⟨3, ![16, 8192, 128]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x4096, .f32⟩
  | .hbm, ⟨14, _⟩ => ⟨S8192x2048, .f32⟩
  | .hbm, ⟨15, _⟩ => ⟨S8192x2048, .f32⟩
  | .hbm, ⟨16, _⟩ => ⟨S8192x16x128, .f32⟩
  | .hbm, ⟨17, _⟩ => ⟨S16x8192x128, .f32⟩
  | .hbm, ⟨18, _⟩ => ⟨S8192x16x128, .f32⟩
  | .hbm, ⟨19, _⟩ => ⟨S16x8192x128, .f32⟩
  | .hbm, ⟨20, _⟩ => ⟨S16x8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PoolF.lean ====
abbrev S8192x2048 : Shape := ⟨2, ![8192, 2048]⟩
abbrev S4x512x512 : Shape := ⟨3, ![4, 512, 512]⟩
abbrev S2048 : Shape := ⟨1, ![2048]⟩
abbrev S8192x16x128 : Shape := ⟨3, ![8192, 16, 128]⟩
abbrev S16x8192x128 : Shape := ⟨3, ![16, 8192, 128]⟩
abbrev S4x4x128x512 : Shape := ⟨4, ![4, 4, 128, 512]⟩
abbrev S1x2048 : Shape := ⟨2, ![1, 2048]⟩
abbrev S4x2048x128 : Shape := ⟨3, ![4, 2048, 128]⟩
abbrev S4x1x128x512 : Shape := ⟨4, ![4, 1, 128, 512]⟩
abbrev S1x512 : Shape := ⟨2, ![1, 512]⟩
abbrev S1x2048x128 : Shape := ⟨3, ![1, 2048, 128]⟩
abbrev S2048x128 : Shape := ⟨2, ![2048, 128]⟩
abbrev S2048x512 : Shape := ⟨2, ![2048, 512]⟩
abbrev S1x1x128x512 : Shape := ⟨4, ![1, 1, 128, 512]⟩
abbrev S128x512 : Shape := ⟨2, ![128, 512]⟩
abbrev S512x512 : Shape := ⟨2, ![512, 512]⟩

abbrev nBuf : Space → Nat
  | .hbm => 11
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x16x128, .f32⟩
  | .hbm, ⟨4, _⟩ => ⟨S16x8192x128, .f32⟩
  | .hbm, ⟨5, _⟩ => ⟨S16x8192x128, .bf16⟩
  | .hbm, ⟨6, _⟩ => ⟨S4x512x512, .bf16⟩
  | .hbm, ⟨7, _⟩ => ⟨S4x4x128x512, .bf16⟩
  | .hbm, ⟨8, _⟩ => ⟨S4x4x128x512, .bf16⟩
  | .hbm, ⟨9, _⟩ => ⟨S1x2048, .f32⟩
  | .hbm, ⟨10, _⟩ => ⟨S16x8192x128, .bf16⟩
  | .local _ .vmem, ⟨0, _⟩ => ⟨S4x2048x128, .bf16⟩
  | .local _ .vmem, ⟨1, _⟩ => ⟨S4x2048x128, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S1x512, .f32⟩
  | .local _ .vmem, ⟨5, _⟩ => ⟨S1x512, .f32⟩
  | .local _ .vmem, ⟨6, _⟩ => ⟨S4x2048x128, .bf16⟩
  | .local _ .vmem, ⟨7, _⟩ => ⟨S4x2048x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolFRefIdeal.lean ====
abbrev S8192x2048 : Shape := ⟨2, ![8192, 2048]⟩
abbrev S4x512x512 : Shape := ⟨3, ![4, 512, 512]⟩
abbrev S2048 : Shape := ⟨1, ![2048]⟩
abbrev S8192x512 : Shape := ⟨2, ![8192, 512]⟩
abbrev S1x512x512 : Shape := ⟨3, ![1, 512, 512]⟩
abbrev S512x512 : Shape := ⟨2, ![512, 512]⟩
abbrev S1x2048 : Shape := ⟨2, ![1, 2048]⟩
abbrev S8192x16x128 : Shape := ⟨3, ![8192, 16, 128]⟩
abbrev S16x8192x128 : Shape := ⟨3, ![16, 8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x512, .f32⟩
  | .hbm, ⟨4, _⟩ => ⟨S1x512x512, .f32⟩
  | .hbm, ⟨5, _⟩ => ⟨S512x512, .f32⟩
  | .hbm, ⟨6, _⟩ => ⟨S8192x512, .f32⟩
  | .hbm, ⟨7, _⟩ => ⟨S8192x512, .f32⟩
  | .hbm, ⟨8, _⟩ => ⟨S1x512x512, .f32⟩
  | .hbm, ⟨9, _⟩ => ⟨S512x512, .f32⟩
  | .hbm, ⟨10, _⟩ => ⟨S8192x512, .f32⟩
  | .hbm, ⟨11, _⟩ => ⟨S8192x512, .f32⟩
  | .hbm, ⟨12, _⟩ => ⟨S1x512x512, .f32⟩
  | .hbm, ⟨13, _⟩ => ⟨S512x512, .f32⟩
  | .hbm, ⟨14, _⟩ => ⟨S8192x512, .f32⟩
  | .hbm, ⟨15, _⟩ => ⟨S8192x512, .f32⟩
  | .hbm, ⟨16, _⟩ => ⟨S1x512x512, .f32⟩
  | .hbm, ⟨17, _⟩ => ⟨S512x512, .f32⟩
  | .hbm, ⟨18, _⟩ => ⟨S8192x512, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x16x128, .f32⟩
  | .hbm, ⟨24, _⟩ => ⟨S16x8192x128, .f32⟩
  | .hbm, ⟨25, _⟩ => ⟨S16x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== OutF.lean ====
abbrev S8192x2048 : Shape := ⟨2, ![8192, 2048]⟩
abbrev S8192x1024 : Shape := ⟨2, ![8192, 1024]⟩
abbrev S1024 : Shape := ⟨1, ![1024]⟩
abbrev S2048x1024 : Shape := ⟨2, ![2048, 1024]⟩
abbrev S8192x16x128 : Shape := ⟨3, ![8192, 16, 128]⟩
abbrev S16x8192x128 : Shape := ⟨3, ![16, 8192, 128]⟩
abbrev S1x1024 : Shape := ⟨2, ![1, 1024]⟩
abbrev S16x512x128 : Shape := ⟨3, ![16, 512, 128]⟩
abbrev S512x1024 : Shape := ⟨2, ![512, 1024]⟩
abbrev S1x512x128 : Shape := ⟨3, ![1, 512, 128]⟩
abbrev S512x128 : Shape := ⟨2, ![512, 128]⟩
abbrev S512x2048 : Shape := ⟨2, ![512, 2048]⟩
abbrev S128x1024 : Shape := ⟨2, ![128, 1024]⟩
abbrev S128 : Shape := ⟨1, ![128]⟩
abbrev S128x1 : Shape := ⟨2, ![128, 1]⟩

abbrev nBuf : Space → Nat
  | .hbm => 19
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S8192x16x128, .f32⟩
  | .hbm, ⟨8, _⟩ => ⟨S16x8192x128, .f32⟩
  | .hbm, ⟨9, _⟩ => ⟨S16x8192x128, .bf16⟩
  | .hbm, ⟨10, _⟩ => ⟨S8192x16x128, .f32⟩
  | .hbm, ⟨11, _⟩ => ⟨S16x8192x128, .f32⟩
  | .hbm, ⟨12, _⟩ => ⟨S16x8192x128, .bf16⟩
  | .hbm, ⟨13, _⟩ => ⟨S1x1024, .f32⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .local _ .vmem, ⟨0, _⟩ => ⟨S16x512x128, .bf16⟩
  | .local _ .vmem, ⟨1, _⟩ => ⟨S16x512x128, .bf16⟩
  | .local _ .vmem, ⟨2, _⟩ => ⟨S16x512x128, .bf16⟩
  | .local _ .vmem, ⟨3, _⟩ => ⟨S16x512x128, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v261 : BitVec 32 := Scalar.addi c0_i32 c4_i32
  let c1_i32 : BitVec 32 := 1#32
  ⟨c0_i32, v261, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v262 : BitVec 32 := Scalar.muli arg10 c128_i32
  v262
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v262 : BitVec 32 := Scalar.muli arg10 c128_i32
  let v263 : BitVec 32 := v262
  let v264 : Index := Scalar.indexCast v263
  let c0_133 : Index := 0#32
  ![v264.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFRefIdeal.lean ====
abbrev S8192x2048 : Shape := ⟨2, ![8192, 2048]⟩
abbrev S8192x1024 : Shape := ⟨2, ![8192, 1024]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩

abbrev nD : Nat := 1
abbrev τ : Topo := Topo.v7x

variable {F : FTy → Type} [FloatOps F]
-- ==== OutW.lean ====
abbrev S8192x2048 : Shape := ⟨2, ![8192, 2048]⟩
abbrev S8192x1024 : Shape := ⟨2, ![8192, 1024]⟩
abbrev S4x1792x1024 : Shape := ⟨3, ![4, 1792, 1024]⟩
abbrev S8192x16x128 : Shape := ⟨3, ![8192, 16, 128]⟩
abbrev S16x8192x128 : Shape := ⟨3, ![16, 8192, 128]⟩
abbrev S16x1024x128 : Shape := ⟨3, ![16, 1024, 128]⟩
abbrev S1024x1024 : Shape := ⟨2, ![1024, 1024]⟩
abbrev S4x512x1024 : Shape := ⟨3, ![4, 512, 1024]⟩
abbrev S1x1024x128 : Shape := ⟨3, ![1, 1024, 128]⟩
abbrev S1024x128 : Shape := ⟨2, ![1024, 128]⟩
abbrev S1024x2048 : Shape := ⟨2, ![1024, 2048]⟩
abbrev S2048x1024 : Shape := ⟨2, ![2048, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S4x1792x1024, .f32⟩
  | .hbm, ⟨4, _⟩ => ⟨S8192x16x128, .f32⟩
  | .hbm, ⟨5, _⟩ => ⟨S16x8192x128, .f32⟩
  | .hbm, ⟨6, _⟩ => ⟨S16x8192x128, .bf16⟩
  | .hbm, ⟨7, _⟩ => ⟨S8192x16x128, .f32⟩
  | .hbm, ⟨8, _⟩ => ⟨S16x8192x128, .f32⟩
  | .hbm, ⟨9, _⟩ => ⟨S16x8192x128, .bf16⟩
  | .hbm, ⟨10, _⟩ => ⟨S8192x1024, .bf16⟩
  | .hbm, ⟨11, _⟩ => ⟨S4x1792x1024, .f32⟩
  | .local _ .vmem, ⟨0, _⟩ => ⟨S16x1024x128, .bf16⟩
  | .local _ .vmem, ⟨1, _⟩ => ⟨S16x1024x128, .bf16⟩
  | .local _ .vmem, ⟨2, _⟩ => ⟨S16x1024x128, .bf16⟩
  | .local _ .vmem, ⟨3, _⟩ => ⟨S16x1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S4x512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S16x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OutWRefIdeal.lean ====
abbrev S8192x2048 : Shape := ⟨2, ![8192, 2048]⟩
abbrev S8192x1024 : Shape := ⟨2, ![8192, 1024]⟩
abbrev S4x1792x1024 : Shape := ⟨3, ![4, 1792, 1024]⟩
abbrev S_ : Shape := ⟨0, ![]⟩
abbrev S2048x1024 : Shape := ⟨2, ![2048, 1024]⟩
abbrev S1024x2048 : Shape := ⟨2, ![1024, 2048]⟩
abbrev S4x1024x1024 : Shape := ⟨3, ![4, 1024, 1024]⟩
abbrev S4x512x1024 : Shape := ⟨3, ![4, 512, 1024]⟩
abbrev S4x256x1024 : Shape := ⟨3, ![4, 256, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S4x1792x1024, .f32⟩
  | .hbm, ⟨4, _⟩ => ⟨S_, .f32⟩
  | .hbm, ⟨5, _⟩ => ⟨S2048x1024, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S1024x2048, .f32⟩
  | .hbm, ⟨18, _⟩ => ⟨S2048x1024, .f32⟩
  | .hbm, ⟨19, _⟩ => ⟨S4x1024x1024, .f32⟩
  | .hbm, ⟨20, _⟩ => ⟨S4x512x1024, .f32⟩
  | .hbm, ⟨21, _⟩ => ⟨S4x256x1024, .f32⟩
  | .hbm, ⟨22, _⟩ => ⟨S4x1792x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== InW.lean ====
abbrev S8192x1024 : Shape := ⟨2, ![8192, 1024]⟩
abbrev S1024 : Shape := ⟨1, ![1024]⟩
abbrev S8192x2048 : Shape := ⟨2, ![8192, 2048]⟩
abbrev S4x1792x1024 : Shape := ⟨3, ![4, 1792, 1024]⟩
abbrev S1x1024 : Shape := ⟨2, ![1, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2048, .f32⟩
  | .hbm, ⟨4, _⟩ => ⟨S8192x2048, .f32⟩
  | .hbm, ⟨5, _⟩ => ⟨S4x1792x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x2048, .bf16⟩
  | .hbm, ⟨12, _⟩ => ⟨S8192x2048, .bf16⟩
  | .hbm, ⟨13, _⟩ => ⟨S4x1792x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_5 : BitVec 32 := 0#32
  let v12 : BitVec 1 := Scalar.cmpi .ne v11 c0_i32_5
  v12

def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c2_i32 : BitVec 32 := 2#32
  let c0_i32_8 : BitVec 32 := 0#32
  let v19 : BitVec 1 := Scalar.cmpi .sgt c2_i32 c0_i32_8
  let v20 : BitVec 32 := Scalar.extui v19
  let c0_i32_9 : BitVec 32 := 0#32
  let v21 : BitVec 1 := Scalar.cmpi .slt c2_i32 c0_i32_9
  let v22 : BitVec 32 := Scalar.extui v21
  let v23 : BitVec 32 := Scalar.subi v20 v22
  let v24 : BitVec 1 := Scalar.cmpi .ne v18 v23
  let v25 : BitVec 32 := Scalar.remsi arg0 c2_i32
  let c0_i32_10 : BitVec 32 := 0#32
  let v26 : BitVec 1 := Scalar.cmpi .ne v25 c0_i32_10
  let v27 : BitVec 1 := Scalar.andi v24 v26
  let v13 : BitVec 32 := Scalar.divsi arg0 c2_i32
  let c1_i32 : BitVec 32 := 1#32
  let v28 : BitVec 32 := Scalar.subi v13 c1_i32
  let v29 : BitVec 32 := Scalar.select v27 v28 v13
  let c0_i32_11 : BitVec 32 := 0#32
  let v30 : BitVec 1 := Scalar.cmpi .eq v29 c0_i32_11
  let v31 : BitVec 32 := Scalar.extui v30
  let c0_i32_12 : BitVec 32 := 0#32
  let v32 : BitVec 1 := Scalar.cmpi .ne v31 c0_i32_12
  v32

def k0_cond3 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .slt arg0 c0_i32_15
  let v37 : BitVec 32 := Scalar.extui v36
  let v38 : BitVec 32 := Scalar.subi v35 v37
  let c2_i32_13 : BitVec 32 := 2#32
  let c0_i32_16 : BitVec 32 := 0#32
  let v39 : BitVec 1 := Scalar.cmpi .sgt c2_i32_13 c0_i32_16
  let v40 : BitVec 32 := Scalar.extui v39
  let c0_i32_17 : BitVec 32 := 0#32
  let v41 : BitVec 1 := Scalar.cmpi .slt c2_i32_13 c0_i32_17
  let v42 : BitVec 32 := Scalar.extui v41
  let v43 : BitVec 32 := Scalar.subi v40 v42
  let v44 : BitVec 1 := Scalar.cmpi .ne v38 v43
  let v45 : BitVec 32 := Scalar.remsi arg0 c2_i32_13
  let c0_i32_18 : BitVec 32 := 0#32
  let v46 : BitVec 1 := Scalar.cmpi .ne v45 c0_i32_18
  let v47 : BitVec 1 := Scalar.andi v44 v46
  let v33 : BitVec 32 := Scalar.divsi arg0 c2_i32_13
  let c1_i32_19 : BitVec 32 := 1#32
  let v48 : BitVec 32 := Scalar.subi v33 c1_i32_19
  let v49 : BitVec 32 := Scalar.select v47 v48 v33
  let c1_i32_20 : BitVec 32 := 1#32
  let v50 : BitVec 1 := Scalar.cmpi .eq v49 c1_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InWRefIdeal.lean ====
abbrev S8192x1024 : Shape := ⟨2, ![8192, 1024]⟩
abbrev S1024 : Shape := ⟨1, ![1024]⟩
abbrev S8192x2048 : Shape := ⟨2, ![8192, 2048]⟩
abbrev S4x1792x1024 : Shape := ⟨3, ![4, 1792, 1024]⟩
abbrev S_ : Shape := ⟨0, ![]⟩
abbrev S1024x4096 : Shape := ⟨2, ![1024, 4096]⟩
abbrev S1x1024 : Shape := ⟨2, ![1, 1024]⟩
abbrev S8192x4096 : Shape := ⟨2, ![8192, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x768x1024 : Shape := ⟨3, ![4, 768, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2048, .f32⟩
  | .hbm, ⟨4, _⟩ => ⟨S8192x2048, .f32⟩
  | .hbm, ⟨5, _⟩ => ⟨S4x1792x1024, .f32⟩
  | .hbm, ⟨6, _⟩ => ⟨S_, .f32⟩
  | .hbm, ⟨7, _⟩ => ⟨S1024x4096, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x4096, .f32⟩
  | .hbm, ⟨18, _⟩ => ⟨S8192x2048, .f32⟩
  | .hbm, ⟨19, _⟩ => ⟨S8192x2048, .f32⟩
  | .hbm, ⟨20, _⟩ => ⟨S8192x4096, .f32⟩
  | .hbm, ⟨21, _⟩ => ⟨S4096x1024, .f32⟩
  | .hbm, ⟨22, _⟩ => ⟨S1024x4096, .f32⟩
  | .hbm, ⟨23, _⟩ => ⟨S1024x4x1024, .f32⟩
  | .hbm, ⟨24, _⟩ => ⟨S4x1024x1024, .f32⟩
  | .hbm, ⟨25, _⟩ => ⟨S4x768x1024, .f32⟩
  | .hbm, ⟨26, _⟩ => ⟨S4x1792x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== InW0.lean ====
abbrev S8192x1024 : Shape := ⟨2, ![8192, 1024]⟩
abbrev S1024 : Shape := ⟨1, ![1024]⟩
abbrev S8192x2048 : Shape := ⟨2, ![8192, 2048]⟩
abbrev S4x1024x1024 : Shape := ⟨3, ![4, 1024, 1024]⟩
abbrev S4x1792x1024 : Shape := ⟨3, ![4, 1792, 1024]⟩
abbrev S1x1024 : Shape := ⟨2, ![1, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2048, .f32⟩
  | .hbm, ⟨4, _⟩ => ⟨S8192x2048, .f32⟩
  | .hbm, ⟨5, _⟩ => ⟨S4x1024x1024, .f32⟩
  | .hbm, ⟨6, _⟩ => ⟨S4x1792x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x2048, .bf16⟩
  | .hbm, ⟨13, _⟩ => ⟨S8192x2048, .bf16⟩
  | .hbm, ⟨14, _⟩ => ⟨S4x1792x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_5 : BitVec 32 := 0#32
  let v12 : BitVec 1 := Scalar.cmpi .ne v11 c0_i32_5
  v12

def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c2_i32 : BitVec 32 := 2#32
  let c0_i32_8 : BitVec 32 := 0#32
  let v19 : BitVec 1 := Scalar.cmpi .sgt c2_i32 c0_i32_8
  let v20 : BitVec 32 := Scalar.extui v19
  let c0_i32_9 : BitVec 32 := 0#32
  let v21 : BitVec 1 := Scalar.cmpi .slt c2_i32 c0_i32_9
  let v22 : BitVec 32 := Scalar.extui v21
  let v23 : BitVec 32 := Scalar.subi v20 v22
  let v24 : BitVec 1 := Scalar.cmpi .ne v18 v23
  let v25 : BitVec 32 := Scalar.remsi arg0 c2_i32
  let c0_i32_10 : BitVec 32 := 0#32
  let v26 : BitVec 1 := Scalar.cmpi .ne v25 c0_i32_10
  let v27 : BitVec 1 := Scalar.andi v24 v26
  let v13 : BitVec 32 := Scalar.divsi arg0 c2_i32
  let c1_i32 : BitVec 32 := 1#32
  let v28 : BitVec 32 := Scalar.subi v13 c1_i32
  let v29 : BitVec 32 := Scalar.select v27 v28 v13
  let c0_i32_11 : BitVec 32 := 0#32
  let v30 : BitVec 1 := Scalar.cmpi .eq v29 c0_i32_11
  let v31 : BitVec 32 := Scalar.extui v30
  let c0_i32_12 : BitVec 32 := 0#32
  let v32 : BitVec 1 := Scalar.cmpi .ne v31 c0_i32_12
  v32

def k0_cond3 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .slt arg0 c0_i32_15
  let v37 : BitVec 32 := Scalar.extui v36
  let v38 : BitVec 32 := Scalar.subi v35 v37
  let c2_i32_13 : BitVec 32 := 2#32
  let c0_i32_16 : BitVec 32 := 0#32
  let v39 : BitVec 1 := Scalar.cmpi .sgt c2_i32_13 c0_i32_16
  let v40 : BitVec 32 := Scalar.extui v39
  let c0_i32_17 : BitVec 32 := 0#32
  let v41 : BitVec 1 := Scalar.cmpi .slt c2_i32_13 c0_i32_17
  let v42 : BitVec 32 := Scalar.extui v41
  let v43 : BitVec 32 := Scalar.subi v40 v42
  let v44 : BitVec 1 := Scalar.cmpi .ne v38 v43
  let v45 : BitVec 32 := Scalar.remsi arg0 c2_i32_13
  let c0_i32_18 : BitVec 32 := 0#32
  let v46 : BitVec 1 := Scalar.cmpi .ne v45 c0_i32_18
  let v47 : BitVec 1 := Scalar.andi v44 v46
  let v33 : BitVec 32 := Scalar.divsi arg0 c2_i32_13
  let c1_i32_19 : BitVec 32 := 1#32
  let v48 : BitVec 32 := Scalar.subi v33 c1_i32_19
  let v49 : BitVec 32 := Scalar.select v47 v48 v33
  let c1_i32_20 : BitVec 32 := 1#32
  let v50 : BitVec 1 := Scalar.cmpi .eq v49 c1_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InW0RefIdeal.lean ====
abbrev S8192x1024 : Shape := ⟨2, ![8192, 1024]⟩
abbrev S1024 : Shape := ⟨1, ![1024]⟩
abbrev S8192x2048 : Shape := ⟨2, ![8192, 2048]⟩
abbrev S4x1024x1024 : Shape := ⟨3, ![4, 1024, 1024]⟩
abbrev S4x1792x1024 : Shape := ⟨3, ![4, 1792, 1024]⟩
abbrev S_ : Shape := ⟨0, ![]⟩
abbrev S1024x4096 : Shape := ⟨2, ![1024, 4096]⟩
abbrev S1x1024 : Shape := ⟨2, ![1, 1024]⟩
abbrev S8192x4096 : Shape := ⟨2, ![8192, 4096]⟩
abbrev S4096x1024 : Shape := ⟨2, ![4096, 1024]⟩
abbrev S1024x4x1024 : Shape := ⟨3, ![1024, 4, 1024]⟩
abbrev S4x768x1024 : Shape := ⟨3, ![4, 768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2048, .f32⟩
  | .hbm, ⟨4, _⟩ => ⟨S8192x2048, .f32⟩
  | .hbm, ⟨5, _⟩ => ⟨S4x1024x1024, .f32⟩
  | .hbm, ⟨6, _⟩ => ⟨S4x1792x1024, .f32⟩
  | .hbm, ⟨7, _⟩ => ⟨S_, .f32⟩
  | .hbm, ⟨8, _⟩ => ⟨S1024x4096, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x2048, .f32⟩
  | .hbm, ⟨20, _⟩ => ⟨S8192x2048, .f32⟩
  | .hbm, ⟨21, _⟩ => ⟨S8192x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | .hbm, ⟨26, _⟩ => ⟨S4x1024x1024, .f32⟩
  | .hbm, ⟨27, _⟩ => ⟨S4x768x1024, .f32⟩
  | .hbm, ⟨28, _⟩ => ⟨S4x1792x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== AdamIn.lean ====
abbrev S2x1024x1024 : Shape := ⟨3, ![2, 1024, 1024]⟩
abbrev S1792x1024 : Shape := ⟨2, ![1792, 1024]⟩
abbrev S8x128 : Shape := ⟨2, ![8, 128]⟩
abbrev S1x256x1024 : Shape := ⟨3, ![1, 256, 1024]⟩
abbrev S256x1024 : Shape := ⟨2, ![256, 1024]⟩

abbrev nBuf : Space → Nat
  | .hbm => 10
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1792x1024, .f32⟩
  | .hbm, ⟨4, _⟩ => ⟨S1792x1024, .f32⟩
  | .hbm, ⟨5, _⟩ => ⟨S8x128, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S2x1024x1024 : Shape := ⟨3, ![2, 1024, 1024]⟩
abbrev S1792x1024 : Shape := ⟨2, ![1792, 1024]⟩
abbrev S8x128 : Shape := ⟨2, ![8, 128]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1792x1024, .f32⟩
  | .hbm, ⟨4, _⟩ => ⟨S1792x1024, .f32⟩
  | .hbm, ⟨5, _⟩ => ⟨S8x128, .f32⟩
  | .hbm, ⟨6, _⟩ => ⟨S1024x1024, .f32⟩
  | .hbm, ⟨7, _⟩ => ⟨S1024x1024, .f32⟩
  | .hbm, ⟨8, _⟩ => ⟨S1x1024x1024, .f32⟩
  | .hbm, ⟨9, _⟩ => ⟨S1x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S_, .f32⟩
  | .hbm, ⟨15, _⟩ => ⟨S2x1024x1024, .f32⟩
  | .hbm, ⟨16, _⟩ => ⟨S2x1024x1024, .f32⟩
  | .hbm, ⟨17, _⟩ => ⟨S2x1024x1024, .f32⟩
  | .hbm, ⟨18, _⟩ => ⟨S_, .f32⟩
  | .hbm, ⟨19, _⟩ => ⟨S2x1024x1024, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S_, .f32⟩
  | .hbm, ⟨30, _⟩ => ⟨S2x1024x1024, .f32⟩
  | .hbm, ⟨31, _⟩ => ⟨S2x1024x1024, .f32⟩
  | .hbm, ⟨32, _⟩ => ⟨S2x1024x1024, .f32⟩
  | .hbm, ⟨33, _⟩ => ⟨S_, .f32⟩
  | .hbm, ⟨34, _⟩ => ⟨S2x1024x1024, .f32⟩
  | .hbm, ⟨35, _⟩ => ⟨S2x1024x1024, .f32⟩
  | .hbm, ⟨36, _⟩ => ⟨S2x1024x1024, .f32⟩
  | .hbm, ⟨37, _⟩ => ⟨S_, .f32⟩
  | .hbm, ⟨38, _⟩ => ⟨S2x1024x1024, .f32⟩
  | .hbm, ⟨39, _⟩ => ⟨S2x1024x1024, .f32⟩
  | .hbm, ⟨40, _⟩ => ⟨S2x1024x1024, .f32⟩
  | .hbm, ⟨41, _⟩ => ⟨S_, .f32⟩
  | .hbm, ⟨42, _⟩ => ⟨S2x1024x1024, .f32⟩
  | .hbm, ⟨43, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamOut.lean ====
abbrev S2x512x1024 : Shape := ⟨3, ![2, 512, 1024]⟩
abbrev S1792x1024 : Shape := ⟨2, ![1792, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S1792x1024, .f32⟩
  | .hbm, ⟨4, _⟩ => ⟨S1792x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S2x512x1024 : Shape := ⟨3, ![2, 512, 1024]⟩
abbrev S1792x1024 : Shape := ⟨2, ![1792, 1024]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S1792x1024, .f32⟩
  | .hbm, ⟨4, _⟩ => ⟨S1792x1024, .f32⟩
  | .hbm, ⟨5, _⟩ => ⟨S512x1024, .f32⟩
  | .hbm, ⟨6, _⟩ => ⟨S512x1024, .f32⟩
  | .hbm, ⟨7, _⟩ => ⟨S1x512x1024, .f32⟩
  | .hbm, ⟨8, _⟩ => ⟨S1x512x1024, .f32⟩
  | .hbm, ⟨9, _⟩ => ⟨S2x512x1024, .f32⟩
  | .hbm, ⟨10, _⟩ => ⟨S_, .f32⟩
  | .hbm, ⟨11, _⟩ => ⟨S2x512x1024, .f32⟩
  | .hbm, ⟨12, _⟩ => ⟨S2x512x1024, .f32⟩
  | .hbm, ⟨13, _⟩ => ⟨S_, .f32⟩
  | .hbm, ⟨14, _⟩ => ⟨S2x512x1024, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S_, .f32⟩
  | .hbm, ⟨29, _⟩ => ⟨S2x512x1024, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamPool.lean ====
abbrev S1x4x128x512 : Shape := ⟨4, ![1, 4, 128, 512]⟩
abbrev S1792x1024 : Shape := ⟨2, ![1792, 1024]⟩
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 11
  | .vmem => 16
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1792x1024, .f32⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S4x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | .local _ .vmem, ⟨7, _⟩ => ⟨S128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S1x4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamPoolRefIdeal.lean ====
abbrev S1x4x128x512 : Shape := ⟨4, ![1, 4, 128, 512]⟩
abbrev S1792x1024 : Shape := ⟨2, ![1792, 1024]⟩
abbrev S256x1024 : Shape := ⟨2, ![256, 1024]⟩
abbrev S2x128x2x512 : Shape := ⟨4, ![2, 128, 2, 512]⟩
abbrev S2x2x128x512 : Shape := ⟨4, ![2, 2, 128, 512]⟩
abbrev S4x128x512 : Shape := ⟨3, ![4, 128, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1792x1024, .f32⟩
  | .hbm, ⟨4, _⟩ => ⟨S256x1024, .f32⟩
  | .hbm, ⟨5, _⟩ => ⟨S2x128x2x512, .f32⟩
  | .hbm, ⟨6, _⟩ => ⟨S2x2x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S_, .f32⟩
  | .hbm, ⟨12, _⟩ => ⟨S4x128x512, .f32⟩
  | .hbm, ⟨13, _⟩ => ⟨S4x128x512, .f32⟩
  | .hbm, ⟨14, _⟩ => ⟨S_, .f32⟩
  | .hbm, ⟨15, _⟩ => ⟨S4x128x512, .f32⟩
  | .hbm, ⟨16, _⟩ => ⟨S4x128x512, .f32⟩
  | .hbm, ⟨17, _⟩ => ⟨S4x128x512, .f32⟩
  | .hbm, ⟨18, _⟩ => ⟨S_, .f32⟩
  | .hbm, ⟨19, _⟩ => ⟨S4x128x512, .f32⟩
  | .hbm, ⟨20, _⟩ => ⟨S4x128x512, .f32⟩
  | .hbm, ⟨21, _⟩ => ⟨S4x128x512, .f32⟩
  | .hbm, ⟨22, _⟩ => ⟨S_, .f32⟩
  | .hbm, ⟨23, _⟩ => ⟨S4x128x512, .f32⟩
  | .hbm, ⟨24, _⟩ => ⟨S4x128x512, .f32⟩
  | .hbm, ⟨25, _⟩ => ⟨S4x128x512, .f32⟩
  | .hbm, ⟨26, _⟩ => ⟨S_, .f32⟩
  | .hbm, ⟨27, _⟩ => ⟨S4x128x512, .f32⟩
  | .hbm, ⟨28, _⟩ => ⟨S4x128x512, .f32⟩
  | .hbm, ⟨29, _⟩ => ⟨S_, .f32⟩
  | .hbm, ⟨30, _⟩ => ⟨S4x128x512, .f32⟩
  | .hbm, ⟨31, _⟩ => ⟨S4x128x512, .f32⟩
  | .hbm, ⟨32, _⟩ => ⟨S4x128x512, .f32⟩
  | .hbm, ⟨33, _⟩ => ⟨S_, .f32⟩
  | .hbm, ⟨34, _⟩ => ⟨S4x128x512, .f32⟩
  | .hbm, ⟨35, _⟩ => ⟨S4x128x512, .f32⟩
  | .hbm, ⟨36, _⟩ => ⟨S4x128x512, .f32⟩
  | .hbm, ⟨37, _⟩ => ⟨S_, .f32⟩
  | .hbm, ⟨38, _⟩ => ⟨S4x128x512, .f32⟩
  | .hbm, ⟨39, _⟩ => ⟨S4x128x512, .f32⟩
  | .hbm, ⟨40, _⟩ => ⟨S4x128x512, .f32⟩
  | .hbm, ⟨41, _⟩ => ⟨S_, .f32⟩
  | .hbm, ⟨42, _⟩ => ⟨S4x128x512, .f32⟩
  | .hbm, ⟨43, _⟩ => ⟨S4x128x512, .f32⟩
  | _, _ => ⟨S1x4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== AdamMod.lean ====
abbrev S2x1024x768 : Shape := ⟨3, ![2, 1024, 768]⟩
abbrev S8x128 : Shape := ⟨2, ![8, 128]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S8x128, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamModRefIdeal.lean ====
abbrev S2x1024x768 : Shape := ⟨3, ![2, 1024, 768]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S8x128, .f32⟩
  | .hbm, ⟨5, _⟩ => ⟨S_, .f32⟩
  | .hbm, ⟨6, _⟩ => ⟨S2x1024x768, .f32⟩
  | .hbm, ⟨7, _⟩ => ⟨S2x1024x768, .f32⟩
  | .hbm, ⟨8, _⟩ => ⟨S_, .f32⟩
  | .hbm, ⟨9, _⟩ => ⟨S2x1024x768, .f32⟩
  | .hbm, ⟨10, _⟩ => ⟨S2x1024x768, .f32⟩
  | .hbm, ⟨11, _⟩ => ⟨S2x1024x768, .f32⟩
  | .hbm, ⟨12, _⟩ => ⟨S_, .f32⟩
  | .hbm, ⟨13, _⟩ => ⟨S2x1024x768, .f32⟩
  | .hbm, ⟨14, _⟩ => ⟨S2x1024x768, .f32⟩
  | .hbm, ⟨15, _⟩ => ⟨S2x1024x768, .f32⟩
  | .hbm, ⟨16, _⟩ => ⟨S_, .f32⟩
  | .hbm, ⟨17, _⟩ => ⟨S2x1024x768, .f32⟩
  | .hbm, ⟨18, _⟩ => ⟨S2x1024x768, .f32⟩
  | .hbm, ⟨19, _⟩ => ⟨S2x1024x768, .f32⟩
  | .hbm, ⟨20, _⟩ => ⟨S_, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S2x1024x768, .f32⟩
  | .hbm, ⟨27, _⟩ => ⟨S_, .f32⟩
  | .hbm, ⟨28, _⟩ => ⟨S2x1024x768, .f32⟩
  | .hbm, ⟨29, _⟩ => ⟨S2x1024x768, .f32⟩
  | .hbm, ⟨30, _⟩ => ⟨S2x1024x768, .f32⟩
  | .hbm, ⟨31, _⟩ => ⟨S_, .f32⟩
  | .hbm, ⟨32, _⟩ => ⟨S2x1024x768, .f32⟩
  | .hbm, ⟨33, _⟩ => ⟨S2x1024x768, .f32⟩
  | .hbm, ⟨34, _⟩ => ⟨S2x1024x768, .f32⟩
  | .hbm, ⟨35, _⟩ => ⟨S_, .f32⟩
  | .hbm, ⟨36, _⟩ => ⟨S2x1024x768, .f32⟩
  | .hbm, ⟨37, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamWa.lean ====
abbrev S1x2x16x128x128 : Shape := ⟨5, ![1, 2, 16, 128, 128]⟩
abbrev S4x256x1024 : Shape := ⟨3, ![4, 256, 1024]⟩
abbrev S8x512x128 : Shape := ⟨3, ![8, 512, 128]⟩
abbrev S1x512x128 : Shape := ⟨3, ![1, 512, 128]⟩
abbrev S1x128x512 : Shape := ⟨3, ![1, 128, 512]⟩
abbrev S128x512 : Shape := ⟨2, ![128, 512]⟩
abbrev S128x128 : Shape := ⟨2, ![128, 128]⟩
abbrev S512x128 : Shape := ⟨2, ![512, 128]⟩

abbrev nBuf : Space → Nat
  | .hbm => 11
  | .vmem => 16
  | .smem => 0
  | _ => 0

abbrev bufTy : (tb : Table) → Fin (tcTables nBuf tb) → BufTy
  | .hbm, ⟨0, _⟩ => ⟨S1x2x16x128x128, .f32⟩
  | .hbm, ⟨1, _⟩ => ⟨S1x2x16x128x128, .f32⟩
  | .hbm, ⟨2, _⟩ => ⟨S1x2x16x128x128, .f32⟩
  | .hbm, ⟨3, _⟩ => ⟨S4x256x1024, .f32⟩
  | .hbm, ⟨4, _⟩ => ⟨S8x512x128, .f32⟩
  | .hbm, ⟨5, _⟩ => ⟨S8x512x128, .f32⟩
  | .hbm, ⟨6, _⟩ => ⟨S8x512x128, .f32⟩
  | .hbm, ⟨7, _⟩ => ⟨S8x512x128, .f32⟩
  | .hbm, ⟨8, _⟩ => ⟨S8x512x128, .f32⟩
  | .hbm, ⟨9, _⟩ => ⟨S8x512x128, .f32⟩
  | .hbm, ⟨10, _⟩ => ⟨S8x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x128x512, .f32⟩
  | .local _ .vmem, ⟨7, _⟩ => ⟨S1x128x512, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S1x2x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWaRefIdeal.lean ====
abbrev S1x2x16x128x128 : Shape := ⟨5, ![1, 2, 16, 128, 128]⟩
abbrev S4x256x1024 : Shape := ⟨3, ![4, 256, 1024]⟩
abbrev S4x128x1024 : Shape := ⟨3, ![4, 128, 1024]⟩
abbrev S4x128x2x4x128 : Shape := ⟨5, ![4, 128, 2, 4, 128]⟩
abbrev S2x4x4x128x128 : Shape := ⟨5, ![2, 4, 4, 128, 128]⟩
abbrev S_ : Shape := ⟨0, ![]⟩
abbrev S8x512x128 : Shape := ⟨3, ![8, 512, 128]⟩

abbrev nBuf : Space → Nat
  | .hbm => 45
  | .vmem => 0
  | .smem => 0
  | _ => 0

abbrev bufTy : (tb : Table) → Fin (tcTables nBuf tb) → BufTy
  | .hbm, ⟨0, _⟩ => ⟨S1x2x16x128x128, .f32⟩
  | .hbm, ⟨1, _⟩ => ⟨S1x2x16x128x128, .f32⟩
  | .hbm, ⟨2, _⟩ => ⟨S1x2x16x128x128, .f32⟩
  | .hbm, ⟨3, _⟩ => ⟨S4x256x1024, .f32⟩
  | .hbm, ⟨4, _⟩ => ⟨S4x128x1024, .f32⟩
  | .hbm, ⟨5, _⟩ => ⟨S4x128x2x4x128, .f32⟩
  | .hbm, ⟨6, _⟩ => ⟨S2x4x4x128x128, .f32⟩
  | .hbm, ⟨7, _⟩ => ⟨S1x2x16x128x128, .f32⟩
  | .hbm, ⟨8, _⟩ => ⟨S_, .f32⟩
  | .hbm, ⟨9, _⟩ => ⟨S1x2x16x128x128, .f32⟩
  | .hbm, ⟨10, _⟩ => ⟨S1x2x16x128x128, .f32⟩
  | .hbm, ⟨11, _⟩ => ⟨S_, .f32⟩
  | .hbm, ⟨12, _⟩ => ⟨S1x2x16x128x128, .f32⟩
  | .hbm, ⟨13, _⟩ => ⟨S1x2x16x128x128, .f32⟩
  | .hbm, ⟨14, _⟩ => ⟨S1x2x16x128x128, .f32⟩
  | .hbm, ⟨15, _⟩ => ⟨S_, .f32⟩
  | .hbm, ⟨16, _⟩ => ⟨S1x2x16x128x128, .f32⟩
  | .hbm, ⟨17, _⟩ => ⟨S1x2x16x128x128, .f32⟩
  | .hbm, ⟨18, _⟩ => ⟨S1x2x16x128x128, .f32⟩
  | .hbm, ⟨19, _⟩ => ⟨S_, .f32⟩
  | .hbm, ⟨20, _⟩ => ⟨S1x2x16x128x128, .f32⟩
  | .hbm, ⟨21, _⟩ => ⟨S1x2x16x128x128, .f32⟩
  | .hbm, ⟨22, _⟩ => ⟨S1x2x16x128x128, .f32⟩
  | .hbm, ⟨23, _⟩ => ⟨S_, .f32⟩
  | .hbm, ⟨24, _⟩ => ⟨S1x2x16x128x128, .f32⟩
  | .hbm, ⟨25, _⟩ => ⟨S1x2x16x128x128, .f32⟩
  | .hbm, ⟨26, _⟩ => ⟨S_, .f32⟩
  | .hbm, ⟨27, _⟩ => ⟨S1x2x16x128x128, .f32⟩
  | .hbm, ⟨28, _⟩ => ⟨S1x2x16x128x128, .f32⟩
  | .hbm, ⟨29, _⟩ => ⟨S1x2x16x128x128, .f32⟩
  | .hbm, ⟨30, _⟩ => ⟨S_, .f32⟩
  | .hbm, ⟨31, _⟩ => ⟨S1x2x16x128x128, .f32⟩
  | .hbm, ⟨32, _⟩ => ⟨S1x2x16x128x128, .f32⟩
  | .hbm, ⟨33, _⟩ => ⟨S1x2x16x128x128, .f32⟩
  | .hbm, ⟨34, _⟩ => ⟨S_, .f32⟩
  | .hbm, ⟨35, _⟩ => ⟨S1x2x16x128x128, .f32⟩
  | .hbm, ⟨36, _⟩ => ⟨S1x2x16x128x128, .f32⟩
  | .hbm, ⟨37, _⟩ => ⟨S1x2x16x128x128, .f32⟩
  | .hbm, ⟨38, _⟩ => ⟨S_, .f32⟩
  | .hbm, ⟨39, _⟩ => ⟨S1x2x16x128x128, .f32⟩
  | .hbm, ⟨40, _⟩ => ⟨S1x2x16x128x128, .f32⟩
  | .hbm, ⟨41, _⟩ => ⟨S8x512x128, .f32⟩
  | .hbm, ⟨42, _⟩ => ⟨S8x512x128, .f32⟩
  | .hbm, ⟨43, _⟩ => ⟨S8x512x128, .f32⟩
  | .hbm, ⟨44, _⟩ => ⟨S8x512x128, .f32⟩
  | _, _ => ⟨S1x2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== AdamWx.lean ====
abbrev S1x2x16x128x128 : Shape := ⟨5, ![1, 2, 16, 128, 128]⟩
abbrev S4x256x1024 : Shape := ⟨3, ![4, 256, 1024]⟩
abbrev S8x512x128 : Shape := ⟨3, ![8, 512, 128]⟩
abbrev S1x512x128 : Shape := ⟨3, ![1, 512, 128]⟩
abbrev S1x128x512 : Shape := ⟨3, ![1, 128, 512]⟩
abbrev S128x512 : Shape := ⟨2, ![128, 512]⟩
abbrev S128x128 : Shape := ⟨2, ![128, 128]⟩
abbrev S512x128 : Shape := ⟨2, ![512, 128]⟩

abbrev nBuf : Space → Nat
  | .hbm => 11
  | .vmem => 16
  | .smem => 0
  | _ => 0

abbrev bufTy : (tb : Table) → Fin (tcTables nBuf tb) → BufTy
  | .hbm, ⟨0, _⟩ => ⟨S1x2x16x128x128, .f32⟩
  | .hbm, ⟨1, _⟩ => ⟨S1x2x16x128x128, .f32⟩
  | .hbm, ⟨2, _⟩ => ⟨S1x2x16x128x128, .f32⟩
  | .hbm, ⟨3, _⟩ => ⟨S4x256x1024, .f32⟩
  | .hbm, ⟨4, _⟩ => ⟨S8x512x128, .f32⟩
  | .hbm, ⟨5, _⟩ => ⟨S8x512x128, .f32⟩
  | .hbm, ⟨6, _⟩ => ⟨S8x512x128, .f32⟩
  | .hbm, ⟨7, _⟩ => ⟨S8x512x128, .f32⟩
  | .hbm, ⟨8, _⟩ => ⟨S8x512x128, .f32⟩
  | .hbm, ⟨9, _⟩ => ⟨S8x512x128, .f32⟩
  | .hbm, ⟨10, _⟩ => ⟨S8x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x128x512, .f32⟩
  | .local _ .vmem, ⟨7, _⟩ => ⟨S1x128x512, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S1x2x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let c0_i32_11 : BitVec 32 := 0#32
  ![v9.toNat, c1_i32_10.toNat, v26.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWxRefIdeal.lean ====
abbrev S1x2x16x128x128 : Shape := ⟨5, ![1, 2, 16, 128, 128]⟩
abbrev S4x256x1024 : Shape := ⟨3, ![4, 256, 1024]⟩
abbrev S4x128x1024 : Shape := ⟨3, ![4, 128, 1024]⟩
abbrev S4x128x2x4x128 : Shape := ⟨5, ![4, 128, 2, 4, 128]⟩
abbrev S2x4x4x128x128 : Shape := ⟨5, ![2, 4, 4, 128, 128]⟩
abbrev S_ : Shape := ⟨0, ![]⟩
abbrev S8x512x128 : Shape := ⟨3, ![8, 512, 128]⟩

abbrev nBuf : Space → Nat
  | .hbm => 45
  | .vmem => 0
  | .smem => 0
  | _ => 0

abbrev bufTy : (tb : Table) → Fin (tcTables nBuf tb) → BufTy
  | .hbm, ⟨0, _⟩ => ⟨S1x2x16x128x128, .f32⟩
  | .hbm, ⟨1, _⟩ => ⟨S1x2x16x128x128, .f32⟩
  | .hbm, ⟨2, _⟩ => ⟨S1x2x16x128x128, .f32⟩
  | .hbm, ⟨3, _⟩ => ⟨S4x256x1024, .f32⟩
  | .hbm, ⟨4, _⟩ => ⟨S4x128x1024, .f32⟩
  | .hbm, ⟨5, _⟩ => ⟨S4x128x2x4x128, .f32⟩
  | .hbm, ⟨6, _⟩ => ⟨S2x4x4x128x128, .f32⟩
  | .hbm, ⟨7, _⟩ => ⟨S1x2x16x128x128, .f32⟩
  | .hbm, ⟨8, _⟩ => ⟨S_, .f32⟩
  | .hbm, ⟨9, _⟩ => ⟨S1x2x16x128x128, .f32⟩
  | .hbm, ⟨10, _⟩ => ⟨S1x2x16x128x128, .f32⟩
  | .hbm, ⟨11, _⟩ => ⟨S_, .f32⟩
  | .hbm, ⟨12, _⟩ => ⟨S1x2x16x128x128, .f32⟩
  | .hbm, ⟨13, _⟩ => ⟨S1x2x16x128x128, .f32⟩
  | .hbm, ⟨14, _⟩ => ⟨S1x2x16x128x128, .f32⟩
  | .hbm, ⟨15, _⟩ => ⟨S_, .f32⟩
  | .hbm, ⟨16, _⟩ => ⟨S1x2x16x128x128, .f32⟩
  | .hbm, ⟨17, _⟩ => ⟨S1x2x16x128x128, .f32⟩
  | .hbm, ⟨18, _⟩ => ⟨S1x2x16x128x128, .f32⟩
  | .hbm, ⟨19, _⟩ => ⟨S_, .f32⟩
  | .hbm, ⟨20, _⟩ => ⟨S1x2x16x128x128, .f32⟩
  | .hbm, ⟨21, _⟩ => ⟨S1x2x16x128x128, .f32⟩
  | .hbm, ⟨22, _⟩ => ⟨S1x2x16x128x128, .f32⟩
  | .hbm, ⟨23, _⟩ => ⟨S_, .f32⟩
  | .hbm, ⟨24, _⟩ => ⟨S1x2x16x128x128, .f32⟩
  | .hbm, ⟨25, _⟩ => ⟨S1x2x16x128x128, .f32⟩
  | .hbm, ⟨26, _⟩ => ⟨S_, .f32⟩
  | .hbm, ⟨27, _⟩ => ⟨S1x2x16x128x128, .f32⟩
  | .hbm, ⟨28, _⟩ => ⟨S1x2x16x128x128, .f32⟩
  | .hbm, ⟨29, _⟩ => ⟨S1x2x16x128x128, .f32⟩
  | .hbm, ⟨30, _⟩ => ⟨S_, .f32⟩
  | .hbm, ⟨31, _⟩ => ⟨S1x2x16x128x128, .f32⟩
  | .hbm, ⟨32, _⟩ => ⟨S1x2x16x128x128, .f32⟩
  | .hbm, ⟨33, _⟩ => ⟨S1x2x16x128x128, .f32⟩
  | .hbm, ⟨34, _⟩ => ⟨S_, .f32⟩
  | .hbm, ⟨35, _⟩ => ⟨S1x2x16x128x128, .f32⟩
  | .hbm, ⟨36, _⟩ => ⟨S1x2x16x128x128, .f32⟩
  | .hbm, ⟨37, _⟩ => ⟨S1x2x16x128x128, .f32⟩
  | .hbm, ⟨38, _⟩ => ⟨S_, .f32⟩
  | .hbm, ⟨39, _⟩ => ⟨S1x2x16x128x128, .f32⟩
  | .hbm, ⟨40, _⟩ => ⟨S1x2x16x128x128, .f32⟩
  | .hbm, ⟨41, _⟩ => ⟨S8x512x128, .f32⟩
  | .hbm, ⟨42, _⟩ => ⟨S8x512x128, .f32⟩
  | .hbm, ⟨43, _⟩ => ⟨S8x512x128, .f32⟩
  | .hbm, ⟨44, _⟩ => ⟨S8x512x128, .f32⟩
  | _, _ => ⟨S1x2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== ModRep.lean ====
abbrev S8x24x3072 : Shape := ⟨3, ![8, 24, 3072]⟩
abbrev S24x8x3072 : Shape := ⟨3, ![24, 8, 3072]⟩
abbrev S2x3072 : Shape := ⟨2, ![2, 3072]⟩
abbrev S1x128 : Shape := ⟨2, ![1, 128]⟩
abbrev S1x2048 : Shape := ⟨2, ![1, 2048]⟩
abbrev S2x1024 : Shape := ⟨2, ![2, 1024]⟩
abbrev S4x2048 : Shape := ⟨2, ![4, 2048]⟩
abbrev S2x2048 : Shape := ⟨2, ![2, 2048]⟩
abbrev S1x8x3072 : Shape := ⟨3, ![1, 8, 3072]⟩
abbrev S8x3072 : Shape := ⟨2, ![8, 3072]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S3072 : Shape := ⟨1, ![3072]⟩
abbrev S1x3072 : Shape := ⟨2, ![1, 3072]⟩
abbrev S1x1024 : Shape := ⟨2, ![1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8x24x3072, .f32⟩
  | .hbm, ⟨1, _⟩ => ⟨S24x8x3072, .f32⟩
  | .hbm, ⟨2, _⟩ => ⟨S2x3072, .f32⟩
  | .hbm, ⟨3, _⟩ => ⟨S1x128, .f32⟩
  | .hbm, ⟨4, _⟩ => ⟨S1x2048, .f32⟩
  | .hbm, ⟨5, _⟩ => ⟨S2x1024, .f32⟩
  | .hbm, ⟨6, _⟩ => ⟨S1x2048, .f32⟩
  | .hbm, ⟨7, _⟩ => ⟨S2x1024, .f32⟩
  | .hbm, ⟨8, _⟩ => ⟨S4x2048, .f32⟩
  | .hbm, ⟨9, _⟩ => ⟨S2x2048, .f32⟩
  | .hbm, ⟨10, _⟩ => ⟨S2x2048, .f32⟩
  | .hbm, ⟨11, _⟩ => ⟨S2x2048, .f32⟩
  | .local _ .vmem, ⟨0, _⟩ => ⟨S24x8x3072, .f32⟩
  | .local _ .vmem, ⟨1, _⟩ => ⟨S2x3072, .f32⟩
  | .local _ .vmem, ⟨2, _⟩ => ⟨S1x128, .f32⟩
  | .local _ .vmem, ⟨3, _⟩ => ⟨S1x2048, .f32⟩
  | .local _ .vmem, ⟨4, _⟩ => ⟨S2x1024, .f32⟩
  | .local _ .vmem, ⟨5, _⟩ => ⟨S1x2048, .f32⟩
  | .local _ .vmem, ⟨6, _⟩ => ⟨S2x1024, .f32⟩
  | .local _ .vmem, ⟨7, _⟩ => ⟨S4x2048, .f32⟩
  | .local _ .vmem, ⟨8, _⟩ => ⟨S2x2048, .f32⟩
  | .local _ .vmem, ⟨9, _⟩ => ⟨S2x2048, .f32⟩
  | .local _ .vmem, ⟨10, _⟩ => ⟨S2x2048, .f32⟩
  | _, _ => ⟨S8x24x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev main_v1_7 : Ref sig .tc := ⟨.hbm, 9, rfl⟩
abbrev main_v1_8 : Ref sig .tc := ⟨.hbm, 10, rfl⟩
abbrev main_v1_9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x8x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ModRepRefIdeal.lean ====
abbrev S8x24x3072 : Shape := ⟨3, ![8, 24, 3072]⟩
abbrev S_ : Shape := ⟨0, ![]⟩
abbrev S24x3072 : Shape := ⟨2, ![24, 3072]⟩
abbrev S8x1x128 : Shape := ⟨3, ![8, 1, 128]⟩
abbrev S8x128 : Shape := ⟨2, ![8, 128]⟩
abbrev S1x3072 : Shape := ⟨2, ![1, 3072]⟩
abbrev S3072 : Shape := ⟨1, ![3072]⟩
abbrev S2x3072 : Shape := ⟨2, ![2, 3072]⟩
abbrev S1x2048 : Shape := ⟨2, ![1, 2048]⟩
abbrev S2x1024 : Shape := ⟨2, ![2, 1024]⟩
abbrev S2048 : Shape := ⟨1, ![2048]⟩
abbrev S4x2048 : Shape := ⟨2, ![4, 2048]⟩
abbrev S2x2048 : Shape := ⟨2, ![2, 2048]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x24x3072, .f32⟩
  | .hbm, ⟨1, _⟩ => ⟨S_, .f32⟩
  | .hbm, ⟨2, _⟩ => ⟨S24x3072, .f32⟩
  | .hbm, ⟨3, _⟩ => ⟨S8x1x128, .f32⟩
  | .hbm, ⟨4, _⟩ => ⟨S8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S3072, .f32⟩
  | .hbm, ⟨13, _⟩ => ⟨S3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S1x3072, .f32⟩
  | .hbm, ⟨18, _⟩ => ⟨S2x3072, .f32⟩
  | .hbm, ⟨19, _⟩ => ⟨S1x2048, .f32⟩
  | .hbm, ⟨20, _⟩ => ⟨S1x2048, .f32⟩
  | .hbm, ⟨21, _⟩ => ⟨S2x1024, .f32⟩
  | .hbm, ⟨22, _⟩ => ⟨S1x2048, .f32⟩
  | .hbm, ⟨23, _⟩ => ⟨S2048, .f32⟩
  | .hbm, ⟨24, _⟩ => ⟨S2x1024, .f32⟩
  | .hbm, ⟨25, _⟩ => ⟨S4x2048, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S1x128, .f32⟩
  | _, _ => ⟨S8x24x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Proof.PoolBMath.lean ====
/-
  The gradient of the pooling layer's per-group linear and per-channel scale in plain mathematics, and the proof that
  the reference's term is that mathematics.
-/
module

public import proofs.«01_k».proof.Proof.Gen.PoolBRefIdeal.Read
public import Idealize.ShloMosaic.Lib.Pointwise
public import Idealize.ShloMosaic.Lib.Tactic
public import Idealize.ShloMosaic.Lib.Pipeline.ValueKit

@[expose] public section

noncomputable section

namespace Cert.PoolBMath

open Cert.PoolBRefIdeal Cert.PoolBRefIdeal.Read Idealize.ShloMosaic

/-- Column `k` of group `g` among the 2048 channels. -/
abbrev col (g : Fin 4) (k : Fin 512) : Fin 2048 := ⟨g.val * 512 + k.val, by omega⟩

/-- The gradient arriving at the linear's output in group `g`: the result's gradient times the channel's scale. -/
def DY (sc : Vec Ideal S2048 .f32) (dy : Vec Ideal S8192x2048 .f32) (g : Fin 4) (r : Fin 8192) (k : Fin 512) : EReal :=
  dy (ix2 r (col g k)) * sc (ix1 (col g k))

/-- The gradient of the linear's input in group `g`. -/
def DD (w : Vec Ideal S4x512x512 .f32) (sc : Vec Ideal S2048 .f32) (dy : Vec Ideal S8192x2048 .f32) (g : Fin 4) (r : Fin 8192) (k : Fin 512) : EReal :=
  ∑ x : Fin 512, DY sc dy g r x * w (ix3 g k x)

/-- The gradient of the linear's weight in group `g`. -/
def DW (d : Vec Ideal S8192x2048 .f32) (sc : Vec Ideal S2048 .f32) (dy : Vec Ideal S8192x2048 .f32) (g : Fin 4) (k n : Fin 512) : EReal :=
  ∑ r : Fin 8192, d (ix2 r (col g k)) * DY sc dy g r n

/-- The gradient of the scale in group `g`: the result's gradient times the linear's output, summed over the rows. -/
def DS (d : Vec Ideal S8192x2048 .f32) (w : Vec Ideal S4x512x512 .f32) (dy : Vec Ideal S8192x2048 .f32) (g : Fin 4) (n : Fin 512) : EReal :=
  ∑ r : Fin 8192, dy (ix2 r (col g n)) * ∑ x : Fin 512, d (ix2 r (col g x)) * w (ix3 g x n)

theorem dd_group0 (w : Vec Ideal S4x512x512 .f32) (sc : Vec Ideal S2048 .f32) (dy : Vec Ideal S8192x2048 .f32) (r : Fin 8192) (k : Fin 512) :
    val_main_v54 (F := Ideal) w sc dy (ix2 r k) = DD w sc dy 0 r k := by
  unfold DD DY
  pointwise [val_main_v54, val_main_v26, val_main_v24, val_main_v23, val_main_v17, val_main_v2, val_main_v1]
  reads_congr <;> (refine congrArg _ ?_; idx_ext)

theorem dd_group1 (w : Vec Ideal S4x512x512 .f32) (sc : Vec Ideal S2048 .f32) (dy : Vec Ideal S8192x2048 .f32) (r : Fin 8192) (k : Fin 512) :
    val_main_v46 (F := Ideal) w sc dy (ix2 r k) = DD w sc dy 1 r k := by
  unfold DD DY
  pointwise [val_main_v46, val_main_v27, val_main_v24, val_main_v23, val_main_v17, val_main_v6, val_main_v5]
  reads_congr <;> (refine congrArg _ ?_; idx_ext)

theorem dd_group2 (w : Vec Ideal S4x512x512 .f32) (sc : Vec Ideal S2048 .f32) (dy : Vec Ideal S8192x2048 .f32) (r : Fin 8192) (k : Fin 512) :
    val_main_v38 (F := Ideal) w sc dy (ix2 r k) = DD w sc dy 2 r k := by
  unfold DD DY
  pointwise [val_main_v38, val_main_v28, val_main_v24, val_main_v23, val_main_v17, val_main_v10, val_main_v9]
  reads_congr <;> (refine congrArg _ ?_; idx_ext)

theorem dd_group3 (w : Vec Ideal S4x512x512 .f32) (sc : Vec Ideal S2048 .f32) (dy : Vec Ideal S8192x2048 .f32) (r : Fin 8192) (k : Fin 512) :
    val_main_v32 (F := Ideal) w sc dy (ix2 r k) = DD w sc dy 3 r k := by
  unfold DD DY
  pointwise [val_main_v32, val_main_v29, val_main_v24, val_main_v23, val_main_v17, val_main_v14, val_main_v13]
  reads_congr <;> (refine congrArg _ ?_; idx_ext)

theorem dw_group0 (d : Vec Ideal S8192x2048 .f32) (sc : Vec Ideal S2048 .f32) (dy : Vec Ideal S8192x2048 .f32) (k n : Fin 512) :
    val_main_v53 (F := Ideal) d sc dy (ix2 k n) = DW d sc dy 0 k n := by
  unfold DW DY
  pointwise [val_main_v53, val_main_v52, val_main_v26, val_main_v24, val_main_v23, val_main_v17, val_main_v0]
  refine Finset.sum_congr rfl fun x _ => (mul_comm _ _).trans ?_
  reads_congr <;> (refine congrArg _ ?_; idx_ext)

theorem dw_group1 (d : Vec Ideal S8192x2048 .f32) (sc : Vec Ideal S2048 .f32) (dy : Vec Ideal S8192x2048 .f32) (k n : Fin 512) :
    val_main_v45 (F := Ideal) d sc dy (ix2 k n) = DW d sc dy 1 k n := by
  unfold DW DY
  pointwise [val_main_v45, val_main_v44, val_main_v27, val_main_v24, val_main_v23, val_main_v17, val_main_v4]
  refine Finset.sum_congr rfl fun x _ => (mul_comm _ _).trans ?_
  reads_congr <;> (refine congrArg _ ?_; idx_ext)

theorem dw_group2 (d : Vec Ideal S8192x2048 .f32) (sc : Vec Ideal S2048 .f32) (dy : Vec Ideal S8192x2048 .f32) (k n : Fin 512) :
    val_main_v37 (F := Ideal) d sc dy (ix2 k n) = DW d sc dy 2 k n := by
  unfold DW DY
  pointwise [val_main_v37, val_main_v36, val_main_v28, val_main_v24, val_main_v23, val_main_v17, val_main_v8]
  refine Finset.sum_congr rfl fun x _ => (mul_comm _ _).trans ?_
  reads_congr <;> (refine congrArg _ ?_; idx_ext)

theorem dw_group3 (d : Vec Ideal S8192x2048 .f32) (sc : Vec Ideal S2048 .f32) (dy : Vec Ideal S8192x2048 .f32) (k n : Fin 512) :
    val_main_v31 (F := Ideal) d sc dy (ix2 k n) = DW d sc dy 3 k n := by
  unfold DW DY
  pointwise [val_main_v31, val_main_v30, val_main_v29, val_main_v24, val_main_v23, val_main_v17, val_main_v12]
  refine Finset.sum_congr rfl fun x _ => (mul_comm _ _).trans ?_
  reads_congr <;> (refine congrArg _ ?_; idx_ext)

/-- The reference's gradient of the input, its four groups side by side. -/
theorem ref_dd_col (w : Vec Ideal S4x512x512 .f32) (sc : Vec Ideal S2048 .f32) (dy : Vec Ideal S8192x2048 .f32) (r : Fin 8192) (n : Fin 2048) :
    val_main_v59 (F := Ideal) w sc dy (ix2 r n) = DD w sc dy ⟨n.val / 512, by omega⟩ r ⟨n.val % 512, by omega⟩ := by
  pointwise [val_main_v59, val_main_v58, val_main_v51, val_main_v50, val_main_v43, val_main_v42, val_main_v35, val_main_cst_2, val_main_cst_4, val_main_cst_6, val_main_cst_8]
  simp only [dd_group0, dd_group1, dd_group2, dd_group3]
  split_ifs <;> first
    | (exfalso; omega)
    | (simp only [zero_add, add_zero]; refine congrArg₂ (fun g k => DD w sc dy g r k) (Fin.ext ?_) (Fin.ext ?_) <;> (simp; omega))

/-- The reference's gradient of the weight, its four groups stacked. -/
theorem ref_dw_group (d : Vec Ideal S8192x2048 .f32) (sc : Vec Ideal S2048 .f32) (dy : Vec Ideal S8192x2048 .f32) (g : Fin 4) (k n : Fin 512) :
    val_main_v57 (F := Ideal) d sc dy (ix3 g k n) = DW d sc dy g k n := by
  pointwise [val_main_v57, val_main_v56, val_main_v49, val_main_v48, val_main_v41, val_main_v40, val_main_v34, val_main_v33, val_main_v39, val_main_v47, val_main_v55, val_main_cst_1, val_main_cst_3, val_main_cst_5, val_main_cst_7]
  simp only [dw_group0, dw_group1, dw_group2, dw_group3]
  split_ifs <;> first
    | (exfalso; omega)
    | (simp only [zero_add, add_zero]; refine congrArg (fun g => DW d sc dy g k n) (Fin.ext ?_); simp; omega)

set_option maxRecDepth 8000 in
/-- The reference's gradient of the scale. -/
theorem ref_ds_col (d : Vec Ideal S8192x2048 .f32) (w : Vec Ideal S4x512x512 .f32) (dy : Vec Ideal S8192x2048 .f32) (u : Fin 1) (n : Fin 2048) :
    val_main_v67 (F := Ideal) d w dy (ix2 u n) = DS d w dy ⟨n.val / 512, by omega⟩ ⟨n.val % 512, by omega⟩ := by
  unfold DS
  pointwise [val_main_v67, val_main_v25, val_main_v22, val_main_v21, val_main_v20, val_main_v16, val_main_v3, val_main_v7, val_main_v11, val_main_v15, val_main_v0, val_main_v4, val_main_v8, val_main_v12, val_main_v14, val_main_v13, val_main_v10, val_main_v9, val_main_v6, val_main_v5, val_main_v2, val_main_v1, val_main_cst, val_main_cst_0]
  rw [Fin.sum_univ_one]
  refine Finset.sum_congr rfl fun r _ => (mul_comm _ _).trans ?_
  split_ifs <;> (reads_congr <;> (refine congrArg _ ?_; idx_ext))

/-- The input's gradient with its columns in groups of 128 lanes. -/
def dd (w : Vec Ideal S4x512x512 .f32) (sc : Vec Ideal S2048 .f32) (dy : Vec Ideal S8192x2048 .f32) : Vec Ideal S16x8192x128 .f32 :=
  fun i => DD w sc dy ⟨(i 0).val / 4, by have h0 : (i 0).val < 16 := (i 0).isLt; omega⟩ (i 1)
    ⟨(i 0).val % 4 * 128 + (i 2).val, by have h2 : (i 2).val < 128 := (i 2).isLt; omega⟩

/-- The gradient buffer: its last 256 rows hold the weight's gradient, re-laid for the four chips, the others what they
    held. -/
def dw (d : Vec Ideal S8192x2048 .f32) (sc : Vec Ideal S2048 .f32) (dy : Vec Ideal S8192x2048 .f32) (gb : Vec Ideal S4x1792x1024 .f32) : Vec Ideal S4x1792x1024 .f32 :=
  fun i => if 12 ≤ (i 1).val / 128 then
      DW d sc dy ⟨((i 1).val - 1536) / 128 * 2 + (i 2).val / 512, by
          have h1 : (i 1).val < 1792 := (i 1).isLt
          have h2 : (i 2).val < 1024 := (i 2).isLt
          omega⟩
        ⟨(i 0).val * 128 + ((i 1).val - 1536) % 128, by have h0 : (i 0).val < 4 := (i 0).isLt; omega⟩
        ⟨(i 2).val % 512, by omega⟩
    else gb i

/-- The scale's gradient. -/
def ds (d : Vec Ideal S8192x2048 .f32) (w : Vec Ideal S4x512x512 .f32) (dy : Vec Ideal S8192x2048 .f32) : Vec Ideal S1x2048 .f32 :=
  fun i => DS d w dy ⟨(i 1).val / 512, by have h1 : (i 1).val < 2048 := (i 1).isLt; omega⟩ ⟨(i 1).val % 512, by omega⟩

/-- The reference's gradient of the input is `dd`. -/
theorem ref_dd (w : Vec Ideal S4x512x512 .f32) (sc : Vec Ideal S2048 .f32) (dy : Vec Ideal S8192x2048 .f32) :
    val_main_v64 (F := Ideal) w sc dy = dd w sc dy := by
  funext i
  idx_vars i
  pointwise [val_main_v64, val_main_v63, dd]
  rw [ref_dd_col]
  refine congrArg₂ (fun g k => DD w sc dy g i1 k) (Fin.ext ?_) (Fin.ext ?_) <;> (dsimp only; omega)

set_option maxRecDepth 8000 in
/-- The reference's gradient buffer is `dw`. -/
theorem ref_dw (d : Vec Ideal S8192x2048 .f32) (sc : Vec Ideal S2048 .f32) (dy : Vec Ideal S8192x2048 .f32) (gb : Vec Ideal S4x1792x1024 .f32) :
    val_main_v66 (F := Ideal) d sc dy gb = dw d sc dy gb := by
  funext i
  idx_vars i
  pointwise [val_main_v66, val_main_v65, val_main_v62, val_main_v61, val_main_v60, dw]
  simp only [ref_dw_group]
  split_ifs <;> first | with_reducible rfl | (exfalso; omega) | (refine (if_pos ?_).symm; omega)

/-- The reference's gradient of the scale is `ds`. -/
theorem ref_ds (d : Vec Ideal S8192x2048 .f32) (w : Vec Ideal S4x512x512 .f32) (dy : Vec Ideal S8192x2048 .f32) :
    val_main_v67 (F := Ideal) d w dy = ds d w dy := by
  funext i
  idx_vars i
  exact ref_ds_col d w dy i0 i1

end Cert.PoolBMath
end
-- ==== Proof.PoolBArray.lean ====
/-
  What the pooling layer's gradient kernel leaves in its three result arrays: the plain mathematics of `PoolBMath`.
-/
module

public import proofs.«01_k».proof.Proof.Gen.PoolBIdeal.Value
public import proofs.«01_k».proof.Proof.PoolBMath
public import Idealize.ShloMosaic.Lib.Pipeline.ValueKit
public import Idealize.ShloMosaic.Lib.Pipeline.ReadBack

@[expose] public section

noncomputable section

namespace Cert.PoolBIdeal.Value

open Cert.PoolBIdeal Cert.PoolBIdeal.Gen Idealize.ShloMosaic Idealize.ShloMosaic.TcCoe Idealize.SL.Sem
open Cert.PoolBMath (col DY DD DW DS)

variable (m : (ℓ : Loc nD τ sig) → Buf (Elt Ideal) ℓ)

/-- Argument 0 on device `c`: the differences of the pooled rows. -/
abbrev A0 (c : Dev nD) : Vec Ideal S8192x2048 .f32 := m (c.tc.loc main_arg0)
/-- Argument 1 on device `c`: the per-group weight. -/
abbrev A1 (c : Dev nD) : Vec Ideal S4x512x512 .f32 := m (c.tc.loc main_arg1)
/-- Argument 2 on device `c`: the per-channel scale. -/
abbrev A2 (c : Dev nD) : Vec Ideal S2048 .f32 := m (c.tc.loc main_arg2)
/-- Argument 3 on device `c`: the gradient of the layer's result. -/
abbrev A3 (c : Dev nD) : Vec Ideal S8192x2048 .f32 := m (c.tc.loc main_arg3)
/-- Argument 4 on device `c`: the gradient buffer. -/
abbrev A4 (c : Dev nD) : Vec Ideal S4x1792x1024 .f32 := m (c.tc.loc main_arg4)

/-- The group a grid point works on. -/
abbrev grp (t : Fin cfg0.N) : Fin 4 := ⟨t.val / 8, by have := t.isLt; have : cfg0.N = 32 := N_0; omega⟩
/-- The array's row at row `r` of a grid point's block. -/
abbrev row (t : Fin cfg0.N) (r : Fin 1024) : Fin 8192 := ⟨t.val % 8 * 1024 + r.val, by omega⟩

theorem index0 : ∀ t : Fin cfg0.N, win0_0.index t 0 = t.val / 8 ∧ win0_0.index t 1 = t.val % 8 ∧ win0_0.index t 2 = 0 := (by decide +kernel : ∀ t : Fin grid0.N, win0_0.index t 0 = t.val / 8 ∧ win0_0.index t 1 = t.val % 8 ∧ win0_0.index t 2 = 0)
theorem index1 : ∀ t : Fin cfg0.N, win0_1.index t 0 = t.val / 8 ∧ win0_1.index t 1 = t.val % 8 ∧ win0_1.index t 2 = 0 := (by decide +kernel : ∀ t : Fin grid0.N, win0_1.index t 0 = t.val / 8 ∧ win0_1.index t 1 = t.val % 8 ∧ win0_1.index t 2 = 0)
theorem index2 : ∀ t : Fin cfg0.N, win0_2.index t 0 = 0 ∧ win0_2.index t 1 = t.val / 8 ∧ win0_2.index t 2 = 0 ∧ win0_2.index t 3 = 0 := (by decide +kernel : ∀ t : Fin grid0.N, win0_2.index t 0 = 0 ∧ win0_2.index t 1 = t.val / 8 ∧ win0_2.index t 2 = 0 ∧ win0_2.index t 3 = 0)
theorem index3 : ∀ t : Fin cfg0.N, win0_3.index t 0 = 0 ∧ win0_3.index t 1 = t.val / 8 := (by decide +kernel : ∀ t : Fin grid0.N, win0_3.index t 0 = 0 ∧ win0_3.index t 1 = t.val / 8)
theorem index4 : ∀ t : Fin cfg0.N, win0_4.index t 0 = t.val / 8 ∧ win0_4.index t 1 = t.val % 8 ∧ win0_4.index t 2 = 0 := (by decide +kernel : ∀ t : Fin grid0.N, win0_4.index t 0 = t.val / 8 ∧ win0_4.index t 1 = t.val % 8 ∧ win0_4.index t 2 = 0)
theorem index5 : ∀ t : Fin cfg0.N, win0_5.index t 0 = 0 ∧ win0_5.index t 1 = 12 + t.val / 16 ∧ win0_5.index t 2 = t.val / 8 % 2 := (by decide +kernel : ∀ t : Fin grid0.N, win0_5.index t 0 = 0 ∧ win0_5.index t 1 = 12 + t.val / 16 ∧ win0_5.index t 2 = t.val / 8 % 2)
theorem index6 : ∀ t : Fin cfg0.N, win0_6.index t 0 = 0 ∧ win0_6.index t 1 = t.val / 8 := (by decide +kernel : ∀ t : Fin grid0.N, win0_6.index t 0 = 0 ∧ win0_6.index t 1 = t.val / 8)

/-- The gradient's rows and columns of a grid point. -/
theorem blk0 (c : Dev nD) (t : Fin cfg0.N) (b : Fin 4) (r : Fin 1024) (l : Fin 128) :
    (iblk m c 0 t : Vec Ideal S4x1024x128 .bf16) (ix3 b r l) = A3 m c (ix2 (row t r) (col (grp t) ⟨b.val * 128 + l.val, by omega⟩)) := by
  blk_simp [iblk, index0 t]
  entry_read
  pointwise
  blk_point [index0 t]
/-- The pooled differences' rows and columns of a grid point. -/
theorem blk1 (c : Dev nD) (t : Fin cfg0.N) (b : Fin 4) (r : Fin 1024) (l : Fin 128) :
    (iblk m c 1 t : Vec Ideal S4x1024x128 .bf16) (ix3 b r l) = A0 m c (ix2 (row t r) (col (grp t) ⟨b.val * 128 + l.val, by omega⟩)) := by
  blk_simp [iblk, index1 t]
  entry_read
  pointwise
  blk_point [index1 t]
/-- The weight of the group, its rows in four parts. -/
theorem blk2 (c : Dev nD) (t : Fin cfg0.N) (q : Fin 4) (u : Fin 1) (p : Fin 128) (n : Fin 512) :
    (iblk m c 2 t : Vec Ideal S4x1x128x512 .bf16) (ix4 q u p n) = A1 m c (ix3 (grp t) ⟨q.val * 128 + p.val, by omega⟩ n) := by
  blk_simp [iblk, index2 t]
  entry_read
  pointwise
  blk_point [index2 t]
/-- The scale of the group's channels. -/
theorem blk3 (c : Dev nD) (t : Fin cfg0.N) (u : Fin 1) (n : Fin 512) :
    (iblk m c 3 t : Vec Ideal S1x512 .f32) (ix2 u n) = A2 m c (ix1 (col (grp t) n)) := by
  blk_simp [iblk, index3 t]
  entry_read
  pointwise
  blk_point [index3 t]

/-- The gradient block at a grid point: its four lane blocks side by side. -/
abbrev dyAt (c : Dev nD) (t : Fin cfg0.N) : FVec Ideal S1024x512 .f32 :=
  k0_pay7 (View.ld (iblk m c 0 t) (Rect.unit ![0, 0, 0] ![1, 1024, 128] inb_S4x1024x128_S1x1024x128_0_0_0)) (View.ld (iblk m c 0 t) (Rect.unit ![1, 0, 0] ![1, 1024, 128] inb_S4x1024x128_S1x1024x128_1_0_0)) (View.ld (iblk m c 0 t) (Rect.unit ![2, 0, 0] ![1, 1024, 128] inb_S4x1024x128_S1x1024x128_2_0_0)) (View.ld (iblk m c 0 t) (Rect.unit ![3, 0, 0] ![1, 1024, 128] inb_S4x1024x128_S1x1024x128_3_0_0))
/-- The block of pooled differences at a grid point. -/
abbrev dAt (c : Dev nD) (t : Fin cfg0.N) : FVec Ideal S1024x512 .bf16 :=
  k0_pay8 (View.ld (iblk m c 1 t) (Rect.unit ![0, 0, 0] ![1, 1024, 128] inb_S4x1024x128_S1x1024x128_0_0_0)) (View.ld (iblk m c 1 t) (Rect.unit ![1, 0, 0] ![1, 1024, 128] inb_S4x1024x128_S1x1024x128_1_0_0)) (View.ld (iblk m c 1 t) (Rect.unit ![2, 0, 0] ![1, 1024, 128] inb_S4x1024x128_S1x1024x128_2_0_0)) (View.ld (iblk m c 1 t) (Rect.unit ![3, 0, 0] ![1, 1024, 128] inb_S4x1024x128_S1x1024x128_3_0_0))
/-- The first part of the group's weight. -/
abbrev w0At (c : Dev nD) (t : Fin cfg0.N) : FVec Ideal S128x512 .bf16 := k0_pay9 (View.ld (iblk m c 2 t) (Rect.unit ![0, 0, 0, 0] ![1, 1, 128, 512] inb_S4x1x128x512_S1x1x128x512_0_0_0_0))
/-- The second part of the group's weight. -/
abbrev w1At (c : Dev nD) (t : Fin cfg0.N) : Vec Ideal S1x1x128x512 .bf16 := View.ld (iblk m c 2 t) (Rect.unit ![1, 0, 0, 0] ![1, 1, 128, 512] inb_S4x1x128x512_S1x1x128x512_1_0_0_0)
/-- The third part of the group's weight. -/
abbrev w2At (c : Dev nD) (t : Fin cfg0.N) : Vec Ideal S1x1x128x512 .bf16 := View.ld (iblk m c 2 t) (Rect.unit ![2, 0, 0, 0] ![1, 1, 128, 512] inb_S4x1x128x512_S1x1x128x512_2_0_0_0)
/-- The fourth part of the group's weight. -/
abbrev w3At (c : Dev nD) (t : Fin cfg0.N) : Vec Ideal S1x1x128x512 .bf16 := View.ld (iblk m c 2 t) (Rect.unit ![3, 0, 0, 0] ![1, 1, 128, 512] inb_S4x1x128x512_S1x1x128x512_3_0_0_0)

theorem dyAt_eq (c : Dev nD) (t : Fin cfg0.N) : dyAt m c t = fun i => A3 m c (ix2 (row t (i 0)) (col (grp t) (i 1))) := by
  funext i; idx_vars i
  pointwise [dyAt, k0_pay7]
  simp only [blk0]
  split_ifs <;> (refine congrArg _ ?_; idx_ext)
theorem dAt_eq (c : Dev nD) (t : Fin cfg0.N) : dAt m c t = fun i => A0 m c (ix2 (row t (i 0)) (col (grp t) (i 1))) := by
  funext i; idx_vars i
  pointwise [dAt, k0_pay8]
  simp only [blk1]
  split_ifs <;> (refine congrArg _ ?_; idx_ext)
theorem wAt_eq (c : Dev nD) (t : Fin cfg0.N) : k0_pay10 (w0At m c t) (w1At m c t) (w2At m c t) (w3At m c t) = fun i => A1 m c (ix3 (grp t) (i 0) (i 1)) := by
  funext i; idx_vars i
  pointwise [w0At, w1At, w2At, w3At, k0_pay10, k0_pay9]
  simp only [blk2]
  split_ifs <;> (refine congrArg _ ?_; idx_ext)

/-- The scaled gradient block at a grid point. -/
theorem pay12_eq (c : Dev nD) (t : Fin cfg0.N) : k0_pay12 (dyAt m c t) (iblk m c 3 t) = fun i => DY (A2 m c) (A3 m c) (grp t) (row t (i 0)) (i 1) := by
  rw [dyAt_eq]
  funext i; idx_vars i
  unfold DY
  pointwise [k0_pay12]
  simp only [blk3]
/-- The product with the transposed weight at a grid point. -/
theorem pay13_eq (c : Dev nD) (t : Fin cfg0.N) :
    k0_pay13 (dyAt m c t) (w0At m c t) (w1At m c t) (w2At m c t) (w3At m c t) (iblk m c 3 t) = fun i => DD (A1 m c) (A2 m c) (A3 m c) (grp t) (row t (i 0)) (i 1) := by
  unfold k0_pay13
  rw [pay12_eq, wAt_eq]
  funext i; idx_vars i
  unfold DD
  pointwise
/-- One point's step of the scale's gradient. -/
theorem pay11_apply (c : Dev nD) (t : Fin cfg0.N) (acc : Vec Ideal S1x512 .f32) (u : Fin 1) (n : Fin 512) :
    k0_pay11 (dyAt m c t) (dAt m c t) (w0At m c t) (w1At m c t) (w2At m c t) (w3At m c t) acc (ix2 u n)
      = acc (ix2 u n) + ∑ r : Fin 1024, A3 m c (ix2 (row t r) (col (grp t) n)) * ∑ x : Fin 512, A0 m c (ix2 (row t r) (col (grp t) x)) * A1 m c (ix3 (grp t) x n) := by
  unfold k0_pay11
  rw [dyAt_eq, dAt_eq, wAt_eq]
  pointwise
/-- One point's step of the weight's gradient. -/
theorem pay3_apply (c : Dev nD) (t : Fin cfg0.N) (acc : Vec Ideal S512x512 .f32) (k : Fin 512) (n : Fin 512) :
    k0_pay3 (dAt m c t) (k0_pay12 (dyAt m c t) (iblk m c 3 t)) acc (ix2 k n)
      = acc (ix2 k n) + ∑ r : Fin 1024, A0 m c (ix2 (row t r) (col (grp t) k)) * DY (A2 m c) (A3 m c) (grp t) (row t r) n := by
  rw [pay12_eq, dAt_eq]
  pointwise [k0_pay3]

theorem outs_A (c : Dev nD) (t : Fin cfg0.N) (h0 : t.val % 8 = 0) (h1 : ¬t.val % 8 = 7) :
    (outsAt0 m c t.val t.isLt).2.2 = (k0_pay11 (dyAt m c t) (dAt m c t) (w0At m c t) (w1At m c t) (w2At m c t) (w3At m c t) (k0_pay6 (F := Ideal)),
      k0_pay3 (dAt m c t) (k0_pay12 (dyAt m c t) (iblk m c 3 t)) (k0_pay5 (F := Ideal))) := by
  rw [outsAt0_A m c t h0 h1]
  refine Prod.ext ?_ ?_
  all_goals dsimp only
  all_goals frame_out
  all_goals rfl
theorem outs_B (c : Dev nD) (t : Fin cfg0.N) (h0 : ¬t.val % 8 = 0) (h1 : ¬t.val % 8 = 7) :
    (outsAt0 m c t.val t.isLt).2.2 = (k0_pay11 (dyAt m c t) (dAt m c t) (w0At m c t) (w1At m c t) (w2At m c t) (w3At m c t) (outsAt0 m c (t.val - 1) (Nat.lt_of_le_of_lt (Nat.sub_le _ _) t.isLt)).2.2.1,
      k0_pay3 (dAt m c t) (k0_pay12 (dyAt m c t) (iblk m c 3 t)) (outsAt0 m c (t.val - 1) (Nat.lt_of_le_of_lt (Nat.sub_le _ _) t.isLt)).2.2.2) := by
  rw [outsAt0_B m c t h0 h1]
  refine Prod.ext ?_ ?_
  all_goals dsimp only
  all_goals frame_out
  · rfl
  · rw [read_unread_whole]; rfl
theorem outs_C (c : Dev nD) (t : Fin cfg0.N) (h0 : ¬t.val % 8 = 0) (h1 : t.val % 8 = 7) :
    (outsAt0 m c t.val t.isLt).2.2 = (k0_pay11 (dyAt m c t) (dAt m c t) (w0At m c t) (w1At m c t) (w2At m c t) (w3At m c t) (outsAt0 m c (t.val - 1) (Nat.lt_of_le_of_lt (Nat.sub_le _ _) t.isLt)).2.2.1,
      k0_pay3 (dAt m c t) (k0_pay12 (dyAt m c t) (iblk m c 3 t)) (outsAt0 m c (t.val - 1) (Nat.lt_of_le_of_lt (Nat.sub_le _ _) t.isLt)).2.2.2) := by
  rw [outsAt0_C m c t h0 h1]
  refine Prod.ext ?_ ?_
  all_goals dsimp only
  all_goals frame_out
  · rfl
  · rw [read_unread_whole]; rfl
/-- A group's last point stores the weight's running sum, its rows in four parts. -/
theorem out5_C (c : Dev nD) (t : Fin cfg0.N) (h0 : ¬t.val % 8 = 0) (h1 : t.val % 8 = 7) :
    (outsAt0 m c t.val t.isLt).2.1 = k0_pay4 (outsAt0 m c t.val t.isLt).2.2.2 := by
  rw [outs_C m c t h0 h1]
  rw [outsAt0_C m c t h0 h1]
  dsimp only
  frame_out
  rw [read_unread_whole]; rfl

/-- The first result's block at a grid point. -/
theorem out4 (c : Dev nD) (t : Fin cfg0.N) :
    (outsAt0 m c t.val t.isLt).1 = fun i : S4x1024x128.Idx => DD (A1 m c) (A2 m c) (A3 m c) (grp t) (row t (i 1)) ⟨(i 0).val * 128 + (i 2).val, by have h0 : (i 0).val < 4 := (i 0).isLt; have h2 : (i 2).val < 128 := (i 2).isLt; omega⟩ := by
  by_cases h0 : t.val % 8 = 0
  · rw [outsAt0_A m c t h0 (by omega)]
    dsimp only
    frame_out
    funext i
    idx_vars i
    canon_tiles x h
    all_goals
      idx_vars x
      simp only [k0_pay1, k0_pay2, k0_pay14, k0_pay15, k0_pay16]
      erw [pay13_eq m c t]
      pointwise
      refine congrArg₂ (DD (A1 m c) (A2 m c) (A3 m c) (grp t)) (Fin.ext ?_) (Fin.ext ?_) <;> (dsimp only; omega)
  by_cases h1 : t.val % 8 = 7
  · rw [outsAt0_C m c t h0 h1]
    dsimp only
    frame_out
    funext i
    idx_vars i
    canon_tiles x h
    all_goals
      idx_vars x
      simp only [k0_pay1, k0_pay2, k0_pay14, k0_pay15, k0_pay16]
      erw [pay13_eq m c t]
      pointwise
      refine congrArg₂ (DD (A1 m c) (A2 m c) (A3 m c) (grp t)) (Fin.ext ?_) (Fin.ext ?_) <;> (dsimp only; omega)
  · rw [outsAt0_B m c t h0 h1]
    dsimp only
    frame_out
    funext i
    idx_vars i
    canon_tiles x h
    all_goals
      idx_vars x
      simp only [k0_pay1, k0_pay2, k0_pay14, k0_pay15, k0_pay16]
      erw [pay13_eq m c t]
      pointwise
      refine congrArg₂ (DD (A1 m c) (A2 m c) (A3 m c) (grp t)) (Fin.ext ?_) (Fin.ext ?_) <;> (dsimp only; omega)

/-- The lane blocks of a group. -/
theorem blk_lt (t : Fin cfg0.N) (b : Fin 4) : t.val / 8 * 4 + b.val < 16 := by
  have := t.isLt; have : cfg0.N = 32 := N_0; omega

/-- The first result's array. -/
theorem arr4 (c : Dev nD) : (dats m 0 c).arrAt 4 cfg0.N = Cert.PoolBMath.dd (A1 m c) (A2 m c) (A3 m c) := by
  refine (dats m 0 c).arrAt_eq_of_covers 4 _ (by decide +kernel) fun t hf y => ?_
  blk_simp
  rw [after0_4]
  idx_vars y
  have he : ((win0_4.blk t).view.emb (ix3 y0 y1 y2) : S16x8192x128.Idx) = ix3 ⟨t.val / 8 * 4 + y0.val, blk_lt t y0⟩ (row t y1) y2 := by
    blk_ext [index4 t]
  rw [he, out4]
  unfold Cert.PoolBMath.dd
  dsimp only
  refine congr (congr (congrArg (DD (A1 m c) (A2 m c) (A3 m c)) (Fin.ext ?_)) rfl) (Fin.ext ?_) <;> (simp; try omega)

theorem grp_run (t : Fin cfg0.N) (s : Fin 8) (h : 8 * (t.val / 8) + s.val < cfg0.N) : grp ⟨8 * (t.val / 8) + s.val, h⟩ = grp t := Fin.ext (by simp only [grp]; omega)
theorem row_run (t : Fin cfg0.N) (s : Fin 8) (r : Fin 1024) (h : 8 * (t.val / 8) + s.val < cfg0.N) : row ⟨8 * (t.val / 8) + s.val, h⟩ r = ⟨s.val * 1024 + r.val, by omega⟩ := Fin.ext (by simp only [row]; omega)

/-- The scale's gradient after a group's last point. -/
theorem sum6 (c : Dev nD) (t : Fin cfg0.N) (h : t.val % 8 = 7) (j : S1x512.Idx) :
    (outsAt0 m c t.val t.isLt).2.2.1 j = DS (A0 m c) (A1 m c) (A3 m c) (grp t) (j 1) := by
  rw [Pipeline.eq_sum_fin_of_reset_step_apply_of_flush (fun n h => (outsAt0 m c n h).2.2.1) 8 (fun _ => (0 : EReal)) (fun t j => ∑ r : Fin 1024, A3 m c (ix2 (row t r) (col (grp t) (j 1))) * ∑ x : Fin 512, A0 m c (ix2 (row t r) (col (grp t) x)) * A1 m c (ix3 (grp t) x (j 1)))
    (fun t h j => by
      rw [outs_A m c t h (by omega)]; idx_vars j; rw [pay11_apply]; pointwise [k0_pay6])
    (fun t h j => by
      by_cases h1 : t.val % 8 = 7
      · rw [outs_C m c t h h1]; idx_vars j; rw [pay11_apply]
      · rw [outs_B m c t h h1]; idx_vars j; rw [pay11_apply])
    t h j, zero_add]
  simp only [grp_run, row_run]
  exact (Fin.sum_univ_tiles 8 1024 (by norm_num) fun r => A3 m c (ix2 r (col (grp t) (j 1))) * ∑ x : Fin 512, A0 m c (ix2 r (col (grp t) x)) * A1 m c (ix3 (grp t) x (j 1))).symm

/-- The weight's running sum after a group's last point. -/
theorem sum5 (c : Dev nD) (t : Fin cfg0.N) (h : t.val % 8 = 7) (j : S512x512.Idx) :
    (outsAt0 m c t.val t.isLt).2.2.2 j = DW (A0 m c) (A2 m c) (A3 m c) (grp t) (j 0) (j 1) := by
  rw [Pipeline.eq_sum_fin_of_reset_step_apply_of_flush (fun n h => (outsAt0 m c n h).2.2.2) 8 (fun _ => (0 : EReal)) (fun t j => ∑ r : Fin 1024, A0 m c (ix2 (row t r) (col (grp t) (j 0))) * DY (A2 m c) (A3 m c) (grp t) (row t r) (j 1))
    (fun t h j => by
      rw [outs_A m c t h (by omega)]; idx_vars j; rw [pay3_apply]; pointwise [k0_pay5])
    (fun t h j => by
      by_cases h1 : t.val % 8 = 7
      · rw [outs_C m c t h h1]; idx_vars j; rw [pay3_apply]
      · rw [outs_B m c t h h1]; idx_vars j; rw [pay3_apply])
    t h j, zero_add]
  simp only [grp_run, row_run]
  exact (Fin.sum_univ_tiles 8 1024 (by norm_num) fun r => A0 m c (ix2 r (col (grp t) (j 0))) * DY (A2 m c) (A3 m c) (grp t) r (j 1)).symm

/-- The third result's array. -/
theorem arr6 (c : Dev nD) : (dats m 0 c).arrAt 6 cfg0.N = Cert.PoolBMath.ds (A0 m c) (A1 m c) (A3 m c) := by
  refine (dats m 0 c).arrAt_eq_of_covers 6 _ (by decide +kernel) fun t hf y => ?_
  have h := (flush0_6 t).mp hf
  blk_simp
  rw [after0_6]
  have he : ((win0_6.blk t).view.emb y : S1x2048.Idx) = ix2 (0 : Fin 1) (col (grp t) (y 1)) := by
    idx_vars y
    blk_ext [index6 t]
  rw [he, sum6 m c t h]
  unfold Cert.PoolBMath.ds
  dsimp only
  refine congrArg₂ (DS (A0 m c) (A1 m c) (A3 m c)) (Fin.ext ?_) (Fin.ext ?_) <;> (simp [col]; try omega)

/-- The rows of a group's tile. -/
theorem tile_lt (t : Fin cfg0.N) (x : Fin 128) : (12 + t.val / 16) * 128 + x.val < 1792 := by
  have := t.isLt; have : cfg0.N = 32 := N_0; omega

/-- The second result's array: the layer's tiles over the gradient buffer. -/
theorem arr5 (c : Dev nD) : (dats m 0 c).arrAt 5 cfg0.N = Cert.PoolBMath.dw (A0 m c) (A2 m c) (A3 m c) (A4 m c) := by
  have hV : V m c main_v10_1 = A4 m c := by entry_read; rfl
  refine ((dats m 0 c).arrAt_eq_of_coversWhere (P := fun i : S4x1792x1024.Idx => 12 ≤ (i 1).val / 128) 5 (Cert.PoolBMath.dw (A0 m c) (A2 m c) (A3 m c) (A4 m c)) (fun β => 12 ≤ β (1 : Fin _)) (by decide +kernel) (fun t hf y => ?_) (fun j => Iff.rfl)).trans ?_
  · have h := (flush0_5 t).mp hf
    blk_simp
    rw [after0_5]
    idx_vars y
    have he : ((win0_5.blk t).view.emb (ix3 y0 y1 y2) : S4x1792x1024.Idx) = ix3 y0 ⟨(12 + t.val / 16) * 128 + y1.val, tile_lt t y1⟩ ⟨t.val / 8 % 2 * 512 + y2.val, by have : y2.val < 512 := y2.isLt; omega⟩ := by
      blk_ext [index5 t]
    rw [he, out5_C m c t (by omega) h]
    pointwise [k0_pay4]
    erw [sum5 m c t h]
    unfold Cert.PoolBMath.dw
    rw [if_pos]
    · refine congr (congr (congrArg (DW (A0 m c) (A2 m c) (A3 m c)) (Fin.ext ?_)) (Fin.ext ?_)) (Fin.ext ?_)
      · show t.val / 8 = ((12 + t.val / 16) * 128 + y1.val - 1536) / 128 * 2 + (t.val / 8 % 2 * 512 + y2.val) / 512
        have : y1.val < 128 := y1.isLt
        have : y2.val < 512 := y2.isLt
        omega
      · show y0.val * 128 + y1.val = y0.val * 128 + ((12 + t.val / 16) * 128 + y1.val - 1536) % 128
        have : y1.val < 128 := y1.isLt
        omega
      · show y2.val = (t.val / 8 % 2 * 512 + y2.val) % 512
        have : y2.val < 512 := y2.isLt
        omega
    · show 12 ≤ ((12 + t.val / 16) * 128 + y1.val) / 128
      omega
  · funext i
    unfold Cert.PoolBMath.dw
    split_ifs with h
    · rfl
    · exact congrFun hV i

end Cert.PoolBIdeal.Value
end
-- ==== Proof.PoolBClaim.lean ====
/-
  The claims about the pooling layer's gradient: the frames of the kernel, of its idealization and of the reference, and
  the equality of the two over the extended reals.
-/
module

public import proofs.«01_k».proof.Defs
public import proofs.«01_k».proof.Proof.Gen.PoolB.Frame
public import proofs.«01_k».proof.Proof.PoolBArray
public import Idealize.ShloMosaic.Adequacy
public import Idealize.ShloMosaic.Init

@[expose] public section

noncomputable section

namespace Cert.Proof.PoolB

open Idealize.ShloMosaic Idealize.SL.Sem

/-- The kernel runs, keeps its arguments and leaves every semaphore at zero. -/
theorem frame_kernel : Cert.quiescent_PoolB := fun m ρ _ => Cert.PoolB.Gen.frame m ρ

/-- So does its idealization. -/
theorem frame_ideal : Cert.quiescent_PoolBIdeal := fun m ρ _ => Cert.PoolBIdeal.Gen.frame m ρ

/-- So does the reference, which has no semaphore. -/
theorem frame_ref : Cert.quiescent_PoolBRefIdeal := fun m ρ _ =>
  (θ_run _ _ _).mono (fun r h => ⟨fun c => (h c).2.2.2, Idealize.ShloMosaic.sem_eq_zero_of_no_sems (by decide) r.2⟩)
    (Cert.PoolBRefIdeal.Value.run m ρ)

/-- No rewrite was made on the way to the idealization. -/
theorem preserves : Cert.preserves_PoolB_PoolBIdeal := trivial

/-- Kernel and reference end with equal results: the gradients of the linear's input, of its weight and of the scale. -/
theorem algebraic : Cert.algebraic_PoolBIdeal_PoolBRefIdeal := by
  intro m g m' g' _ hargs
  refine ⟨fun c => Cert.PoolBMath.dd (m (c.tc.loc Cert.PoolBIdeal.main_arg1)) (m (c.tc.loc Cert.PoolBIdeal.main_arg2)) (m (c.tc.loc Cert.PoolBIdeal.main_arg3)),
    fun c => Cert.PoolBMath.dw (m (c.tc.loc Cert.PoolBIdeal.main_arg0)) (m (c.tc.loc Cert.PoolBIdeal.main_arg2)) (m (c.tc.loc Cert.PoolBIdeal.main_arg3)) (m (c.tc.loc Cert.PoolBIdeal.main_arg4)),
    fun c => Cert.PoolBMath.ds (m (c.tc.loc Cert.PoolBIdeal.main_arg0)) (m (c.tc.loc Cert.PoolBIdeal.main_arg1)) (m (c.tc.loc Cert.PoolBIdeal.main_arg3)),
    (θ_run _ _ _).mono (fun r h c => ?_) (Cert.PoolBIdeal.Value.run_blocks m g),
    (θ_run _ _ _).mono (fun r h c => ?_) (Cert.PoolBRefIdeal.Value.run m' g')⟩
  · obtain ⟨h0, h1, h2, hr⟩ := h c
    exact ⟨h0.trans (Cert.PoolBIdeal.Value.arr4 m c), h1.trans (Cert.PoolBIdeal.Value.arr5 m c), h2.trans (Cert.PoolBIdeal.Value.arr6 m c), hr⟩
  · obtain ⟨h0, h1, h2, hr⟩ := h c
    obtain ⟨a0, a1, a2, a3, a4⟩ := hargs c
    refine ⟨h0.trans ?_, h1.trans ?_, h2.trans ?_, hr⟩
    · rw [a1, a2, a3]; exact Cert.PoolBMath.ref_dd _ _ _
    · rw [a0, a2, a3, a4]; exact Cert.PoolBMath.ref_dw _ _ _ _
    · rw [a0, a1, a3]; exact Cert.PoolBMath.ref_ds _ _ _

end Cert.Proof.PoolB

end
-- ==== Proof.InXBlock.lean ====
/-
  What one grid point of the in-projection's gradient kernel leaves in its three outputs: the row block of the
  gradient of the block's input, and the two per-column running sums.
-/
module

public import proofs.«01_k».proof.Proof.Gen.InXIdeal.Value
public import Idealize.ShloMosaic.Lib.Pipeline.Value
public import Idealize.ShloMosaic.Lib.Pointwise
public import Idealize.ShloMosaic.Lib.Tactic

@[expose] public section

noncomputable section

namespace Cert.InXIdeal.Value

open Cert.InXIdeal Cert.InXIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The row block of the gradient arriving at the modulated activations: the four quarter products summed. -/
def dh (x0 x1 : Vec F S512x2048 .bf16) (x4 : Vec F S4x1024x1024 .bf16) : Vec F S512x1024 .f32 :=
  k0_pay4 x0 (View.ld x4 (Rect.unit (s := S4x1024x1024) ![0, 0, 0] S1x1024x1024.size inb_S4x1024x1024_S1x1024x1024_0_0_0))
    (View.ld x4 (Rect.unit (s := S4x1024x1024) ![1, 0, 0] S1x1024x1024.size inb_S4x1024x1024_S1x1024x1024_1_0_0)) x1
    (View.ld x4 (Rect.unit (s := S4x1024x1024) ![2, 0, 0] S1x1024x1024.size inb_S4x1024x1024_S1x1024x1024_2_0_0))
    (View.ld x4 (Rect.unit (s := S4x1024x1024) ![3, 0, 0] S1x1024x1024.size inb_S4x1024x1024_S1x1024x1024_3_0_0))

/-- The same at grid point `t`, over the blocks the point's windows hold. -/
def dhAt (c : Dev nD) (t : Fin cfg0.N) : Vec F S512x1024 .f32 := dh (iblk m c 0 t) (iblk m c 1 t) (iblk m c 4 t)

/-- A point after the first: the block of the input's gradient is written whole, and each running sum gains the
    point's own column sum. -/
theorem outs_B (c : Dev nD) (t : Fin cfg0.N) (h0 : ¬t.val % 16 = 0) :
    outsAt0 m c t.val t.isLt
      = (k0_pay3 (dhAt m c t) (iblk m c 5 t) (iblk m c 3 t),
         k0_pay1 (dhAt m c t) (outsAt0 m c (t.val - 1) (Nat.lt_of_le_of_lt (Nat.sub_le _ _) t.isLt)).2.1 (iblk m c 2 t),
         k0_pay2 (dhAt m c t) (outsAt0 m c (t.val - 1) (Nat.lt_of_le_of_lt (Nat.sub_le _ _) t.isLt)).2.2) := by
  rw [outsAt0_B m c t h0]
  refine Prod.ext ?_ (Prod.ext ?_ ?_)
  · dsimp only
    unfold out0_B_6
    rw [View.read_writes_eq_canon _ _ _ (fun y => cover0_B_6 ..)]
    unfold kernelRun0_B
    dsimp only
    sl_unfold_words
    rw [View.canon_unit_zero hz]
    simp only [View.readAt_eq_ld, Memref.IsWhole.read_unread, View.ld_unit_zero (S := S512x2048) hz, View.ld_unit_zero (S := S512x1024) hz, View.ld_unit_zero (S := S1x1024) hz]
    rfl
  · dsimp only
    unfold out0_B_7
    rw [View.read_writes_eq_canon _ _ _ (fun y => cover0_B_7 ..)]
    unfold kernelRun0_B
    dsimp only
    sl_unfold_words
    rw [View.canon_unit_zero hz]
    unfold k0_pay7
    simp only [View.readAt_eq_ld, Memref.IsWhole.read_unread, View.ld_unit_zero (S := S512x2048) hz, View.ld_unit_zero (S := S512x1024) hz, View.ld_unit_zero (S := S1x1024) hz, shapeCast_self]
    rfl
  · dsimp only
    unfold out0_B_8
    rw [View.read_writes_eq_canon _ _ _ (fun y => cover0_B_8 ..)]
    unfold kernelRun0_B
    dsimp only
    sl_unfold_words
    rw [View.canon_unit_zero hz]
    simp only [View.readAt_eq_ld, Memref.IsWhole.read_unread, View.ld_unit_zero (S := S512x2048) hz, View.ld_unit_zero (S := S512x1024) hz, View.ld_unit_zero (S := S1x1024) hz]
    rfl

/-- The first point: as at the later ones, each running sum started from zero. -/
theorem outs_A (c : Dev nD) (t : Fin cfg0.N) (h0 : t.val % 16 = 0) :
    outsAt0 m c t.val t.isLt
      = (k0_pay3 (dhAt m c t) (iblk m c 5 t) (iblk m c 3 t),
         k0_pay1 (dhAt m c t) k0_pay5 (iblk m c 2 t),
         k0_pay2 (dhAt m c t) k0_pay6) := by
  rw [outsAt0_A m c t h0]
  refine Prod.ext ?_ (Prod.ext ?_ ?_)
  · dsimp only
    unfold out0_A_6
    rw [View.read_writes_eq_canon _ _ _ (fun y => cover0_A_6 ..)]
    unfold kernelRun0_A
    dsimp only
    sl_unfold_words
    rw [View.canon_unit_zero hz]
    simp only [View.readAt_eq_ld, Memref.IsWhole.read_unread, View.ld_unit_zero (S := S512x2048) hz, View.ld_unit_zero (S := S512x1024) hz, View.ld_unit_zero (S := S1x1024) hz]
    rfl
  · dsimp only
    unfold out0_A_7
    rw [View.read_writes_eq_canon _ _ _ (fun y => cover0_A_7 ..)]
    unfold kernelRun0_A
    dsimp only
    sl_unfold_words
    rw [View.canon_cons_unit_zero (S := S1x1024) hz, View.readCov_unit_zero (S := S1x1024) _ hz]
    unfold k0_pay7
    simp only [View.readAt_eq_ld, Memref.IsWhole.read_unread, View.ld_unit_zero (S := S512x2048) hz, View.ld_unit_zero (S := S512x1024) hz, View.ld_unit_zero (S := S1x1024) hz, shapeCast_self]
    rfl
  · dsimp only
    unfold out0_A_8
    rw [View.read_writes_eq_canon _ _ _ (fun y => cover0_A_8 ..)]
    unfold kernelRun0_A
    dsimp only
    sl_unfold_words
    rw [View.canon_cons_unit_zero (S := S1x1024) hz, View.readCov_unit_zero (S := S1x1024) _ hz]
    simp only [View.readAt_eq_ld, Memref.IsWhole.read_unread, View.ld_unit_zero (S := S512x2048) hz, View.ld_unit_zero (S := S512x1024) hz, View.ld_unit_zero (S := S1x1024) hz]
    rfl

end Cert.InXIdeal.Value
end
-- ==== Proof.InXHost.lean ====
/-
  What the windows of the in-projection's gradient kernel hold at a grid point, element by element, in terms of the
  program's arguments: the casts, the added one and the weight's column quarters are read away.
-/
module

public import proofs.«01_k».proof.Proof.InXBlock
public import Idealize.ShloMosaic.Lib.StableHlo.Run

@[expose] public section

noncomputable section

namespace Cert.InXIdeal.Value

open Cert.InXIdeal Cert.InXIdeal.Gen Idealize.ShloMosaic Idealize.ShloMosaic.TcCoe Idealize.SL.Sem
open Idealize.ShloMosaic.StableHlo

variable (m : (ℓ : Loc nD τ sig) → Buf (Elt Ideal) ℓ)

/-- Argument 0 on device `c`: x. -/
abbrev A0 (c : Dev nD) : Vec Ideal S8192x1024 .f32 := m (c.tc.loc main_arg0)
/-- Argument 1 on device `c`: the scale of adaLN. -/
abbrev A1 (c : Dev nD) : Vec Ideal S1024 .f32 := m (c.tc.loc main_arg1)
/-- Argument 2 on device `c`: the weight. -/
abbrev A2 (c : Dev nD) : Vec Ideal S1024x4096 .f32 := m (c.tc.loc main_arg2)
/-- Argument 3 on device `c`: the gradient of the first half. -/
abbrev A3 (c : Dev nD) : Vec Ideal S8192x2048 .f32 := m (c.tc.loc main_arg3)
/-- Argument 4 on device `c`: the gradient of the second half. -/
abbrev A4 (c : Dev nD) : Vec Ideal S8192x2048 .f32 := m (c.tc.loc main_arg4)
/-- Argument 5 on device `c`: the residual gradient. -/
abbrev A5 (c : Dev nD) : Vec Ideal S8192x1024 .f32 := m (c.tc.loc main_arg5)

/-- The gradient arriving at the first half of the projection, rounded on the host (no change over the reals). -/
theorem V0 (c : Dev nD) : @Eq (Vec Ideal S8192x2048 .bf16) (V m c main_v0) (truncf (F := Ideal) (φ := .f32) .bf16 (A3 m c) bitsLt_bf16_f32) := by
  unfold V; after_results_simp
/-- The same for the second half. -/
theorem V1 (c : Dev nD) : @Eq (Vec Ideal S8192x2048 .bf16) (V m c main_v1) (truncf (F := Ideal) (φ := .f32) .bf16 (A4 m c) bitsLt_bf16_f32) := by
  unfold V; after_results_simp
/-- One plus adaLN's scale. -/
theorem V4 (c : Dev nD) : @Eq (Vec Ideal S1x1024 .f32) (V m c main_v4) (addf (F := Ideal) (φ := .f32) (broadcastInDim S1x1024 ![] bcast_S_S1x1024 (constant (F := Ideal) S_ .f32 0x3F800000#32)) (broadcastInDim S1x1024 ![1] bcast_S1024_S1x1024_1 (A1 m c))) := by
  unfold V; after_results_simp
/-- The weight as its four column quarters. -/
theorem V7 (c : Dev nD) : @Eq (Vec Ideal S4x1024x1024 .bf16) (V m c main_v7) (transpose S4x1024x1024 [1, 0, 2] (shapeCast S1024x4x1024 (truncf (F := Ideal) (φ := .f32) .bf16 (A2 m c) bitsLt_bf16_f32) shapeCasts_S1024x4096_S1024x4x1024) transposes_S1024x4x1024_S4x1024x1024_1_0_2) := by
  unfold V; after_results_simp; rfl

theorem N16 : cfg0.N = 16 := N_0

theorem row_lt (t : Fin cfg0.N) (r : Fin 512) : t.val * 512 + r.val < 8192 := by
  have := t.isLt; have := N16; omega

theorem index0 : ∀ t : Fin cfg0.N, win0_0.index t 0 = t.val ∧ win0_0.index t 1 = 0 := (by decide +kernel : ∀ t : Fin grid0.N, win0_0.index t 0 = t.val ∧ win0_0.index t 1 = 0)
theorem index1 : ∀ t : Fin cfg0.N, win0_1.index t 0 = t.val ∧ win0_1.index t 1 = 0 := (by decide +kernel : ∀ t : Fin grid0.N, win0_1.index t 0 = t.val ∧ win0_1.index t 1 = 0)
theorem index2 : ∀ t : Fin cfg0.N, win0_2.index t 0 = t.val ∧ win0_2.index t 1 = 0 := (by decide +kernel : ∀ t : Fin grid0.N, win0_2.index t 0 = t.val ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 ∧ win0_4.index t 2 = 0 := (by decide +kernel : ∀ t : Fin grid0.N, win0_4.index t 0 = 0 ∧ win0_4.index t 1 = 0 ∧ win0_4.index t 2 = 0)
theorem index5 : ∀ t : Fin cfg0.N, win0_5.index t 0 = t.val ∧ win0_5.index t 1 = 0 := (by decide +kernel : ∀ t : Fin grid0.N, win0_5.index t 0 = t.val ∧ win0_5.index t 1 = 0)

theorem blk0 (c : Dev nD) (t : Fin cfg0.N) (r : Fin 512) (k : Fin 2048) :
    (iblk m c 0 t : Vec Ideal S512x2048 .bf16) (ix2 r k) = A3 m c (ix2 ⟨t.val * 512 + r.val, row_lt t r⟩ k) := by
  unfold iblk
  rw [View.read_apply]
  show (V m c main_v0 : Vec Ideal S8192x2048 .bf16) _ = _
  rw [V0]
  show A3 m c _ = _
  congr 1
  funext a; apply Fin.ext
  match a with
  | ⟨0, _⟩ => show win0_0.index t 0 * 512 + 1 * r.val = _; rw [(index0 t).1]; show t.val * 512 + 1 * r.val = t.val * 512 + r.val; omega
  | ⟨1, _⟩ => show win0_0.index t 1 * 2048 + 1 * k.val = _; rw [(index0 t).2]; show 0 * 2048 + 1 * k.val = k.val; omega
theorem blk1 (c : Dev nD) (t : Fin cfg0.N) (r : Fin 512) (k : Fin 2048) :
    (iblk m c 1 t : Vec Ideal S512x2048 .bf16) (ix2 r k) = A4 m c (ix2 ⟨t.val * 512 + r.val, row_lt t r⟩ k) := by
  unfold iblk
  rw [View.read_apply]
  show (V m c main_v1 : Vec Ideal S8192x2048 .bf16) _ = _
  rw [V1]
  show A4 m c _ = _
  congr 1
  funext a; apply Fin.ext
  match a with
  | ⟨0, _⟩ => show win0_1.index t 0 * 512 + 1 * r.val = _; rw [(index1 t).1]; show t.val * 512 + 1 * r.val = t.val * 512 + r.val; omega
  | ⟨1, _⟩ => show win0_1.index t 1 * 2048 + 1 * k.val = _; rw [(index1 t).2]; show 0 * 2048 + 1 * k.val = k.val; omega
theorem blk2 (c : Dev nD) (t : Fin cfg0.N) (r : Fin 512) (k : Fin 1024) :
    (iblk m c 2 t : Vec Ideal S512x1024 .f32) (ix2 r k) = A0 m c (ix2 ⟨t.val * 512 + r.val, row_lt t r⟩ k) := by
  unfold iblk
  rw [View.read_apply]
  show (V m c main_arg0 : Vec Ideal S8192x1024 .f32) _ = _
  rw [V_main_arg0]
  congr 1
  funext a; apply Fin.ext
  match a with
  | ⟨0, _⟩ => show win0_2.index t 0 * 512 + 1 * r.val = _; rw [(index2 t).1]; show t.val * 512 + 1 * r.val = t.val * 512 + r.val; omega
  | ⟨1, _⟩ => show win0_2.index t 1 * 1024 + 1 * k.val = _; rw [(index2 t).2]; show 0 * 1024 + 1 * k.val = k.val; omega
theorem blk3 (c : Dev nD) (t : Fin cfg0.N) (u : Fin 1) (k : Fin 1024) :
    (iblk m c 3 t : Vec Ideal S1x1024 .f32) (ix2 u k) = (1 + A1 m c (ix1 k) : EReal) := by
  unfold iblk
  rw [View.read_apply]
  show (V m c main_v4 : Vec Ideal S1x1024 .f32) _ = _
  have e : ((cfg0.win 3).blk t).view.emb (ix2 u k) = (ix2 0 k : S1x1024.Idx) := by
    funext a; apply Fin.ext
    match a with
    | ⟨0, _⟩ => show win0_3.index t 0 * 1 + 1 * u.val = 0; rw [(index3 t).1]; omega
    | ⟨1, _⟩ => show win0_3.index t 1 * 1024 + 1 * k.val = _; rw [(index3 t).2]; show 0 * 1024 + 1 * k.val = k.val; omega
  rw [V4]
  refine (congrArg _ e).trans ?_
  pointwise
theorem blk4 (c : Dev nD) (t : Fin cfg0.N) (q : Fin 4) (d k : Fin 1024) :
    (iblk m c 4 t : Vec Ideal S4x1024x1024 .bf16) (ix3 q d k) = A2 m c (ix2 d ⟨q.val * 1024 + k.val, by omega⟩) := by
  unfold iblk
  rw [View.read_apply]
  show (V m c main_v7 : Vec Ideal S4x1024x1024 .bf16) _ = _
  have e : ((cfg0.win 4).blk t).view.emb (ix3 q d k) = (ix3 q d k : S4x1024x1024.Idx) := by
    funext a; apply Fin.ext
    match a with
    | ⟨0, _⟩ => show win0_4.index t 0 * 4 + 1 * q.val = _; rw [(index4 t).1]; show 0 * 4 + 1 * q.val = q.val; omega
    | ⟨1, _⟩ => show win0_4.index t 1 * 1024 + 1 * d.val = _; rw [(index4 t).2.1]; show 0 * 1024 + 1 * d.val = d.val; omega
    | ⟨2, _⟩ => show win0_4.index t 2 * 1024 + 1 * k.val = _; rw [(index4 t).2.2]; show 0 * 1024 + 1 * k.val = k.val; omega
  rw [V7]
  refine (congrArg _ e).trans ?_
  pointwise
theorem blk5 (c : Dev nD) (t : Fin cfg0.N) (r : Fin 512) (k : Fin 1024) :
    (iblk m c 5 t : Vec Ideal S512x1024 .f32) (ix2 r k) = A5 m c (ix2 ⟨t.val * 512 + r.val, row_lt t r⟩ k) := by
  unfold iblk
  rw [View.read_apply]
  show (V m c main_arg5 : Vec Ideal S8192x1024 .f32) _ = _
  rw [V_main_arg5]
  congr 1
  funext a; apply Fin.ext
  match a with
  | ⟨0, _⟩ => show win0_5.index t 0 * 512 + 1 * r.val = _; rw [(index5 t).1]; show t.val * 512 + 1 * r.val = t.val * 512 + r.val; omega
  | ⟨1, _⟩ => show win0_5.index t 1 * 1024 + 1 * k.val = _; rw [(index5 t).2]; show 0 * 1024 + 1 * k.val = k.val; omega

end Cert.InXIdeal.Value
end
-- ==== Proof.InXMath.lean ====
/-
  The gradient of the in-projection in plain mathematics, and the proof that the reference's term is that mathematics.
-/
module

public import proofs.«01_k».proof.Proof.Gen.InXRefIdeal.Read
public import Idealize.ShloMosaic.Lib.Pointwise
public import Idealize.ShloMosaic.Lib.Tactic

@[expose] public section

noncomputable section

namespace Cert.InXMath

open Cert.InXRefIdeal Cert.InXRefIdeal.Read Idealize.ShloMosaic

/-- The gradient arriving at the modulated activations at row `r`, channel `d`: the two halves' gradients against the
    weight's row `d`. -/
def DH (w : Vec Ideal S1024x4096 .f32) (du dg : Vec Ideal S8192x2048 .f32) (r : Fin 8192) (d : Fin 1024) : EReal :=
  ∑ k : Fin 2048, du (ix2 r k) * w (ix2 d ⟨k.val, by omega⟩) + ∑ k : Fin 2048, dg (ix2 r k) * w (ix2 d ⟨2048 + k.val, by omega⟩)

/-- The gradient of the block's input: the residual's plus the projection's, scaled by adaLN's `1 + sc`. -/
def dx (sc : Vec Ideal S1024 .f32) (w : Vec Ideal S1024x4096 .f32) (du dg : Vec Ideal S8192x2048 .f32) (res : Vec Ideal S8192x1024 .f32) : Vec Ideal S8192x1024 .f32 :=
  fun i => res i + DH w du dg (i 0) (i 1) * (1 + sc (ix1 (i 1)))

/-- The gradient of adaLN's scale: the sum over the rows of input times arriving gradient. -/
def dsc (x : Vec Ideal S8192x1024 .f32) (w : Vec Ideal S1024x4096 .f32) (du dg : Vec Ideal S8192x2048 .f32) : Vec Ideal S1x1024 .f32 :=
  fun i => ∑ r : Fin 8192, DH w du dg r (i 1) * x (ix2 r (i 1))

/-- The gradient of adaLN's shift: the sum over the rows of the arriving gradient. -/
def dsh (w : Vec Ideal S1024x4096 .f32) (du dg : Vec Ideal S8192x2048 .f32) : Vec Ideal S1x1024 .f32 :=
  fun i => ∑ r : Fin 8192, DH w du dg r (i 1)

/-- The reference's gradient of the input is `dx`. -/
theorem ref_dx (sc : Vec Ideal S1024 .f32) (w : Vec Ideal S1024x4096 .f32) (du dg : Vec Ideal S8192x2048 .f32) (res : Vec Ideal S8192x1024 .f32) :
    val_main_v23 (F := Ideal) sc w du dg res = dx sc w du dg res := by
  funext i
  idx_vars i
  unfold dx DH
  pointwise [val_main_v23, val_main_v21, val_main_v13, val_main_v12, val_main_v20, val_main_v3, val_main_v2, val_main_v1, val_main_cst_0]

/-- The reference's gradient of the scale is `dsc`. -/
theorem ref_dsc (x : Vec Ideal S8192x1024 .f32) (w : Vec Ideal S1024x4096 .f32) (du dg : Vec Ideal S8192x2048 .f32) :
    val_main_v24 (F := Ideal) x w du dg = dsc x w du dg := by
  funext i
  idx_vars i
  unfold dsc DH
  pointwise [val_main_v24, val_main_v22, val_main_v19, val_main_v18, val_main_v17, val_main_v13, val_main_v12, val_main_cst_3, val_main_cst_4]
  rw [Fin.sum_univ_one]
  exact Finset.sum_congr rfl fun r _ => mul_comm _ _

/-- The reference's gradient of the shift is `dsh`. -/
theorem ref_dsh (w : Vec Ideal S1024x4096 .f32) (du dg : Vec Ideal S8192x2048 .f32) :
    val_main_v25 (F := Ideal) w du dg = dsh w du dg := by
  funext i
  idx_vars i
  unfold dsh DH
  pointwise [val_main_v25, val_main_v16, val_main_v15, val_main_v14, val_main_v13, val_main_v12, val_main_cst_1, val_main_cst_2]
  rw [Fin.sum_univ_one]

end Cert.InXMath
end
-- ==== Proof.InXArray.lean ====
/-
  What the in-projection's gradient kernel leaves in its three result arrays: the plain mathematics of `InXMath`.
-/
module

public import proofs.«01_k».proof.Proof.InXHost
public import proofs.«01_k».proof.Proof.InXMath
public import Idealize.ShloMosaic.Lib.Pipeline.ValueKit

@[expose] public section

noncomputable section

namespace Cert.InXIdeal.Value

open Cert.InXIdeal Cert.InXIdeal.Gen Idealize.ShloMosaic Idealize.ShloMosaic.TcCoe Idealize.SL.Sem
open Cert.InXMath (DH dx dsc dsh)

variable (m : (ℓ : Loc nD τ sig) → Buf (Elt Ideal) ℓ)

/-- The arriving gradient at point `t`, row `r` of the block: the mathematics at the array's row. -/
theorem dhAt_apply (c : Dev nD) (t : Fin cfg0.N) (r : Fin 512) (d : Fin 1024) :
    dhAt m c t (ix2 r d) = DH (A2 m c) (A3 m c) (A4 m c) ⟨t.val * 512 + r.val, row_lt t r⟩ d := by
  unfold dhAt DH
  pointwise [dh, k0_pay4]
  simp only [blk0, blk1, blk4]
  rw [Fin.sum_univ_tiles (N := 2048) 2 1024 (by norm_num), Fin.sum_univ_tiles (N := 2048) 2 1024 (by norm_num), Fin.sum_univ_two, Fin.sum_univ_two, ← add_assoc]
  reads_congr <;> (refine congrArg _ ?_; idx_ext)

theorem index6 : ∀ t : Fin cfg0.N, win0_6.index t 0 = t.val ∧ win0_6.index t 1 = 0 := (by decide +kernel : ∀ t : Fin grid0.N, win0_6.index t 0 = t.val ∧ win0_6.index t 1 = 0)

/-- The first result's array. -/
theorem arr6 (c : Dev nD) : (dats m 0 c).arrAt 6 cfg0.N = dx (A1 m c) (A2 m c) (A3 m c) (A4 m c) (A5 m c) := by
  refine (dats m 0 c).arrAt_eq_of_covers 6 _ (by decide +kernel) fun t hf y => ?_
  blk_simp
  rw [after0_6]
  have e : (outsAt0 m c t.val t.isLt).1 = k0_pay3 (dhAt m c t) (iblk m c 5 t) (iblk m c 3 t) := by
    by_cases h : t.val % 16 = 0
    · rw [outs_A m c t h]
    · rw [outs_B m c t h]
  rw [e]
  idx_vars y
  have he : ((win0_6.blk t).view.emb (ix2 y0 y1) : S8192x1024.Idx) = ix2 ⟨t.val * 512 + y0.val, row_lt t y0⟩ y1 := by
    blk_ext [index6 t]
  rw [he]
  pointwise [k0_pay3, dx]
  simp only [blk3, blk5, dhAt_apply]

/-- The second result's array: the last point's running sum. -/
theorem arr7 (c : Dev nD) : (dats m 0 c).arrAt 7 cfg0.N = dsc (A0 m c) (A2 m c) (A3 m c) (A4 m c) := by
  refine (dats m 0 c).arrAt_eq_of_after_last 7 t0_15 (by decide +kernel) _ fun j => ?_
  blk_simp
  rw [after0_7]
  rw [Pipeline.eq_sum_fin_of_reset_step_apply_last (fun n h => (outsAt0 m c n h).2.1) 16 (fun _ => (0 : EReal)) (fun t j => ∑ x : Fin 512, DH (A2 m c) (A3 m c) (A4 m c) ⟨t.val * 512 + x.val, row_lt t x⟩ (j 1) * A0 m c (ix2 ⟨t.val * 512 + x.val, row_lt t x⟩ (j 1)))
    (fun t h j => by
      rw [outs_A m c t h]; idx_vars j; pointwise [k0_pay1, k0_pay5]; simp only [blk2, dhAt_apply])
    (fun t h j => by
      rw [outs_B m c t h]; idx_vars j; pointwise [k0_pay1]; simp only [blk2, dhAt_apply])
    (le_of_eq N_0) t0_15 rfl j, zero_add]
  exact (Fin.sum_univ_tiles 16 512 (by norm_num) fun r => DH (A2 m c) (A3 m c) (A4 m c) r (j 1) * A0 m c (ix2 r (j 1))).symm

/-- The third result's array: the last point's running sum. -/
theorem arr8 (c : Dev nD) : (dats m 0 c).arrAt 8 cfg0.N = dsh (A2 m c) (A3 m c) (A4 m c) := by
  refine (dats m 0 c).arrAt_eq_of_after_last 8 t0_15 (by decide +kernel) _ fun j => ?_
  blk_simp
  rw [after0_8]
  rw [Pipeline.eq_sum_fin_of_reset_step_apply_last (fun n h => (outsAt0 m c n h).2.2) 16 (fun _ => (0 : EReal)) (fun t j => ∑ x : Fin 512, DH (A2 m c) (A3 m c) (A4 m c) ⟨t.val * 512 + x.val, row_lt t x⟩ (j 1))
    (fun t h j => by
      rw [outs_A m c t h]; idx_vars j; pointwise [k0_pay2, k0_pay6]; simp only [dhAt_apply])
    (fun t h j => by
      rw [outs_B m c t h]; idx_vars j; pointwise [k0_pay2]; simp only [dhAt_apply])
    (le_of_eq N_0) t0_15 rfl j, zero_add]
  exact (Fin.sum_univ_tiles 16 512 (by norm_num) fun r => DH (A2 m c) (A3 m c) (A4 m c) r (j 1)).symm

end Cert.InXIdeal.Value
end
-- ==== Proof.InXClaim.lean ====
/-
  The claims about the in-projection's gradient with respect to its input: the frames of the kernel, of its
  idealization and of the reference, and the equality of the two over the extended reals.
-/
module

public import proofs.«01_k».proof.Defs
public import proofs.«01_k».proof.Proof.Gen.InX.Frame
public import proofs.«01_k».proof.Proof.InXArray
public import Idealize.ShloMosaic.Adequacy
public import Idealize.ShloMosaic.Init

@[expose] public section

noncomputable section

namespace Cert.Proof.InX

open Idealize.ShloMosaic Idealize.SL.Sem

/-- The kernel runs, keeps its arguments and leaves every semaphore at zero. -/
theorem frame_kernel : Cert.quiescent_InX := fun m ρ _ => Cert.InX.Gen.frame m ρ

/-- So does its idealization. -/
theorem frame_ideal : Cert.quiescent_InXIdeal := fun m ρ _ => Cert.InXIdeal.Gen.frame m ρ

/-- So does the reference, which has no semaphore. -/
theorem frame_ref : Cert.quiescent_InXRefIdeal := fun m ρ _ =>
  (θ_run _ _ _).mono (fun r h => ⟨fun c => (h c).2.2.2, Idealize.ShloMosaic.sem_eq_zero_of_no_sems (by decide) r.2⟩)
    (Cert.InXRefIdeal.Value.run m ρ)

/-- No rewrite was made on the way to the idealization. -/
theorem preserves : Cert.preserves_InX_InXIdeal := trivial

/-- Kernel and reference end with equal results: the input's gradient, the scale's and the shift's. -/
theorem algebraic : Cert.algebraic_InXIdeal_InXRefIdeal := by
  intro m g m' g' _ hargs
  refine ⟨fun c => Cert.InXMath.dx (m (c.tc.loc Cert.InXIdeal.main_arg1)) (m (c.tc.loc Cert.InXIdeal.main_arg2)) (m (c.tc.loc Cert.InXIdeal.main_arg3)) (m (c.tc.loc Cert.InXIdeal.main_arg4)) (m (c.tc.loc Cert.InXIdeal.main_arg5)),
    fun c => Cert.InXMath.dsc (m (c.tc.loc Cert.InXIdeal.main_arg0)) (m (c.tc.loc Cert.InXIdeal.main_arg2)) (m (c.tc.loc Cert.InXIdeal.main_arg3)) (m (c.tc.loc Cert.InXIdeal.main_arg4)),
    fun c => Cert.InXMath.dsh (m (c.tc.loc Cert.InXIdeal.main_arg2)) (m (c.tc.loc Cert.InXIdeal.main_arg3)) (m (c.tc.loc Cert.InXIdeal.main_arg4)),
    (θ_run _ _ _).mono (fun r h c => ?_) (Cert.InXIdeal.Value.run_blocks m g),
    (θ_run _ _ _).mono (fun r h c => ?_) (Cert.InXRefIdeal.Value.run m' g')⟩
  · obtain ⟨h0, h1, h2, hr⟩ := h c
    exact ⟨h0.trans (Cert.InXIdeal.Value.arr6 m c), h1.trans (Cert.InXIdeal.Value.arr7 m c), h2.trans (Cert.InXIdeal.Value.arr8 m c), hr⟩
  · obtain ⟨h0, h1, h2, hr⟩ := h c
    obtain ⟨a0, a1, a2, a3, a4, a5⟩ := hargs c
    refine ⟨h0.trans ?_, h1.trans ?_, h2.trans ?_, hr⟩
    · rw [a1, a2, a3, a4, a5]; exact Cert.InXMath.ref_dx _ _ _ _ _
    · rw [a0, a2, a3, a4]; exact Cert.InXMath.ref_dsc _ _ _ _
    · rw [a2, a3, a4]; exact Cert.InXMath.ref_dsh _ _ _

end Cert.Proof.InX

end
-- ==== Proof.InFMath.lean ====
/-
  The forward in-projection in plain mathematics, and the proof that the reference's term is that mathematics.
-/
module

public import proofs.«01_k».proof.Proof.Gen.InFRefIdeal.Read
public import Idealize.ShloMosaic.Lib.Pointwise
public import Idealize.ShloMosaic.Lib.Tactic
public import Idealize.ShloMosaic.Lib.Pipeline.ValueKit

@[expose] public section

noncomputable section

namespace Cert.InFMath

open Cert.InFRefIdeal Cert.InFRefIdeal.Read Idealize.ShloMosaic

/-- The modulated activation at row `r`, channel `d`: adaLN's scale and shift applied to the block's input. -/
def H (x : Vec Ideal S8192x1024 .f32) (sc sh : Vec Ideal S1024 .f32) (r : Fin 8192) (d : Fin 1024) : EReal :=
  x (ix2 r d) * (1 + sc (ix1 d)) + sh (ix1 d)

/-- Column `n` of the projection at row `r`. -/
def P (x : Vec Ideal S8192x1024 .f32) (sc sh : Vec Ideal S1024 .f32) (w : Vec Ideal S1024x4096 .f32) (r : Fin 8192) (n : Fin 4096) : EReal :=
  ∑ d : Fin 1024, H x sc sh r d * w (ix2 d n)

/-- The first half of the projection, its columns in groups of 128 lanes. -/
def u (x : Vec Ideal S8192x1024 .f32) (sc sh : Vec Ideal S1024 .f32) (w : Vec Ideal S1024x4096 .f32) : Vec Ideal S16x8192x128 .f32 :=
  fun i => P x sc sh w (i 1) ⟨(i 0).val * 128 + (i 2).val, by
    have h0 : (i 0).val < 16 := (i 0).isLt
    have h2 : (i 2).val < 128 := (i 2).isLt
    omega⟩

/-- The second half of the projection, likewise. -/
def g (x : Vec Ideal S8192x1024 .f32) (sc sh : Vec Ideal S1024 .f32) (w : Vec Ideal S1024x4096 .f32) : Vec Ideal S16x8192x128 .bf16 :=
  fun i => P x sc sh w (i 1) ⟨2048 + ((i 0).val * 128 + (i 2).val), by
    have h0 : (i 0).val < 16 := (i 0).isLt
    have h2 : (i 2).val < 128 := (i 2).isLt
    omega⟩

/-- The reference's first half is `u`. -/
theorem ref_u (x : Vec Ideal S8192x1024 .f32) (sc sh : Vec Ideal S1024 .f32) (w : Vec Ideal S1024x4096 .f32) :
    val_main_v12 (F := Ideal) x sc sh w = u x sc sh w := by
  funext i
  idx_vars i
  unfold u P H
  pointwise [val_main_v12, val_main_v11, val_main_v9, val_main_v8, val_main_v7, val_main_v6, val_main_v5, val_main_v4, val_main_v3, val_main_v2, val_main_v1, val_main_v0, val_main_cst]

/-- The reference's second half is `g`. -/
theorem ref_g (x : Vec Ideal S8192x1024 .f32) (sc sh : Vec Ideal S1024 .f32) (w : Vec Ideal S1024x4096 .f32) :
    val_main_v15 (F := Ideal) x sc sh w = g x sc sh w := by
  funext i
  idx_vars i
  unfold g P H
  pointwise [val_main_v15, val_main_v14, val_main_v13, val_main_v10, val_main_v8, val_main_v7, val_main_v6, val_main_v5, val_main_v4, val_main_v3, val_main_v2, val_main_v1, val_main_v0, val_main_cst]

end Cert.InFMath
end
-- ==== Proof.InFArray.lean ====
/-
  What the forward in-projection's kernel leaves in its two result arrays: the plain mathematics of `InFMath`.
-/
module

public import proofs.«01_k».proof.Proof.Gen.InFIdeal.Value
public import proofs.«01_k».proof.Proof.InFMath
public import Idealize.ShloMosaic.Lib.Pipeline.ValueKit

@[expose] public section

noncomputable section

namespace Cert.InFIdeal.Value

open Cert.InFIdeal Cert.InFIdeal.Gen Idealize.ShloMosaic Idealize.ShloMosaic.TcCoe Idealize.SL.Sem
open Cert.InFMath (H P)

variable (m : (ℓ : Loc nD τ sig) → Buf (Elt Ideal) ℓ)

/-- Argument 0 on device `c`: the block's input. -/
abbrev A0 (c : Dev nD) : Vec Ideal S8192x1024 .f32 := m (c.tc.loc main_arg0)
/-- Argument 1 on device `c`: adaLN's scale. -/
abbrev A1 (c : Dev nD) : Vec Ideal S1024 .f32 := m (c.tc.loc main_arg1)
/-- Argument 2 on device `c`: adaLN's shift. -/
abbrev A2 (c : Dev nD) : Vec Ideal S1024 .f32 := m (c.tc.loc main_arg2)
/-- Argument 3 on device `c`: the weight. -/
abbrev A3 (c : Dev nD) : Vec Ideal S1024x4096 .f32 := m (c.tc.loc main_arg3)

theorem row_lt (t : Fin cfg0.N) (r : Fin 512) : t.val * 512 + r.val < 8192 := by
  have := t.isLt; have : cfg0.N = 16 := N_0; omega

theorem index0 : ∀ t : Fin cfg0.N, win0_0.index t 0 = t.val ∧ win0_0.index t 1 = 0 := (by decide +kernel : ∀ t : Fin grid0.N, win0_0.index t 0 = t.val ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = 0 ∧ win0_3.index t 1 = 0 ∧ win0_3.index t 2 = 0 := (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = t.val ∧ win0_4.index t 2 = 0 := (by decide +kernel : ∀ t : Fin grid0.N, win0_4.index t 0 = 0 ∧ win0_4.index t 1 = t.val ∧ win0_4.index t 2 = 0)
theorem index5 : ∀ t : Fin cfg0.N, win0_5.index t 0 = 0 ∧ win0_5.index t 1 = t.val ∧ win0_5.index t 2 = 0 := (by decide +kernel : ∀ t : Fin grid0.N, win0_5.index t 0 = 0 ∧ win0_5.index t 1 = t.val ∧ win0_5.index t 2 = 0)

/-- A row block of the input. -/
theorem blk0 (c : Dev nD) (t : Fin cfg0.N) (r : Fin 512) (k : Fin 1024) :
    (iblk m c 0 t : Vec Ideal S512x1024 .f32) (ix2 r k) = A0 m c (ix2 ⟨t.val * 512 + r.val, row_lt t r⟩ k) := by
  blk_ext! [iblk, index0 t]
/-- One plus adaLN's scale. -/
theorem blk1 (c : Dev nD) (t : Fin cfg0.N) (r : Fin 1) (k : Fin 1024) :
    (iblk m c 1 t : Vec Ideal S1x1024 .f32) (ix2 r k) = (1 + A1 m c (ix1 k) : EReal) := by
  blk_simp [iblk, index1 t]
  entry_read
  pointwise
  blk_point [index1 t]
/-- AdaLN's shift. -/
theorem blk2 (c : Dev nD) (t : Fin cfg0.N) (r : Fin 1) (k : Fin 1024) :
    (iblk m c 2 t : Vec Ideal S1x1024 .f32) (ix2 r k) = A2 m c (ix1 k) := by
  blk_simp [iblk, index2 t]
  entry_read
  pointwise
  blk_point [index2 t]
/-- The weight's column quarters. -/
theorem blk3 (c : Dev nD) (t : Fin cfg0.N) (q : Fin 4) (d k : Fin 1024) :
    (iblk m c 3 t : Vec Ideal S4x1024x1024 .bf16) (ix3 q d k) = A3 m c (ix2 d ⟨q.val * 1024 + k.val, by omega⟩) := by
  blk_simp [iblk, index3 t]
  entry_read
  pointwise
  blk_point [index3 t]

/-- A column quarter of the projection over the rows of grid point `t`. -/
def Q (c : Dev nD) (t : Fin cfg0.N) (q : Fin 4) : Vec Ideal S512x1024 .f32 := fun i =>
  P (A0 m c) (A1 m c) (A2 m c) (A3 m c) ⟨t.val * 512 + (i 0).val, row_lt t (i 0)⟩
    ⟨q.val * 1024 + (i 1).val, by have h1 : (i 1).val < 1024 := (i 1).isLt; omega⟩

/-- The first column quarter of the projection at grid point `t`. -/
theorem quarter0 (c : Dev nD) (t : Fin cfg0.N) :
    (k0_pay4 (View.ld (iblk m c 0 t) r0_0) (View.ld (iblk m c 1 t) r0_1) (View.ld (iblk m c 2 t) r0_1) (View.ld (iblk m c 3 t) r0_2) : Vec Ideal S512x1024 .f32) = Q m c t 0 := by
  funext i
  idx_vars i
  unfold Q P H
  pointwise [k0_pay42, k0_pay3, k0_pay4, k0_pay14, k0_pay24, k0_pay34]
  simp only [blk0, blk1, blk2, blk3]
  reads_congr <;> (refine congrArg _ ?_; idx_ext)

/-- The second column quarter of the projection at grid point `t`. -/
theorem quarter1 (c : Dev nD) (t : Fin cfg0.N) :
    (k0_pay14 (k0_pay42 (iblk m c 0 t) (iblk m c 1 t) (iblk m c 2 t) (iblk m c 3 t)) (View.ld (iblk m c 3 t) r0_11) : Vec Ideal S512x1024 .f32) = Q m c t 1 := by
  funext i
  idx_vars i
  unfold Q P H
  pointwise [k0_pay42, k0_pay3, k0_pay4, k0_pay14, k0_pay24, k0_pay34]
  simp only [blk0, blk1, blk2, blk3]
  reads_congr <;> (refine congrArg _ ?_; idx_ext)

/-- The third column quarter of the projection at grid point `t`. -/
theorem quarter2 (c : Dev nD) (t : Fin cfg0.N) :
    (k0_pay24 (k0_pay42 (iblk m c 0 t) (iblk m c 1 t) (iblk m c 2 t) (iblk m c 3 t)) (View.ld (iblk m c 3 t) r0_20) : Vec Ideal S512x1024 .f32) = Q m c t 2 := by
  funext i
  idx_vars i
  unfold Q P H
  pointwise [k0_pay42, k0_pay3, k0_pay4, k0_pay14, k0_pay24, k0_pay34]
  simp only [blk0, blk1, blk2, blk3]
  reads_congr <;> (refine congrArg _ ?_; idx_ext)

/-- The fourth column quarter of the projection at grid point `t`. -/
theorem quarter3 (c : Dev nD) (t : Fin cfg0.N) :
    (k0_pay34 (k0_pay42 (iblk m c 0 t) (iblk m c 1 t) (iblk m c 2 t) (iblk m c 3 t)) (View.ld (iblk m c 3 t) r0_21) : Vec Ideal S512x1024 .f32) = Q m c t 3 := by
  funext i
  idx_vars i
  unfold Q P H
  pointwise [k0_pay42, k0_pay3, k0_pay4, k0_pay14, k0_pay24, k0_pay34]
  simp only [blk0, blk1, blk2, blk3]
  reads_congr <;> (refine congrArg _ ?_; idx_ext)

set_option maxHeartbeats 1000000 in
/-- The first result's array: the first half of the projection. -/
theorem arr4 (c : Dev nD) : (dats m 0 c).arrAt 4 cfg0.N = Cert.InFMath.u (A0 m c) (A1 m c) (A2 m c) (A3 m c) := by
  refine (dats m 0 c).arrAt_eq_of_covers 4 _ (by decide +kernel) fun t hf y => ?_
  blk_simp
  rw [after0_4]
  idx_vars y
  have he : ((win0_4.blk t).view.emb (ix3 y0 y1 y2) : S16x8192x128.Idx) = ix3 y0 ⟨t.val * 512 + y1.val, row_lt t y1⟩ y2 := by
    blk_ext [index4 t]
  rw [he]
  unfold Cert.InFMath.u
  canon_tiles x h
  all_goals
    idx_vars x
    simp only [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay43, k0_pay44]
    first | erw [quarter0 m c t] | erw [quarter1 m c t] | erw [quarter2 m c t] | erw [quarter3 m c t]
    pointwise [Q]
    refine congrArg₂ (P (A0 m c) (A1 m c) (A2 m c) (A3 m c)) (Fin.ext ?_) (Fin.ext ?_) <;> (dsimp only; omega)

set_option maxHeartbeats 1000000 in
/-- The second result's array: the second half of the projection. -/
theorem arr5 (c : Dev nD) : (dats m 0 c).arrAt 5 cfg0.N = Cert.InFMath.g (A0 m c) (A1 m c) (A2 m c) (A3 m c) := by
  refine (dats m 0 c).arrAt_eq_of_covers 5 _ (by decide +kernel) fun t hf y => ?_
  blk_simp
  rw [after0_5]
  idx_vars y
  have he : ((win0_5.blk t).view.emb (ix3 y0 y1 y2) : S16x8192x128.Idx) = ix3 y0 ⟨t.val * 512 + y1.val, row_lt t y1⟩ y2 := by
    blk_ext [index5 t]
  rw [he]
  unfold Cert.InFMath.g
  canon_tiles x h
  all_goals
    idx_vars x
    simp only [k0_pay1, k0_pay2, k0_pay25, k0_pay26, k0_pay27, k0_pay28, k0_pay29, k0_pay30, k0_pay31, k0_pay32, k0_pay33, k0_pay35, k0_pay36, k0_pay37, k0_pay38, k0_pay39, k0_pay40, k0_pay41, k0_pay45]
    first | erw [quarter0 m c t] | erw [quarter1 m c t] | erw [quarter2 m c t] | erw [quarter3 m c t]
    pointwise [Q]
    refine congrArg₂ (P (A0 m c) (A1 m c) (A2 m c) (A3 m c)) (Fin.ext ?_) (Fin.ext ?_) <;> (dsimp only; omega)

end Cert.InFIdeal.Value
end
-- ==== Proof.InFClaim.lean ====
/-
  The claims about the forward in-projection: the frames of the kernel, of its idealization and of the reference, and
  the equality of the two over the extended reals.
-/
module

public import proofs.«01_k».proof.Defs
public import proofs.«01_k».proof.Proof.Gen.InF.Frame
public import proofs.«01_k».proof.Proof.InFArray
public import Idealize.ShloMosaic.Adequacy
public import Idealize.ShloMosaic.Init

@[expose] public section

noncomputable section

namespace Cert.Proof.InF

open Idealize.ShloMosaic Idealize.SL.Sem

/-- The kernel runs, keeps its arguments and leaves every semaphore at zero. -/
theorem frame_kernel : Cert.quiescent_InF := fun m ρ _ => Cert.InF.Gen.frame m ρ

/-- So does its idealization. -/
theorem frame_ideal : Cert.quiescent_InFIdeal := fun m ρ _ => Cert.InFIdeal.Gen.frame m ρ

/-- So does the reference, which has no semaphore. -/
theorem frame_ref : Cert.quiescent_InFRefIdeal := fun m ρ _ =>
  (θ_run _ _ _).mono (fun r h => ⟨fun c => (h c).2.2, Idealize.ShloMosaic.sem_eq_zero_of_no_sems (by decide) r.2⟩)
    (Cert.InFRefIdeal.Value.run m ρ)

/-- No rewrite was made on the way to the idealization. -/
theorem preserves : Cert.preserves_InF_InFIdeal := trivial

/-- Kernel and reference end with equal results: the two halves of the projection. -/
theorem algebraic : Cert.algebraic_InFIdeal_InFRefIdeal := by
  intro m g m' g' _ hargs
  refine ⟨fun c => Cert.InFMath.u (m (c.tc.loc Cert.InFIdeal.main_arg0)) (m (c.tc.loc Cert.InFIdeal.main_arg1)) (m (c.tc.loc Cert.InFIdeal.main_arg2)) (m (c.tc.loc Cert.InFIdeal.main_arg3)),
    fun c => Cert.InFMath.g (m (c.tc.loc Cert.InFIdeal.main_arg0)) (m (c.tc.loc Cert.InFIdeal.main_arg1)) (m (c.tc.loc Cert.InFIdeal.main_arg2)) (m (c.tc.loc Cert.InFIdeal.main_arg3)),
    (θ_run _ _ _).mono (fun r h c => ?_) (Cert.InFIdeal.Value.run_blocks m g),
    (θ_run _ _ _).mono (fun r h c => ?_) (Cert.InFRefIdeal.Value.run m' g')⟩
  · obtain ⟨h0, h1, hr⟩ := h c
    exact ⟨h0.trans (Cert.InFIdeal.Value.arr4 m c), h1.trans (Cert.InFIdeal.Value.arr5 m c), hr⟩
  · obtain ⟨h0, h1, hr⟩ := h c
    obtain ⟨a0, a1, a2, a3⟩ := hargs c
    refine ⟨h0.trans ?_, h1.trans ?_, hr⟩
    · rw [a0, a1, a2, a3]; exact Cert.InFMath.ref_u _ _ _ _
    · rw [a0, a1, a2, a3]; exact Cert.InFMath.ref_g _ _ _ _

end Cert.Proof.InF

end
-- ==== Proof.PoolFMath.lean ====
/-
  The pooling layer's linear in plain mathematics, and the reference's result as that mathematics.
-/
module

public import proofs.«01_k».proof.Proof.Gen.PoolFRefIdeal.Read
public import Idealize.ShloMosaic.Lib.Pipeline.ValueKit

@[expose] public section

noncomputable section

namespace Cert.PoolFMath

open Cert.PoolFRefIdeal Cert.PoolFRefIdeal.Read Idealize.ShloMosaic

/-- Column `k` of group `g` among the 2048 channels. -/
abbrev col (g : Fin 4) (k : Fin 512) : Fin 2048 := ⟨g.val * 512 + k.val, by omega⟩

/-- The scaled output of group `g`'s linear. -/
def Y (d : Vec Ideal S8192x2048 .f32) (w : Vec Ideal S4x512x512 .f32) (sc : Vec Ideal S2048 .f32) (g : Fin 4) (r : Fin 8192) (n : Fin 512) : EReal :=
  (∑ x : Fin 512, d (ix2 r (col g x)) * w (ix3 g x n)) * sc (ix1 (col g n))

/-- The layer's output by lane blocks, four to a group. -/
def y (d : Vec Ideal S8192x2048 .f32) (w : Vec Ideal S4x512x512 .f32) (sc : Vec Ideal S2048 .f32) : Vec Ideal S16x8192x128 .bf16 :=
  fun i => Y d w sc ⟨(i 0).val / 4, by have h0 : (i 0).val < 16 := (i 0).isLt; omega⟩ (i 1)
    ⟨(i 0).val % 4 * 128 + (i 2).val, by have h2 : (i 2).val < 128 := (i 2).isLt; omega⟩

set_option maxRecDepth 8000 in
/-- The reference's output at a channel. -/
theorem ref_col (d : Vec Ideal S8192x2048 .f32) (w : Vec Ideal S4x512x512 .f32) (sc : Vec Ideal S2048 .f32) (r : Fin 8192) (n : Fin 2048) :
    val_main_v19 (F := Ideal) d w sc (ix2 r n) = Y d w sc ⟨n.val / 512, by omega⟩ r ⟨n.val % 512, by omega⟩ := by
  unfold Y
  pointwise [val_main_v19, val_main_v18, val_main_v17, val_main_v16, val_main_v3, val_main_v7, val_main_v11, val_main_v15, val_main_v0, val_main_v4, val_main_v8, val_main_v12, val_main_v14, val_main_v13, val_main_v10, val_main_v9, val_main_v6, val_main_v5, val_main_v2, val_main_v1]
  refine congrArg₂ (fun a b : EReal => a * b) ?_ (congrArg _ ?_)
  · split_ifs <;> (reads_congr <;> (refine congrArg _ ?_; idx_ext))
  · idx_ext

/-- The reference's result. -/
theorem ref_y (d : Vec Ideal S8192x2048 .f32) (w : Vec Ideal S4x512x512 .f32) (sc : Vec Ideal S2048 .f32) :
    val_main_v22 (F := Ideal) d w sc = y d w sc := by
  funext i
  idx_vars i
  unfold y
  pointwise [val_main_v22, val_main_v21, val_main_v20]
  rw [ref_col]
  refine congrArg₂ (fun g k => Y d w sc g i1 k) (Fin.ext ?_) (Fin.ext ?_) <;> (simp; omega)

end Cert.PoolFMath
end
-- ==== Proof.PoolFArray.lean ====
/-
  What the pooling layer's kernel leaves in its result array: the plain mathematics of `PoolFMath`.
-/
module

public import proofs.«01_k».proof.Proof.Gen.PoolFIdeal.Value
public import proofs.«01_k».proof.Proof.PoolFMath
public import Idealize.ShloMosaic.Lib.Pipeline.ValueKit

@[expose] public section

noncomputable section

namespace Cert.PoolFIdeal.Value

open Cert.PoolFIdeal Cert.PoolFIdeal.Gen Idealize.ShloMosaic Idealize.ShloMosaic.TcCoe Idealize.SL.Sem
open Cert.PoolFMath (col Y)

variable (m : (ℓ : Loc nD τ sig) → Buf (Elt Ideal) ℓ)

/-- Argument 0 on device `c`: the differences of the pooled rows. -/
abbrev A0 (c : Dev nD) : Vec Ideal S8192x2048 .f32 := m (c.tc.loc main_arg0)
/-- Argument 1 on device `c`: the per-group weight. -/
abbrev A1 (c : Dev nD) : Vec Ideal S4x512x512 .f32 := m (c.tc.loc main_arg1)
/-- Argument 2 on device `c`: the per-channel scale. -/
abbrev A2 (c : Dev nD) : Vec Ideal S2048 .f32 := m (c.tc.loc main_arg2)
/-- The group a grid point works on. -/
abbrev grp (t : Fin cfg0.N) : Fin 4 := ⟨t.val % 4, by omega⟩
/-- The array's row at row `r` of a grid point's block. -/
abbrev row (t : Fin cfg0.N) (r : Fin 2048) : Fin 8192 := ⟨t.val / 4 * 2048 + r.val, by have := t.isLt; have : cfg0.N = 16 := N_0; omega⟩

theorem index0 : ∀ t : Fin cfg0.N, win0_0.index t 0 = t.val % 4 ∧ win0_0.index t 1 = t.val / 4 ∧ win0_0.index t 2 = 0 := (by decide +kernel : ∀ t : Fin grid0.N, win0_0.index t 0 = t.val % 4 ∧ win0_0.index t 1 = t.val / 4 ∧ win0_0.index t 2 = 0)
theorem index1 : ∀ t : Fin cfg0.N, win0_1.index t 0 = 0 ∧ win0_1.index t 1 = t.val % 4 ∧ win0_1.index t 2 = 0 ∧ win0_1.index t 3 = 0 := (by decide +kernel : ∀ t : Fin grid0.N, win0_1.index t 0 = 0 ∧ win0_1.index t 1 = t.val % 4 ∧ win0_1.index t 2 = 0 ∧ win0_1.index t 3 = 0)
theorem index2 : ∀ t : Fin cfg0.N, win0_2.index t 0 = 0 ∧ win0_2.index t 1 = t.val % 4 := (by decide +kernel : ∀ t : Fin grid0.N, win0_2.index t 0 = 0 ∧ win0_2.index t 1 = t.val % 4)
theorem index3 : ∀ t : Fin cfg0.N, win0_3.index t 0 = t.val % 4 ∧ win0_3.index t 1 = t.val / 4 ∧ win0_3.index t 2 = 0 := (by decide +kernel : ∀ t : Fin grid0.N, win0_3.index t 0 = t.val % 4 ∧ win0_3.index t 1 = t.val / 4 ∧ win0_3.index t 2 = 0)

/-- The pooled differences' rows and columns of a grid point. -/
theorem blk0 (c : Dev nD) (t : Fin cfg0.N) (b : Fin 4) (r : Fin 2048) (l : Fin 128) :
    (iblk m c 0 t : Vec Ideal S4x2048x128 .bf16) (ix3 b r l) = A0 m c (ix2 (row t r) (col (grp t) ⟨b.val * 128 + l.val, by omega⟩)) := by
  blk_simp [iblk, index0 t]
  entry_read
  pointwise
  blk_point [index0 t]
/-- The weight of the group, its rows in four parts. -/
theorem blk1 (c : Dev nD) (t : Fin cfg0.N) (q : Fin 4) (u : Fin 1) (p : Fin 128) (n : Fin 512) :
    (iblk m c 1 t : Vec Ideal S4x1x128x512 .bf16) (ix4 q u p n) = A1 m c (ix3 (grp t) ⟨q.val * 128 + p.val, by omega⟩ n) := by
  blk_simp [iblk, index1 t]
  entry_read
  pointwise
  blk_point [index1 t]
/-- The scale of the group's channels. -/
theorem blk2 (c : Dev nD) (t : Fin cfg0.N) (u : Fin 1) (n : Fin 512) :
    (iblk m c 2 t : Vec Ideal S1x512 .f32) (ix2 u n) = A2 m c (ix1 (col (grp t) n)) := by
  blk_simp [iblk, index2 t]
  entry_read
  pointwise
  blk_point [index2 t]

/-- The scaled product at a grid point. -/
theorem pay5_eq (c : Dev nD) (t : Fin cfg0.N) :
    k0_pay5 (View.ld (iblk m c 0 t) r0_0) (View.ld (iblk m c 0 t) r0_1) (View.ld (iblk m c 0 t) r0_2) (View.ld (iblk m c 0 t) r0_3)
      (View.ld (iblk m c 1 t) r0_4) (View.ld (iblk m c 1 t) r0_5) (View.ld (iblk m c 1 t) r0_6) (View.ld (iblk m c 1 t) r0_7) (View.ld (iblk m c 2 t) r0_8)
      = fun i => Y (A0 m c) (A1 m c) (A2 m c) (grp t) (row t (i 0)) (i 1) := by
  funext i
  idx_vars i
  unfold Y
  pointwise [k0_pay5]
  simp only [blk0, blk1, blk2]
  refine congrArg (fun a : EReal => a * _) (Finset.sum_congr rfl fun x _ => ?_)
  split_ifs <;> (reads_congr <;> (refine congrArg _ ?_; idx_ext))

/-- The lane blocks of a group. -/
theorem blk_lt (t : Fin cfg0.N) (b : Fin 4) : t.val % 4 * 4 + b.val < 16 := by omega

/-- The result's array. -/
theorem arr3 (c : Dev nD) : (dats m 0 c).arrAt 3 cfg0.N = Cert.PoolFMath.y (A0 m c) (A1 m c) (A2 m c) := by
  refine (dats m 0 c).arrAt_eq_of_covers 3 _ (by decide +kernel) fun t hf y => ?_
  blk_simp
  rw [after0_3]
  idx_vars y
  have he : ((win0_3.blk t).view.emb (ix3 y0 y1 y2) : S16x8192x128.Idx) = ix3 ⟨t.val % 4 * 4 + y0.val, blk_lt t y0⟩ (row t y1) y2 := by
    blk_ext [index3 t]
  rw [he]
  unfold Cert.PoolFMath.y
  canon_tiles x h
  all_goals
    idx_vars x
    simp only [k0_pay1, k0_pay2, k0_pay3, k0_pay4, k0_pay6, k0_pay7]
    erw [pay5_eq m c t]
    pointwise
    refine congr (congr (congrArg (Y (A0 m c) (A1 m c) (A2 m c)) (Fin.ext ?_)) (Fin.ext ?_)) (Fin.ext ?_) <;> (simp [grp, row]; try omega)

end Cert.PoolFIdeal.Value
end
-- ==== Proof.PoolFClaim.lean ====
/-
  The claims about the pooling layer's linear: the frames of the kernel, of its idealization and of the reference, and
  the equality of the two over the extended reals.
-/
module

public import proofs.«01_k».proof.Defs
public import proofs.«01_k».proof.Proof.Gen.PoolF.Frame
public import proofs.«01_k».proof.Proof.PoolFArray
public import Idealize.ShloMosaic.Adequacy
public import Idealize.ShloMosaic.Init

@[expose] public section

noncomputable section

namespace Cert.Proof.PoolF

open Idealize.ShloMosaic Idealize.SL.Sem

/-- The kernel runs, keeps its arguments and leaves every semaphore at zero. -/
theorem frame_kernel : Cert.quiescent_PoolF := fun m ρ _ => Cert.PoolF.Gen.frame m ρ

/-- So does its idealization. -/
theorem frame_ideal : Cert.quiescent_PoolFIdeal := fun m ρ _ => Cert.PoolFIdeal.Gen.frame m ρ

/-- So does the reference, which has no semaphore. -/
theorem frame_ref : Cert.quiescent_PoolFRefIdeal := fun m ρ _ =>
  (θ_run _ _ _).mono (fun r h => ⟨fun c => (h c).2, Idealize.ShloMosaic.sem_eq_zero_of_no_sems (by decide) r.2⟩)
    (Cert.PoolFRefIdeal.Value.run m ρ)

/-- No rewrite was made on the way to the idealization. -/
theorem preserves : Cert.preserves_PoolF_PoolFIdeal := trivial

/-- Kernel and reference end with equal results: the scaled output of the groups' linear. -/
theorem algebraic : Cert.algebraic_PoolFIdeal_PoolFRefIdeal := by
  intro m g m' g' _ hargs
  refine ⟨fun c => Cert.PoolFMath.y (m (c.tc.loc Cert.PoolFIdeal.main_arg0)) (m (c.tc.loc Cert.PoolFIdeal.main_arg1)) (m (c.tc.loc Cert.PoolFIdeal.main_arg2)),
    (θ_run _ _ _).mono (fun r h c => ?_) (Cert.PoolFIdeal.Value.run_blocks m g),
    (θ_run _ _ _).mono (fun r h c => ?_) (Cert.PoolFRefIdeal.Value.run m' g')⟩
  · obtain ⟨h0, hr⟩ := h c
    exact ⟨h0.trans (Cert.PoolFIdeal.Value.arr3 m c), hr⟩
  · obtain ⟨h0, hr⟩ := h c
    obtain ⟨a0, a1, a2⟩ := hargs c
    refine ⟨h0.trans ?_, hr⟩
    rw [a0, a1, a2]; exact Cert.PoolFMath.ref_y _ _ _

end Cert.Proof.PoolF

end
-- ==== Proof.OutFMath.lean ====
/-
  The forward out-projection with its block end in plain mathematics, and the proof that the reference's terms are that mathematics.
-/
module

public import proofs.«01_k».proof.Proof.Gen.OutFRefIdeal.Read
public import Idealize.ShloMosaic.Lib.Pointwise
public import Idealize.ShloMosaic.Lib.Tactic
public import Idealize.ShloMosaic.Lib.Pipeline.ValueKit

@[expose] public section

noncomputable section

namespace Cert.OutFMath

open Cert.OutFRefIdeal Cert.OutFRefIdeal.Read Idealize.ShloMosaic

/-- The constant one half. -/
theorem half_val : Ideal.ofBits .f32 0x3F000000#32 = ((1 / 2 : ℝ) : EReal) := by
  simp [Ideal.ofBits, Ideal.ieee, -EReal.coe_mul]; norm_num

/-- The logistic function by the hyperbolic tangent of half the argument, on the reals. -/
theorem half_tanh (r : ℝ) : (1 / 2 : ℝ) * (Real.tanh (1 / 2 * r) + 1) = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, h1]
  generalize Real.exp (1 / 2 * r) = a at *
  generalize Real.exp (-(1 / 2 * r)) = b at *
  have hab : a + b ≠ 0 := by positivity
  have hbb : 1 + b * b ≠ 0 := by positivity
  field_simp
  nlinarith

/-- The same at every extended real. -/
theorem gate_half (x : EReal) :
    Ideal.ofBits .f32 0x3F000000#32 * (Ideal.tanh (Ideal.ofBits .f32 0x3F000000#32 * x) + 1) = Ideal.logistic x := by
  rw [half_val]
  induction x with
  | bot =>
    rw [EReal.coe_mul_bot_of_pos (by norm_num), Ideal.tanh_bot, Ideal.logistic_bot]
    have : (-1 : EReal) + 1 = 0 := by
      have h : ((-1 : ℝ) : EReal) + ((1 : ℝ) : EReal) = ((0 : ℝ) : EReal) := by rw [← EReal.coe_add]; norm_num
      simpa using h
    rw [this, mul_zero]
  | top =>
    rw [EReal.coe_mul_top_of_pos (by norm_num), Ideal.tanh_top, Ideal.logistic_top]
    have h : ((1 / 2 : ℝ) : EReal) * (((1 : ℝ) : EReal) + ((1 : ℝ) : EReal)) = ((1 : ℝ) : EReal) := by
      rw [← EReal.coe_add, ← EReal.coe_mul]; norm_num
    simpa using h
  | coe r =>
    rw [Ideal.logistic_coe, ← half_tanh, ← EReal.coe_mul, Ideal.tanh_coe]
    push_cast
    rfl

/-- The gated activation at row `r`, channel `k`: `y · (g · σ(g))`. -/
def Z (y g : Vec Ideal S8192x2048 .f32) (r : Fin 8192) (k : Fin 2048) : EReal :=
  y (ix2 r k) * (g (ix2 r k) * Ideal.logistic (g (ix2 r k)))

/-- The branch at row `r`, channel `d`: the gated activation through the out-projection's weight. -/
def B (y g : Vec Ideal S8192x2048 .f32) (w : Vec Ideal S2048x1024 .f32) (r : Fin 8192) (d : Fin 1024) : EReal :=
  ∑ k : Fin 2048, Z y g r k * w (ix2 k d)

/-- A layer norm of 1,024 numbers `s`, scaled by `lg` and shifted by `lb`, at channel `d`. -/
def N (s : Fin 1024 → EReal) (lg lb : Vec Ideal S1024 .f32) (d : Fin 1024) : EReal :=
  (s d - Ideal.div (∑ x, s x) (Ideal.ofBits .f32 0x44800000#32)) *
      Ideal.rsqrt (Ideal.div (∑ x, (s x - Ideal.div (∑ x, s x) (Ideal.ofBits .f32 0x44800000#32)) *
          (s x - Ideal.div (∑ x, s x) (Ideal.ofBits .f32 0x44800000#32))) (Ideal.ofBits .f32 0x44800000#32) +
        Ideal.ofBits .f32 0x3727C5AC#32) * lg (ix1 d) + lb (ix1 d)

/-- The residual sum at row `r`, channel `d`: the scaled block input plus the gated branch. -/
def Q (y g : Vec Ideal S8192x2048 .f32) (x : Vec Ideal S8192x1024 .f32) (gt : Vec Ideal S1024 .f32) (w : Vec Ideal S2048x1024 .f32)
    (r : Fin 8192) (d : Fin 1024) : EReal :=
  Ideal.ofBits .f32 0x3FB504F3#32 * x (ix2 r d) + gt (ix1 d) * B y g w r d

/-- The branch as an array. -/
def br (y g : Vec Ideal S8192x2048 .f32) (w : Vec Ideal S2048x1024 .f32) : Vec Ideal S8192x1024 .f32 :=
  fun i => B y g w (i 0) (i 1)

/-- The block's output as an array. -/
def xo (y g : Vec Ideal S8192x2048 .f32) (x : Vec Ideal S8192x1024 .f32) (gt : Vec Ideal S1024 .f32) (w : Vec Ideal S2048x1024 .f32)
    (lg lb : Vec Ideal S1024 .f32) : Vec Ideal S8192x1024 .f32 :=
  fun i => N (Q y g x gt w (i 0)) lg lb (i 1)

/-- The reference's first result is the branch. -/
theorem ref_br (y g : Vec Ideal S8192x2048 .f32) (w : Vec Ideal S2048x1024 .f32) : val_main_v2 (F := Ideal) y g w = br y g w := by
  funext i
  idx_vars i
  unfold br B Z Ideal.logistic
  pointwise [val_main_v2, val_main_v1, val_main_v0, val_main_call0_v5, val_main_call0_v4, val_main_call0_v3, val_main_call0_v2, val_main_call0_v1, val_main_call0_v0, val_main_call0_cst, val_main_call0_cst_0]

/-- The branch the reference takes into its block end is the same. -/
theorem ref_b5 (y g : Vec Ideal S8192x2048 .f32) (w : Vec Ideal S2048x1024 .f32) : val_main_v5 (F := Ideal) y g w = br y g w := by
  funext i
  idx_vars i
  unfold br B Z Ideal.logistic
  pointwise [val_main_v5, val_main_v4, val_main_v3, val_main_call1_v5, val_main_call1_v4, val_main_call1_v3, val_main_call1_v2, val_main_call1_v1, val_main_call1_v0, val_main_call1_cst, val_main_call1_cst_0]

/-- The reference's residual sum. -/
theorem ref_q (y g : Vec Ideal S8192x2048 .f32) (x : Vec Ideal S8192x1024 .f32) (gt : Vec Ideal S1024 .f32) (w : Vec Ideal S2048x1024 .f32) :
    val_main_v11 (F := Ideal) y g x gt w = fun i => Q y g x gt w (i 0) (i 1) := by
  funext i
  idx_vars i
  unfold Q
  pointwise [val_main_v11, val_main_v10, val_main_v9, val_main_v8, val_main_v7, val_main_v6, val_main_cst, ref_b5, br]

/-- The reference's second result is the block's output. -/
theorem ref_xo (y g : Vec Ideal S8192x2048 .f32) (x : Vec Ideal S8192x1024 .f32) (gt : Vec Ideal S1024 .f32) (w : Vec Ideal S2048x1024 .f32)
    (lg lb : Vec Ideal S1024 .f32) : val_main_v35 (F := Ideal) y g x gt w lg lb = xo y g x gt w lg lb := by
  funext i
  idx_vars i
  unfold xo N
  pointwise [val_main_v35, val_main_v34, val_main_v33, val_main_v32, val_main_v31, val_main_v30, val_main_v29, val_main_v28, val_main_v27, val_main_v26, val_main_v25, val_main_cst_4, val_main_v24, val_main_v23, val_main_v22, val_main_v21, val_main_cst_3, val_main_v20, val_main_v19, val_main_cst_2, val_main_v18, val_main_v17, val_main_v16, val_main_v15, val_main_v14, val_main_cst_1, val_main_v13, val_main_v12, val_main_cst_0, ref_q]

end Cert.OutFMath
end
-- ==== Proof.OutFArray.lean ====
/-
  What the forward out-projection's kernel leaves in its two result arrays: the plain mathematics of `OutFMath`.
-/
module

public import proofs.«01_k».proof.Proof.Gen.OutFIdeal.Value
public import proofs.«01_k».proof.Proof.OutFMath
public import Idealize.ShloMosaic.Lib.Pipeline.ValueKit
public import Idealize.ShloMosaic.Lib.Pipeline.ReadBack

@[expose] public section

noncomputable section

namespace Cert.OutFIdeal.Value

open Cert.OutFIdeal Cert.OutFIdeal.Gen Idealize.ShloMosaic Idealize.ShloMosaic.TcCoe Idealize.SL.Sem
open Cert.OutFMath (Z B N Q)

variable (m : (ℓ : Loc nD τ sig) → Buf (Elt Ideal) ℓ)

/-- Argument 0 on device `c`: the recurrence's output. -/
abbrev A0 (c : Dev nD) : Vec Ideal S8192x2048 .f32 := m (c.tc.loc main_arg0)
/-- Argument 1 on device `c`: the gate. -/
abbrev A1 (c : Dev nD) : Vec Ideal S8192x2048 .f32 := m (c.tc.loc main_arg1)
/-- Argument 2 on device `c`: the block's input. -/
abbrev A2 (c : Dev nD) : Vec Ideal S8192x1024 .f32 := m (c.tc.loc main_arg2)
/-- Argument 3 on device `c`: the branch's gate from adaLN. -/
abbrev A3 (c : Dev nD) : Vec Ideal S1024 .f32 := m (c.tc.loc main_arg3)
/-- Argument 4 on device `c`: the weight. -/
abbrev A4 (c : Dev nD) : Vec Ideal S2048x1024 .f32 := m (c.tc.loc main_arg4)
/-- Argument 5 on device `c`: the layer norm's scale. -/
abbrev A5 (c : Dev nD) : Vec Ideal S1024 .f32 := m (c.tc.loc main_arg5)
/-- Argument 6 on device `c`: the layer norm's shift. -/
abbrev A6 (c : Dev nD) : Vec Ideal S1024 .f32 := m (c.tc.loc main_arg6)

theorem row_lt (t : Fin cfg0.N) (r : Fin 512) : t.val * 512 + r.val < 8192 := by
  have := t.isLt; have : cfg0.N = 16 := N_0; omega

/-- Row `r` of grid point `t`'s block. -/
abbrev row (t : Fin cfg0.N) (r : Fin 512) : Fin 8192 := ⟨t.val * 512 + r.val, row_lt t r⟩

theorem lane_lt (a : Fin 16) (k : Fin 128) : a.val * 128 + k.val < 2048 := by omega

theorem index0 : ∀ t : Fin cfg0.N, win0_0.index t 0 = 0 ∧ win0_0.index t 1 = t.val ∧ win0_0.index t 2 = 0 := (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 := (by decide +kernel : ∀ t : Fin grid0.N, win0_1.index t 0 = 0 ∧ win0_1.index t 1 = t.val ∧ win0_1.index t 2 = 0)
theorem index2 : ∀ t : Fin cfg0.N, win0_2.index t 0 = t.val ∧ win0_2.index t 1 = 0 := (by decide +kernel : ∀ t : Fin grid0.N, win0_2.index t 0 = t.val ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 := (by decide +kernel : ∀ t : Fin grid0.N, win0_4.index t 0 = 0 ∧ win0_4.index t 1 = 0)
theorem index5 : ∀ t : Fin cfg0.N, win0_5.index t 0 = 0 ∧ win0_5.index t 1 = 0 := (by decide +kernel : ∀ t : Fin grid0.N, win0_5.index t 0 = 0 ∧ win0_5.index t 1 = 0)
theorem index6 : ∀ t : Fin cfg0.N, win0_6.index t 0 = 0 ∧ win0_6.index t 1 = 0 := (by decide +kernel : ∀ t : Fin grid0.N, win0_6.index t 0 = 0 ∧ win0_6.index t 1 = 0)
theorem index7 : ∀ t : Fin cfg0.N, win0_7.index t 0 = t.val ∧ win0_7.index t 1 = 0 := (by decide +kernel : ∀ t : Fin grid0.N, win0_7.index t 0 = t.val ∧ win0_7.index t 1 = 0)
theorem index8 : ∀ t : Fin cfg0.N, win0_8.index t 0 = t.val ∧ win0_8.index t 1 = 0 := (by decide +kernel : ∀ t : Fin grid0.N, win0_8.index t 0 = t.val ∧ win0_8.index t 1 = 0)

/-- The recurrence's output, a row block, its columns in groups of 128 lanes. -/
theorem blk0 (c : Dev nD) (t : Fin cfg0.N) (a : Fin 16) (r : Fin 512) (k : Fin 128) :
    (iblk m c 0 t : Vec Ideal S16x512x128 .bf16) (ix3 a r k) = A0 m c (ix2 (row t r) ⟨a.val * 128 + k.val, lane_lt a k⟩) := by
  blk_simp [iblk, index0 t]
  entry_read
  pointwise
  blk_point [index0 t]
/-- The gate, a row block, its columns in groups of 128 lanes. -/
theorem blk1 (c : Dev nD) (t : Fin cfg0.N) (a : Fin 16) (r : Fin 512) (k : Fin 128) :
    (iblk m c 1 t : Vec Ideal S16x512x128 .bf16) (ix3 a r k) = A1 m c (ix2 (row t r) ⟨a.val * 128 + k.val, lane_lt a k⟩) := by
  blk_simp [iblk, index1 t]
  entry_read
  pointwise
  blk_point [index1 t]
/-- The block's input, a row block. -/
theorem blk2 (c : Dev nD) (t : Fin cfg0.N) (r : Fin 512) (d : Fin 1024) :
    (iblk m c 2 t : Vec Ideal S512x1024 .f32) (ix2 r d) = A2 m c (ix2 (row t r) d) := by
  blk_ext! [iblk, index2 t]
/-- The branch's gate. -/
theorem blk3 (c : Dev nD) (t : Fin cfg0.N) (r : Fin 1) (d : Fin 1024) :
    (iblk m c 3 t : Vec Ideal S1x1024 .f32) (ix2 r d) = A3 m c (ix1 d) := by
  blk_simp [iblk, index3 t]
  entry_read
  pointwise
  blk_point [index3 t]
/-- The layer norm's scale. -/
theorem blk5 (c : Dev nD) (t : Fin cfg0.N) (r : Fin 1) (d : Fin 1024) :
    (iblk m c 5 t : Vec Ideal S1x1024 .f32) (ix2 r d) = A5 m c (ix1 d) := by
  blk_simp [iblk, index5 t]
  entry_read
  pointwise
  blk_point [index5 t]
/-- The layer norm's shift. -/
theorem blk6 (c : Dev nD) (t : Fin cfg0.N) (r : Fin 1) (d : Fin 1024) :
    (iblk m c 6 t : Vec Ideal S1x1024 .f32) (ix2 r d) = A6 m c (ix1 d) := by
  blk_simp [iblk, index6 t]
  entry_read
  pointwise
  blk_point [index6 t]
/-- The weight. -/
theorem blk4 (c : Dev nD) (t : Fin cfg0.N) (k : Fin 2048) (d : Fin 1024) :
    (iblk m c 4 t : Vec Ideal S2048x1024 .bf16) (ix2 k d) = A4 m c (ix2 k d) := by
  blk_simp [iblk, index4 t]
  entry_read
  pointwise
  blk_point [index4 t]

/-- One group of 128 lanes of the gated activation, from the group of the output and of the gate. -/
def gl (a b : Vec Ideal S1x512x128 .bf16) : FVec Ideal S512x128 .bf16 :=
  fun i => a (ix3 0 (i 0) (i 1)) * (b (ix3 0 (i 0) (i 1)) * Ideal.logistic (b (ix3 0 (i 0) (i 1))))

/-- Group 0 as the kernel forms it. -/
theorem gl0 (a b : Vec Ideal S1x512x128 .bf16) : k0_pay2 a b = gl a b := by
  funext i
  idx_vars i
  unfold gl
  pointwise [k0_pay2]
  rw [Cert.OutFMath.gate_half]
/-- Group 1 as the kernel forms it. -/
theorem gl1 (a b : Vec Ideal S1x512x128 .bf16) : k0_pay3 a b = gl a b := by
  funext i
  idx_vars i
  unfold gl
  pointwise [k0_pay3]
  rw [Cert.OutFMath.gate_half]
/-- Group 2 as the kernel forms it. -/
theorem gl2 (a b : Vec Ideal S1x512x128 .bf16) : k0_pay5 (k0_pay4 a) b = gl a b := by
  funext i
  idx_vars i
  unfold gl
  pointwise [k0_pay5, k0_pay4]
  rw [Cert.OutFMath.gate_half]
/-- Group 3 as the kernel forms it. -/
theorem gl3 (a b : Vec Ideal S1x512x128 .bf16) : k0_pay6 a b = gl a b := by
  funext i
  idx_vars i
  unfold gl
  pointwise [k0_pay6]
  rw [Cert.OutFMath.gate_half]
/-- Group 4 as the kernel forms it. -/
theorem gl4 (a b : Vec Ideal S1x512x128 .bf16) : k0_pay10 (k0_pay7 a) (k0_pay8 b) (k0_pay9 b) = gl a b := by
  funext i
  idx_vars i
  unfold gl
  pointwise [k0_pay10, k0_pay7, k0_pay8, k0_pay9]
  rw [Cert.OutFMath.gate_half]
/-- Group 5 as the kernel forms it. -/
theorem gl5 (a b : Vec Ideal S1x512x128 .bf16) : k0_pay11 a b = gl a b := by
  funext i
  idx_vars i
  unfold gl
  pointwise [k0_pay11]
  rw [Cert.OutFMath.gate_half]
/-- Group 6 as the kernel forms it. -/
theorem gl6 (a b : Vec Ideal S1x512x128 .bf16) : k0_pay12 a b = gl a b := by
  funext i
  idx_vars i
  unfold gl
  pointwise [k0_pay12]
  rw [Cert.OutFMath.gate_half]
/-- Group 7 as the kernel forms it. -/
theorem gl7 (a b : Vec Ideal S1x512x128 .bf16) : k0_pay13 a b = gl a b := by
  funext i
  idx_vars i
  unfold gl
  pointwise [k0_pay13]
  rw [Cert.OutFMath.gate_half]
/-- Group 8 as the kernel forms it. -/
theorem gl8 (a b : Vec Ideal S1x512x128 .bf16) : k0_pay14 a b = gl a b := by
  funext i
  idx_vars i
  unfold gl
  pointwise [k0_pay14]
  rw [Cert.OutFMath.gate_half]
/-- Group 9 as the kernel forms it. -/
theorem gl9 (a b : Vec Ideal S1x512x128 .bf16) : k0_pay18 (k0_pay15 a) (k0_pay16 b) k0_pay17 = gl a b := by
  funext i
  idx_vars i
  unfold gl
  pointwise [k0_pay18, k0_pay15, k0_pay16, k0_pay17]
  rw [Cert.OutFMath.gate_half]
/-- Group 10 as the kernel forms it. -/
theorem gl10 (a b : Vec Ideal S1x512x128 .bf16) : k0_pay19 a b = gl a b := by
  funext i
  idx_vars i
  unfold gl
  pointwise [k0_pay19]
  rw [Cert.OutFMath.gate_half]
/-- Group 11 as the kernel forms it. -/
theorem gl11 (a b : Vec Ideal S1x512x128 .bf16) : k0_pay21 (k0_pay20 a b) = gl a b := by
  funext i
  idx_vars i
  unfold gl
  pointwise [k0_pay21, k0_pay20]
  rw [Cert.OutFMath.gate_half]
/-- Group 12 as the kernel forms it. -/
theorem gl12 (a b : Vec Ideal S1x512x128 .bf16) : k0_pay22 a b = gl a b := by
  funext i
  idx_vars i
  unfold gl
  pointwise [k0_pay22]
  rw [Cert.OutFMath.gate_half]
/-- Group 13 as the kernel forms it. -/
theorem gl13 (a b : Vec Ideal S1x512x128 .bf16) : k0_pay23 a b = gl a b := by
  funext i
  idx_vars i
  unfold gl
  pointwise [k0_pay23]
  rw [Cert.OutFMath.gate_half]
/-- Group 14 as the kernel forms it. -/
theorem gl14 (a b : Vec Ideal S1x512x128 .bf16) : k0_pay25 (k0_pay24 a) b = gl a b := by
  funext i
  idx_vars i
  unfold gl
  pointwise [k0_pay25, k0_pay24]
  rw [Cert.OutFMath.gate_half]
/-- Group 15 as the kernel forms it. -/
theorem gl15 (a b : Vec Ideal S1x512x128 .bf16) : k0_pay26 a b = gl a b := by
  funext i
  idx_vars i
  unfold gl
  pointwise [k0_pay26]
  rw [Cert.OutFMath.gate_half]
/-- The gated activation of a row block, as the kernel lays its 16 groups side by side. -/
abbrev zAt (c : Dev nD) (t : Fin cfg0.N) : FVec Ideal S512x2048 .bf16 :=
  k0_pay27
    (k0_pay2 (View.ld (iblk m c 0 t) (Rect.unit ![0, 0, 0] ![1, 512, 128] inb_S16x512x128_S1x512x128_0_0_0)) (View.ld (iblk m c 1 t) (Rect.unit ![0, 0, 0] ![1, 512, 128] inb_S16x512x128_S1x512x128_0_0_0)))
    (k0_pay3 (View.ld (iblk m c 0 t) (Rect.unit ![1, 0, 0] ![1, 512, 128] inb_S16x512x128_S1x512x128_1_0_0)) (View.ld (iblk m c 1 t) (Rect.unit ![1, 0, 0] ![1, 512, 128] inb_S16x512x128_S1x512x128_1_0_0)))
    (k0_pay5 (k0_pay4 (View.ld (iblk m c 0 t) (Rect.unit ![2, 0, 0] ![1, 512, 128] inb_S16x512x128_S1x512x128_2_0_0))) (View.ld (iblk m c 1 t) (Rect.unit ![2, 0, 0] ![1, 512, 128] inb_S16x512x128_S1x512x128_2_0_0)))
    (k0_pay6 (View.ld (iblk m c 0 t) (Rect.unit ![3, 0, 0] ![1, 512, 128] inb_S16x512x128_S1x512x128_3_0_0)) (View.ld (iblk m c 1 t) (Rect.unit ![3, 0, 0] ![1, 512, 128] inb_S16x512x128_S1x512x128_3_0_0)))
    (k0_pay10 (k0_pay7 (View.ld (iblk m c 0 t) (Rect.unit ![4, 0, 0] ![1, 512, 128] inb_S16x512x128_S1x512x128_4_0_0))) (k0_pay8 (View.ld (iblk m c 1 t) (Rect.unit ![4, 0, 0] ![1, 512, 128] inb_S16x512x128_S1x512x128_4_0_0))) (k0_pay9 (View.ld (iblk m c 1 t) (Rect.unit ![4, 0, 0] ![1, 512, 128] inb_S16x512x128_S1x512x128_4_0_0))))
    (k0_pay11 (View.ld (iblk m c 0 t) (Rect.unit ![5, 0, 0] ![1, 512, 128] inb_S16x512x128_S1x512x128_5_0_0)) (View.ld (iblk m c 1 t) (Rect.unit ![5, 0, 0] ![1, 512, 128] inb_S16x512x128_S1x512x128_5_0_0)))
    (k0_pay12 (View.ld (iblk m c 0 t) (Rect.unit ![6, 0, 0] ![1, 512, 128] inb_S16x512x128_S1x512x128_6_0_0)) (View.ld (iblk m c 1 t) (Rect.unit ![6, 0, 0] ![1, 512, 128] inb_S16x512x128_S1x512x128_6_0_0)))
    (k0_pay13 (View.ld (iblk m c 0 t) (Rect.unit ![7, 0, 0] ![1, 512, 128] inb_S16x512x128_S1x512x128_7_0_0)) (View.ld (iblk m c 1 t) (Rect.unit ![7, 0, 0] ![1, 512, 128] inb_S16x512x128_S1x512x128_7_0_0)))
    (k0_pay14 (View.ld (iblk m c 0 t) (Rect.unit ![8, 0, 0] ![1, 512, 128] inb_S16x512x128_S1x512x128_8_0_0)) (View.ld (iblk m c 1 t) (Rect.unit ![8, 0, 0] ![1, 512, 128] inb_S16x512x128_S1x512x128_8_0_0)))
    (k0_pay18 (k0_pay15 (View.ld (iblk m c 0 t) (Rect.unit ![9, 0, 0] ![1, 512, 128] inb_S16x512x128_S1x512x128_9_0_0))) (k0_pay16 (View.ld (iblk m c 1 t) (Rect.unit ![9, 0, 0] ![1, 512, 128] inb_S16x512x128_S1x512x128_9_0_0))) k0_pay17)
    (k0_pay19 (View.ld (iblk m c 0 t) (Rect.unit ![10, 0, 0] ![1, 512, 128] inb_S16x512x128_S1x512x128_10_0_0)) (View.ld (iblk m c 1 t) (Rect.unit ![10, 0, 0] ![1, 512, 128] inb_S16x512x128_S1x512x128_10_0_0)))
    (k0_pay21 (k0_pay20 (View.ld (iblk m c 0 t) (Rect.unit ![11, 0, 0] ![1, 512, 128] inb_S16x512x128_S1x512x128_11_0_0)) (View.ld (iblk m c 1 t) (Rect.unit ![11, 0, 0] ![1, 512, 128] inb_S16x512x128_S1x512x128_11_0_0))))
    (k0_pay22 (View.ld (iblk m c 0 t) (Rect.unit ![12, 0, 0] ![1, 512, 128] inb_S16x512x128_S1x512x128_12_0_0)) (View.ld (iblk m c 1 t) (Rect.unit ![12, 0, 0] ![1, 512, 128] inb_S16x512x128_S1x512x128_12_0_0)))
    (k0_pay23 (View.ld (iblk m c 0 t) (Rect.unit ![13, 0, 0] ![1, 512, 128] inb_S16x512x128_S1x512x128_13_0_0)) (View.ld (iblk m c 1 t) (Rect.unit ![13, 0, 0] ![1, 512, 128] inb_S16x512x128_S1x512x128_13_0_0)))
    (k0_pay25 (k0_pay24 (View.ld (iblk m c 0 t) (Rect.unit ![14, 0, 0] ![1, 512, 128] inb_S16x512x128_S1x512x128_14_0_0))) (View.ld (iblk m c 1 t) (Rect.unit ![14, 0, 0] ![1, 512, 128] inb_S16x512x128_S1x512x128_14_0_0)))
    (k0_pay26 (View.ld (iblk m c 0 t) (Rect.unit ![15, 0, 0] ![1, 512, 128] inb_S16x512x128_S1x512x128_15_0_0)) (View.ld (iblk m c 1 t) (Rect.unit ![15, 0, 0] ![1, 512, 128] inb_S16x512x128_S1x512x128_15_0_0)))

/-- Group `q` at a grid point: the group of the gated activation. -/
theorem glAt (c : Dev nD) (t : Fin cfg0.N) (q : Fin 16) (inb : ∀ a, ![q.val, 0, 0] a + ![1, 512, 128] a ≤ S16x512x128.size a) :
    gl (View.ld (iblk m c 0 t) (Rect.unit ![q.val, 0, 0] ![1, 512, 128] inb)) (View.ld (iblk m c 1 t) (Rect.unit ![q.val, 0, 0] ![1, 512, 128] inb))
      = fun i => Z (A0 m c) (A1 m c) (row t (i 0)) ⟨q.val * 128 + (i 1).val, lane_lt q (i 1)⟩ := by
  funext i
  idx_vars i
  unfold gl Z
  pointwise
  simp only [blk0, blk1]

/-- Sixteen groups side by side. -/
theorem cat16 (f : Fin 16 → FVec Ideal S512x128 .bf16) (r : Fin 512) (k : Fin 2048) :
    k0_pay27 (f 0) (f 1) (f 2) (f 3) (f 4) (f 5) (f 6) (f 7) (f 8) (f 9) (f 10) (f 11) (f 12) (f 13) (f 14) (f 15) (ix2 r k)
      = f ⟨k.val / 128, by omega⟩ (ix2 r ⟨k.val % 128, by omega⟩) := by
  unfold k0_pay27
  refine concatenate_ofFn_apply (s₁ := S512x128) (t := S512x2048) 1 f _ rfl 128 rfl (ix2 r k) ⟨k.val / 128, by omega⟩ rfl _ rfl fun b hb => ?_
  obtain ⟨b, hb'⟩ := b
  match b, hb' with
  | 0, _ => rfl
  | 1, _ => exact absurd rfl hb

/-- The groups at a grid point. -/
abbrev gAt (c : Dev nD) (t : Fin cfg0.N) (q : Fin 16) : FVec Ideal S512x128 .bf16 :=
  fun i => Z (A0 m c) (A1 m c) (row t (i 0)) ⟨q.val * 128 + (i 1).val, lane_lt q (i 1)⟩

/-- Group 0 at a grid point. -/
theorem z0 (c : Dev nD) (t : Fin cfg0.N) : (k0_pay2 (View.ld (iblk m c 0 t) (Rect.unit ![0, 0, 0] ![1, 512, 128] inb_S16x512x128_S1x512x128_0_0_0)) (View.ld (iblk m c 1 t) (Rect.unit ![0, 0, 0] ![1, 512, 128] inb_S16x512x128_S1x512x128_0_0_0))) = gAt m c t 0 :=
  (gl0 _ _).trans (glAt m c t 0 inb_S16x512x128_S1x512x128_0_0_0)
/-- Group 1 at a grid point. -/
theorem z1 (c : Dev nD) (t : Fin cfg0.N) : (k0_pay3 (View.ld (iblk m c 0 t) (Rect.unit ![1, 0, 0] ![1, 512, 128] inb_S16x512x128_S1x512x128_1_0_0)) (View.ld (iblk m c 1 t) (Rect.unit ![1, 0, 0] ![1, 512, 128] inb_S16x512x128_S1x512x128_1_0_0))) = gAt m c t 1 :=
  (gl1 _ _).trans (glAt m c t 1 inb_S16x512x128_S1x512x128_1_0_0)
/-- Group 2 at a grid point. -/
theorem z2 (c : Dev nD) (t : Fin cfg0.N) : (k0_pay5 (k0_pay4 (View.ld (iblk m c 0 t) (Rect.unit ![2, 0, 0] ![1, 512, 128] inb_S16x512x128_S1x512x128_2_0_0))) (View.ld (iblk m c 1 t) (Rect.unit ![2, 0, 0] ![1, 512, 128] inb_S16x512x128_S1x512x128_2_0_0))) = gAt m c t 2 :=
  (gl2 _ _).trans (glAt m c t 2 inb_S16x512x128_S1x512x128_2_0_0)
/-- Group 3 at a grid point. -/
theorem z3 (c : Dev nD) (t : Fin cfg0.N) : (k0_pay6 (View.ld (iblk m c 0 t) (Rect.unit ![3, 0, 0] ![1, 512, 128] inb_S16x512x128_S1x512x128_3_0_0)) (View.ld (iblk m c 1 t) (Rect.unit ![3, 0, 0] ![1, 512, 128] inb_S16x512x128_S1x512x128_3_0_0))) = gAt m c t 3 :=
  (gl3 _ _).trans (glAt m c t 3 inb_S16x512x128_S1x512x128_3_0_0)
/-- Group 4 at a grid point. -/
theorem z4 (c : Dev nD) (t : Fin cfg0.N) : (k0_pay10 (k0_pay7 (View.ld (iblk m c 0 t) (Rect.unit ![4, 0, 0] ![1, 512, 128] inb_S16x512x128_S1x512x128_4_0_0))) (k0_pay8 (View.ld (iblk m c 1 t) (Rect.unit ![4, 0, 0] ![1, 512, 128] inb_S16x512x128_S1x512x128_4_0_0))) (k0_pay9 (View.ld (iblk m c 1 t) (Rect.unit ![4, 0, 0] ![1, 512, 128] inb_S16x512x128_S1x512x128_4_0_0)))) = gAt m c t 4 :=
  (gl4 _ _).trans (glAt m c t 4 inb_S16x512x128_S1x512x128_4_0_0)
/-- Group 5 at a grid point. -/
theorem z5 (c : Dev nD) (t : Fin cfg0.N) : (k0_pay11 (View.ld (iblk m c 0 t) (Rect.unit ![5, 0, 0] ![1, 512, 128] inb_S16x512x128_S1x512x128_5_0_0)) (View.ld (iblk m c 1 t) (Rect.unit ![5, 0, 0] ![1, 512, 128] inb_S16x512x128_S1x512x128_5_0_0))) = gAt m c t 5 :=
  (gl5 _ _).trans (glAt m c t 5 inb_S16x512x128_S1x512x128_5_0_0)
/-- Group 6 at a grid point. -/
theorem z6 (c : Dev nD) (t : Fin cfg0.N) : (k0_pay12 (View.ld (iblk m c 0 t) (Rect.unit ![6, 0, 0] ![1, 512, 128] inb_S16x512x128_S1x512x128_6_0_0)) (View.ld (iblk m c 1 t) (Rect.unit ![6, 0, 0] ![1, 512, 128] inb_S16x512x128_S1x512x128_6_0_0))) = gAt m c t 6 :=
  (gl6 _ _).trans (glAt m c t 6 inb_S16x512x128_S1x512x128_6_0_0)
/-- Group 7 at a grid point. -/
theorem z7 (c : Dev nD) (t : Fin cfg0.N) : (k0_pay13 (View.ld (iblk m c 0 t) (Rect.unit ![7, 0, 0] ![1, 512, 128] inb_S16x512x128_S1x512x128_7_0_0)) (View.ld (iblk m c 1 t) (Rect.unit ![7, 0, 0] ![1, 512, 128] inb_S16x512x128_S1x512x128_7_0_0))) = gAt m c t 7 :=
  (gl7 _ _).trans (glAt m c t 7 inb_S16x512x128_S1x512x128_7_0_0)
/-- Group 8 at a grid point. -/
theorem z8 (c : Dev nD) (t : Fin cfg0.N) : (k0_pay14 (View.ld (iblk m c 0 t) (Rect.unit ![8, 0, 0] ![1, 512, 128] inb_S16x512x128_S1x512x128_8_0_0)) (View.ld (iblk m c 1 t) (Rect.unit ![8, 0, 0] ![1, 512, 128] inb_S16x512x128_S1x512x128_8_0_0))) = gAt m c t 8 :=
  (gl8 _ _).trans (glAt m c t 8 inb_S16x512x128_S1x512x128_8_0_0)
/-- Group 9 at a grid point. -/
theorem z9 (c : Dev nD) (t : Fin cfg0.N) : (k0_pay18 (k0_pay15 (View.ld (iblk m c 0 t) (Rect.unit ![9, 0, 0] ![1, 512, 128] inb_S16x512x128_S1x512x128_9_0_0))) (k0_pay16 (View.ld (iblk m c 1 t) (Rect.unit ![9, 0, 0] ![1, 512, 128] inb_S16x512x128_S1x512x128_9_0_0))) k0_pay17) = gAt m c t 9 :=
  (gl9 _ _).trans (glAt m c t 9 inb_S16x512x128_S1x512x128_9_0_0)
/-- Group 10 at a grid point. -/
theorem z10 (c : Dev nD) (t : Fin cfg0.N) : (k0_pay19 (View.ld (iblk m c 0 t) (Rect.unit ![10, 0, 0] ![1, 512, 128] inb_S16x512x128_S1x512x128_10_0_0)) (View.ld (iblk m c 1 t) (Rect.unit ![10, 0, 0] ![1, 512, 128] inb_S16x512x128_S1x512x128_10_0_0))) = gAt m c t 10 :=
  (gl10 _ _).trans (glAt m c t 10 inb_S16x512x128_S1x512x128_10_0_0)
/-- Group 11 at a grid point. -/
theorem z11 (c : Dev nD) (t : Fin cfg0.N) : (k0_pay21 (k0_pay20 (View.ld (iblk m c 0 t) (Rect.unit ![11, 0, 0] ![1, 512, 128] inb_S16x512x128_S1x512x128_11_0_0)) (View.ld (iblk m c 1 t) (Rect.unit ![11, 0, 0] ![1, 512, 128] inb_S16x512x128_S1x512x128_11_0_0)))) = gAt m c t 11 :=
  (gl11 _ _).trans (glAt m c t 11 inb_S16x512x128_S1x512x128_11_0_0)
/-- Group 12 at a grid point. -/
theorem z12 (c : Dev nD) (t : Fin cfg0.N) : (k0_pay22 (View.ld (iblk m c 0 t) (Rect.unit ![12, 0, 0] ![1, 512, 128] inb_S16x512x128_S1x512x128_12_0_0)) (View.ld (iblk m c 1 t) (Rect.unit ![12, 0, 0] ![1, 512, 128] inb_S16x512x128_S1x512x128_12_0_0))) = gAt m c t 12 :=
  (gl12 _ _).trans (glAt m c t 12 inb_S16x512x128_S1x512x128_12_0_0)
/-- Group 13 at a grid point. -/
theorem z13 (c : Dev nD) (t : Fin cfg0.N) : (k0_pay23 (View.ld (iblk m c 0 t) (Rect.unit ![13, 0, 0] ![1, 512, 128] inb_S16x512x128_S1x512x128_13_0_0)) (View.ld (iblk m c 1 t) (Rect.unit ![13, 0, 0] ![1, 512, 128] inb_S16x512x128_S1x512x128_13_0_0))) = gAt m c t 13 :=
  (gl13 _ _).trans (glAt m c t 13 inb_S16x512x128_S1x512x128_13_0_0)
/-- Group 14 at a grid point. -/
theorem z14 (c : Dev nD) (t : Fin cfg0.N) : (k0_pay25 (k0_pay24 (View.ld (iblk m c 0 t) (Rect.unit ![14, 0, 0] ![1, 512, 128] inb_S16x512x128_S1x512x128_14_0_0))) (View.ld (iblk m c 1 t) (Rect.unit ![14, 0, 0] ![1, 512, 128] inb_S16x512x128_S1x512x128_14_0_0))) = gAt m c t 14 :=
  (gl14 _ _).trans (glAt m c t 14 inb_S16x512x128_S1x512x128_14_0_0)
/-- Group 15 at a grid point. -/
theorem z15 (c : Dev nD) (t : Fin cfg0.N) : (k0_pay26 (View.ld (iblk m c 0 t) (Rect.unit ![15, 0, 0] ![1, 512, 128] inb_S16x512x128_S1x512x128_15_0_0)) (View.ld (iblk m c 1 t) (Rect.unit ![15, 0, 0] ![1, 512, 128] inb_S16x512x128_S1x512x128_15_0_0))) = gAt m c t 15 :=
  (gl15 _ _).trans (glAt m c t 15 inb_S16x512x128_S1x512x128_15_0_0)

/-- It is the gated activation. -/
theorem zAt_eq (c : Dev nD) (t : Fin cfg0.N) : zAt m c t = fun i => Z (A0 m c) (A1 m c) (row t (i 0)) (i 1) := by
  unfold zAt
  rw [z0 m c t, z1 m c t, z2 m c t, z3 m c t, z4 m c t, z5 m c t, z6 m c t, z7 m c t, z8 m c t, z9 m c t, z10 m c t, z11 m c t, z12 m c t, z13 m c t, z14 m c t, z15 m c t]
  funext i
  idx_vars i
  refine (cat16 (gAt m c t) i0 i1).trans ?_
  unfold gAt
  refine congrArg (Z (A0 m c) (A1 m c) (row t i0)) (Fin.ext ?_)
  show i1.val / 128 * 128 + i1.val % 128 = i1.val
  omega

/-- The branch of a row block as the kernel computes it. -/
abbrev brAt (c : Dev nD) (t : Fin cfg0.N) : FVec Ideal S512x1024 .f32 := k0_pay28 (zAt m c t) (iblk m c 4 t)

/-- It is the branch. -/
theorem brAt_eq (c : Dev nD) (t : Fin cfg0.N) : brAt m c t = fun i => B (A0 m c) (A1 m c) (A4 m c) (row t (i 0)) (i 1) := by
  unfold brAt
  rw [zAt_eq]
  funext i
  idx_vars i
  unfold B
  pointwise [k0_pay28]
  simp only [blk4]

/-- The branch at a grid point. -/
theorem out7 (c : Dev nD) (t : Fin cfg0.N) : (outsAt0 m c t).1 = fun i : S512x1024.Idx => B (A0 m c) (A1 m c) (A4 m c) (row t (i 0)) (i 1) := by
  unfold outsAt0
  dsimp only
  frame_out
  exact brAt_eq m c t

/-- The first result's array. -/
theorem arr7 (c : Dev nD) : (dats m 0 c).arrAt 7 cfg0.N = Cert.OutFMath.br (A0 m c) (A1 m c) (A4 m c) := by
  refine (dats m 0 c).arrAt_eq_of_covers 7 _ (by decide +kernel) fun t hf y => ?_
  blk_simp
  rw [after0_7, out7]
  idx_vars y
  have he : ((win0_7.blk t).view.emb (ix2 y0 y1) : S8192x1024.Idx) = ix2 (row t y0) y1 := by
    blk_ext [index7 t]
  rw [he]
  rfl

end Cert.OutFIdeal.Value
end
-- ==== Proof.OutFLoop.lean ====
/-
  What the forward out-projection's kernel leaves in its second result array: four trips of a loop, each the layer
  norm of 128 rows.
-/
module

public import proofs.«01_k».proof.Proof.OutFArray

@[expose] public section

noncomputable section

namespace Cert.OutFIdeal.Value

open Cert.OutFIdeal Cert.OutFIdeal.Gen Idealize.ShloMosaic Idealize.ShloMosaic.TcCoe Idealize.SL.Sem
open Cert.OutFMath (Z B N Q)

variable (m : (ℓ : Loc nD τ sig) → Buf (Elt Ideal) ℓ)

theorem trips_eq : k0_t1_loop.trips = 4 := by decide +kernel
theorem off_eq : ∀ k : Fin k0_t1_loop.trips, k0_off1 k 0 = k.val * 128 ∧ k0_off1 k 1 = 0 := by decide +kernel

/-- The pieces of the loop's first `n` trips at a grid point. -/
abbrev pbAt (c : Dev nD) (t : Fin cfg0.N) (n : ℕ) : List (View.Piece (Elt Ideal) S512x1024 .f32) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (0#32) ((hs0_2 t).unread (iblk m c 2 t)) ((hs0_3 t).unread (iblk m c 3 t))
    ((hs0_5 t).unread (iblk m c 5 t)) ((hs0_6 t).unread (iblk m c 6 t)) ((ms0_7 t).view.writes (Elt Ideal) (ms0_7 t).view.junk
      [⟨Rect.unit ![0, 0] ![512, 1024] inb_S512x1024_S512x1024_0_0, brAt m c t⟩]) n

/-- The rectangle trip `k` stores. -/
abbrev rk (k : Fin k0_t1_loop.trips) : Rect S512x1024 := Rect.unit (k0_off1 k) S128x1024.size (k0_off1_inb k)

/-- The piece trip `k` stores. -/
abbrev pk (c : Dev nD) (t : Fin cfg0.N) (k : Fin k0_t1_loop.trips) : View.Piece (Elt Ideal) S512x1024 .f32 :=
  ⟨rk k, k0_pay1 (View.ld (iblk m c 2 t) (rk k)) (iblk m c 3 t) (View.ld (brAt m c t) (rk k)) (iblk m c 5 t) (iblk m c 6 t)⟩

/-- One more trip puts its piece in front. -/
theorem pbAt_succ (c : Dev nD) (t : Fin cfg0.N) (k : Fin k0_t1_loop.trips) : pbAt m c t (k.val + 1) = pk m c t k :: pbAt m c t k.val := by
  unfold pbAt
  rw [pb_k0_t1_succ]
  generalize pb_k0_t1 (F := Ideal) _ _ _ _ _ _ _ _ _ _ _ _ _ _ _ _ _ _ _ _ _ _ _ _ _ _ _ _ _ = L
  refine congrArg (fun l => l ++ L) (a₂ := [pk m c t k]) ?_
  unfold tripL_k0_t1 trip_k0_t1
  dsimp only
  frame_out
  rfl

theorem rr_lt (k : Fin k0_t1_loop.trips) (r : Fin 128) : k.val * 128 + r.val < 512 := by
  have := k.isLt; have := trips_eq; omega

/-- Row `r` of trip `k`'s block. -/
abbrev rr (k : Fin k0_t1_loop.trips) (r : Fin 128) : Fin 512 := ⟨k.val * 128 + r.val, rr_lt k r⟩

/-- Where trip `k`'s rectangle puts an index. -/
theorem rk_emb (k : Fin k0_t1_loop.trips) (r : Fin 128) (d : Fin 1024) :
    ((rk k).emb (ix2 r d : S128x1024.Idx) : S512x1024.Idx) = ix2 (rr k r) d := by
  funext a
  obtain ⟨a, ha⟩ := a
  match a, ha with
  | 0, _ => exact Fin.ext (by show k0_off1 k 0 + 1 * r.val = _; rw [(off_eq k).1]; simp)
  | 1, _ => exact Fin.ext (by show k0_off1 k 1 + 1 * d.val = _; rw [(off_eq k).2]; simp)

/-- A load of trip `k`'s rectangle. -/
theorem ld_rk (X : Vec Ideal S512x1024 .f32) (k : Fin k0_t1_loop.trips) (r : Fin 128) (d : Fin 1024) :
    View.ld X (rk k) (ix2 r d : S128x1024.Idx) = X (ix2 (rr k r) d) :=
  congrArg X (rk_emb k r d)

/-- The block's output at a grid point. -/
abbrev G8 (c : Dev nD) (t : Fin cfg0.N) : Vec Ideal S512x1024 .f32 :=
  fun i => N (Q (A0 m c) (A1 m c) (A2 m c) (A3 m c) (A4 m c) (row t (i 0))) (A5 m c) (A6 m c) (i 1)

/-- Trip `k`'s piece is its block of that. -/
theorem pk_val (c : Dev nD) (t : Fin cfg0.N) (k : Fin k0_t1_loop.trips) (r : Fin 128) (d : Fin 1024) :
    (pk m c t k).2 (ix2 r d : S128x1024.Idx) = G8 m c t (ix2 (rr k r) d) := by
  unfold pk G8
  dsimp only
  generalize hx : View.ld (iblk m c 2 t) (rk k) = X
  generalize hb : View.ld (Val := Elt Ideal) (e' := .f32) (brAt m c t) (rk k) = Y
  have hX : ∀ (r : Fin 128) (d : Fin 1024), (X : Vec Ideal S128x1024 .f32) (ix2 r d) = A2 m c (ix2 (row t (rr k r)) d) := fun r d => by
    rw [← hx]; exact (ld_rk _ k r d).trans (blk2 m c t _ d)
  have hY : ∀ (r : Fin 128) (d : Fin 1024), (Y : Vec Ideal S128x1024 .f32) (ix2 r d) = B (A0 m c) (A1 m c) (A4 m c) (row t (rr k r)) d := fun r d => by
    rw [← hb]; exact (ld_rk _ k r d).trans (congrFun (brAt_eq m c t) _)
  unfold N Q
  pointwise [k0_pay1]
  simp only [hX, hY, blk3, blk5, blk6]

/-- Every piece of the first `n` trips is a block of the output. -/
theorem pb_val (c : Dev nD) (t : Fin cfg0.N) : ∀ n, n ≤ k0_t1_loop.trips →
    ∀ p ∈ pbAt m c t n, ∀ x : p.1.shape.Idx, p.2 x = G8 m c t (p.1.emb x)
  | 0, _, p, hp => by
    unfold pbAt at hp; rw [pb_k0_t1.eq_1] at hp; exact absurd hp List.not_mem_nil
  | n + 1, hn, p, hp => by
    have e := pbAt_succ m c t ⟨n, hn⟩
    dsimp only at e
    rw [e] at hp
    rcases List.mem_cons.mp hp with rfl | hp
    · intro x
      have hx : x = (ix2 (x 0) (x 1) : S128x1024.Idx) := by funext a; obtain ⟨a, ha⟩ := a; match a, ha with | 0, _ => rfl | 1, _ => rfl
      rw [hx]
      exact (pk_val m c t ⟨n, hn⟩ (x 0) (x 1)).trans (congrArg (G8 m c t) (rk_emb ⟨n, hn⟩ (x 0) (x 1)).symm)
    · exact pb_val c t n (Nat.le_of_succ_le hn) p hp

/-- Trip `k`'s piece is among them. -/
theorem pb_mem (c : Dev nD) (t : Fin cfg0.N) : ∀ n, n ≤ k0_t1_loop.trips → ∀ k : Fin k0_t1_loop.trips, k.val < n → pk m c t k ∈ pbAt m c t n
  | 0, _, k, hk => absurd hk (Nat.not_lt_zero _)
  | n + 1, hn, k, hk => by
    have e := pbAt_succ m c t ⟨n, hn⟩
    dsimp only at e
    rw [e]
    rcases Nat.lt_succ_iff_lt_or_eq.mp hk with hk | hk
    · exact List.mem_cons_of_mem _ (pb_mem c t n (Nat.le_of_succ_le hn) k hk)
    · have hke : k = ⟨n, hn⟩ := Fin.ext hk
      rw [hke]
      exact List.mem_cons_self

/-- The block's output at a grid point is what the four trips leave. -/
theorem out8 (c : Dev nD) (t : Fin cfg0.N) : (outsAt0 m c t).2 = G8 m c t := by
  unfold outsAt0
  dsimp only
  frame_out
  change View.canon (pbAt m c t k0_t1_loop.trips) = _
  funext y
  idx_vars y
  have hk : y0.val / 128 < k0_t1_loop.trips := by rw [trips_eq]; omega
  have he : ix2 y0 y1 = (rk ⟨y0.val / 128, hk⟩).emb (ix2 ⟨y0.val % 128, Nat.mod_lt _ (by norm_num)⟩ y1 : S128x1024.Idx) := by
    rw [rk_emb]
    refine congrArg (fun r => ix2 r y1) (Fin.ext ?_)
    show y0.val = y0.val / 128 * 128 + y0.val % 128
    omega
  refine (congrArg (fun l => View.canon l (ix2 y0 y1)) (List.append_nil _).symm).trans
    (View.canon_append_of_pieces (G8 m c t) [] (pbAt m c t k0_t1_loop.trips) (pb_val m c t _ le_rfl) (ix2 y0 y1)
      ⟨_, pb_mem m c t _ le_rfl ⟨y0.val / 128, hk⟩ hk, ?_⟩)
  rw [he]
  exact (rk ⟨y0.val / 128, hk⟩).idx_mem _

/-- The second result's array. -/
theorem arr8 (c : Dev nD) : (dats m 0 c).arrAt 8 cfg0.N = Cert.OutFMath.xo (A0 m c) (A1 m c) (A2 m c) (A3 m c) (A4 m c) (A5 m c) (A6 m c) := by
  refine (dats m 0 c).arrAt_eq_of_covers 8 _ (by decide +kernel) fun t hf y => ?_
  blk_simp
  rw [after0_8, out8]
  idx_vars y
  have he : ((win0_8.blk t).view.emb (ix2 y0 y1) : S8192x1024.Idx) = ix2 (row t y0) y1 := by
    blk_ext [index8 t]
  rw [he]
  rfl

end Cert.OutFIdeal.Value
end
-- ==== Proof.OutFClaim.lean ====
/-
  The claims about the forward out-projection with its block end: the frames of the kernel, of its idealization and of the reference, and
  the equality of the two over the extended reals.
-/
module

public import proofs.«01_k».proof.Defs
public import proofs.«01_k».proof.Proof.Gen.OutF.Frame
public import proofs.«01_k».proof.Proof.OutFLoop
public import Idealize.ShloMosaic.Adequacy
public import Idealize.ShloMosaic.Init

@[expose] public section

noncomputable section

namespace Cert.Proof.OutF

open Idealize.ShloMosaic Idealize.SL.Sem

/-- The kernel runs, keeps its arguments and leaves every semaphore at zero. -/
theorem frame_kernel : Cert.quiescent_OutF := fun m ρ _ => Cert.OutF.Gen.frame m ρ

/-- So does its idealization. -/
theorem frame_ideal : Cert.quiescent_OutFIdeal := fun m ρ _ => Cert.OutFIdeal.Gen.frame m ρ

/-- So does the reference, which has no semaphore. -/
theorem frame_ref : Cert.quiescent_OutFRefIdeal := fun m ρ _ =>
  (θ_run _ _ _).mono (fun r h => ⟨fun c => (h c).2.2, Idealize.ShloMosaic.sem_eq_zero_of_no_sems (by decide) r.2⟩)
    (Cert.OutFRefIdeal.Value.run m ρ)

/-- No rewrite was made on the way to the idealization. -/
theorem preserves : Cert.preserves_OutF_OutFIdeal := trivial

/-- Kernel and reference end with equal results: the branch and the block's output. -/
theorem algebraic : Cert.algebraic_OutFIdeal_OutFRefIdeal := by
  intro m g m' g' _ hargs
  refine ⟨fun c => Cert.OutFMath.br (m (c.tc.loc Cert.OutFIdeal.main_arg0)) (m (c.tc.loc Cert.OutFIdeal.main_arg1)) (m (c.tc.loc Cert.OutFIdeal.main_arg4)),
    fun c => Cert.OutFMath.xo (m (c.tc.loc Cert.OutFIdeal.main_arg0)) (m (c.tc.loc Cert.OutFIdeal.main_arg1)) (m (c.tc.loc Cert.OutFIdeal.main_arg2)) (m (c.tc.loc Cert.OutFIdeal.main_arg3)) (m (c.tc.loc Cert.OutFIdeal.main_arg4)) (m (c.tc.loc Cert.OutFIdeal.main_arg5)) (m (c.tc.loc Cert.OutFIdeal.main_arg6)),
    (θ_run _ _ _).mono (fun r h c => ?_) (Cert.OutFIdeal.Value.run_blocks m g),
    (θ_run _ _ _).mono (fun r h c => ?_) (Cert.OutFRefIdeal.Value.run m' g')⟩
  · obtain ⟨h0, h1, hr⟩ := h c
    exact ⟨h0.trans (Cert.OutFIdeal.Value.arr7 m c), h1.trans (Cert.OutFIdeal.Value.arr8 m c), hr⟩
  · obtain ⟨h0, h1, hr⟩ := h c
    obtain ⟨a0, a1, a2, a3, a4, a5, a6⟩ := hargs c
    refine ⟨h0.trans ?_, h1.trans ?_, hr⟩
    · rw [a0, a1, a4]; exact Cert.OutFMath.ref_br _ _ _
    · rw [Cert.OutFRefIdeal.Read.val_main_v35_eq, a0, a1, a2, a3, a4, a5, a6]; exact Cert.OutFMath.ref_xo _ _ _ _ _ _ _

end Cert.Proof.OutF

end
-- ==== Proof.OutWBody.lean ====
/- The body of the call `OutW` with its values named: each value it computes is a definition over the
   values read before it, and the printed body is the sequence of loads, values and stores. -/
module

public import proofs.«01_k».proof.Proof.Gen.OutWIdeal.Frame

@[expose] public section

set_option maxRecDepth 16384

noncomputable section

namespace Cert.OutWIdeal.Step

open Cert.OutWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A value of the body, from the values read before it. -/
noncomputable def k0_pay1 (v261 : FVec F S4x512x1024 .f32) (v265 : FVec F S4x512x1024 .f32) : FVec F S4x512x1024 .f32 :=
  have v266 : FVec F S4x512x1024 .f32 := addf v261 v265
  v266

/-- A value of the body, from the values read before it. -/
noncomputable def k0_pay2 : FVec F S4x512x1024 .f32 :=
  have cst_137 : F .f32 := Scalar.ofBits .f32 0x00000000#32
  have v268 : FVec F S4x512x1024 .f32 := broadcast S4x512x1024 cst_137
  v268

/-- One group of 128 lanes of the gated activation, from the group of the output and of the gate. -/
noncomputable def lane (v3 v6 : Vec F S1x1024x128 .bf16) : FVec F S1024x128 .bf16 :=
  have v4 : FVec F S1024x128 .bf16 := shapeCast S1024x128 v3 shapeCasts_S1x1024x128_S1024x128
  have v5 : FVec F S1024x128 .f32 := extf .f32 v4 bitsLt_bf16_f32
  have v7 : FVec F S1024x128 .bf16 := shapeCast S1024x128 v6 shapeCasts_S1x1024x128_S1024x128
  have v8 : FVec F S1024x128 .f32 := extf .f32 v7 bitsLt_bf16_f32
  have cst : F .f32 := Scalar.ofBits .f32 0x3F000000#32
  have v9 : FVec F S1024x128 .f32 := broadcast S1024x128 cst
  have v10 : FVec F S1024x128 .f32 := mulf v9 v8
  have v11 : FVec F S1024x128 .f32 := tanh v10
  have cst_6 : F .f32 := Scalar.ofBits .f32 0x3F800000#32
  have v12 : FVec F S1024x128 .f32 := broadcast S1024x128 cst_6
  have v13 : FVec F S1024x128 .f32 := addf v11 v12
  have cst_7 : F .f32 := Scalar.ofBits .f32 0x3F000000#32
  have v14 : FVec F S1024x128 .f32 := broadcast S1024x128 cst_7
  have v15 : FVec F S1024x128 .f32 := mulf v14 v13
  have v16 : FVec F S1024x128 .f32 := mulf v8 v15
  have v17 : FVec F S1024x128 .f32 := mulf v5 v16
  have v18 : FVec F S1024x128 .bf16 := truncf .bf16 v17 bitsLt_bf16_f32
  v18

/-- A value of the body, from the values read before it. -/
noncomputable def k0_pay7 (v67 : Vec F S1x1024x128 .bf16) : FVec F S1024x128 .f32 :=
  have v68 : FVec F S1024x128 .bf16 := shapeCast S1024x128 v67 shapeCasts_S1x1024x128_S1024x128
  have v69 : FVec F S1024x128 .f32 := extf .f32 v68 bitsLt_bf16_f32
  v69

/-- A value of the body, from the values read before it. -/
noncomputable def k0_pay8 (v70 : Vec F S1x1024x128 .bf16) : FVec F S1024x128 .f32 :=
  have v71 : FVec F S1024x128 .bf16 := shapeCast S1024x128 v70 shapeCasts_S1x1024x128_S1024x128
  have v72 : FVec F S1024x128 .f32 := extf .f32 v71 bitsLt_bf16_f32
  v72

/-- A value of the body, from the values read before it. -/
noncomputable def k0_pay9 (v69 : FVec F S1024x128 .f32) (v72 : FVec F S1024x128 .f32) (cst_37 : F .f32) : FVec F S1024x128 .bf16 :=
  have v73 : FVec F S1024x128 .f32 := broadcast S1024x128 cst_37
  have v74 : FVec F S1024x128 .f32 := mulf v73 v72
  have v75 : FVec F S1024x128 .f32 := tanh v74
  have cst_38 : F .f32 := Scalar.ofBits .f32 0x3F800000#32
  have v76 : FVec F S1024x128 .f32 := broadcast S1024x128 cst_38
  have v77 : FVec F S1024x128 .f32 := addf v75 v76
  have cst_39 : F .f32 := Scalar.ofBits .f32 0x3F000000#32
  have v78 : FVec F S1024x128 .f32 := broadcast S1024x128 cst_39
  have v79 : FVec F S1024x128 .f32 := mulf v78 v77
  have v80 : FVec F S1024x128 .f32 := mulf v72 v79
  have v81 : FVec F S1024x128 .f32 := mulf v69 v80
  have v82 : FVec F S1024x128 .bf16 := truncf .bf16 v81 bitsLt_bf16_f32
  v82

/-- A value of the body, from the values read before it. -/
noncomputable def k0_pay11 (v99 : Vec F S1x1024x128 .bf16) : FVec F S1024x128 .f32 :=
  have v100 : FVec F S1024x128 .bf16 := shapeCast S1024x128 v99 shapeCasts_S1x1024x128_S1024x128
  have v101 : FVec F S1024x128 .f32 := extf .f32 v100 bitsLt_bf16_f32
  v101

/-- A value of the body, from the values read before it. -/
noncomputable def k0_pay12 (v102 : Vec F S1x1024x128 .bf16) : FVec F S1024x128 .f32 :=
  have v103 : FVec F S1024x128 .bf16 := shapeCast S1024x128 v102 shapeCasts_S1x1024x128_S1024x128
  have v104 : FVec F S1024x128 .f32 := extf .f32 v103 bitsLt_bf16_f32
  have cst_53 : F .f32 := Scalar.ofBits .f32 0x3F000000#32
  have v105 : FVec F S1024x128 .f32 := broadcast S1024x128 cst_53
  have v106 : FVec F S1024x128 .f32 := mulf v105 v104
  have v107 : FVec F S1024x128 .f32 := tanh v106
  have cst_54 : F .f32 := Scalar.ofBits .f32 0x3F800000#32
  have v108 : FVec F S1024x128 .f32 := broadcast S1024x128 cst_54
  have v109 : FVec F S1024x128 .f32 := addf v107 v108
  have cst_55 : F .f32 := Scalar.ofBits .f32 0x3F000000#32
  have v110 : FVec F S1024x128 .f32 := broadcast S1024x128 cst_55
  have v111 : FVec F S1024x128 .f32 := mulf v110 v109
  have v112 : FVec F S1024x128 .f32 := mulf v104 v111
  v112

/-- A value of the body, from the values read before it. -/
noncomputable def k0_pay13 (v101 : FVec F S1024x128 .f32) (v112 : FVec F S1024x128 .f32) : FVec F S1024x128 .bf16 :=
  have v113 : FVec F S1024x128 .f32 := mulf v101 v112
  have v114 : FVec F S1024x128 .bf16 := truncf .bf16 v113 bitsLt_bf16_f32
  v114

/-- A value of the body, from the values read before it. -/
noncomputable def k0_pay16 (v147 : Vec F S1x1024x128 .bf16) : FVec F S1024x128 .f32 :=
  have v148 : FVec F S1024x128 .bf16 := shapeCast S1024x128 v147 shapeCasts_S1x1024x128_S1024x128
  have v149 : FVec F S1024x128 .f32 := extf .f32 v148 bitsLt_bf16_f32
  v149

/-- A value of the body, from the values read before it. -/
noncomputable def k0_pay17 (v149 : FVec F S1024x128 .f32) (v150 : Vec F S1x1024x128 .bf16) : FVec F S1024x128 .bf16 :=
  have v151 : FVec F S1024x128 .bf16 := shapeCast S1024x128 v150 shapeCasts_S1x1024x128_S1024x128
  have v152 : FVec F S1024x128 .f32 := extf .f32 v151 bitsLt_bf16_f32
  have cst_77 : F .f32 := Scalar.ofBits .f32 0x3F000000#32
  have v153 : FVec F S1024x128 .f32 := broadcast S1024x128 cst_77
  have v154 : FVec F S1024x128 .f32 := mulf v153 v152
  have v155 : FVec F S1024x128 .f32 := tanh v154
  have cst_78 : F .f32 := Scalar.ofBits .f32 0x3F800000#32
  have v156 : FVec F S1024x128 .f32 := broadcast S1024x128 cst_78
  have v157 : FVec F S1024x128 .f32 := addf v155 v156
  have cst_79 : F .f32 := Scalar.ofBits .f32 0x3F000000#32
  have v158 : FVec F S1024x128 .f32 := broadcast S1024x128 cst_79
  have v159 : FVec F S1024x128 .f32 := mulf v158 v157
  have v160 : FVec F S1024x128 .f32 := mulf v152 v159
  have v161 : FVec F S1024x128 .f32 := mulf v149 v160
  have v162 : FVec F S1024x128 .bf16 := truncf .bf16 v161 bitsLt_bf16_f32
  v162

/-- A value of the body, from the values read before it. -/
noncomputable def k0_pay19 (v179 : Vec F S1x1024x128 .bf16) : FVec F S1024x128 .f32 :=
  have v180 : FVec F S1024x128 .bf16 := shapeCast S1024x128 v179 shapeCasts_S1x1024x128_S1024x128
  have v181 : FVec F S1024x128 .f32 := extf .f32 v180 bitsLt_bf16_f32
  v181

/-- A value of the body, from the values read before it. -/
noncomputable def k0_pay20 (v182 : Vec F S1x1024x128 .bf16) : FVec F S1024x128 .f32 :=
  have v183 : FVec F S1024x128 .bf16 := shapeCast S1024x128 v182 shapeCasts_S1x1024x128_S1024x128
  have v184 : FVec F S1024x128 .f32 := extf .f32 v183 bitsLt_bf16_f32
  v184

/-- A value of the body, from the values read before it. -/
noncomputable def k0_pay21 (v182 : Vec F S1x1024x128 .bf16) : FVec F S1024x128 .f32 :=
  have cst_93 : F .f32 := Scalar.ofBits .f32 0x3F000000#32
  have v185 : FVec F S1024x128 .f32 := broadcast S1024x128 cst_93
  have v186 : FVec F S1024x128 .f32 := mulf v185 (k0_pay20 v182)
  have v187 : FVec F S1024x128 .f32 := tanh v186
  v187

/-- A value of the body, from the values read before it. -/
noncomputable def k0_pay22 : FVec F S1024x128 .f32 :=
  have cst_94 : F .f32 := Scalar.ofBits .f32 0x3F800000#32
  have v188 : FVec F S1024x128 .f32 := broadcast S1024x128 cst_94
  v188

/-- A value of the body, from the values read before it. -/
noncomputable def k0_pay23 (v181 : FVec F S1024x128 .f32) (v184 : FVec F S1024x128 .f32) (v187 : FVec F S1024x128 .f32) (v188 : FVec F S1024x128 .f32) : FVec F S1024x128 .bf16 :=
  have v189 : FVec F S1024x128 .f32 := addf v187 v188
  have cst_95 : F .f32 := Scalar.ofBits .f32 0x3F000000#32
  have v190 : FVec F S1024x128 .f32 := broadcast S1024x128 cst_95
  have v191 : FVec F S1024x128 .f32 := mulf v190 v189
  have v192 : FVec F S1024x128 .f32 := mulf v184 v191
  have v193 : FVec F S1024x128 .f32 := mulf v181 v192
  have v194 : FVec F S1024x128 .bf16 := truncf .bf16 v193 bitsLt_bf16_f32
  v194

/-- A value of the body, from the values read before it. -/
noncomputable def k0_pay26 (v260 : Vec F S4x512x1024 .f32) : FVec F S4x512x1024 .f32 :=
  have v261 : FVec F S4x512x1024 .f32 := shapeCast S4x512x1024 v260 shapeCasts_S4x512x1024_S4x512x1024
  v261

/-- Sixteen groups of 128 lanes side by side. -/
noncomputable def join16 (v18 v34 v50 v66 v82 v98 v114 v130 v146 v162 v178 v194 v210 v226 v242 v258 : FVec F S1024x128 .bf16) : FVec F S1024x2048 .bf16 :=
  concatenate S1024x2048 1 [⟨S1024x128, v18⟩, ⟨S1024x128, v34⟩, ⟨S1024x128, v50⟩, ⟨S1024x128, v66⟩, ⟨S1024x128, v82⟩, ⟨S1024x128, v98⟩, ⟨S1024x128, v114⟩, ⟨S1024x128, v130⟩, ⟨S1024x128, v146⟩, ⟨S1024x128, v162⟩, ⟨S1024x128, v178⟩, ⟨S1024x128, v194⟩, ⟨S1024x128, v210⟩, ⟨S1024x128, v226⟩, ⟨S1024x128, v242⟩, ⟨S1024x128, v258⟩] concatenates_S1024x128_S1024x128_S1024x128_S1024x128_S1024x128_S1024x128_S1024x128_S1024x128_S1024x128_S1024x128_S1024x128_S1024x128_S1024x128_S1024x128_S1024x128_S1024x128_S1024x2048_d1

/-- The product of a row block's gated activation, transposed, with the block's gradient, its rows in four parts. -/
noncomputable def step (z : FVec F S1024x2048 .bf16) (v262 : Vec F S1024x1024 .bf16) : FVec F S4x512x1024 .f32 :=
  have v263 : FVec F S1024x1024 .bf16 := shapeCast S1024x1024 v262 shapeCasts_S1024x1024_S1024x1024
  have cst_133 : FVec F S2048x1024 .f32 := constant S2048x1024 .f32 0x00000000#32
  have v264 : FVec F S2048x1024 .f32 := matmul dot_S1024x2048_S1024x1024_S2048x1024_0_0_1_1_n_n none z v263 cst_133
  have v265 : FVec F S4x512x1024 .f32 := shapeCast S4x512x1024 v264 shapeCasts_S2048x1024_S4x512x1024
  v265

/-- The same product from the first fourteen groups and the loads of the last two. -/
noncomputable def k0_pay27 (v18 v34 v50 v66 v82 v98 v114 v130 v146 v162 v178 v194 v210 v226 : FVec F S1024x128 .bf16) (v227 v230 v243 v246 : Vec F S1x1024x128 .bf16) (v262 : Vec F S1024x1024 .bf16) : FVec F S4x512x1024 .f32 :=
  step (join16 v18 v34 v50 v66 v82 v98 v114 v130 v146 v162 v178 v194 v210 v226 (lane v227 v230) (lane v243 v246)) v262

/-- The same text with its values named. -/
noncomputable def cc0_outproj_bwd_w0_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) :
    Prog (TpuEff nD τ sig (Elt F) Λ₀ .tc) PUnit := do
  let ⟨v18, v34⟩ : Σ' (v18 : FVec F S1024x128 .bf16), FVec F S1024x128 .bf16 ← k0_part1 i arg1 harg1 arg2 harg2 arg3 harg3 arg4 harg4 arg5 harg5
  let ⟨v50, v66, v69, v72, cst_37⟩ : Σ' (v50 : FVec F S1024x128 .bf16) (v66 : FVec F S1024x128 .bf16) (v69 : FVec F S1024x128 .f32) (v72 : FVec F S1024x128 .f32), F .f32 ← k0_part2 i arg1 harg1 arg2 harg2 arg3 harg3 arg4 harg4 arg5 harg5
  let ⟨v82, v98, v101, v112⟩ : Σ' (v82 : FVec F S1024x128 .bf16) (v98 : FVec F S1024x128 .bf16) (v101 : FVec F S1024x128 .f32), FVec F S1024x128 .f32 ← k0_part3 i arg1 harg1 arg2 harg2 arg3 harg3 arg4 harg4 arg5 harg5 v69 v72 cst_37
  let ⟨v114, v130, v146, v149⟩ : Σ' (v114 : FVec F S1024x128 .bf16) (v130 : FVec F S1024x128 .bf16) (v146 : FVec F S1024x128 .bf16), FVec F S1024x128 .f32 ← k0_part4 i arg1 harg1 arg2 harg2 arg3 harg3 arg4 harg4 arg5 harg5 v101 v112
  let ⟨v162, v178, v181, v184, v187, v188⟩ : Σ' (v162 : FVec F S1024x128 .bf16) (v178 : FVec F S1024x128 .bf16) (v181 : FVec F S1024x128 .f32) (v184 : FVec F S1024x128 .f32) (v187 : FVec F S1024x128 .f32), FVec F S1024x128 .f32 ← k0_part5 i arg1 harg1 arg2 harg2 arg3 harg3 arg4 harg4 arg5 harg5 v149
  let ⟨v194, v210, v226⟩ : Σ' (v194 : FVec F S1024x128 .bf16) (v210 : FVec F S1024x128 .bf16), FVec F S1024x128 .bf16 ← k0_part6 i arg1 harg1 arg2 harg2 arg3 harg3 arg4 harg4 arg5 harg5 v181 v184 v187 v188
  let ⟨v261, v265⟩ : Σ' (v261 : FVec F S4x512x1024 .f32), FVec F S4x512x1024 .f32 ← k0_part7 i arg1 harg1 arg2 harg2 arg3 harg3 arg4 harg4 arg5 harg5 v18 v34 v50 v66 v82 v98 v114 v130 v146 v162 v178 v194 v210 v226
  let v267 : Vec F S4x512x1024 .f32 ← Prog.lift (.load arg5 (Rect.unit (s := S4x512x1024) ![0, 0, 0] S4x512x1024.size inb_S4x512x1024_S4x512x1024_0_0_0).toLoadRect (View.loadsAt_vmem h_S4x512x1024))
  Prog.lift (.store arg5 (Rect.unit (s := S4x512x1024) ![0, 0, 0] S4x512x1024.size inb_S4x512x1024_S4x512x1024_0_0_0) (k0_pay1 v261 v265) Finset.univ (View.stores_vmem_bits_univ h_S4x512x1024 rfl) (.inl rfl))
  pure ⟨⟩

set_option maxRecDepth 65536 in
/-- The printed text is the text with its values named. -/
theorem cc0_outproj_bwd_w0_eq_skeleton : cc0_outproj_bwd_w0 (F := F) = cc0_outproj_bwd_w0_skel (F := F) := rfl

/-- The same text with its values named. -/
noncomputable def k0_part1_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) :
    Prog (TpuEff nD τ sig (Elt F) Λ₀ .tc) (Σ' (v18 : FVec F S1024x128 .bf16), FVec F S1024x128 .bf16) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v269 : Vec F S4x512x1024 .f32 ← Prog.lift (.load arg5 (Rect.unit (s := S4x512x1024) ![0, 0, 0] S4x512x1024.size inb_S4x512x1024_S4x512x1024_0_0_0).toLoadRect (View.loadsAt_vmem h_S4x512x1024))
    Prog.lift (.store arg5 (Rect.unit (s := S4x512x1024) ![0, 0, 0] S4x512x1024.size inb_S4x512x1024_S4x512x1024_0_0_0) (k0_pay2 (F := F)) Finset.univ (View.stores_vmem_bits_univ h_S4x512x1024 rfl) (.inl rfl))
    pure ⟨⟩
  else do
    pure ⟨⟩
  let v3 : Vec F S1x1024x128 .bf16 ← Prog.lift (.load arg1 (Rect.unit (s := S16x1024x128) ![0, 0, 0] S1x1024x128.size inb_S16x1024x128_S1x1024x128_0_0_0).toLoadRect (View.loadsAt_vmem h_S1x1024x128))
  let v6 : Vec F S1x1024x128 .bf16 ← Prog.lift (.load arg2 (Rect.unit (s := S16x1024x128) ![0, 0, 0] S1x1024x128.size inb_S16x1024x128_S1x1024x128_0_0_0).toLoadRect (View.loadsAt_vmem h_S1x1024x128))
  let v19 : Vec F S1x1024x128 .bf16 ← Prog.lift (.load arg1 (Rect.unit (s := S16x1024x128) ![1, 0, 0] S1x1024x128.size inb_S16x1024x128_S1x1024x128_1_0_0).toLoadRect (View.loadsAt_vmem h_S1x1024x128))
  let v22 : Vec F S1x1024x128 .bf16 ← Prog.lift (.load arg2 (Rect.unit (s := S16x1024x128) ![1, 0, 0] S1x1024x128.size inb_S16x1024x128_S1x1024x128_1_0_0).toLoadRect (View.loadsAt_vmem h_S1x1024x128))
  pure ⟨lane v3 v6, lane v19 v22⟩

set_option maxRecDepth 65536 in
/-- The printed text is the text with its values named. -/
theorem k0_part1_eq_skeleton : k0_part1 (F := F) = k0_part1_skel (F := F) := rfl

/-- The same text with its values named. -/
noncomputable def k0_part2_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) :
    Prog (TpuEff nD τ sig (Elt F) Λ₀ .tc) (Σ' (v50 : FVec F S1024x128 .bf16) (v66 : FVec F S1024x128 .bf16) (v69 : FVec F S1024x128 .f32) (v72 : FVec F S1024x128 .f32), F .f32) := do
  let v35 : Vec F S1x1024x128 .bf16 ← Prog.lift (.load arg1 (Rect.unit (s := S16x1024x128) ![2, 0, 0] S1x1024x128.size inb_S16x1024x128_S1x1024x128_2_0_0).toLoadRect (View.loadsAt_vmem h_S1x1024x128))
  let v38 : Vec F S1x1024x128 .bf16 ← Prog.lift (.load arg2 (Rect.unit (s := S16x1024x128) ![2, 0, 0] S1x1024x128.size inb_S16x1024x128_S1x1024x128_2_0_0).toLoadRect (View.loadsAt_vmem h_S1x1024x128))
  let v51 : Vec F S1x1024x128 .bf16 ← Prog.lift (.load arg1 (Rect.unit (s := S16x1024x128) ![3, 0, 0] S1x1024x128.size inb_S16x1024x128_S1x1024x128_3_0_0).toLoadRect (View.loadsAt_vmem h_S1x1024x128))
  let v54 : Vec F S1x1024x128 .bf16 ← Prog.lift (.load arg2 (Rect.unit (s := S16x1024x128) ![3, 0, 0] S1x1024x128.size inb_S16x1024x128_S1x1024x128_3_0_0).toLoadRect (View.loadsAt_vmem h_S1x1024x128))
  let v67 : Vec F S1x1024x128 .bf16 ← Prog.lift (.load arg1 (Rect.unit (s := S16x1024x128) ![4, 0, 0] S1x1024x128.size inb_S16x1024x128_S1x1024x128_4_0_0).toLoadRect (View.loadsAt_vmem h_S1x1024x128))
  let v70 : Vec F S1x1024x128 .bf16 ← Prog.lift (.load arg2 (Rect.unit (s := S16x1024x128) ![4, 0, 0] S1x1024x128.size inb_S16x1024x128_S1x1024x128_4_0_0).toLoadRect (View.loadsAt_vmem h_S1x1024x128))
  have cst_37 : F .f32 := Scalar.ofBits .f32 0x3F000000#32
  pure ⟨lane v35 v38, lane v51 v54, k0_pay7 v67, k0_pay8 v70, cst_37⟩

set_option maxRecDepth 65536 in
/-- The printed text is the text with its values named. -/
theorem k0_part2_eq_skeleton : k0_part2 (F := F) = k0_part2_skel (F := F) := rfl

/-- The same text with its values named. -/
noncomputable def k0_part3_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) (v69 : FVec F S1024x128 .f32) (v72 : FVec F S1024x128 .f32) (cst_37 : F .f32) :
    Prog (TpuEff nD τ sig (Elt F) Λ₀ .tc) (Σ' (v82 : FVec F S1024x128 .bf16) (v98 : FVec F S1024x128 .bf16) (v101 : FVec F S1024x128 .f32), FVec F S1024x128 .f32) := do
  let v83 : Vec F S1x1024x128 .bf16 ← Prog.lift (.load arg1 (Rect.unit (s := S16x1024x128) ![5, 0, 0] S1x1024x128.size inb_S16x1024x128_S1x1024x128_5_0_0).toLoadRect (View.loadsAt_vmem h_S1x1024x128))
  let v86 : Vec F S1x1024x128 .bf16 ← Prog.lift (.load arg2 (Rect.unit (s := S16x1024x128) ![5, 0, 0] S1x1024x128.size inb_S16x1024x128_S1x1024x128_5_0_0).toLoadRect (View.loadsAt_vmem h_S1x1024x128))
  let v99 : Vec F S1x1024x128 .bf16 ← Prog.lift (.load arg1 (Rect.unit (s := S16x1024x128) ![6, 0, 0] S1x1024x128.size inb_S16x1024x128_S1x1024x128_6_0_0).toLoadRect (View.loadsAt_vmem h_S1x1024x128))
  let v102 : Vec F S1x1024x128 .bf16 ← Prog.lift (.load arg2 (Rect.unit (s := S16x1024x128) ![6, 0, 0] S1x1024x128.size inb_S16x1024x128_S1x1024x128_6_0_0).toLoadRect (View.loadsAt_vmem h_S1x1024x128))
  pure ⟨k0_pay9 v69 v72 cst_37, lane v83 v86, k0_pay11 v99, k0_pay12 v102⟩

set_option maxRecDepth 65536 in
/-- The printed text is the text with its values named. -/
theorem k0_part3_eq_skeleton : k0_part3 (F := F) = k0_part3_skel (F := F) := rfl

/-- The same text with its values named. -/
noncomputable def k0_part4_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) (v101 : FVec F S1024x128 .f32) (v112 : FVec F S1024x128 .f32) :
    Prog (TpuEff nD τ sig (Elt F) Λ₀ .tc) (Σ' (v114 : FVec F S1024x128 .bf16) (v130 : FVec F S1024x128 .bf16) (v146 : FVec F S1024x128 .bf16), FVec F S1024x128 .f32) := do
  let v115 : Vec F S1x1024x128 .bf16 ← Prog.lift (.load arg1 (Rect.unit (s := S16x1024x128) ![7, 0, 0] S1x1024x128.size inb_S16x1024x128_S1x1024x128_7_0_0).toLoadRect (View.loadsAt_vmem h_S1x1024x128))
  let v118 : Vec F S1x1024x128 .bf16 ← Prog.lift (.load arg2 (Rect.unit (s := S16x1024x128) ![7, 0, 0] S1x1024x128.size inb_S16x1024x128_S1x1024x128_7_0_0).toLoadRect (View.loadsAt_vmem h_S1x1024x128))
  let v131 : Vec F S1x1024x128 .bf16 ← Prog.lift (.load arg1 (Rect.unit (s := S16x1024x128) ![8, 0, 0] S1x1024x128.size inb_S16x1024x128_S1x1024x128_8_0_0).toLoadRect (View.loadsAt_vmem h_S1x1024x128))
  let v134 : Vec F S1x1024x128 .bf16 ← Prog.lift (.load arg2 (Rect.unit (s := S16x1024x128) ![8, 0, 0] S1x1024x128.size inb_S16x1024x128_S1x1024x128_8_0_0).toLoadRect (View.loadsAt_vmem h_S1x1024x128))
  let v147 : Vec F S1x1024x128 .bf16 ← Prog.lift (.load arg1 (Rect.unit (s := S16x1024x128) ![9, 0, 0] S1x1024x128.size inb_S16x1024x128_S1x1024x128_9_0_0).toLoadRect (View.loadsAt_vmem h_S1x1024x128))
  pure ⟨k0_pay13 v101 v112, lane v115 v118, lane v131 v134, k0_pay16 v147⟩

set_option maxRecDepth 65536 in
/-- The printed text is the text with its values named. -/
theorem k0_part4_eq_skeleton : k0_part4 (F := F) = k0_part4_skel (F := F) := rfl

/-- The same text with its values named. -/
noncomputable def k0_part5_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) (v149 : FVec F S1024x128 .f32) :
    Prog (TpuEff nD τ sig (Elt F) Λ₀ .tc) (Σ' (v162 : FVec F S1024x128 .bf16) (v178 : FVec F S1024x128 .bf16) (v181 : FVec F S1024x128 .f32) (v184 : FVec F S1024x128 .f32) (v187 : FVec F S1024x128 .f32), FVec F S1024x128 .f32) := do
  let v150 : Vec F S1x1024x128 .bf16 ← Prog.lift (.load arg2 (Rect.unit (s := S16x1024x128) ![9, 0, 0] S1x1024x128.size inb_S16x1024x128_S1x1024x128_9_0_0).toLoadRect (View.loadsAt_vmem h_S1x1024x128))
  let v163 : Vec F S1x1024x128 .bf16 ← Prog.lift (.load arg1 (Rect.unit (s := S16x1024x128) ![10, 0, 0] S1x1024x128.size inb_S16x1024x128_S1x1024x128_10_0_0).toLoadRect (View.loadsAt_vmem h_S1x1024x128))
  let v166 : Vec F S1x1024x128 .bf16 ← Prog.lift (.load arg2 (Rect.unit (s := S16x1024x128) ![10, 0, 0] S1x1024x128.size inb_S16x1024x128_S1x1024x128_10_0_0).toLoadRect (View.loadsAt_vmem h_S1x1024x128))
  let v179 : Vec F S1x1024x128 .bf16 ← Prog.lift (.load arg1 (Rect.unit (s := S16x1024x128) ![11, 0, 0] S1x1024x128.size inb_S16x1024x128_S1x1024x128_11_0_0).toLoadRect (View.loadsAt_vmem h_S1x1024x128))
  let v182 : Vec F S1x1024x128 .bf16 ← Prog.lift (.load arg2 (Rect.unit (s := S16x1024x128) ![11, 0, 0] S1x1024x128.size inb_S16x1024x128_S1x1024x128_11_0_0).toLoadRect (View.loadsAt_vmem h_S1x1024x128))
  pure ⟨k0_pay17 v149 v150, lane v163 v166, k0_pay19 v179, k0_pay20 v182, k0_pay21 v182, k0_pay22 (F := F)⟩

set_option maxRecDepth 65536 in
/-- The printed text is the text with its values named. -/
theorem k0_part5_eq_skeleton : k0_part5 (F := F) = k0_part5_skel (F := F) := rfl

/-- The same text with its values named. -/
noncomputable def k0_part6_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) (v181 : FVec F S1024x128 .f32) (v184 : FVec F S1024x128 .f32) (v187 : FVec F S1024x128 .f32) (v188 : FVec F S1024x128 .f32) :
    Prog (TpuEff nD τ sig (Elt F) Λ₀ .tc) (Σ' (v194 : FVec F S1024x128 .bf16) (v210 : FVec F S1024x128 .bf16), FVec F S1024x128 .bf16) := do
  let v195 : Vec F S1x1024x128 .bf16 ← Prog.lift (.load arg1 (Rect.unit (s := S16x1024x128) ![12, 0, 0] S1x1024x128.size inb_S16x1024x128_S1x1024x128_12_0_0).toLoadRect (View.loadsAt_vmem h_S1x1024x128))
  let v198 : Vec F S1x1024x128 .bf16 ← Prog.lift (.load arg2 (Rect.unit (s := S16x1024x128) ![12, 0, 0] S1x1024x128.size inb_S16x1024x128_S1x1024x128_12_0_0).toLoadRect (View.loadsAt_vmem h_S1x1024x128))
  let v211 : Vec F S1x1024x128 .bf16 ← Prog.lift (.load arg1 (Rect.unit (s := S16x1024x128) ![13, 0, 0] S1x1024x128.size inb_S16x1024x128_S1x1024x128_13_0_0).toLoadRect (View.loadsAt_vmem h_S1x1024x128))
  let v214 : Vec F S1x1024x128 .bf16 ← Prog.lift (.load arg2 (Rect.unit (s := S16x1024x128) ![13, 0, 0] S1x1024x128.size inb_S16x1024x128_S1x1024x128_13_0_0).toLoadRect (View.loadsAt_vmem h_S1x1024x128))
  pure ⟨k0_pay23 v181 v184 v187 v188, lane v195 v198, lane v211 v214⟩

set_option maxRecDepth 65536 in
/-- The printed text is the text with its values named. -/
theorem k0_part6_eq_skeleton : k0_part6 (F := F) = k0_part6_skel (F := F) := rfl

/-- The same text with its values named. -/
noncomputable def k0_part7_skel (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg4 : Memref sig .tc .hbm S4x1792x1024 .f32) (harg4 : arg4.IsWhole) (arg5 : Memref sig .tc .vmem S4x512x1024 .f32) (harg5 : arg5.IsWhole) (v18 : FVec F S1024x128 .bf16) (v34 : FVec F S1024x128 .bf16) (v50 : FVec F S1024x128 .bf16) (v66 : FVec F S1024x128 .bf16) (v82 : FVec F S1024x128 .bf16) (v98 : FVec F S1024x128 .bf16) (v114 : FVec F S1024x128 .bf16) (v130 : FVec F S1024x128 .bf16) (v146 : FVec F S1024x128 .bf16) (v162 : FVec F S1024x128 .bf16) (v178 : FVec F S1024x128 .bf16) (v194 : FVec F S1024x128 .bf16) (v210 : FVec F S1024x128 .bf16) (v226 : FVec F S1024x128 .bf16) :
    Prog (TpuEff nD τ sig (Elt F) Λ₀ .tc) (Σ' (v261 : FVec F S4x512x1024 .f32), FVec F S4x512x1024 .f32) := do
  let v227 : Vec F S1x1024x128 .bf16 ← Prog.lift (.load arg1 (Rect.unit (s := S16x1024x128) ![14, 0, 0] S1x1024x128.size inb_S16x1024x128_S1x1024x128_14_0_0).toLoadRect (View.loadsAt_vmem h_S1x1024x128))
  let v230 : Vec F S1x1024x128 .bf16 ← Prog.lift (.load arg2 (Rect.unit (s := S16x1024x128) ![14, 0, 0] S1x1024x128.size inb_S16x1024x128_S1x1024x128_14_0_0).toLoadRect (View.loadsAt_vmem h_S1x1024x128))
  let v243 : Vec F S1x1024x128 .bf16 ← Prog.lift (.load arg1 (Rect.unit (s := S16x1024x128) ![15, 0, 0] S1x1024x128.size inb_S16x1024x128_S1x1024x128_15_0_0).toLoadRect (View.loadsAt_vmem h_S1x1024x128))
  let v246 : Vec F S1x1024x128 .bf16 ← Prog.lift (.load arg2 (Rect.unit (s := S16x1024x128) ![15, 0, 0] S1x1024x128.size inb_S16x1024x128_S1x1024x128_15_0_0).toLoadRect (View.loadsAt_vmem h_S1x1024x128))
  let v260 : Vec F S4x512x1024 .f32 ← Prog.lift (.load arg5 (Rect.unit (s := S4x512x1024) ![0, 0, 0] S4x512x1024.size inb_S4x512x1024_S4x512x1024_0_0_0).toLoadRect (View.loadsAt_vmem h_S4x512x1024))
  let v262 : Vec F S1024x1024 .bf16 ← Prog.lift (.load arg3 (Rect.unit (s := S1024x1024) ![0, 0] S1024x1024.size inb_S1024x1024_S1024x1024_0_0).toLoadRect (View.loadsAt_vmem h_S1024x1024))
  pure ⟨k0_pay26 v260, k0_pay27 v18 v34 v50 v66 v82 v98 v114 v130 v146 v162 v178 v194 v210 v226 v227 v230 v243 v246 v262⟩

set_option maxRecDepth 65536 in
/-- The printed text is the text with its values named. -/
theorem k0_part7_eq_skeleton : k0_part7 (F := F) = k0_part7_skel (F := F) := rfl

end Cert.OutWIdeal.Step

end
-- ==== Proof.OutWRun.lean ====
/- The run of the call `OutW`, for any float values: what its output block holds after each point of
   the grid, that the whole program ends with the arrays so computed, and that its arguments are kept. -/
module

public import proofs.«01_k».proof.Proof.OutWBody
public import Idealize.ShloMosaic.Lib.Claim
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.OutWIdeal.Step

open Cert.OutWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A condition the body branches on, at a grid point. -/
abbrev cond0_0 (i : grid0.Coords) : Prop := (Scalar.cmpi .ne (Scalar.extui (Scalar.cmpi .eq (BitVec.ofNat 32 (i 0).val) 0#32)) 0#32) = 1#1
/-- That condition in terms of the point's number. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- No block of the output window that the grid reaches overhangs its array. -/
theorem whole0_3 : ∀ (i : cfg0.grid.Coords) a, (cfg0.win 3).clip i a = none := by
  decide +kernel

/-- A staging buffer of the output window. -/
abbrev VO0_3 : View sig .tc .vmem S4x512x1024 .f32 := (Memref.whole cc0_stg3_0 : Memref sig .tc .vmem S4x512x1024 .f32).view
/-- The window's staging buffer at a point. -/
abbrev ms0_0 (t : Fin cfg0.N) : Memref sig .tc .vmem S16x1024x128 .bf16 := win0_0.stage (cfg0.slots t 0)
/-- That staging buffer is a whole one. -/
abbrev hs0_0 (t : Fin cfg0.N) : (ms0_0 t).IsWhole := hstage0_0 ((cfg0.slots t 0).cast nbuf0_0)
/-- The window's staging buffer at a point. -/
abbrev ms0_1 (t : Fin cfg0.N) : Memref sig .tc .vmem S16x1024x128 .bf16 := win0_1.stage (cfg0.slots t 1)
/-- That staging buffer is a whole one. -/
abbrev hs0_1 (t : Fin cfg0.N) : (ms0_1 t).IsWhole := hstage0_1 ((cfg0.slots t 1).cast nbuf0_1)
/-- The window's staging buffer at a point. -/
abbrev ms0_2 (t : Fin cfg0.N) : Memref sig .tc .vmem S1024x1024 .bf16 := win0_2.stage (cfg0.slots t 2)
/-- That staging buffer is a whole one. -/
abbrev hs0_2 (t : Fin cfg0.N) : (ms0_2 t).IsWhole := hstage0_2 ((cfg0.slots t 2).cast nbuf0_2)
/-- The window's staging buffer at a point. -/
abbrev ms0_3 (t : Fin cfg0.N) : Memref sig .tc .vmem S4x512x1024 .f32 := win0_3.stage (cfg0.slots t 3)
/-- That staging buffer is a whole one. -/
abbrev hs0_3 (t : Fin cfg0.N) : (ms0_3 t).IsWhole := hstage0_3 ((cfg0.slots t 3).cast nbuf0_3)

set_option maxHeartbeats 1000000 in
/-- What the body stores at the first point of a run, with the proof that it runs and leaves its inputs as they were. -/
noncomputable def kernelRun0_A (c : Dev nD) (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg5 : Memref sig .tc .vmem S4x512x1024 .f32) (harg5 : arg5.IsWhole) (hc0 : cond0_0 i)
    (x0 : Vec F S16x1024x128 .bf16) (x1 : Vec F S16x1024x128 .bf16) (x2 : Vec F S1024x1024 .bf16) :
    { L3 : List (View.Piece (Elt F) S4x512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_outproj_bwd_w0 i arg1 harg1 arg2 harg2 arg3 harg3 (Memref.whole main_arg3) (Memref.isWhole_whole _) arg5 harg5) K } := by
  refine ⟨?_, fun E K => ?run⟩
  case run =>
    simp only [cc0_outproj_bwd_w0_eq_skeleton]; unfold cc0_outproj_bwd_w0_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3
set_option maxHeartbeats 1000000 in
/-- What the body stores at a later point of a run, with the proof that it runs and leaves its inputs as they were. -/
noncomputable def kernelRun0_B (c : Dev nD) (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg5 : Memref sig .tc .vmem S4x512x1024 .f32) (harg5 : arg5.IsWhole) (hc0 : ¬cond0_0 i)
    (x0 : Vec F S16x1024x128 .bf16) (x1 : Vec F S16x1024x128 .bf16) (x2 : Vec F S1024x1024 .bf16) (xo3 : Vec F S4x512x1024 .f32) :
    { L3 : List (View.Piece (Elt F) S4x512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare xo3
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_outproj_bwd_w0 i arg1 harg1 arg2 harg2 arg3 harg3 (Memref.whole main_arg3) (Memref.isWhole_whole _) arg5 harg5) K } := by
  refine ⟨?_, fun E K => ?run⟩
  case run =>
    simp only [cc0_outproj_bwd_w0_eq_skeleton]; unfold cc0_outproj_bwd_w0_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg5.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- At the first point of a run the stores cover the output block. -/
theorem cover0_A_3 (c : Dev nD) (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg5 : Memref sig .tc .vmem S4x512x1024 .f32) (harg5 : arg5.IsWhole) (hc0 : cond0_0 i)
    (x0 : Vec F S16x1024x128 .bf16) (x1 : Vec F S16x1024x128 .bf16) (x2 : Vec F S1024x1024 .bf16) (y : S4x512x1024.Idx) :
    ∃ pc ∈ (kernelRun0_A c i arg1 harg1 arg2 harg2 arg3 harg3 arg5 harg5 hc0 x0 x1 x2).1, y ∈ pc.1.set :=
  View.cover_of_tiledL (kernelRun0_A c i arg1 harg1 arg2 harg2 arg3 harg3 arg5 harg5 hc0 x0 x1 x2).1 S4x512x1024.size (by sl_kernel_rfl) y

/-- The output block after the first point of a run. -/
def out0_A_3 (c : Dev nD) (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg5 : Memref sig .tc .vmem S4x512x1024 .f32) (harg5 : arg5.IsWhole) (hc0 : cond0_0 i)
    (x0 : Vec F S16x1024x128 .bf16) (x1 : Vec F S16x1024x128 .bf16) (x2 : Vec F S1024x1024 .bf16) : Vec F S4x512x1024 .f32 :=
  VO0_3.read (Elt F) (VO0_3.writes (Elt F) VO0_3.junk (kernelRun0_A c i arg1 harg1 arg2 harg2 arg3 harg3 arg5 harg5 hc0 x0 x1 x2).1)

/-- At a later point of a run the stores cover the output block. -/
theorem cover0_B_3 (c : Dev nD) (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg5 : Memref sig .tc .vmem S4x512x1024 .f32) (harg5 : arg5.IsWhole) (hc0 : ¬cond0_0 i)
    (x0 : Vec F S16x1024x128 .bf16) (x1 : Vec F S16x1024x128 .bf16) (x2 : Vec F S1024x1024 .bf16) (xo3 : Vec F S4x512x1024 .f32) (y : S4x512x1024.Idx) :
    ∃ pc ∈ (kernelRun0_B c i arg1 harg1 arg2 harg2 arg3 harg3 arg5 harg5 hc0 x0 x1 x2 xo3).1, y ∈ pc.1.set :=
  View.cover_of_tiledL (kernelRun0_B c i arg1 harg1 arg2 harg2 arg3 harg3 arg5 harg5 hc0 x0 x1 x2 xo3).1 S4x512x1024.size (by sl_kernel_rfl) y

/-- The output block after a later point of a run. -/
def out0_B_3 (c : Dev nD) (i : grid0.Coords) (arg1 : Memref sig .tc .vmem S16x1024x128 .bf16) (harg1 : arg1.IsWhole) (arg2 : Memref sig .tc .vmem S16x1024x128 .bf16) (harg2 : arg2.IsWhole) (arg3 : Memref sig .tc .vmem S1024x1024 .bf16) (harg3 : arg3.IsWhole) (arg5 : Memref sig .tc .vmem S4x512x1024 .f32) (harg5 : arg5.IsWhole) (hc0 : ¬cond0_0 i)
    (x0 : Vec F S16x1024x128 .bf16) (x1 : Vec F S16x1024x128 .bf16) (x2 : Vec F S1024x1024 .bf16) (xo3 : Vec F S4x512x1024 .f32) : Vec F S4x512x1024 .f32 :=
  VO0_3.read (Elt F) (VO0_3.writes (Elt F) VO0_3.junk (kernelRun0_B c i arg1 harg1 arg2 harg2 arg3 harg3 arg5 harg5 hc0 x0 x1 x2 xo3).1)

/-- What the output block holds after each point of the grid. -/
def outsAt0 (c : Dev nD) : (n : ℕ) → n < cfg0.N → Vec F S4x512x1024 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- The accumulated block, at the first point of a run. -/
theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- The accumulated block, at a later point of a run. -/
theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What every buffer of the pipeline holds, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by
  dsimp only [dats]

/-- What the body leaves in this window. -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = (outsAt0 m c t.val t.isLt) := by dsimp only [dats]

/-- What the body finds in this window. -/
theorem before0_0 (c : Dev nD) (t : Fin cfg0.N) (d) : (dats m 0 c).before 0 t d = iblk m c 0 t :=
  before0_0_of m (dats m 0 c) (A_eq m c 0) (after0_0 m c) t d
/-- What the body finds in this window. -/
theorem before0_1 (c : Dev nD) (t : Fin cfg0.N) (d) : (dats m 0 c).before 1 t d = iblk m c 1 t :=
  before0_1_of m (dats m 0 c) (A_eq m c 1) (after0_1 m c) t d
/-- What the body finds in this window. -/
theorem before0_2 (c : Dev nD) (t : Fin cfg0.N) (d) : (dats m 0 c).before 2 t d = iblk m c 2 t :=
  before0_2_of m (dats m 0 c) (A_eq m c 2) (after0_2 m c) t d
/-- At a later point of a run the output block still holds what the point before left. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) whole0_3]
  dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body, run at any point, does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 8 := lt_of_lt_of_eq t.isLt (show cfg0.N = 8 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body meets the pipeline's demand at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run ends with the arrays that the data name and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run ends with the arrays that the data name. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments end as they began and all counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- What a point writes back of the output block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- What a point writes back of the output block. -/
theorem flushed3_A (c : Dev nD) (t : Fin cfg0.N) (h0 : t.val % 8 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t)) := by
  simp only [flushed3, outsAt0_A m c t h0]

/-- What a point writes back of the output block. -/
theorem flushed3_B (c : Dev nD) (t : Fin cfg0.N) (h0 : ¬t.val % 8 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt))) := by
  simp only [flushed3, outsAt0_B m c t h0]

/-- What no block covers stays as it was found. -/
theorem entry3 (c : Dev nD) (i : S4x1792x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- The array of this window after the run. -/
theorem post3 (r : PUnit × MemSt nD τ sig (Elt F)) (h : Pipeline.FramePost cfgs (dats m) 0 (V m) r) (c : Dev nD) :
    r.2.mem ((c : Thread nD τ).loc main_v7) = (dats m 0 c).arrAt 3 cfg0.N :=
  (h c).1 3

/-- This argument ends as it began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- This argument ends as it began. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- This argument ends as it began. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- This argument ends as it began. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run, with the result named as the array the points have written. -/
theorem run_blocks : θ_run defs (onTc (τ := τ) (main (F := F))) ⟨m, fun _ => 0, ρ⟩ fun r => ∀ c : Dev nD,
      r.2.mem ((c : Thread nD τ).loc main_v7) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c,
      kept_main_arg0 m r h c,
      kept_main_arg1 m r h c,
      kept_main_arg2 m r h c,
      kept_main_arg3 m r h c⟩)
    (run_main m ρ)

end Cert.OutWIdeal.Step

end
-- ==== Proof.OutWMath.lean ====
/-
  The out-projection's gradient with respect to its weight in plain mathematics, and the proof that the reference's
  terms are that mathematics.
-/
module

public import proofs.«01_k».proof.Proof.Gen.OutWRefIdeal.Read
public import proofs.«01_k».proof.Proof.OutFMath

@[expose] public section

noncomputable section

namespace Cert.OutWMath

open Cert.OutWRefIdeal Cert.OutWRefIdeal.Read Idealize.ShloMosaic
open Cert.OutFMath (Z)

/-- The gradient of the weight at channel `k`, column `d`: the gated activation times the branch's gradient, summed over
    the rows. -/
def DW (y g : Vec Ideal S8192x2048 .f32) (db : Vec Ideal S8192x1024 .f32) (k : Fin 2048) (d : Fin 1024) : EReal :=
  ∑ r : Fin 8192, Z y g r k * db (ix2 r d)

/-- The gradient buffer: its rows 1024 to 1535 hold the weight's gradient, cut in four along its rows, the others what
    they held. -/
def gw (y g : Vec Ideal S8192x2048 .f32) (db : Vec Ideal S8192x1024 .f32) (gb : Vec Ideal S4x1792x1024 .f32) : Vec Ideal S4x1792x1024 .f32 :=
  fun i => if (i 1).val / 512 = 2 then
      DW y g db ⟨(i 0).val * 512 + (i 1).val % 512, by have h0 : (i 0).val < 4 := (i 0).isLt; omega⟩ (i 2)
    else gb i

/-- The reference's gradient of the weight. -/
theorem ref_dw (y g : Vec Ideal S8192x2048 .f32) (db : Vec Ideal S8192x1024 .f32) (k : Fin 2048) (d : Fin 1024) :
    val_main_v5 (F := Ideal) y g db (ix2 k d) = DW y g db k d := by
  unfold DW Z Ideal.logistic
  pointwise [val_main_v5, val_main_v4, val_main_v2, val_main_v1, val_main_call0_v5, val_main_call0_v4, val_main_call0_v3, val_main_call0_v2, val_main_call0_v1, val_main_call0_v0, val_main_call0_cst, val_main_call0_cst_0]
  exact Finset.sum_congr rfl fun x _ => mul_comm _ _

set_option maxRecDepth 8000 in
/-- The reference's result is the gradient buffer. -/
theorem ref_gw (y g : Vec Ideal S8192x2048 .f32) (db : Vec Ideal S8192x1024 .f32) (gb : Vec Ideal S4x1792x1024 .f32) :
    val_main_v9 (F := Ideal) y g db gb = gw y g db gb := by
  funext i
  idx_vars i
  unfold gw
  pointwise [val_main_v9, val_main_v8, val_main_v7, val_main_v6]
  simp only [ref_dw]
  by_cases h : i1.val / 512 = 2
  · rw [if_pos h, dif_neg (by omega), dif_pos (by omega)]
    exact congrArg (fun k => DW y g db k i2) (Fin.ext (by simp; omega))
  · rw [if_neg h]
    by_cases h' : i1.val < 1024
    · rw [dif_pos h']
    · rw [dif_neg h', dif_neg (by omega)]
      split_ifs <;> (refine congrArg gb ?_; idx_ext)

end Cert.OutWMath
end
-- ==== Proof.OutWArray.lean ====
/-
  What the kernel of the out-projection's weight gradient leaves in its result array: the plain mathematics of `OutWMath`.
-/
module

public import proofs.«01_k».proof.Proof.OutWRun
public import proofs.«01_k».proof.Proof.OutWMath
public import Idealize.ShloMosaic.Lib.Pipeline.ValueKit
public import Idealize.ShloMosaic.Lib.Pipeline.ReadBack

@[expose] public section

noncomputable section

namespace Cert.OutWIdeal.Step

open Cert.OutWIdeal Cert.OutWIdeal.Gen Idealize.ShloMosaic Idealize.ShloMosaic.TcCoe Idealize.SL.Sem
open Cert.OutFMath (Z)
open Cert.OutWMath (DW)

variable (m : (ℓ : Loc nD τ sig) → Buf (Elt Ideal) ℓ)

/-- Argument 0 on device `c`: the recurrence's output. -/
abbrev A0 (c : Dev nD) : Vec Ideal S8192x2048 .f32 := m (c.tc.loc main_arg0)
/-- Argument 1 on device `c`: the gate. -/
abbrev A1 (c : Dev nD) : Vec Ideal S8192x2048 .f32 := m (c.tc.loc main_arg1)
/-- Argument 2 on device `c`: the gradient of the branch. -/
abbrev A2 (c : Dev nD) : Vec Ideal S8192x1024 .f32 := m (c.tc.loc main_arg2)
/-- Argument 3 on device `c`: the gradient buffer. -/
abbrev A3 (c : Dev nD) : Vec Ideal S4x1792x1024 .f32 := m (c.tc.loc main_arg3)

theorem row_lt (t : Fin cfg0.N) (r : Fin 1024) : t.val * 1024 + r.val < 8192 := by
  have := t.isLt; have : cfg0.N = 8 := N_0; omega

/-- Row `r` of grid point `t`'s block. -/
abbrev row (t : Fin cfg0.N) (r : Fin 1024) : Fin 8192 := ⟨t.val * 1024 + r.val, row_lt t r⟩

theorem lane_lt (a : Fin 16) (k : Fin 128) : a.val * 128 + k.val < 2048 := by omega

theorem index0 : ∀ t : Fin cfg0.N, win0_0.index t 0 = 0 ∧ win0_0.index t 1 = t.val ∧ win0_0.index t 2 = 0 := (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 := (by decide +kernel : ∀ t : Fin grid0.N, win0_1.index t 0 = 0 ∧ win0_1.index t 1 = t.val ∧ win0_1.index t 2 = 0)
theorem index2 : ∀ t : Fin cfg0.N, win0_2.index t 0 = t.val ∧ win0_2.index t 1 = 0 := (by decide +kernel : ∀ t : Fin grid0.N, win0_2.index t 0 = t.val ∧ win0_2.index t 1 = 0)
theorem index3 : ∀ t : Fin cfg0.N, win0_3.index t 0 = 0 ∧ win0_3.index t 1 = 2 ∧ win0_3.index t 2 = 0 := (by decide +kernel : ∀ t : Fin grid0.N, win0_3.index t 0 = 0 ∧ win0_3.index t 1 = 2 ∧ win0_3.index t 2 = 0)

/-- The recurrence's output, a row block, its columns in groups of 128 lanes. -/
theorem blk0 (c : Dev nD) (t : Fin cfg0.N) (a : Fin 16) (r : Fin 1024) (k : Fin 128) :
    (iblk m c 0 t : Vec Ideal S16x1024x128 .bf16) (ix3 a r k) = A0 m c (ix2 (row t r) ⟨a.val * 128 + k.val, lane_lt a k⟩) := by
  blk_simp [iblk, index0 t]
  entry_read
  pointwise
  blk_point [index0 t]
/-- The gate, a row block, its columns in groups of 128 lanes. -/
theorem blk1 (c : Dev nD) (t : Fin cfg0.N) (a : Fin 16) (r : Fin 1024) (k : Fin 128) :
    (iblk m c 1 t : Vec Ideal S16x1024x128 .bf16) (ix3 a r k) = A1 m c (ix2 (row t r) ⟨a.val * 128 + k.val, lane_lt a k⟩) := by
  blk_simp [iblk, index1 t]
  entry_read
  pointwise
  blk_point [index1 t]
/-- The branch's gradient, a row block. -/
theorem blk2 (c : Dev nD) (t : Fin cfg0.N) (r : Fin 1024) (d : Fin 1024) :
    (iblk m c 2 t : Vec Ideal S1024x1024 .bf16) (ix2 r d) = A2 m c (ix2 (row t r) d) := by
  blk_simp [iblk, index2 t]
  entry_read
  pointwise
  blk_point [index2 t]

/-- A group of the gated activation, element by element. -/
theorem lane_eq (a b : Vec Ideal S1x1024x128 .bf16) :
    lane a b = fun i => a (ix3 0 (i 0) (i 1)) * (b (ix3 0 (i 0) (i 1)) * Ideal.logistic (b (ix3 0 (i 0) (i 1)))) := by
  funext i
  idx_vars i
  pointwise [lane]
  rw [Cert.OutFMath.gate_half]

/-- The groups at a grid point. -/
abbrev gAt (c : Dev nD) (t : Fin cfg0.N) (q : Fin 16) : FVec Ideal S1024x128 .bf16 :=
  fun i => Z (A0 m c) (A1 m c) (row t (i 0)) ⟨q.val * 128 + (i 1).val, lane_lt q (i 1)⟩

/-- Group `q` at a grid point: the group of the gated activation. -/
theorem laneAt (c : Dev nD) (t : Fin cfg0.N) (q : Fin 16) (inb : ∀ a, ![q.val, 0, 0] a + ![1, 1024, 128] a ≤ S16x1024x128.size a) :
    lane (View.ld (iblk m c 0 t) (Rect.unit ![q.val, 0, 0] ![1, 1024, 128] inb)) (View.ld (iblk m c 1 t) (Rect.unit ![q.val, 0, 0] ![1, 1024, 128] inb))
      = gAt m c t q := by
  rw [lane_eq]
  funext i
  idx_vars i
  unfold gAt Z
  pointwise
  simp only [blk0, blk1]

/-- Sixteen groups side by side, element by element. -/
theorem join16_apply (f : Fin 16 → FVec Ideal S1024x128 .bf16) (r : Fin 1024) (k : Fin 2048) :
    join16 (f 0) (f 1) (f 2) (f 3) (f 4) (f 5) (f 6) (f 7) (f 8) (f 9) (f 10) (f 11) (f 12) (f 13) (f 14) (f 15) (ix2 r k)
      = f ⟨k.val / 128, by omega⟩ (ix2 r ⟨k.val % 128, by omega⟩) := by
  unfold join16
  refine concatenate_ofFn_apply (s₁ := S1024x128) (t := S1024x2048) 1 f _ rfl 128 rfl (ix2 r k) ⟨k.val / 128, by omega⟩ rfl _ rfl fun b hb => ?_
  obtain ⟨b, hb'⟩ := b
  match b, hb' with
  | 0, _ => rfl
  | 1, _ => exact absurd rfl hb

/-- The gated activation of a row block. -/
abbrev zAt (c : Dev nD) (t : Fin cfg0.N) : FVec Ideal S1024x2048 .bf16 :=
  fun i => Z (A0 m c) (A1 m c) (row t (i 0)) (i 1)

theorem group_in (q : Fin 16) : ∀ a, ![q.val, 0, 0] a + ![1, 1024, 128] a ≤ S16x1024x128.size a := by
  revert q; decide

/-- Group `q` as the kernel forms it at a grid point. -/
abbrev kAt (c : Dev nD) (t : Fin cfg0.N) (q : Fin 16) : FVec Ideal S1024x128 .bf16 :=
  lane (View.ld (iblk m c 0 t) (Rect.unit ![q.val, 0, 0] ![1, 1024, 128] (group_in q))) (View.ld (iblk m c 1 t) (Rect.unit ![q.val, 0, 0] ![1, 1024, 128] (group_in q)))

/-- The kernel's sixteen groups at a grid point, side by side, are it. -/
theorem join_eq (c : Dev nD) (t : Fin cfg0.N) :
    join16 (kAt m c t 0) (kAt m c t 1) (kAt m c t 2) (kAt m c t 3) (kAt m c t 4) (kAt m c t 5) (kAt m c t 6) (kAt m c t 7) (kAt m c t 8) (kAt m c t 9) (kAt m c t 10) (kAt m c t 11) (kAt m c t 12) (kAt m c t 13) (kAt m c t 14) (kAt m c t 15) = zAt m c t := by
  funext i
  idx_vars i
  refine (join16_apply (kAt m c t) i0 i1).trans ?_
  rw [show kAt m c t = gAt m c t from funext fun q => laneAt m c t q (group_in q)]
  refine congrArg (Z (A0 m c) (A1 m c) (row t i0)) (Fin.ext ?_)
  show i1.val / 128 * 128 + i1.val % 128 = i1.val
  omega

/-- What the first point of a run leaves: its product, added to zero. -/
theorem outs_A (c : Dev nD) (t : Fin cfg0.N) (h0 : t.val % 8 = 0) :
    outsAt0 m c t.val t.isLt = k0_pay1 (k0_pay26 (k0_pay2 (F := Ideal))) (step (zAt m c t) (iblk m c 2 t)) := by
  rw [outsAt0_A m c t h0]
  frame_out
  rw [← join_eq m c t]
  rfl
/-- What a later point leaves: its product, added to what the point before left. -/
theorem outs_B (c : Dev nD) (t : Fin cfg0.N) (h0 : ¬t.val % 8 = 0) :
    outsAt0 m c t.val t.isLt = k0_pay1 (k0_pay26 (outsAt0 m c (t.val - 1) (Nat.lt_of_le_of_lt (Nat.sub_le _ _) t.isLt))) (step (zAt m c t) (iblk m c 2 t)) := by
  rw [outsAt0_B m c t h0]
  frame_out
  rw [← join_eq m c t]
  rfl

theorem part_lt (a : Fin 4) (b : Fin 512) : a.val * 512 + b.val < 2048 := by omega

/-- One point's step, element by element. -/
theorem step_apply (c : Dev nD) (t : Fin cfg0.N) (acc : Vec Ideal S4x512x1024 .f32) (a : Fin 4) (b : Fin 512) (d : Fin 1024) :
    k0_pay1 (k0_pay26 acc) (step (zAt m c t) (iblk m c 2 t)) (ix3 a b d)
      = acc (ix3 a b d) + ∑ r : Fin 1024, Z (A0 m c) (A1 m c) (row t r) ⟨a.val * 512 + b.val, part_lt a b⟩ * A2 m c (ix2 (row t r) d) := by
  pointwise [k0_pay1, k0_pay26, step]
  simp only [blk2]
  rfl

theorem row_run (s : Fin 8) (r : Fin 1024) (h : s.val < cfg0.N) : row ⟨s.val, h⟩ r = ⟨s.val * 1024 + r.val, by omega⟩ := rfl

/-- The block after the last point: the gradient of the weight. -/
theorem sum3 (c : Dev nD) (t : Fin cfg0.N) (h : t.val % 8 = 7) (a : Fin 4) (b : Fin 512) (d : Fin 1024) :
    outsAt0 m c t.val t.isLt (ix3 a b d) = DW (A0 m c) (A1 m c) (A2 m c) ⟨a.val * 512 + b.val, part_lt a b⟩ d := by
  rw [Pipeline.eq_sum_fin_of_reset_step_apply_of_flush (fun n h => outsAt0 m c n h) 8 (fun _ => (0 : EReal)) (fun t (j : S4x512x1024.Idx) => ∑ r : Fin 1024, Z (A0 m c) (A1 m c) (row t r) ⟨(j 0).val * 512 + (j 1).val, part_lt (j 0) (j 1)⟩ * A2 m c (ix2 (row t r) (j 2)))
    (fun t h j => by
      rw [outs_A m c t h]; idx_vars j; rw [step_apply]; pointwise [k0_pay2])
    (fun t h j => by
      rw [outs_B m c t h]; idx_vars j; rw [step_apply])
    t h (ix3 a b d), zero_add]
  have ht : t.val / 8 = 0 := by have := t.isLt; have : cfg0.N = 8 := N_0; omega
  simp only [ht, mul_zero, zero_add]
  exact (Fin.sum_univ_tiles 8 1024 (by norm_num) fun r => Z (A0 m c) (A1 m c) r ⟨a.val * 512 + b.val, part_lt a b⟩ * A2 m c (ix2 r d)).symm

theorem tile_lt (b : Fin 512) : 2 * 512 + b.val < 1792 := by omega

/-- The result's array: the gradient over the gradient buffer. -/
theorem arr3 (c : Dev nD) : (dats m 0 c).arrAt 3 cfg0.N = Cert.OutWMath.gw (A0 m c) (A1 m c) (A2 m c) (A3 m c) := by
  have hV : V m c main_v7 = A3 m c := by entry_read; rfl
  refine ((dats m 0 c).arrAt_eq_of_coversWhere (P := fun i : S4x1792x1024.Idx => (i 1).val / 512 = 2) 3 (Cert.OutWMath.gw (A0 m c) (A1 m c) (A2 m c) (A3 m c)) (fun β => β (1 : Fin _) = 2) (by decide +kernel) (fun t hf y => ?_) (fun j => Iff.rfl)).trans ?_
  · have h := (flush0_3 t).mp hf
    blk_simp
    rw [after0_3]
    have he : ∀ x : S4x512x1024.Idx, x = (cfg0.win 3).xinj (cfg0.grid.coords t) y →
        ((win0_3.blk t).view.emb y : S4x1792x1024.Idx) = ix3 (x 0) ⟨2 * 512 + (x 1).val, tile_lt (x 1)⟩ (x 2) := by
      rintro x rfl
      blk_ext [index3 t]
    generalize hx : (cfg0.win 3).xinj (cfg0.grid.coords t) y = x at *
    rw [he x rfl]
    idx_vars x
    rw [sum3 m c t h]
    unfold Cert.OutWMath.gw
    rw [if_pos]
    · refine congrArg (fun k => DW (A0 m c) (A1 m c) (A2 m c) k x2) (Fin.ext ?_)
      show x0.val * 512 + x1.val = x0.val * 512 + (2 * 512 + x1.val) % 512
      have : x1.val < 512 := x1.isLt
      omega
    · show (2 * 512 + x1.val) / 512 = 2
      have : x1.val < 512 := x1.isLt
      omega
  · funext i
    unfold Cert.OutWMath.gw
    split_ifs with h
    · rfl
    · exact congrFun hV i

end Cert.OutWIdeal.Step
end
-- ==== Proof.OutWClaim.lean ====
/-
  The claims about the gradient of the out-projection's weight: the frames of the kernel, of its idealization and of the
  reference, and the equality of the two over the extended reals.
-/
module

public import proofs.«01_k».proof.Defs
public import proofs.«01_k».proof.Proof.Gen.OutW.Frame
public import proofs.«01_k».proof.Proof.OutWArray
public import Idealize.ShloMosaic.Adequacy
public import Idealize.ShloMosaic.Init

@[expose] public section

noncomputable section

namespace Cert.Proof.OutW

open Idealize.ShloMosaic Idealize.SL.Sem

/-- The kernel's body table is its idealization's. -/
theorem bodies_eq : Cert.OutWIdeal.defs₀ (F := Bits) = Cert.OutW.defs₀ (F := Bits) := by
  unfold Cert.OutWIdeal.defs₀ Cert.OutW.defs₀
  refine congrArg Defs.onTc (funext fun l => funext fun x => ?_)
  match l with
  | 0 => rfl

/-- So is its table of all bodies. -/
theorem defs_eq : Cert.OutWIdeal.defs (F := Bits) = Cert.OutW.defs (F := Bits) :=
  congrArg (Pipeline.defs Cert.OutWIdeal.pcfgs) bodies_eq

/-- The kernel runs, keeps its arguments and leaves every semaphore at zero: its text is its idealization's, whose run
    holds for any float values. -/
theorem frame_kernel : Cert.quiescent_OutW := fun m ρ _ => by
  have h := Cert.OutWIdeal.Step.frame (F := Bits) m ρ
  rw [defs_eq] at h
  exact h

/-- So does its idealization. -/
theorem frame_ideal : Cert.quiescent_OutWIdeal := fun m ρ _ => Cert.OutWIdeal.Step.frame m ρ

/-- So does the reference, which has no semaphore. -/
theorem frame_ref : Cert.quiescent_OutWRefIdeal := fun m ρ _ =>
  (θ_run _ _ _).mono (fun r h => ⟨fun c => (h c).2, Idealize.ShloMosaic.sem_eq_zero_of_no_sems (by decide) r.2⟩)
    (Cert.OutWRefIdeal.Value.run m ρ)

/-- No rewrite was made on the way to the idealization. -/
theorem preserves : Cert.preserves_OutW_OutWIdeal := trivial

/-- Kernel and reference end with the same gradient buffer. -/
theorem algebraic : Cert.algebraic_OutWIdeal_OutWRefIdeal := by
  intro m g m' g' _ hargs
  refine ⟨fun c => Cert.OutWMath.gw (m (c.tc.loc Cert.OutWIdeal.main_arg0)) (m (c.tc.loc Cert.OutWIdeal.main_arg1)) (m (c.tc.loc Cert.OutWIdeal.main_arg2)) (m (c.tc.loc Cert.OutWIdeal.main_arg3)),
    (θ_run _ _ _).mono (fun r h c => ?_) (Cert.OutWIdeal.Step.run_blocks m g),
    (θ_run _ _ _).mono (fun r h c => ?_) (Cert.OutWRefIdeal.Value.run m' g')⟩
  · obtain ⟨h0, hr⟩ := h c
    exact ⟨h0.trans (Cert.OutWIdeal.Step.arr3 m c), hr⟩
  · obtain ⟨h0, hr⟩ := h c
    obtain ⟨a0, a1, a2, a3⟩ := hargs c
    refine ⟨h0.trans ?_, hr⟩
    rw [a0, a1, a2, a3]
    exact Cert.OutWMath.ref_gw _ _ _ _

end Cert.Proof.OutW

end
-- ==== Proof.InWBody.lean ====
/- The body of the call `InW` with its values named: each value it computes is a definition over the
   values read before it, and the printed body is the sequence of loads, values and stores. -/
module

public import proofs.«01_k».proof.Proof.Gen.InWIdeal.Frame

@[expose] public section

set_option maxRecDepth 16384

noncomputable section

namespace Cert.InWIdeal.Step

open Cert.InWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A value of the body, from the values read before it. -/
noncomputable def k0_pay1 (v9 : FVec F S1024x1024 .bf16) (v53 : Vec F S1x1024x1024 .f32) (v55 : Vec F S1024x1024 .bf16) : FVec F S1x1024x1024 .f32 :=
  have v54 : FVec F S1024x1024 .f32 := shapeCast S1024x1024 v53 shapeCasts_S1x1024x1024_S1024x1024
  have v56 : FVec F S1024x1024 .bf16 := shapeCast S1024x1024 v55 shapeCasts_S1024x1024_S1024x1024
  have cst : FVec F S1024x1024 .f32 := constant S1024x1024 .f32 0x00000000#32
  have v57 : FVec F S1024x1024 .f32 := matmul dot_S1024x1024_S1024x1024_S1024x1024_0_0_1_1_n_n none v9 v56 cst
  have v58 : FVec F S1024x1024 .f32 := addf v54 v57
  have v61 : FVec F S1x1024x1024 .f32 := shapeCast S1x1024x1024 v58 shapeCasts_S1024x1024_S1x1024x1024
  v61

/-- A value of the body, from the values read before it. -/
noncomputable def k0_pay2 (v0 : Vec F S1024x1024 .f32) (v1 : Vec F S1x1024 .f32) (v5 : Vec F S1x1024 .f32) : FVec F S1024x1024 .bf16 :=
  have v2 : FVec F S1x1024 .f32 := shapeCast S1x1024 v1 shapeCasts_S1x1024_S1x1024
  have v3 : FVec F S1024x1024 .f32 := broadcastTo S1024x1024 v2 broadcasts_S1x1024_S1024x1024
  have v4 : FVec F S1024x1024 .f32 := mulf v0 v3
  have v6 : FVec F S1x1024 .f32 := shapeCast S1x1024 v5 shapeCasts_S1x1024_S1x1024
  have v7 : FVec F S1024x1024 .f32 := broadcastTo S1024x1024 v6 broadcasts_S1x1024_S1024x1024
  have v8 : FVec F S1024x1024 .f32 := addf v4 v7
  have v9 : FVec F S1024x1024 .bf16 := truncf .bf16 v8 bitsLt_bf16_f32
  v9

/-- A value of the body, from the values read before it. -/
noncomputable def k0_pay3 : FVec F S1x1024x1024 .f32 :=
  have cst : F .f32 := Scalar.ofBits .f32 0x00000000#32
  have v53 : FVec F S1024x1024 .f32 := broadcast S1024x1024 cst
  have v56 : FVec F S1x1024x1024 .f32 := shapeCast S1x1024x1024 v53 shapeCasts_S1024x1024_S1x1024x1024
  v56

/-- A value of the body, from the values read before it. -/
noncomputable def k0_pay4 (v0 : Vec F S1024x1024 .f32) (v1 : Vec F S1x1024 .f32) (v5 : Vec F S1x1024 .f32) (v53 : Vec F S1x1024x1024 .f32) (v55 : Vec F S1024x1024 .bf16) : FVec F S1x1024x1024 .f32 :=
  have v54 : FVec F S1024x1024 .f32 := shapeCast S1024x1024 v53 shapeCasts_S1x1024x1024_S1024x1024
  have v56 : FVec F S1024x1024 .bf16 := shapeCast S1024x1024 v55 shapeCasts_S1024x1024_S1024x1024
  have cst : FVec F S1024x1024 .f32 := constant S1024x1024 .f32 0x00000000#32
  have v57 : FVec F S1024x1024 .f32 := matmul dot_S1024x1024_S1024x1024_S1024x1024_0_0_1_1_n_n none (k0_pay2 v0 v1 v5) v56 cst
  have v58 : FVec F S1024x1024 .f32 := addf v54 v57
  have v61 : FVec F S1x1024x1024 .f32 := shapeCast S1x1024x1024 v58 shapeCasts_S1024x1024_S1x1024x1024
  v61

/-- The same text with its values named. -/
noncomputable def cc0_inproj_bwd_w1_skel (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .hbm S4x1792x1024 .f32) (harg7 : arg7.IsWhole) (arg8 : Memref sig .tc .vmem S1x1024x1024 .f32) (harg8 : arg8.IsWhole) :
    Prog (TpuEff nD τ sig (Elt F) Λ₀ .tc) PUnit := do
  let ⟨arg0, v9, c2_i32_13, v33, v35, c0_i32_15⟩ : Σ' (arg0 : BitVec 32) (v9 : FVec F S1024x1024 .bf16) (c2_i32_13 : BitVec 32) (v33 : BitVec 32) (v35 : BitVec 32), BitVec 32 ← k0_part1 i arg2 harg2 arg3 harg3 arg4 harg4 arg5 harg5 arg6 harg6 arg7 harg7 arg8 harg8

  if k0_h3 : k0_cond3 i = 1#1 then do
    let v53 : Vec F S1x1024x1024 .f32 ← Prog.lift (.load arg8 (Rect.unit (s := S1x1024x1024) ![0, 0, 0] S1x1024x1024.size inb_S1x1024x1024_S1x1024x1024_0_0_0).toLoadRect (View.loadsAt_vmem h_S1x1024x1024))
    let v55 : Vec F S1024x1024 .bf16 ← Prog.lift (.load arg6 (Rect.unit (s := S1024x1024) ![0, 0] S1024x1024.size inb_S1024x1024_S1024x1024_0_0).toLoadRect (View.loadsAt_vmem h_S1024x1024))
    let v59 : Vec F S1x1024x1024 .f32 ← Prog.lift (.load arg8 (Rect.unit (s := S1x1024x1024) ![0, 0, 0] S1x1024x1024.size inb_S1x1024x1024_S1x1024x1024_0_0_0).toLoadRect (View.loadsAt_vmem h_S1x1024x1024))

    Prog.lift (.store arg8 (Rect.unit (s := S1x1024x1024) ![0, 0, 0] S1x1024x1024.size inb_S1x1024x1024_S1x1024x1024_0_0_0) (k0_pay1 v9 v53 v55) Finset.univ (View.stores_vmem_bits_univ h_S1x1024x1024 rfl) (.inl rfl))
    pure ⟨⟩
  else do
    pure ⟨⟩
  pure ⟨⟩

set_option maxRecDepth 65536 in
/-- The printed text is the text with its values named. -/
theorem cc0_inproj_bwd_w1_eq_skeleton : cc0_inproj_bwd_w1 (F := F) = cc0_inproj_bwd_w1_skel (F := F) := rfl

/-- The same text with its values named. -/
noncomputable def k0_part1_skel (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .hbm S4x1792x1024 .f32) (harg7 : arg7.IsWhole) (arg8 : Memref sig .tc .vmem S1x1024x1024 .f32) (harg8 : arg8.IsWhole) :
    Prog (TpuEff nD τ sig (Elt F) Λ₀ .tc) (Σ' (arg0 : BitVec 32) (v9 : FVec F S1024x1024 .bf16) (c2_i32_13 : BitVec 32) (v33 : BitVec 32) (v35 : BitVec 32), BitVec 32) := do
  let arg0 : BitVec 32 := BitVec.ofNat 32 (i 0).val

  let v0 : Vec F S1024x1024 .f32 ← Prog.lift (.load arg2 (Rect.unit (s := S1024x1024) ![0, 0] S1024x1024.size inb_S1024x1024_S1024x1024_0_0).toLoadRect (View.loadsAt_vmem h_S1024x1024))
  let v1 : Vec F S1x1024 .f32 ← Prog.lift (.load arg3 (Rect.unit (s := S1x1024) ![0, 0] S1x1024.size inb_S1x1024_S1x1024_0_0).toLoadRect (View.loadsAt_vmem h_S1x1024))
  let v5 : Vec F S1x1024 .f32 ← Prog.lift (.load arg4 (Rect.unit (s := S1x1024) ![0, 0] S1x1024.size inb_S1x1024_S1x1024_0_0).toLoadRect (View.loadsAt_vmem h_S1x1024))

  if k0_h1 : k0_cond1 i = 1#1 then do
    let v54 : Vec F S1x1024x1024 .f32 ← Prog.lift (.load arg8 (Rect.unit (s := S1x1024x1024) ![0, 0, 0] S1x1024x1024.size inb_S1x1024x1024_S1x1024x1024_0_0_0).toLoadRect (View.loadsAt_vmem h_S1x1024x1024))

    Prog.lift (.store arg8 (Rect.unit (s := S1x1024x1024) ![0, 0, 0] S1x1024x1024.size inb_S1x1024x1024_S1x1024x1024_0_0_0) (k0_pay3 (F := F)) Finset.univ (View.stores_vmem_bits_univ h_S1x1024x1024 rfl) (.inl rfl))
    pure ⟨⟩
  else do
    pure ⟨⟩

  if k0_h2 : k0_cond2 i = 1#1 then do
    let v53 : Vec F S1x1024x1024 .f32 ← Prog.lift (.load arg8 (Rect.unit (s := S1x1024x1024) ![0, 0, 0] S1x1024x1024.size inb_S1x1024x1024_S1x1024x1024_0_0_0).toLoadRect (View.loadsAt_vmem h_S1x1024x1024))
    let v55 : Vec F S1024x1024 .bf16 ← Prog.lift (.load arg5 (Rect.unit (s := S1024x1024) ![0, 0] S1024x1024.size inb_S1024x1024_S1024x1024_0_0).toLoadRect (View.loadsAt_vmem h_S1024x1024))
    let v59 : Vec F S1x1024x1024 .f32 ← Prog.lift (.load arg8 (Rect.unit (s := S1x1024x1024) ![0, 0, 0] S1x1024x1024.size inb_S1x1024x1024_S1x1024x1024_0_0_0).toLoadRect (View.loadsAt_vmem h_S1x1024x1024))

    Prog.lift (.store arg8 (Rect.unit (s := S1x1024x1024) ![0, 0, 0] S1x1024x1024.size inb_S1x1024x1024_S1x1024x1024_0_0_0) (k0_pay4 v0 v1 v5 v53 v55) Finset.univ (View.stores_vmem_bits_univ h_S1x1024x1024 rfl) (.inl rfl))
    pure ⟨⟩
  else do
    pure ⟨⟩
  let v33 : BitVec 32 := Scalar.divsi arg0 2#32
  let v34 : BitVec 1 := Scalar.cmpi .sgt arg0 0#32
  let v35 : BitVec 32 := Scalar.extui v34
  pure ⟨arg0, k0_pay2 v0 v1 v5, 2#32, v33, v35, 0#32⟩

set_option maxRecDepth 65536 in
/-- The printed text is the text with its values named. -/
theorem k0_part1_eq_skeleton : k0_part1 (F := F) = k0_part1_skel (F := F) := rfl

end Cert.InWIdeal.Step

end
-- ==== Proof.InWRun.lean ====
/- The run of the call `InW`, for any float values: what its output block holds after each point of
   the grid, that the whole program ends with the arrays so computed, and that its arguments are kept. -/
module

public import proofs.«01_k».proof.Proof.InWBody
public import Idealize.ShloMosaic.Lib.Claim
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.InWIdeal.Step

open Cert.InWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A condition the body branches on, at a grid point. -/
abbrev cond0_0 (i : grid0.Coords) : Prop := k0_cond1 i = 1#1
/-- That condition in terms of the point's number. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- A condition the body branches on, at a grid point. -/
abbrev cond0_1 (i : grid0.Coords) : Prop := k0_cond2 i = 1#1
/-- That condition in terms of the point's number. -/
theorem hcond0_1 : ∀ t : Fin cfg0.N, cond0_1 (grid0.coords t) ↔ t.val < 16 :=
  (by decide +kernel : ∀ t : Fin grid0.N, cond0_1 (grid0.coords t) ↔ t.val < 16)

/-- A condition the body branches on, at a grid point. -/
abbrev cond0_2 (i : grid0.Coords) : Prop := k0_cond3 i = 1#1
/-- That condition in terms of the point's number. -/
theorem hcond0_2 : ∀ t : Fin cfg0.N, cond0_2 (grid0.coords t) ↔ 16 ≤ t.val :=
  (by decide +kernel : ∀ t : Fin grid0.N, cond0_2 (grid0.coords t) ↔ 16 ≤ t.val)

/-- The window is in use at these points. -/
theorem liveAt0_0 : ∀ t : Fin cfg0.N, cfg0.idle 0 (grid0.coords t) = false := fun _ => rfl
/-- The window is in use at these points. -/
theorem liveAt0_1 : ∀ t : Fin cfg0.N, cfg0.idle 1 (grid0.coords t) = false := fun _ => rfl
/-- The window is in use at these points. -/
theorem liveAt0_2 : ∀ t : Fin cfg0.N, cfg0.idle 2 (grid0.coords t) = false := fun _ => rfl
/-- The window is in use at these points. -/
theorem liveAt0_3 : ∀ t : Fin cfg0.N, cfg0.idle 3 (grid0.coords t) = false := fun _ => rfl
/-- The window is in use at these points. -/
theorem liveAt0_4 : ∀ t : Fin cfg0.N, cfg0.idle 4 (grid0.coords t) = false := fun _ => rfl
/-- At which positions the accumulated block has nothing of its run in it yet. -/
def freshTab0_5 : ℕ → Bool
  | 0 => true
  | n + 1 => (0x80808080 : ℕ).testBit n
/-- The table follows the configuration point by point. -/
theorem freshTab0_5_step : ∀ t : Fin cfg0.N,
    freshTab0_5 (t.val + 1) = ((cfg0.win 5).flush t || (cfg0.idle 5 (cfg0.grid.coords t) && freshTab0_5 t.val)) := by decide +kernel
/-- The table says where the block is fresh. -/
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- The window is in use at these points. -/
theorem liveAt0_5_A : ∀ t : Fin cfg0.N, cond0_0 (grid0.coords t) → cond0_1 (grid0.coords t) → ¬cond0_2 (grid0.coords t) → cfg0.idle 5 (grid0.coords t) = false := by decide +kernel
/-- The window is in use at these points. -/
theorem liveAt0_5_B : ∀ t : Fin cfg0.N, ¬cond0_0 (grid0.coords t) → cond0_1 (grid0.coords t) → ¬cond0_2 (grid0.coords t) → cfg0.idle 5 (grid0.coords t) = false := by decide +kernel
/-- At a later point of a run the block is not fresh. -/
theorem notFresh0_5_B : ∀ t : Fin cfg0.N, ¬cond0_0 (grid0.coords t) → cond0_1 (grid0.coords t) → ¬cond0_2 (grid0.coords t) → cfg0.fresh 5 t.val = false := by
  intro t; rw [fresh0_5_eq t]; revert t; decide +kernel
/-- The window is in use at these points. -/
theorem liveAt0_5_C : ∀ t : Fin cfg0.N, cond0_0 (grid0.coords t) → ¬cond0_1 (grid0.coords t) → cond0_2 (grid0.coords t) → cfg0.idle 5 (grid0.coords t) = false := by decide +kernel
/-- The window is in use at these points. -/
theorem liveAt0_5_D : ∀ t : Fin cfg0.N, ¬cond0_0 (grid0.coords t) → ¬cond0_1 (grid0.coords t) → cond0_2 (grid0.coords t) → cfg0.idle 5 (grid0.coords t) = false := by decide +kernel
/-- At a later point of a run the block is not fresh. -/
theorem notFresh0_5_D : ∀ t : Fin cfg0.N, ¬cond0_0 (grid0.coords t) → ¬cond0_1 (grid0.coords t) → cond0_2 (grid0.coords t) → cfg0.fresh 5 t.val = false := by
  intro t; rw [fresh0_5_eq t]; revert t; decide +kernel

/-- No block of the output window that the grid reaches overhangs its array. -/
theorem whole0_5 : ∀ (i : cfg0.grid.Coords) a, (cfg0.win 5).clip i a = none := by
  decide +kernel

/-- A staging buffer of the output window. -/
abbrev VO0_5 : View sig .tc .vmem S1x1024x1024 .f32 := (Memref.whole cc0_stg5_0 : Memref sig .tc .vmem S1x1024x1024 .f32).view
/-- The window's staging buffer at a point. -/
abbrev ms0_0 (t : Fin cfg0.N) : Memref sig .tc .vmem S1024x1024 .f32 := win0_0.stage (cfg0.slots t 0)
/-- That staging buffer is a whole one. -/
abbrev hs0_0 (t : Fin cfg0.N) : (ms0_0 t).IsWhole := hstage0_0 ((cfg0.slots t 0).cast nbuf0_0)
/-- The window's staging buffer at a point. -/
abbrev ms0_1 (t : Fin cfg0.N) : Memref sig .tc .vmem S1x1024 .f32 := win0_1.stage (cfg0.slots t 1)
/-- That staging buffer is a whole one. -/
abbrev hs0_1 (t : Fin cfg0.N) : (ms0_1 t).IsWhole := hstage0_1 ((cfg0.slots t 1).cast nbuf0_1)
/-- The window's staging buffer at a point. -/
abbrev ms0_2 (t : Fin cfg0.N) : Memref sig .tc .vmem S1x1024 .f32 := win0_2.stage (cfg0.slots t 2)
/-- That staging buffer is a whole one. -/
abbrev hs0_2 (t : Fin cfg0.N) : (ms0_2 t).IsWhole := hstage0_2 ((cfg0.slots t 2).cast nbuf0_2)
/-- The window's staging buffer at a point. -/
abbrev ms0_3 (t : Fin cfg0.N) : Memref sig .tc .vmem S1024x1024 .bf16 := win0_3.stage (cfg0.slots t 3)
/-- That staging buffer is a whole one. -/
abbrev hs0_3 (t : Fin cfg0.N) : (ms0_3 t).IsWhole := hstage0_3 ((cfg0.slots t 3).cast nbuf0_3)
/-- The window's staging buffer at a point. -/
abbrev ms0_4 (t : Fin cfg0.N) : Memref sig .tc .vmem S1024x1024 .bf16 := win0_4.stage (cfg0.slots t 4)
/-- That staging buffer is a whole one. -/
abbrev hs0_4 (t : Fin cfg0.N) : (ms0_4 t).IsWhole := hstage0_4 ((cfg0.slots t 4).cast nbuf0_4)
/-- The window's staging buffer at a point. -/
abbrev ms0_5 (t : Fin cfg0.N) : Memref sig .tc .vmem S1x1024x1024 .f32 := win0_5.stage (cfg0.slots t 5)
/-- That staging buffer is a whole one. -/
abbrev hs0_5 (t : Fin cfg0.N) : (ms0_5 t).IsWhole := hstage0_5 ((cfg0.slots t 5).cast nbuf0_5)

set_option maxHeartbeats 1000000 in
/-- What the body stores at the first point of a run over the first half, with the proof that it runs and leaves its inputs as they were. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) :
    { L5 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0_inproj_bwd_w1 i arg2 harg2 arg3 harg3 arg4 harg4 arg5 harg5 arg6 harg6 (Memref.whole main_arg5) (Memref.isWhole_whole _) arg8 harg8) K } := by
  refine ⟨?_, fun E K => ?run⟩
  case run =>
    simp only [cc0_inproj_bwd_w1_eq_skeleton]; unfold cc0_inproj_bwd_w1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5
set_option maxHeartbeats 1000000 in
/-- What the body stores at a later point over the first half, with the proof that it runs and leaves its inputs as they were. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : ¬cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (xo5 : Vec F S1x1024x1024 .f32) :
    { L5 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0_inproj_bwd_w1 i arg2 harg2 arg3 harg3 arg4 harg4 arg5 harg5 arg6 harg6 (Memref.whole main_arg5) (Memref.isWhole_whole _) arg8 harg8) K } := by
  refine ⟨?_, fun E K => ?run⟩
  case run =>
    simp only [cc0_inproj_bwd_w1_eq_skeleton]; unfold cc0_inproj_bwd_w1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5
set_option maxHeartbeats 1000000 in
/-- What the body stores at the first point of a run over the second half, with the proof that it runs and leaves its inputs as they were. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) :
    { L5 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0_inproj_bwd_w1 i arg2 harg2 arg3 harg3 arg4 harg4 arg5 harg5 arg6 harg6 (Memref.whole main_arg5) (Memref.isWhole_whole _) arg8 harg8) K } := by
  refine ⟨?_, fun E K => ?run⟩
  case run =>
    simp only [cc0_inproj_bwd_w1_eq_skeleton]; unfold cc0_inproj_bwd_w1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5
set_option maxHeartbeats 1000000 in
/-- What the body stores at a later point over the second half, with the proof that it runs and leaves its inputs as they were. -/
noncomputable def kernelRun0_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : ¬cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (xo5 : Vec F S1x1024x1024 .f32) :
    { L5 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0_inproj_bwd_w1 i arg2 harg2 arg3 harg3 arg4 harg4 arg5 harg5 arg6 harg6 (Memref.whole main_arg5) (Memref.isWhole_whole _) arg8 harg8) K } := by
  refine ⟨?_, fun E K => ?run⟩
  case run =>
    simp only [cc0_inproj_bwd_w1_eq_skeleton]; unfold cc0_inproj_bwd_w1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- At the first point of a run over the first half the stores cover the output block. -/
theorem cover0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (y : S1x1024x1024.Idx) :
    ∃ pc ∈ (kernelRun0_A c i arg2 harg2 arg3 harg3 arg4 harg4 arg5 harg5 arg6 harg6 arg8 harg8 hc0 hc1 hc2 x0 x1 x2 x3 x4).1, y ∈ pc.1.set :=
  View.cover_of_tiledL (kernelRun0_A c i arg2 harg2 arg3 harg3 arg4 harg4 arg5 harg5 arg6 harg6 arg8 harg8 hc0 hc1 hc2 x0 x1 x2 x3 x4).1 S1x1024x1024.size (by sl_kernel_rfl) y

/-- The output block after the first point of a run over the first half. -/
def out0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) : Vec F S1x1024x1024 .f32 :=
  VO0_5.read (Elt F) (VO0_5.writes (Elt F) VO0_5.junk (kernelRun0_A c i arg2 harg2 arg3 harg3 arg4 harg4 arg5 harg5 arg6 harg6 arg8 harg8 hc0 hc1 hc2 x0 x1 x2 x3 x4).1)

/-- At a later point over the first half the stores cover the output block. -/
theorem cover0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : ¬cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (xo5 : Vec F S1x1024x1024 .f32) (y : S1x1024x1024.Idx) :
    ∃ pc ∈ (kernelRun0_B c i arg2 harg2 arg3 harg3 arg4 harg4 arg5 harg5 arg6 harg6 arg8 harg8 hc0 hc1 hc2 x0 x1 x2 x3 x4 xo5).1, y ∈ pc.1.set :=
  View.cover_of_tiledL (kernelRun0_B c i arg2 harg2 arg3 harg3 arg4 harg4 arg5 harg5 arg6 harg6 arg8 harg8 hc0 hc1 hc2 x0 x1 x2 x3 x4 xo5).1 S1x1024x1024.size (by sl_kernel_rfl) y

/-- The output block after a later point over the first half. -/
def out0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : ¬cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (xo5 : Vec F S1x1024x1024 .f32) : Vec F S1x1024x1024 .f32 :=
  VO0_5.read (Elt F) (VO0_5.writes (Elt F) VO0_5.junk (kernelRun0_B c i arg2 harg2 arg3 harg3 arg4 harg4 arg5 harg5 arg6 harg6 arg8 harg8 hc0 hc1 hc2 x0 x1 x2 x3 x4 xo5).1)

/-- At the first point of a run over the second half the stores cover the output block. -/
theorem cover0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (y : S1x1024x1024.Idx) :
    ∃ pc ∈ (kernelRun0_C c i arg2 harg2 arg3 harg3 arg4 harg4 arg5 harg5 arg6 harg6 arg8 harg8 hc0 hc1 hc2 x0 x1 x2 x3 x4).1, y ∈ pc.1.set :=
  View.cover_of_tiledL (kernelRun0_C c i arg2 harg2 arg3 harg3 arg4 harg4 arg5 harg5 arg6 harg6 arg8 harg8 hc0 hc1 hc2 x0 x1 x2 x3 x4).1 S1x1024x1024.size (by sl_kernel_rfl) y

/-- The output block after the first point of a run over the second half. -/
def out0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) : Vec F S1x1024x1024 .f32 :=
  VO0_5.read (Elt F) (VO0_5.writes (Elt F) VO0_5.junk (kernelRun0_C c i arg2 harg2 arg3 harg3 arg4 harg4 arg5 harg5 arg6 harg6 arg8 harg8 hc0 hc1 hc2 x0 x1 x2 x3 x4).1)

/-- At a later point over the second half the stores cover the output block. -/
theorem cover0_D_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : ¬cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (xo5 : Vec F S1x1024x1024 .f32) (y : S1x1024x1024.Idx) :
    ∃ pc ∈ (kernelRun0_D c i arg2 harg2 arg3 harg3 arg4 harg4 arg5 harg5 arg6 harg6 arg8 harg8 hc0 hc1 hc2 x0 x1 x2 x3 x4 xo5).1, y ∈ pc.1.set :=
  View.cover_of_tiledL (kernelRun0_D c i arg2 harg2 arg3 harg3 arg4 harg4 arg5 harg5 arg6 harg6 arg8 harg8 hc0 hc1 hc2 x0 x1 x2 x3 x4 xo5).1 S1x1024x1024.size (by sl_kernel_rfl) y

/-- The output block after a later point over the second half. -/
def out0_D_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg8 : Memref sig .tc .vmem S1x1024x1024 .f32) (harg8 : arg8.IsWhole) (hc0 : ¬cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (xo5 : Vec F S1x1024x1024 .f32) : Vec F S1x1024x1024 .f32 :=
  VO0_5.read (Elt F) (VO0_5.writes (Elt F) VO0_5.junk (kernelRun0_D c i arg2 harg2 arg3 harg3 arg4 harg4 arg5 harg5 arg6 harg6 arg8 harg8 hc0 hc1 hc2 x0 x1 x2 x3 x4 xo5).1)

/-- What the output block holds after each point of the grid. -/
def outsAt0 (c : Dev nD) : (n : ℕ) → n < cfg0.N → Vec F S1x1024x1024 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      if h1 : (n + 1) < 16 then
        if h2 : 16 ≤ (n + 1) then
          False.elim (by have hN : n + 1 < 32 := lt_of_lt_of_eq hn (show cfg0.N = 32 from N_0); omega)
        else
          out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        if h2 : 16 ≤ (n + 1) then
          out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩)
        else
          False.elim (by have hN : n + 1 < 32 := lt_of_lt_of_eq hn (show cfg0.N = 32 from N_0); omega)
    else
      if h1 : (n + 1) < 16 then
        if h2 : 16 ≤ (n + 1) then
          False.elim (by have hN : n + 1 < 32 := lt_of_lt_of_eq hn (show cfg0.N = 32 from N_0); omega)
        else
          out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
      else
        if h2 : 16 ≤ (n + 1) then
          out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
        else
          False.elim (by have hN : n + 1 < 32 := lt_of_lt_of_eq hn (show cfg0.N = 32 from N_0); omega)

/-- The accumulated block, at the first point of a run over the first half. -/
theorem outsAt0_A (c : Dev nD) (t : Fin cfg0.N) (h0 : t.val % 8 = 0) (h1 : t.val < 16) (h2 : ¬16 ≤ t.val) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) ((hcond0_1 t).mpr h1) (fun h => h2 ((hcond0_2 t).mp h)) (iblk m c 0 t) (iblk m c 1 t) (iblk m c 2 t) (iblk m c 3 t) (iblk m c 4 t) := by
  obtain ⟨n, hn⟩ := t
  cases n with
  | zero => exact rfl
  | succ n => exact (dif_pos h0).trans ((dif_pos h1).trans ((dif_neg h2).trans rfl))

/-- The accumulated block, at a later point over the first half. -/
theorem outsAt0_B (c : Dev nD) (t : Fin cfg0.N) (h0 : ¬t.val % 8 = 0) (h1 : t.val < 16) (h2 : ¬16 ≤ t.val) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The accumulated block, at the first point of a run over the second half. -/
theorem outsAt0_C (c : Dev nD) (t : Fin cfg0.N) (h0 : t.val % 8 = 0) (h1 : ¬t.val < 16) (h2 : 16 ≤ t.val) :
    outsAt0 m c t.val t.isLt = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) ((hcond0_2 t).mpr h2) (iblk m c 0 t) (iblk m c 1 t) (iblk m c 2 t) (iblk m c 3 t) (iblk m c 4 t) := by
  obtain ⟨n, hn⟩ := t
  cases n with
  | zero => exact (by exfalso; (try dsimp only at h1); exact by omega)
  | succ n => exact (dif_pos h0).trans ((dif_neg h1).trans ((dif_pos h2).trans rfl))

/-- The accumulated block, at a later point over the second half. -/
theorem outsAt0_D (c : Dev nD) (t : Fin cfg0.N) (h0 : ¬t.val % 8 = 0) (h1 : ¬t.val < 16) (h2 : 16 ≤ t.val) :
    outsAt0 m c t.val t.isLt = out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What every buffer of the pipeline holds, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by
  dsimp only [dats]

/-- What the body leaves in this window. -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = iblk m c 3 t := by dsimp only [dats]
/-- What the body leaves in this window. -/
theorem after0_4 (c : Dev nD) (t : Fin cfg0.N) : (dats m 0 c).after 4 t = iblk m c 4 t := by dsimp only [dats]
/-- What the body leaves in this window. -/
theorem after0_5 (c : Dev nD) (t : Fin cfg0.N) : (dats m 0 c).after 5 t = (outsAt0 m c t.val t.isLt) := by dsimp only [dats]

/-- What the body finds in this window. -/
theorem before0_0 (c : Dev nD) (t : Fin cfg0.N) (d) : (dats m 0 c).before 0 t d = iblk m c 0 t :=
  before0_0_of m (dats m 0 c) (A_eq m c 0) (after0_0 m c) t d
/-- What the body finds in this window. -/
theorem before0_1 (c : Dev nD) (t : Fin cfg0.N) (d) : (dats m 0 c).before 1 t d = iblk m c 1 t :=
  before0_1_of m (dats m 0 c) (A_eq m c 1) (after0_1 m c) t d
/-- What the body finds in this window. -/
theorem before0_2 (c : Dev nD) (t : Fin cfg0.N) (d) : (dats m 0 c).before 2 t d = iblk m c 2 t :=
  before0_2_of m (dats m 0 c) (A_eq m c 2) (after0_2 m c) t d
/-- What the body finds in this window. -/
theorem before0_3 (c : Dev nD) (t : Fin cfg0.N) (d) : (dats m 0 c).before 3 t d = iblk m c 3 t :=
  before0_3_of m (dats m 0 c) (A_eq m c 3) (after0_3 m c) t d
/-- What the body finds in this window. -/
theorem before0_4 (c : Dev nD) (t : Fin cfg0.N) (d) : (dats m 0 c).before 4 t d = iblk m c 4 t :=
  before0_4_of m (dats m 0 c) (A_eq m c 4) (after0_4 m c) t d

/-- A point that leaves the window idle changes nothing in it. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 32 := lt_of_lt_of_eq t.isLt (show cfg0.N = 32 from N_0)
  rw [after0_5, after0_5]
  by_cases h0 : t.val % 8 = 0
  · by_cases h1 : t.val < 16
    · by_cases h2 : 16 ≤ t.val
      · exfalso; omega
      · rw [liveAt0_5_A t ((hcond0_0 t).mpr h0) ((hcond0_1 t).mpr h1) (fun h => h2 ((hcond0_2 t).mp h))] at hi
        exact absurd hi Bool.false_ne_true
    · by_cases h2 : 16 ≤ t.val
      · rw [liveAt0_5_C t ((hcond0_0 t).mpr h0) (fun h => h1 ((hcond0_1 t).mp h)) ((hcond0_2 t).mpr h2)] at hi
        exact absurd hi Bool.false_ne_true
      · exfalso; omega
  · by_cases h1 : t.val < 16
    · by_cases h2 : 16 ≤ t.val
      · exfalso; omega
      · rw [liveAt0_5_B t (fun h => h0 ((hcond0_0 t).mp h)) ((hcond0_1 t).mpr h1) (fun h => h2 ((hcond0_2 t).mp h))] at hi
        exact absurd hi Bool.false_ne_true
    · by_cases h2 : 16 ≤ t.val
      · rw [liveAt0_5_D t (fun h => h0 ((hcond0_0 t).mp h)) (fun h => h1 ((hcond0_1 t).mp h)) ((hcond0_2 t).mpr h2)] at hi
        exact absurd hi Bool.false_ne_true
      · exfalso; omega
/-- At a later point over the first half the output block still holds what the point before left. -/
theorem before0_5_B (c : Dev nD) (t : Fin cfg0.N) (h0 : ¬t.val % 8 = 0) (h1 : t.val < 16) (h2 : ¬16 ≤ t.val) (d) :
    (dats m 0 c).before 5 t d = (outsAt0 m c (t.val - 1) (Nat.lt_of_le_of_lt (Nat.sub_le _ _) t.isLt)) := by
  rw [Dat.before_out_traj _ 5 rfl whole0_5 (hcarry0_5 m c) t.val t rfl d,
    if_neg (by rw [notFresh0_5_B t (fun h => h0 ((hcond0_0 t).mp h)) ((hcond0_1 t).mpr h1) (fun h => h2 ((hcond0_2 t).mp h))]; exact Bool.false_ne_true)]
  dsimp only [dats]
/-- At a later point over the second half the output block still holds what the point before left. -/
theorem before0_5_D (c : Dev nD) (t : Fin cfg0.N) (h0 : ¬t.val % 8 = 0) (h1 : ¬t.val < 16) (h2 : 16 ≤ t.val) (d) :
    (dats m 0 c).before 5 t d = (outsAt0 m c (t.val - 1) (Nat.lt_of_le_of_lt (Nat.sub_le _ _) t.isLt)) := by
  rw [Dat.before_out_traj _ 5 rfl whole0_5 (hcarry0_5 m c) t.val t rfl d,
    if_neg (by rw [notFresh0_5_D t (fun h => h0 ((hcond0_0 t).mp h)) (fun h => h1 ((hcond0_1 t).mp h)) ((hcond0_2 t).mpr h2)]; exact Bool.false_ne_true)]
  dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body, run at any point, does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 8 = 0
  · by_cases h1 : t.val < 16
    · by_cases h2 : 16 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) (fun h => h2 ((hcond0_2 t).mp h))], after0_5]
        rw [outsAt0_A m c t h0 h1 h2]
        unfold out0_A_5
        iintro ⟨HΦ, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        iintro ⟨H0, H1, H2, H3, H4, ⟨%e5, H5⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _)
    · by_cases h2 : 16 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t ((hcond0_0 t).mpr h0) (fun h => h1 ((hcond0_1 t).mp h)) ((hcond0_2 t).mpr h2)], after0_5]
        rw [outsAt0_C m c t h0 h1 h2]
        unfold out0_C_5
        iintro ⟨HΦ, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        iintro ⟨H0, H1, H2, H3, H4, ⟨%e5, H5⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _)
      · exfalso; omega
  · by_cases h1 : t.val < 16
    · by_cases h2 : 16 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [outsAt0_B m c t h0 h1 h2]
        simp only [before0_5_B m c t h0 h1 h2]
        unfold out0_B_5
        iintro ⟨HΦ, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexact H5
        iintro ⟨H0, H1, H2, H3, H4, ⟨%e5, H5⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _)
    · by_cases h2 : 16 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) ((hcond0_2 t).mpr h2)], after0_5]
        rw [outsAt0_D m c t h0 h1 h2]
        simp only [before0_5_D m c t h0 h1 h2]
        unfold out0_D_5
        iintro ⟨HΦ, Ho, ⟨%d0, H0⟩, ⟨%d1, H1⟩, ⟨%d2, H2⟩, ⟨%d3, H3⟩, ⟨%d4, H4⟩, ⟨%d5, H5⟩⟩
        iapply ((kernelRun0_D c (grid0.coords t) _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexact H5
        iintro ⟨H0, H1, H2, H3, H4, ⟨%e5, H5⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_D_5 c _ _ _ _ _ _ _ _ _ _ _ _ _ _ _ _ _ _ _ _ _ _)
      · exfalso; omega

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body meets the pipeline's demand at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run ends with the arrays that the data name and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run ends with the arrays that the data name. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end as they began and all counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- What a point writes back of the output block. -/
theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

/-- What a point writes back of the output block. -/
theorem flushed5_A (c : Dev nD) (t : Fin cfg0.N) (h0 : t.val % 8 = 0) (h1 : t.val < 16) (h2 : ¬16 ≤ t.val) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed5, outsAt0_A m c t h0 h1 h2]

/-- What a point writes back of the output block. -/
theorem flushed5_B (c : Dev nD) (t : Fin cfg0.N) (h0 : ¬t.val % 8 = 0) (h1 : t.val < 16) (h2 : ¬16 ≤ t.val) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt))) := by
  simp only [flushed5, outsAt0_B m c t h0 h1 h2]

/-- What a point writes back of the output block. -/
theorem flushed5_C (c : Dev nD) (t : Fin cfg0.N) (h0 : t.val % 8 = 0) (h1 : ¬t.val < 16) (h2 : 16 ≤ t.val) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) ((hcond0_2 t).mpr h2) (iblk m c 0 t) (iblk m c 1 t) (iblk m c 2 t) (iblk m c 3 t) (iblk m c 4 t)) := by
  simp only [flushed5, outsAt0_C m c t h0 h1 h2]

/-- What a point writes back of the output block. -/
theorem flushed5_D (c : Dev nD) (t : Fin cfg0.N) (h0 : ¬t.val % 8 = 0) (h1 : ¬t.val < 16) (h2 : 16 ≤ t.val) :
    (dats m 0 c).flushed 5 t = (cfg0.win 5).cut (grid0.coords t) (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt))) := by
  simp only [flushed5, outsAt0_D m c t h0 h1 h2]

/-- What no block covers stays as it was found. -/
theorem entry5 (c : Dev nD) (i : S4x1792x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- The array of this window after the run. -/
theorem post5 (r : PUnit × MemSt nD τ sig (Elt F)) (h : Pipeline.FramePost cfgs (dats m) 0 (V m) r) (c : Dev nD) :
    r.2.mem ((c : Thread nD τ).loc main_v6) = (dats m 0 c).arrAt 5 cfg0.N :=
  (h c).1 5

/-- This argument ends as it began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- This argument ends as it began. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- This argument ends as it began. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- This argument ends as it began. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- This argument ends as it began. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- This argument ends as it began. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with the result named as the array the points have written. -/
theorem run_blocks : θ_run defs (onTc (τ := τ) (main (F := F))) ⟨m, fun _ => 0, ρ⟩ fun r => ∀ c : Dev nD,
      r.2.mem ((c : Thread nD τ).loc main_v6) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post5 m r h c,
      kept_main_arg0 m r h c,
      kept_main_arg1 m r h c,
      kept_main_arg2 m r h c,
      kept_main_arg3 m r h c,
      kept_main_arg4 m r h c,
      kept_main_arg5 m r h c⟩)
    (run_main m ρ)

end Cert.InWIdeal.Step

end
-- ==== Proof.InWMath.lean ====
/-
  The in-projection's gradient with respect to its weight in plain mathematics, and the proof that the reference's
  terms are that mathematics.
-/
module

public import proofs.«01_k».proof.Proof.Gen.InWRefIdeal.Read
public import proofs.«01_k».proof.Proof.InFMath

@[expose] public section

noncomputable section

namespace Cert.InWMath

open Cert.InWRefIdeal Cert.InWRefIdeal.Read Idealize.ShloMosaic
open Cert.InFMath (H)

/-- The gradients of the projection's two halves side by side: row `r`, column `n`. -/
def D (du dg : Vec Ideal S8192x2048 .f32) (r : Fin 8192) (n : Fin 4096) : EReal :=
  if h : n.val < 2048 then du (ix2 r ⟨n.val, h⟩) else dg (ix2 r ⟨n.val - 2048, by omega⟩)

/-- The gradient of the weight at channel `k`, column `n`: the modulated input times the projection's gradient, summed over
    the rows. -/
def DW (x : Vec Ideal S8192x1024 .f32) (sc sh : Vec Ideal S1024 .f32) (du dg : Vec Ideal S8192x2048 .f32) (k : Fin 1024) (n : Fin 4096) : EReal :=
  ∑ r : Fin 8192, H x sc sh r k * D du dg r n

/-- The gradient buffer: its first 1024 rows hold the weight's gradient, cut in four along its columns, the others what
    they held. -/
def gw (x : Vec Ideal S8192x1024 .f32) (sc sh : Vec Ideal S1024 .f32) (du dg : Vec Ideal S8192x2048 .f32) (gb : Vec Ideal S4x1792x1024 .f32) : Vec Ideal S4x1792x1024 .f32 :=
  fun i => if h : (i 1).val < 1024 then
      DW x sc sh du dg ⟨(i 1).val, h⟩ ⟨(i 0).val * 1024 + (i 2).val, by
        have h0 : (i 0).val < 4 := (i 0).isLt
        have h2 : (i 2).val < 1024 := (i 2).isLt
        omega⟩
    else gb i

/-- The gradient buffer within its first 1024 rows. -/
theorem gw_row (x : Vec Ideal S8192x1024 .f32) (sc sh : Vec Ideal S1024 .f32) (du dg : Vec Ideal S8192x2048 .f32) (gb : Vec Ideal S4x1792x1024 .f32) (q : Fin 4) (k j : Fin 1024) (h : k.val < 1792) :
    gw x sc sh du dg gb (ix3 q ⟨k.val, h⟩ j) = DW x sc sh du dg k ⟨q.val * 1024 + j.val, by omega⟩ := by
  unfold gw
  rw [dif_pos (show ((ix3 q ⟨k.val, h⟩ j : S4x1792x1024.Idx) 1).val < 1024 from k.isLt)]
  rfl

/-- The reference's modulated input. -/
theorem ref_h (x : Vec Ideal S8192x1024 .f32) (sc sh : Vec Ideal S1024 .f32) (r : Fin 8192) (k : Fin 1024) :
    val_main_v8 (F := Ideal) x sc sh (ix2 r k) = H x sc sh r k := by
  unfold H
  pointwise [val_main_v8, val_main_v7, val_main_v6, val_main_v5, val_main_v4, val_main_v3, val_main_v2, val_main_v1, val_main_cst_0]

/-- The reference's gradients side by side. -/
theorem ref_d (du dg : Vec Ideal S8192x2048 .f32) (r : Fin 8192) (n : Fin 4096) :
    val_main_v12 (F := Ideal) du dg (ix2 r n) = D du dg r n := by
  unfold D
  pointwise [val_main_v12]

/-- The reference's gradient of the weight, transposed. -/
theorem ref_dw (x : Vec Ideal S8192x1024 .f32) (sc sh : Vec Ideal S1024 .f32) (du dg : Vec Ideal S8192x2048 .f32) (k : Fin 1024) (n : Fin 4096) :
    val_main_v13 (F := Ideal) x sc sh du dg (ix2 n k) = DW x sc sh du dg k n := by
  unfold DW
  pointwise [val_main_v13]
  simp only [ref_d, ref_h]
  exact Finset.sum_congr rfl fun x _ => mul_comm _ _

/-- The reference's gradient of the weight, cut in four along its columns. -/
theorem ref_cut (x : Vec Ideal S8192x1024 .f32) (sc sh : Vec Ideal S1024 .f32) (du dg : Vec Ideal S8192x2048 .f32) (q : Fin 4) (k j : Fin 1024) :
    val_main_v16 (F := Ideal) x sc sh du dg (ix3 q k j) = DW x sc sh du dg k ⟨q.val * 1024 + j.val, by omega⟩ := by
  pointwise [val_main_v16, val_main_v15, val_main_v14]
  simp only [ref_dw]

set_option maxRecDepth 8000 in
/-- The reference's result is the gradient buffer. -/
theorem ref_gw (x : Vec Ideal S8192x1024 .f32) (sc sh : Vec Ideal S1024 .f32) (du dg : Vec Ideal S8192x2048 .f32) (gb : Vec Ideal S4x1792x1024 .f32) :
    val_main_v18 (F := Ideal) x sc sh du dg gb = gw x sc sh du dg gb := by
  funext i
  idx_vars i
  unfold gw
  pointwise [val_main_v18, val_main_v17]
  simp only [ref_cut]
  by_cases h : i1.val < 1024
  · rw [dif_pos h, dif_pos h]
  · rw [dif_neg h, dif_neg h]
    refine congrArg gb ?_
    idx_ext

end Cert.InWMath
end
-- ==== Proof.InWArray.lean ====
/-
  What the kernel of the in-projection's weight gradient leaves in its result array: the plain mathematics of
  `InWMath`.
-/
module

public import proofs.«01_k».proof.Proof.InWRun
public import proofs.«01_k».proof.Proof.InWMath
public import Idealize.ShloMosaic.Lib.Pipeline.ValueKit
public import Idealize.ShloMosaic.Lib.Pipeline.ReadBack

@[expose] public section

noncomputable section

namespace Cert.InWIdeal.Step

open Cert.InWIdeal Cert.InWIdeal.Gen Idealize.ShloMosaic Idealize.ShloMosaic.TcCoe Idealize.SL.Sem
open Cert.InFMath (H)
open Cert.InWMath (D DW)

variable (m : (ℓ : Loc nD τ sig) → Buf (Elt Ideal) ℓ)

/-- Argument 0 on device `c`: the block's input. -/
abbrev A0 (c : Dev nD) : Vec Ideal S8192x1024 .f32 := m (c.tc.loc main_arg0)
/-- Argument 1 on device `c`: adaLN's scale. -/
abbrev A1 (c : Dev nD) : Vec Ideal S1024 .f32 := m (c.tc.loc main_arg1)
/-- Argument 2 on device `c`: adaLN's shift. -/
abbrev A2 (c : Dev nD) : Vec Ideal S1024 .f32 := m (c.tc.loc main_arg2)
/-- Argument 3 on device `c`: the gradient of the first half. -/
abbrev A3 (c : Dev nD) : Vec Ideal S8192x2048 .f32 := m (c.tc.loc main_arg3)
/-- Argument 4 on device `c`: the gradient of the second half. -/
abbrev A4 (c : Dev nD) : Vec Ideal S8192x2048 .f32 := m (c.tc.loc main_arg4)
/-- Argument 5 on device `c`: the gradient buffer. -/
abbrev A5 (c : Dev nD) : Vec Ideal S4x1792x1024 .f32 := m (c.tc.loc main_arg5)

/-- The quarter of the weight's columns a grid point works on. -/
abbrev grp (t : Fin cfg0.N) : Fin 4 := ⟨t.val / 8, by have := t.isLt; have : cfg0.N = 32 := N_0; omega⟩

theorem row_lt (t : Fin cfg0.N) (r : Fin 1024) : t.val % 8 * 1024 + r.val < 8192 := by omega

/-- Row `r` of grid point `t`'s block. -/
abbrev row (t : Fin cfg0.N) (r : Fin 1024) : Fin 8192 := ⟨t.val % 8 * 1024 + r.val, row_lt t r⟩

theorem half_lt (t : Fin cfg0.N) (j : Fin 1024) : t.val / 8 % 2 * 1024 + j.val < 2048 := by omega

/-- Column `j` of grid point `t`'s block within its half of the projection. -/
abbrev half (t : Fin cfg0.N) (j : Fin 1024) : Fin 2048 := ⟨t.val / 8 % 2 * 1024 + j.val, half_lt t j⟩

theorem col_lt (q : Fin 4) (j : Fin 1024) : q.val * 1024 + j.val < 4096 := by omega

/-- Column `j` of quarter `q`. -/
abbrev col (q : Fin 4) (j : Fin 1024) : Fin 4096 := ⟨q.val * 1024 + j.val, col_lt q j⟩

theorem index0 : ∀ t : Fin cfg0.N, win0_0.index t 0 = t.val % 8 ∧ win0_0.index t 1 = 0 := (by decide +kernel : ∀ t : Fin grid0.N, win0_0.index t 0 = t.val % 8 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = t.val % 8 ∧ win0_3.index t 1 = t.val / 8 % 2 := (by decide +kernel : ∀ t : Fin grid0.N, win0_3.index t 0 = t.val % 8 ∧ win0_3.index t 1 = t.val / 8 % 2)
theorem index4 : ∀ t : Fin cfg0.N, win0_4.index t 0 = t.val % 8 ∧ win0_4.index t 1 = t.val / 8 % 2 := (by decide +kernel : ∀ t : Fin grid0.N, win0_4.index t 0 = t.val % 8 ∧ win0_4.index t 1 = t.val / 8 % 2)
theorem index5 : ∀ t : Fin cfg0.N, win0_5.index t 0 = t.val / 8 ∧ win0_5.index t 1 = 0 ∧ win0_5.index t 2 = 0 := (by decide +kernel : ∀ t : Fin grid0.N, win0_5.index t 0 = t.val / 8 ∧ win0_5.index t 1 = 0 ∧ win0_5.index t 2 = 0)

/-- The input, a row block. -/
theorem blk0 (c : Dev nD) (t : Fin cfg0.N) (r k : Fin 1024) :
    (iblk m c 0 t : Vec Ideal S1024x1024 .f32) (ix2 r k) = A0 m c (ix2 (row t r) k) := by
  blk_ext! [iblk, index0 t]
/-- One plus adaLN's scale. -/
theorem blk1 (c : Dev nD) (t : Fin cfg0.N) (r : Fin 1) (k : Fin 1024) :
    (iblk m c 1 t : Vec Ideal S1x1024 .f32) (ix2 r k) = (1 + A1 m c (ix1 k) : EReal) := by
  blk_simp [iblk, index1 t]
  entry_read
  pointwise
  blk_point [index1 t]
/-- AdaLN's shift. -/
theorem blk2 (c : Dev nD) (t : Fin cfg0.N) (r : Fin 1) (k : Fin 1024) :
    (iblk m c 2 t : Vec Ideal S1x1024 .f32) (ix2 r k) = A2 m c (ix1 k) := by
  blk_simp [iblk, index2 t]
  entry_read
  pointwise
  blk_point [index2 t]
/-- The gradient of the first half, a row block of a column block. -/
theorem blk3 (c : Dev nD) (t : Fin cfg0.N) (r j : Fin 1024) :
    (iblk m c 3 t : Vec Ideal S1024x1024 .bf16) (ix2 r j) = A3 m c (ix2 (row t r) (half t j)) := by
  blk_simp [iblk, index3 t]
  entry_read
  pointwise
  blk_point [index3 t]
/-- The gradient of the second half, likewise. -/
theorem blk4 (c : Dev nD) (t : Fin cfg0.N) (r j : Fin 1024) :
    (iblk m c 4 t : Vec Ideal S1024x1024 .bf16) (ix2 r j) = A4 m c (ix2 (row t r) (half t j)) := by
  blk_simp [iblk, index4 t]
  entry_read
  pointwise
  blk_point [index4 t]

/-- The modulated input of a row block. -/
theorem mod_apply (c : Dev nD) (t : Fin cfg0.N) (r k : Fin 1024) :
    k0_pay2 (iblk m c 0 t) (iblk m c 1 t) (iblk m c 2 t) (ix2 r k) = H (A0 m c) (A1 m c) (A2 m c) (row t r) k := by
  unfold H
  pointwise [k0_pay2]
  simp only [blk0, blk1, blk2]

/-- The modulated input of a row block, as a block. -/
theorem mod_eq (c : Dev nD) (t : Fin cfg0.N) :
    k0_pay2 (iblk m c 0 t) (iblk m c 1 t) (iblk m c 2 t) = fun i => H (A0 m c) (A1 m c) (A2 m c) (row t (i 0)) (i 1) := by
  funext i
  idx_vars i
  exact mod_apply m c t i0 i1

/-- One point's term: the modulated input times the projection's gradient over the point's rows. -/
abbrev term (c : Dev nD) (t : Fin cfg0.N) (k j : Fin 1024) : EReal :=
  ∑ r : Fin 1024, H (A0 m c) (A1 m c) (A2 m c) (row t r) k * D (A3 m c) (A4 m c) (row t r) (col (grp t) j)

/-- One point's step over the first half, element by element. -/
theorem step_u (c : Dev nD) (t : Fin cfg0.N) (h : t.val < 16) (acc : Vec Ideal S1x1024x1024 .f32) (a : Fin 1) (k j : Fin 1024) :
    k0_pay4 (iblk m c 0 t) (iblk m c 1 t) (iblk m c 2 t) acc (iblk m c 3 t) (ix3 a k j) = acc (ix3 a k j) + term m c t k j := by
  have e : ∀ r, D (A3 m c) (A4 m c) (row t r) (col (grp t) j) = A3 m c (ix2 (row t r) (half t j)) := fun r => by
    unfold D
    rw [dif_pos (show t.val / 8 * 1024 + j.val < 2048 by omega)]
    refine congrArg (A3 m c) (congrArg (ix2 (row t r)) (Fin.ext ?_))
    show t.val / 8 * 1024 + j.val = t.val / 8 % 2 * 1024 + j.val
    omega
  unfold term
  simp only [e]
  unfold k0_pay4
  rw [mod_eq]
  obtain rfl : a = 0 := Subsingleton.elim _ _
  pointwise
  simp only [blk3]

/-- One point's step over the second half, element by element. -/
theorem step_g (c : Dev nD) (t : Fin cfg0.N) (h : 16 ≤ t.val) (acc : Vec Ideal S1x1024x1024 .f32) (a : Fin 1) (k j : Fin 1024) :
    k0_pay1 (k0_pay2 (iblk m c 0 t) (iblk m c 1 t) (iblk m c 2 t)) acc (iblk m c 4 t) (ix3 a k j) = acc (ix3 a k j) + term m c t k j := by
  have hN : t.val < 32 := Nat.lt_of_lt_of_eq t.isLt N_0
  have e : ∀ r, D (A3 m c) (A4 m c) (row t r) (col (grp t) j) = A4 m c (ix2 (row t r) (half t j)) := fun r => by
    unfold D
    rw [dif_neg (show ¬t.val / 8 * 1024 + j.val < 2048 by omega)]
    refine congrArg (A4 m c) (congrArg (ix2 (row t r)) (Fin.ext ?_))
    show t.val / 8 * 1024 + j.val - 2048 = t.val / 8 % 2 * 1024 + j.val
    omega
  unfold term
  simp only [e]
  unfold k0_pay1
  rw [mod_eq]
  obtain rfl : a = 0 := Subsingleton.elim _ _
  pointwise
  simp only [blk4]

/-- What the first point of a run leaves, over the first half. -/
theorem outs_A (c : Dev nD) (t : Fin cfg0.N) (h0 : t.val % 8 = 0) (h1 : t.val < 16) :
    outsAt0 m c t.val t.isLt = k0_pay4 (iblk m c 0 t) (iblk m c 1 t) (iblk m c 2 t) (k0_pay3 (F := Ideal)) (iblk m c 3 t) := by
  rw [outsAt0_A m c t h0 h1 (by omega)]
  frame_out
/-- What a later point leaves, over the first half. -/
theorem outs_B (c : Dev nD) (t : Fin cfg0.N) (h0 : ¬t.val % 8 = 0) (h1 : t.val < 16) :
    outsAt0 m c t.val t.isLt = k0_pay4 (iblk m c 0 t) (iblk m c 1 t) (iblk m c 2 t) (outsAt0 m c (t.val - 1) (Nat.lt_of_le_of_lt (Nat.sub_le _ _) t.isLt)) (iblk m c 3 t) := by
  rw [outsAt0_B m c t h0 h1 (by omega)]
  frame_out
/-- What the first point of a run leaves, over the second half. -/
theorem outs_C (c : Dev nD) (t : Fin cfg0.N) (h0 : t.val % 8 = 0) (h1 : 16 ≤ t.val) :
    outsAt0 m c t.val t.isLt = k0_pay1 (k0_pay2 (iblk m c 0 t) (iblk m c 1 t) (iblk m c 2 t)) (k0_pay3 (F := Ideal)) (iblk m c 4 t) := by
  rw [outsAt0_C m c t h0 (by omega) h1]
  frame_out
/-- What a later point leaves, over the second half. -/
theorem outs_D (c : Dev nD) (t : Fin cfg0.N) (h0 : ¬t.val % 8 = 0) (h1 : 16 ≤ t.val) :
    outsAt0 m c t.val t.isLt = k0_pay1 (k0_pay2 (iblk m c 0 t) (iblk m c 1 t) (iblk m c 2 t)) (outsAt0 m c (t.val - 1) (Nat.lt_of_le_of_lt (Nat.sub_le _ _) t.isLt)) (iblk m c 4 t) := by
  rw [outsAt0_D m c t h0 (by omega) h1]
  frame_out

theorem grp_run (t : Fin cfg0.N) (s : Fin 8) (h : 8 * (t.val / 8) + s.val < cfg0.N) : grp ⟨8 * (t.val / 8) + s.val, h⟩ = grp t := Fin.ext (by simp only [grp]; omega)
theorem row_run (t : Fin cfg0.N) (s : Fin 8) (r : Fin 1024) (h : 8 * (t.val / 8) + s.val < cfg0.N) : row ⟨8 * (t.val / 8) + s.val, h⟩ r = ⟨s.val * 1024 + r.val, by omega⟩ := Fin.ext (by simp only [row]; omega)

/-- The block after a run's last point: the gradient of a quarter of the weight. -/
theorem sum5 (c : Dev nD) (t : Fin cfg0.N) (h : t.val % 8 = 7) (a : Fin 1) (k j : Fin 1024) :
    outsAt0 m c t.val t.isLt (ix3 a k j) = DW (A0 m c) (A1 m c) (A2 m c) (A3 m c) (A4 m c) k (col (grp t) j) := by
  rw [Pipeline.eq_sum_fin_of_reset_step_apply_of_flush (fun n h => outsAt0 m c n h) 8 (fun _ => (0 : EReal)) (fun t (j : S1x1024x1024.Idx) => term m c t (j 1) (j 2))
    (fun t h j => by
      by_cases h1 : t.val < 16
      · rw [outs_A m c t h h1]; idx_vars j; rw [step_u m c t h1]; pointwise [k0_pay3]
      · rw [outs_C m c t h (by omega)]; idx_vars j; rw [step_g m c t (by omega)]; pointwise [k0_pay3])
    (fun t h j => by
      by_cases h1 : t.val < 16
      · rw [outs_B m c t h h1]; idx_vars j; rw [step_u m c t h1]
      · rw [outs_D m c t h (by omega)]; idx_vars j; rw [step_g m c t (by omega)])
    t h (ix3 a k j), zero_add]
  show ∑ s : Fin 8, term m c ⟨8 * (t.val / 8) + s.val, Pipeline.run_point_lt_of_flush t h s⟩ k j = _
  unfold term
  simp only [grp_run, row_run]
  exact (Fin.sum_univ_tiles 8 1024 (by norm_num) fun r => H (A0 m c) (A1 m c) (A2 m c) r k * D (A3 m c) (A4 m c) r (col (grp t) j)).symm

theorem tile_lt (b : Fin 1024) : b.val < 1792 := by omega

/-- The result's array: the gradient over the gradient buffer. -/
theorem arr5 (c : Dev nD) : (dats m 0 c).arrAt 5 cfg0.N = Cert.InWMath.gw (A0 m c) (A1 m c) (A2 m c) (A3 m c) (A4 m c) (A5 m c) := by
  have hV : V m c main_v6 = A5 m c := by entry_read; rfl
  refine ((dats m 0 c).arrAt_eq_of_coversWhere (P := fun i : S4x1792x1024.Idx => (i 1).val < 1024) 5 (Cert.InWMath.gw (A0 m c) (A1 m c) (A2 m c) (A3 m c) (A4 m c) (A5 m c)) (fun β => β (1 : Fin _) = 0) (by decide +kernel) (fun t hf y => ?_) (fun j => ?_)).trans ?_
  · have h := (flush0_5 t).mp hf
    blk_simp
    rw [after0_5]
    have he : ∀ x : S1x1024x1024.Idx, x = (cfg0.win 5).xinj (cfg0.grid.coords t) y →
        ((win0_5.blk t).view.emb y : S4x1792x1024.Idx) = ix3 (grp t) ⟨(x 1).val, tile_lt (x 1)⟩ (x 2) := by
      rintro x rfl
      have h0 : (y 0).val < 1 := ((cfg0.win 5).xinj (cfg0.grid.coords t) y 0).isLt
      blk_ext [index5 t]
    generalize hx : (cfg0.win 5).xinj (cfg0.grid.coords t) y = x at *
    rw [he x rfl]
    idx_vars x
    rw [sum5 m c t h]
    exact (Cert.InWMath.gw_row (A0 m c) (A1 m c) (A2 m c) (A3 m c) (A4 m c) (A5 m c) (grp t) x1 x2 (tile_lt x1)).symm
  · show (j (1 : Fin _)).val < 1024 ↔ (j (1 : Fin _)).val / 1024 = 0
    omega
  · funext i
    unfold Cert.InWMath.gw
    split_ifs with h
    · rfl
    · exact congrFun hV i

end Cert.InWIdeal.Step
end
-- ==== Proof.InWClaim.lean ====
/-
  The claims about the gradient of the in-projection's weight: the frames of the kernel, of its idealization and of the
  reference, and the equality of the two over the extended reals.
-/
module

public import proofs.«01_k».proof.Defs
public import proofs.«01_k».proof.Proof.Gen.InW.Frame
public import proofs.«01_k».proof.Proof.InWArray
public import Idealize.ShloMosaic.Adequacy
public import Idealize.ShloMosaic.Init

@[expose] public section

noncomputable section

namespace Cert.Proof.InW

open Idealize.ShloMosaic Idealize.SL.Sem

/-- The kernel's body table is its idealization's. -/
theorem bodies_eq : Cert.InWIdeal.defs₀ (F := Bits) = Cert.InW.defs₀ (F := Bits) := by
  unfold Cert.InWIdeal.defs₀ Cert.InW.defs₀
  refine congrArg Defs.onTc (funext fun l => funext fun x => ?_)
  match l with
  | 0 => rfl

/-- So is its table of all bodies. -/
theorem defs_eq : Cert.InWIdeal.defs (F := Bits) = Cert.InW.defs (F := Bits) :=
  congrArg (Pipeline.defs Cert.InWIdeal.pcfgs) bodies_eq

/-- The kernel runs, keeps its arguments and leaves every semaphore at zero: its text is its idealization's, whose run
    holds for any float values. -/
theorem frame_kernel : Cert.quiescent_InW := fun m ρ _ => by
  have h := Cert.InWIdeal.Step.frame (F := Bits) m ρ
  rw [defs_eq] at h
  exact h

/-- So does its idealization. -/
theorem frame_ideal : Cert.quiescent_InWIdeal := fun m ρ _ => Cert.InWIdeal.Step.frame m ρ

/-- So does the reference, which has no semaphore. -/
theorem frame_ref : Cert.quiescent_InWRefIdeal := fun m ρ _ =>
  (θ_run _ _ _).mono (fun r h => ⟨fun c => (h c).2, Idealize.ShloMosaic.sem_eq_zero_of_no_sems (by decide) r.2⟩)
    (Cert.InWRefIdeal.Value.run m ρ)

/-- No rewrite was made on the way to the idealization. -/
theorem preserves : Cert.preserves_InW_InWIdeal := trivial

/-- Kernel and reference end with the same gradient buffer. -/
theorem algebraic : Cert.algebraic_InWIdeal_InWRefIdeal := by
  intro m g m' g' _ hargs
  refine ⟨fun c => Cert.InWMath.gw (m (c.tc.loc Cert.InWIdeal.main_arg0)) (m (c.tc.loc Cert.InWIdeal.main_arg1)) (m (c.tc.loc Cert.InWIdeal.main_arg2)) (m (c.tc.loc Cert.InWIdeal.main_arg3)) (m (c.tc.loc Cert.InWIdeal.main_arg4)) (m (c.tc.loc Cert.InWIdeal.main_arg5)),
    (θ_run _ _ _).mono (fun r h c => ?_) (Cert.InWIdeal.Step.run_blocks m g),
    (θ_run _ _ _).mono (fun r h c => ?_) (Cert.InWRefIdeal.Value.run m' g')⟩
  · obtain ⟨h0, hr⟩ := h c
    exact ⟨h0.trans (Cert.InWIdeal.Step.arr5 m c), hr⟩
  · obtain ⟨h0, hr⟩ := h c
    obtain ⟨a0, a1, a2, a3, a4, a5⟩ := hargs c
    refine ⟨h0.trans ?_, hr⟩
    rw [a0, a1, a2, a3, a4, a5]
    exact Cert.InWMath.ref_gw _ _ _ _ _ _

end Cert.Proof.InW

end
-- ==== Proof.InW0Body.lean ====
/- The body of the call `InW0` with its values named: each value it computes is a definition over the
   values read before it, and the printed body is the sequence of loads, values and stores. -/
module

public import proofs.«01_k».proof.Proof.Gen.InW0Ideal.Frame

@[expose] public section

set_option maxRecDepth 16384

noncomputable section

namespace Cert.InW0Ideal.Step

open Cert.InW0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A value of the body, from the values read before it. -/
noncomputable def k0_pay1 (v9 : FVec F S1024x1024 .bf16) (v53 : Vec F S1x1024x1024 .f32) (v55 : Vec F S1024x1024 .bf16) : FVec F S1x1024x1024 .f32 :=
  have v54 : FVec F S1024x1024 .f32 := shapeCast S1024x1024 v53 shapeCasts_S1x1024x1024_S1024x1024
  have v56 : FVec F S1024x1024 .bf16 := shapeCast S1024x1024 v55 shapeCasts_S1024x1024_S1024x1024
  have cst : FVec F S1024x1024 .f32 := constant S1024x1024 .f32 0x00000000#32
  have v57 : FVec F S1024x1024 .f32 := matmul dot_S1024x1024_S1024x1024_S1024x1024_0_0_1_1_n_n none v9 v56 cst
  have v58 : FVec F S1024x1024 .f32 := addf v54 v57
  have v61 : FVec F S1x1024x1024 .f32 := shapeCast S1x1024x1024 v58 shapeCasts_S1024x1024_S1x1024x1024
  v61

/-- A value of the body, from the values read before it. -/
noncomputable def k0_pay2 (v0 : Vec F S1024x1024 .f32) (v1 : Vec F S1x1024 .f32) (v5 : Vec F S1x1024 .f32) : FVec F S1024x1024 .bf16 :=
  have v2 : FVec F S1x1024 .f32 := shapeCast S1x1024 v1 shapeCasts_S1x1024_S1x1024
  have v3 : FVec F S1024x1024 .f32 := broadcastTo S1024x1024 v2 broadcasts_S1x1024_S1024x1024
  have v4 : FVec F S1024x1024 .f32 := mulf v0 v3
  have v6 : FVec F S1x1024 .f32 := shapeCast S1x1024 v5 shapeCasts_S1x1024_S1x1024
  have v7 : FVec F S1024x1024 .f32 := broadcastTo S1024x1024 v6 broadcasts_S1x1024_S1024x1024
  have v8 : FVec F S1024x1024 .f32 := addf v4 v7
  have v9 : FVec F S1024x1024 .bf16 := truncf .bf16 v8 bitsLt_bf16_f32
  v9

/-- A value of the body, from the values read before it. -/
noncomputable def k0_pay3 (v53 : Vec F S1x1024x1024 .f32) : FVec F S1x1024x1024 .f32 :=
  have v54 : FVec F S1024x1024 .f32 := shapeCast S1024x1024 v53 shapeCasts_S1x1024x1024_S1024x1024
  have v57 : FVec F S1x1024x1024 .f32 := shapeCast S1x1024x1024 v54 shapeCasts_S1024x1024_S1x1024x1024
  v57

/-- A value of the body, from the values read before it. -/
noncomputable def k0_pay4 (v0 : Vec F S1024x1024 .f32) (v1 : Vec F S1x1024 .f32) (v5 : Vec F S1x1024 .f32) (v53 : Vec F S1x1024x1024 .f32) (v55 : Vec F S1024x1024 .bf16) : FVec F S1x1024x1024 .f32 :=
  have v54 : FVec F S1024x1024 .f32 := shapeCast S1024x1024 v53 shapeCasts_S1x1024x1024_S1024x1024
  have v56 : FVec F S1024x1024 .bf16 := shapeCast S1024x1024 v55 shapeCasts_S1024x1024_S1024x1024
  have cst : FVec F S1024x1024 .f32 := constant S1024x1024 .f32 0x00000000#32
  have v57 : FVec F S1024x1024 .f32 := matmul dot_S1024x1024_S1024x1024_S1024x1024_0_0_1_1_n_n none (k0_pay2 v0 v1 v5) v56 cst
  have v58 : FVec F S1024x1024 .f32 := addf v54 v57
  have v61 : FVec F S1x1024x1024 .f32 := shapeCast S1x1024x1024 v58 shapeCasts_S1024x1024_S1x1024x1024
  v61

/-- The same text with its values named. -/
noncomputable def cc0_inproj_bwd_w0_skel (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .hbm S4x1792x1024 .f32) (harg8 : arg8.IsWhole) (arg9 : Memref sig .tc .vmem S1x1024x1024 .f32) (harg9 : arg9.IsWhole) :
    Prog (TpuEff nD τ sig (Elt F) Λ₀ .tc) PUnit := do
  let ⟨arg0, v9, c2_i32_13, v33, v35, c0_i32_15⟩ : Σ' (arg0 : BitVec 32) (v9 : FVec F S1024x1024 .bf16) (c2_i32_13 : BitVec 32) (v33 : BitVec 32) (v35 : BitVec 32), BitVec 32 ← k0_part1 i arg2 harg2 arg3 harg3 arg4 harg4 arg5 harg5 arg6 harg6 arg7 harg7 arg8 harg8 arg9 harg9

  if k0_h3 : k0_cond3 i = 1#1 then do
    let v53 : Vec F S1x1024x1024 .f32 ← Prog.lift (.load arg9 (Rect.unit (s := S1x1024x1024) ![0, 0, 0] S1x1024x1024.size inb_S1x1024x1024_S1x1024x1024_0_0_0).toLoadRect (View.loadsAt_vmem h_S1x1024x1024))
    let v55 : Vec F S1024x1024 .bf16 ← Prog.lift (.load arg6 (Rect.unit (s := S1024x1024) ![0, 0] S1024x1024.size inb_S1024x1024_S1024x1024_0_0).toLoadRect (View.loadsAt_vmem h_S1024x1024))
    let v59 : Vec F S1x1024x1024 .f32 ← Prog.lift (.load arg9 (Rect.unit (s := S1x1024x1024) ![0, 0, 0] S1x1024x1024.size inb_S1x1024x1024_S1x1024x1024_0_0_0).toLoadRect (View.loadsAt_vmem h_S1x1024x1024))

    Prog.lift (.store arg9 (Rect.unit (s := S1x1024x1024) ![0, 0, 0] S1x1024x1024.size inb_S1x1024x1024_S1x1024x1024_0_0_0) (k0_pay1 v9 v53 v55) Finset.univ (View.stores_vmem_bits_univ h_S1x1024x1024 rfl) (.inl rfl))
    pure ⟨⟩
  else do
    pure ⟨⟩
  pure ⟨⟩

set_option maxRecDepth 65536 in
/-- The printed text is the text with its values named. -/
theorem cc0_inproj_bwd_w0_eq_skeleton : cc0_inproj_bwd_w0 (F := F) = cc0_inproj_bwd_w0_skel (F := F) := rfl

/-- The same text with its values named. -/
noncomputable def k0_part1_skel (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .hbm S4x1792x1024 .f32) (harg8 : arg8.IsWhole) (arg9 : Memref sig .tc .vmem S1x1024x1024 .f32) (harg9 : arg9.IsWhole) :
    Prog (TpuEff nD τ sig (Elt F) Λ₀ .tc) (Σ' (arg0 : BitVec 32) (v9 : FVec F S1024x1024 .bf16) (c2_i32_13 : BitVec 32) (v33 : BitVec 32) (v35 : BitVec 32), BitVec 32) := do
  let arg0 : BitVec 32 := BitVec.ofNat 32 (i 0).val

  let v0 : Vec F S1024x1024 .f32 ← Prog.lift (.load arg2 (Rect.unit (s := S1024x1024) ![0, 0] S1024x1024.size inb_S1024x1024_S1024x1024_0_0).toLoadRect (View.loadsAt_vmem h_S1024x1024))
  let v1 : Vec F S1x1024 .f32 ← Prog.lift (.load arg3 (Rect.unit (s := S1x1024) ![0, 0] S1x1024.size inb_S1x1024_S1x1024_0_0).toLoadRect (View.loadsAt_vmem h_S1x1024))
  let v5 : Vec F S1x1024 .f32 ← Prog.lift (.load arg4 (Rect.unit (s := S1x1024) ![0, 0] S1x1024.size inb_S1x1024_S1x1024_0_0).toLoadRect (View.loadsAt_vmem h_S1x1024))

  if k0_h1 : k0_cond1 i = 1#1 then do
    let v53 : Vec F S1x1024x1024 .f32 ← Prog.lift (.load arg7 (Rect.unit (s := S1x1024x1024) ![0, 0, 0] S1x1024x1024.size inb_S1x1024x1024_S1x1024x1024_0_0_0).toLoadRect (View.loadsAt_vmem h_S1x1024x1024))
    let v55 : Vec F S1x1024x1024 .f32 ← Prog.lift (.load arg9 (Rect.unit (s := S1x1024x1024) ![0, 0, 0] S1x1024x1024.size inb_S1x1024x1024_S1x1024x1024_0_0_0).toLoadRect (View.loadsAt_vmem h_S1x1024x1024))

    Prog.lift (.store arg9 (Rect.unit (s := S1x1024x1024) ![0, 0, 0] S1x1024x1024.size inb_S1x1024x1024_S1x1024x1024_0_0_0) (k0_pay3 v53) Finset.univ (View.stores_vmem_bits_univ h_S1x1024x1024 rfl) (.inl rfl))
    pure ⟨⟩
  else do
    pure ⟨⟩

  if k0_h2 : k0_cond2 i = 1#1 then do
    let v53 : Vec F S1x1024x1024 .f32 ← Prog.lift (.load arg9 (Rect.unit (s := S1x1024x1024) ![0, 0, 0] S1x1024x1024.size inb_S1x1024x1024_S1x1024x1024_0_0_0).toLoadRect (View.loadsAt_vmem h_S1x1024x1024))
    let v55 : Vec F S1024x1024 .bf16 ← Prog.lift (.load arg5 (Rect.unit (s := S1024x1024) ![0, 0] S1024x1024.size inb_S1024x1024_S1024x1024_0_0).toLoadRect (View.loadsAt_vmem h_S1024x1024))
    let v59 : Vec F S1x1024x1024 .f32 ← Prog.lift (.load arg9 (Rect.unit (s := S1x1024x1024) ![0, 0, 0] S1x1024x1024.size inb_S1x1024x1024_S1x1024x1024_0_0_0).toLoadRect (View.loadsAt_vmem h_S1x1024x1024))

    Prog.lift (.store arg9 (Rect.unit (s := S1x1024x1024) ![0, 0, 0] S1x1024x1024.size inb_S1x1024x1024_S1x1024x1024_0_0_0) (k0_pay4 v0 v1 v5 v53 v55) Finset.univ (View.stores_vmem_bits_univ h_S1x1024x1024 rfl) (.inl rfl))
    pure ⟨⟩
  else do
    pure ⟨⟩
  let v33 : BitVec 32 := Scalar.divsi arg0 2#32
  let v34 : BitVec 1 := Scalar.cmpi .sgt arg0 0#32
  let v35 : BitVec 32 := Scalar.extui v34
  pure ⟨arg0, k0_pay2 v0 v1 v5, 2#32, v33, v35, 0#32⟩

set_option maxRecDepth 65536 in
/-- The printed text is the text with its values named. -/
theorem k0_part1_eq_skeleton : k0_part1 (F := F) = k0_part1_skel (F := F) := rfl

end Cert.InW0Ideal.Step

end
-- ==== Proof.InW0Run.lean ====
/- The run of the call `InW0`, for any float values: what its output block holds after each point of
   the grid, that the whole program ends with the arrays so computed, and that its arguments are kept. -/
module

public import proofs.«01_k».proof.Proof.InW0Body
public import Idealize.ShloMosaic.Lib.Claim
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.InW0Ideal.Step

open Cert.InW0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A condition the body branches on, at a grid point. -/
abbrev cond0_0 (i : grid0.Coords) : Prop := k0_cond1 i = 1#1
/-- That condition in terms of the point's number. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- A condition the body branches on, at a grid point. -/
abbrev cond0_1 (i : grid0.Coords) : Prop := k0_cond2 i = 1#1
/-- That condition in terms of the point's number. -/
theorem hcond0_1 : ∀ t : Fin cfg0.N, cond0_1 (grid0.coords t) ↔ t.val < 16 :=
  (by decide +kernel : ∀ t : Fin grid0.N, cond0_1 (grid0.coords t) ↔ t.val < 16)

/-- A condition the body branches on, at a grid point. -/
abbrev cond0_2 (i : grid0.Coords) : Prop := k0_cond3 i = 1#1
/-- That condition in terms of the point's number. -/
theorem hcond0_2 : ∀ t : Fin cfg0.N, cond0_2 (grid0.coords t) ↔ 16 ≤ t.val :=
  (by decide +kernel : ∀ t : Fin grid0.N, cond0_2 (grid0.coords t) ↔ 16 ≤ t.val)

/-- The window is in use at these points. -/
theorem liveAt0_0 : ∀ t : Fin cfg0.N, cfg0.idle 0 (grid0.coords t) = false := fun _ => rfl
/-- The window is in use at these points. -/
theorem liveAt0_1 : ∀ t : Fin cfg0.N, cfg0.idle 1 (grid0.coords t) = false := fun _ => rfl
/-- The window is in use at these points. -/
theorem liveAt0_2 : ∀ t : Fin cfg0.N, cfg0.idle 2 (grid0.coords t) = false := fun _ => rfl
/-- The window is in use at these points. -/
theorem liveAt0_3 : ∀ t : Fin cfg0.N, cfg0.idle 3 (grid0.coords t) = false := fun _ => rfl
/-- The window is in use at these points. -/
theorem liveAt0_4 : ∀ t : Fin cfg0.N, cfg0.idle 4 (grid0.coords t) = false := fun _ => rfl
/-- The window is in use at these points. -/
theorem liveAt0_5 : ∀ t : Fin cfg0.N, cfg0.idle 5 (grid0.coords t) = false := fun _ => rfl
/-- At which positions the accumulated block has nothing of its run in it yet. -/
def freshTab0_6 : ℕ → Bool
  | 0 => true
  | n + 1 => (0x80808080 : ℕ).testBit n
/-- The table follows the configuration point by point. -/
theorem freshTab0_6_step : ∀ t : Fin cfg0.N,
    freshTab0_6 (t.val + 1) = ((cfg0.win 6).flush t || (cfg0.idle 6 (cfg0.grid.coords t) && freshTab0_6 t.val)) := by decide +kernel
/-- The table says where the block is fresh. -/
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- The window is in use at these points. -/
theorem liveAt0_6_A : ∀ t : Fin cfg0.N, cond0_0 (grid0.coords t) → cond0_1 (grid0.coords t) → ¬cond0_2 (grid0.coords t) → cfg0.idle 6 (grid0.coords t) = false := by decide +kernel
/-- The window is in use at these points. -/
theorem liveAt0_6_B : ∀ t : Fin cfg0.N, ¬cond0_0 (grid0.coords t) → cond0_1 (grid0.coords t) → ¬cond0_2 (grid0.coords t) → cfg0.idle 6 (grid0.coords t) = false := by decide +kernel
/-- At a later point of a run the block is not fresh. -/
theorem notFresh0_6_B : ∀ t : Fin cfg0.N, ¬cond0_0 (grid0.coords t) → cond0_1 (grid0.coords t) → ¬cond0_2 (grid0.coords t) → cfg0.fresh 6 t.val = false := by
  intro t; rw [fresh0_6_eq t]; revert t; decide +kernel
/-- The window is in use at these points. -/
theorem liveAt0_6_C : ∀ t : Fin cfg0.N, cond0_0 (grid0.coords t) → ¬cond0_1 (grid0.coords t) → cond0_2 (grid0.coords t) → cfg0.idle 6 (grid0.coords t) = false := by decide +kernel
/-- The window is in use at these points. -/
theorem liveAt0_6_D : ∀ t : Fin cfg0.N, ¬cond0_0 (grid0.coords t) → ¬cond0_1 (grid0.coords t) → cond0_2 (grid0.coords t) → cfg0.idle 6 (grid0.coords t) = false := by decide +kernel
/-- At a later point of a run the block is not fresh. -/
theorem notFresh0_6_D : ∀ t : Fin cfg0.N, ¬cond0_0 (grid0.coords t) → ¬cond0_1 (grid0.coords t) → cond0_2 (grid0.coords t) → cfg0.fresh 6 t.val = false := by
  intro t; rw [fresh0_6_eq t]; revert t; decide +kernel

/-- No block of the output window that the grid reaches overhangs its array. -/
theorem whole0_6 : ∀ (i : cfg0.grid.Coords) a, (cfg0.win 6).clip i a = none := by
  decide +kernel

/-- A staging buffer of the output window. -/
abbrev VO0_6 : View sig .tc .vmem S1x1024x1024 .f32 := (Memref.whole cc0_stg6_0 : Memref sig .tc .vmem S1x1024x1024 .f32).view
/-- The window's staging buffer at a point. -/
abbrev ms0_0 (t : Fin cfg0.N) : Memref sig .tc .vmem S1024x1024 .f32 := win0_0.stage (cfg0.slots t 0)
/-- That staging buffer is a whole one. -/
abbrev hs0_0 (t : Fin cfg0.N) : (ms0_0 t).IsWhole := hstage0_0 ((cfg0.slots t 0).cast nbuf0_0)
/-- The window's staging buffer at a point. -/
abbrev ms0_1 (t : Fin cfg0.N) : Memref sig .tc .vmem S1x1024 .f32 := win0_1.stage (cfg0.slots t 1)
/-- That staging buffer is a whole one. -/
abbrev hs0_1 (t : Fin cfg0.N) : (ms0_1 t).IsWhole := hstage0_1 ((cfg0.slots t 1).cast nbuf0_1)
/-- The window's staging buffer at a point. -/
abbrev ms0_2 (t : Fin cfg0.N) : Memref sig .tc .vmem S1x1024 .f32 := win0_2.stage (cfg0.slots t 2)
/-- That staging buffer is a whole one. -/
abbrev hs0_2 (t : Fin cfg0.N) : (ms0_2 t).IsWhole := hstage0_2 ((cfg0.slots t 2).cast nbuf0_2)
/-- The window's staging buffer at a point. -/
abbrev ms0_3 (t : Fin cfg0.N) : Memref sig .tc .vmem S1024x1024 .bf16 := win0_3.stage (cfg0.slots t 3)
/-- That staging buffer is a whole one. -/
abbrev hs0_3 (t : Fin cfg0.N) : (ms0_3 t).IsWhole := hstage0_3 ((cfg0.slots t 3).cast nbuf0_3)
/-- The window's staging buffer at a point. -/
abbrev ms0_4 (t : Fin cfg0.N) : Memref sig .tc .vmem S1024x1024 .bf16 := win0_4.stage (cfg0.slots t 4)
/-- That staging buffer is a whole one. -/
abbrev hs0_4 (t : Fin cfg0.N) : (ms0_4 t).IsWhole := hstage0_4 ((cfg0.slots t 4).cast nbuf0_4)
/-- The window's staging buffer at a point. -/
abbrev ms0_5 (t : Fin cfg0.N) : Memref sig .tc .vmem S1x1024x1024 .f32 := win0_5.stage (cfg0.slots t 5)
/-- That staging buffer is a whole one. -/
abbrev hs0_5 (t : Fin cfg0.N) : (ms0_5 t).IsWhole := hstage0_5 ((cfg0.slots t 5).cast nbuf0_5)
/-- The window's staging buffer at a point. -/
abbrev ms0_6 (t : Fin cfg0.N) : Memref sig .tc .vmem S1x1024x1024 .f32 := win0_6.stage (cfg0.slots t 6)
/-- That staging buffer is a whole one. -/
abbrev hs0_6 (t : Fin cfg0.N) : (ms0_6 t).IsWhole := hstage0_6 ((cfg0.slots t 6).cast nbuf0_6)

set_option maxHeartbeats 1000000 in
/-- What the body stores at the first point of a run over the first half, with the proof that it runs and leaves its inputs as they were. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) :
    { L6 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_inproj_bwd_w0 i arg2 harg2 arg3 harg3 arg4 harg4 arg5 harg5 arg6 harg6 arg7 harg7 (Memref.whole main_arg6) (Memref.isWhole_whole _) arg9 harg9) K } := by
  refine ⟨?_, fun E K => ?run⟩
  case run =>
    simp only [cc0_inproj_bwd_w0_eq_skeleton]; unfold cc0_inproj_bwd_w0_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6
set_option maxHeartbeats 1000000 in
/-- What the body stores at a later point over the first half, with the proof that it runs and leaves its inputs as they were. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : ¬cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (xo6 : Vec F S1x1024x1024 .f32) :
    { L6 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_inproj_bwd_w0 i arg2 harg2 arg3 harg3 arg4 harg4 arg5 harg5 arg6 harg6 arg7 harg7 (Memref.whole main_arg6) (Memref.isWhole_whole _) arg9 harg9) K } := by
  refine ⟨?_, fun E K => ?run⟩
  case run =>
    simp only [cc0_inproj_bwd_w0_eq_skeleton]; unfold cc0_inproj_bwd_w0_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6
set_option maxHeartbeats 1000000 in
/-- What the body stores at the first point of a run over the second half, with the proof that it runs and leaves its inputs as they were. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) :
    { L6 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_inproj_bwd_w0 i arg2 harg2 arg3 harg3 arg4 harg4 arg5 harg5 arg6 harg6 arg7 harg7 (Memref.whole main_arg6) (Memref.isWhole_whole _) arg9 harg9) K } := by
  refine ⟨?_, fun E K => ?run⟩
  case run =>
    simp only [cc0_inproj_bwd_w0_eq_skeleton]; unfold cc0_inproj_bwd_w0_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6
set_option maxHeartbeats 1000000 in
/-- What the body stores at a later point over the second half, with the proof that it runs and leaves its inputs as they were. -/
noncomputable def kernelRun0_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : ¬cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (xo6 : Vec F S1x1024x1024 .f32) :
    { L6 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_inproj_bwd_w0 i arg2 harg2 arg3 harg3 arg4 harg4 arg5 harg5 arg6 harg6 arg7 harg7 (Memref.whole main_arg6) (Memref.isWhole_whole _) arg9 harg9) K } := by
  refine ⟨?_, fun E K => ?run⟩
  case run =>
    simp only [cc0_inproj_bwd_w0_eq_skeleton]; unfold cc0_inproj_bwd_w0_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- At the first point of a run over the first half the stores cover the output block. -/
theorem cover0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (y : S1x1024x1024.Idx) :
    ∃ pc ∈ (kernelRun0_A c i arg2 harg2 arg3 harg3 arg4 harg4 arg5 harg5 arg6 harg6 arg7 harg7 arg9 harg9 hc0 hc1 hc2 x0 x1 x2 x3 x4 x5).1, y ∈ pc.1.set :=
  View.cover_of_tiledL (kernelRun0_A c i arg2 harg2 arg3 harg3 arg4 harg4 arg5 harg5 arg6 harg6 arg7 harg7 arg9 harg9 hc0 hc1 hc2 x0 x1 x2 x3 x4 x5).1 S1x1024x1024.size (by sl_kernel_rfl) y

/-- The output block after the first point of a run over the first half. -/
def out0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) : Vec F S1x1024x1024 .f32 :=
  VO0_6.read (Elt F) (VO0_6.writes (Elt F) VO0_6.junk (kernelRun0_A c i arg2 harg2 arg3 harg3 arg4 harg4 arg5 harg5 arg6 harg6 arg7 harg7 arg9 harg9 hc0 hc1 hc2 x0 x1 x2 x3 x4 x5).1)

/-- At a later point over the first half the stores cover the output block. -/
theorem cover0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : ¬cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (xo6 : Vec F S1x1024x1024 .f32) (y : S1x1024x1024.Idx) :
    ∃ pc ∈ (kernelRun0_B c i arg2 harg2 arg3 harg3 arg4 harg4 arg5 harg5 arg6 harg6 arg7 harg7 arg9 harg9 hc0 hc1 hc2 x0 x1 x2 x3 x4 x5 xo6).1, y ∈ pc.1.set :=
  View.cover_of_tiledL (kernelRun0_B c i arg2 harg2 arg3 harg3 arg4 harg4 arg5 harg5 arg6 harg6 arg7 harg7 arg9 harg9 hc0 hc1 hc2 x0 x1 x2 x3 x4 x5 xo6).1 S1x1024x1024.size (by sl_kernel_rfl) y

/-- The output block after a later point over the first half. -/
def out0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : ¬cond0_0 i) (hc1 : cond0_1 i) (hc2 : ¬cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (xo6 : Vec F S1x1024x1024 .f32) : Vec F S1x1024x1024 .f32 :=
  VO0_6.read (Elt F) (VO0_6.writes (Elt F) VO0_6.junk (kernelRun0_B c i arg2 harg2 arg3 harg3 arg4 harg4 arg5 harg5 arg6 harg6 arg7 harg7 arg9 harg9 hc0 hc1 hc2 x0 x1 x2 x3 x4 x5 xo6).1)

/-- At the first point of a run over the second half the stores cover the output block. -/
theorem cover0_C_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (y : S1x1024x1024.Idx) :
    ∃ pc ∈ (kernelRun0_C c i arg2 harg2 arg3 harg3 arg4 harg4 arg5 harg5 arg6 harg6 arg7 harg7 arg9 harg9 hc0 hc1 hc2 x0 x1 x2 x3 x4 x5).1, y ∈ pc.1.set :=
  View.cover_of_tiledL (kernelRun0_C c i arg2 harg2 arg3 harg3 arg4 harg4 arg5 harg5 arg6 harg6 arg7 harg7 arg9 harg9 hc0 hc1 hc2 x0 x1 x2 x3 x4 x5).1 S1x1024x1024.size (by sl_kernel_rfl) y

/-- The output block after the first point of a run over the second half. -/
def out0_C_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) : Vec F S1x1024x1024 .f32 :=
  VO0_6.read (Elt F) (VO0_6.writes (Elt F) VO0_6.junk (kernelRun0_C c i arg2 harg2 arg3 harg3 arg4 harg4 arg5 harg5 arg6 harg6 arg7 harg7 arg9 harg9 hc0 hc1 hc2 x0 x1 x2 x3 x4 x5).1)

/-- At a later point over the second half the stores cover the output block. -/
theorem cover0_D_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : ¬cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (xo6 : Vec F S1x1024x1024 .f32) (y : S1x1024x1024.Idx) :
    ∃ pc ∈ (kernelRun0_D c i arg2 harg2 arg3 harg3 arg4 harg4 arg5 harg5 arg6 harg6 arg7 harg7 arg9 harg9 hc0 hc1 hc2 x0 x1 x2 x3 x4 x5 xo6).1, y ∈ pc.1.set :=
  View.cover_of_tiledL (kernelRun0_D c i arg2 harg2 arg3 harg3 arg4 harg4 arg5 harg5 arg6 harg6 arg7 harg7 arg9 harg9 hc0 hc1 hc2 x0 x1 x2 x3 x4 x5 xo6).1 S1x1024x1024.size (by sl_kernel_rfl) y

/-- The output block after a later point over the second half. -/
def out0_D_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg9 : Memref sig .tc .vmem S1x1024x1024 .f32) (harg9 : arg9.IsWhole) (hc0 : ¬cond0_0 i) (hc1 : ¬cond0_1 i) (hc2 : cond0_2 i)
    (x0 : Vec F S1024x1024 .f32) (x1 : Vec F S1x1024 .f32) (x2 : Vec F S1x1024 .f32) (x3 : Vec F S1024x1024 .bf16) (x4 : Vec F S1024x1024 .bf16) (x5 : Vec F S1x1024x1024 .f32) (xo6 : Vec F S1x1024x1024 .f32) : Vec F S1x1024x1024 .f32 :=
  VO0_6.read (Elt F) (VO0_6.writes (Elt F) VO0_6.junk (kernelRun0_D c i arg2 harg2 arg3 harg3 arg4 harg4 arg5 harg5 arg6 harg6 arg7 harg7 arg9 harg9 hc0 hc1 hc2 x0 x1 x2 x3 x4 x5 xo6).1)

/-- What the output block holds after each point of the grid. -/
def outsAt0 (c : Dev nD) : (n : ℕ) → n < cfg0.N → Vec F S1x1024x1024 .f32
  | 0, hn => out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      if h1 : (n + 1) < 16 then
        if h2 : 16 ≤ (n + 1) then
          False.elim (by have hN : n + 1 < 32 := lt_of_lt_of_eq hn (show cfg0.N = 32 from N_0); omega)
        else
          out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      else
        if h2 : 16 ≤ (n + 1) then
          out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        else
          False.elim (by have hN : n + 1 < 32 := lt_of_lt_of_eq hn (show cfg0.N = 32 from N_0); omega)
    else
      if h1 : (n + 1) < 16 then
        if h2 : 16 ≤ (n + 1) then
          False.elim (by have hN : n + 1 < 32 := lt_of_lt_of_eq hn (show cfg0.N = 32 from N_0); omega)
        else
          out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
      else
        if h2 : 16 ≤ (n + 1) then
          out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
        else
          False.elim (by have hN : n + 1 < 32 := lt_of_lt_of_eq hn (show cfg0.N = 32 from N_0); omega)

/-- The accumulated block, at the first point of a run over the first half. -/
theorem outsAt0_A (c : Dev nD) (t : Fin cfg0.N) (h0 : t.val % 8 = 0) (h1 : t.val < 16) (h2 : ¬16 ≤ t.val) :
    outsAt0 m c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_pos h1).trans ((dif_neg h2).trans rfl))

/-- The accumulated block, at a later point over the first half. -/
theorem outsAt0_B (c : Dev nD) (t : Fin cfg0.N) (h0 : ¬t.val % 8 = 0) (h1 : t.val < 16) (h2 : ¬16 ≤ t.val) :
    outsAt0 m c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The accumulated block, at the first point of a run over the second half. -/
theorem outsAt0_C (c : Dev nD) (t : Fin cfg0.N) (h0 : t.val % 8 = 0) (h1 : ¬t.val < 16) (h2 : 16 ≤ t.val) :
    outsAt0 m c t.val t.isLt = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) := by
  obtain ⟨n, hn⟩ := t
  cases n with
  | zero => exact (by exfalso; (try dsimp only at h1); exact by omega)
  | succ n => exact (dif_pos h0).trans ((dif_neg h1).trans ((dif_pos h2).trans rfl))

/-- The accumulated block, at a later point over the second half. -/
theorem outsAt0_D (c : Dev nD) (t : Fin cfg0.N) (h0 : ¬t.val % 8 = 0) (h1 : ¬t.val < 16) (h2 : 16 ≤ t.val) :
    outsAt0 m c t.val t.isLt = out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What every buffer of the pipeline holds, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by
  dsimp only [dats]

/-- What the body leaves in this window. -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = iblk m c 3 t := by dsimp only [dats]
/-- What the body leaves in this window. -/
theorem after0_4 (c : Dev nD) (t : Fin cfg0.N) : (dats m 0 c).after 4 t = iblk m c 4 t := by dsimp only [dats]
/-- What the body leaves in this window. -/
theorem after0_5 (c : Dev nD) (t : Fin cfg0.N) : (dats m 0 c).after 5 t = iblk m c 5 t := by dsimp only [dats]
/-- What the body leaves in this window. -/
theorem after0_6 (c : Dev nD) (t : Fin cfg0.N) : (dats m 0 c).after 6 t = (outsAt0 m c t.val t.isLt) := by dsimp only [dats]

/-- What the body finds in this window. -/
theorem before0_0 (c : Dev nD) (t : Fin cfg0.N) (d) : (dats m 0 c).before 0 t d = iblk m c 0 t :=
  before0_0_of m (dats m 0 c) (A_eq m c 0) (after0_0 m c) t d
/-- What the body finds in this window. -/
theorem before0_1 (c : Dev nD) (t : Fin cfg0.N) (d) : (dats m 0 c).before 1 t d = iblk m c 1 t :=
  before0_1_of m (dats m 0 c) (A_eq m c 1) (after0_1 m c) t d
/-- What the body finds in this window. -/
theorem before0_2 (c : Dev nD) (t : Fin cfg0.N) (d) : (dats m 0 c).before 2 t d = iblk m c 2 t :=
  before0_2_of m (dats m 0 c) (A_eq m c 2) (after0_2 m c) t d
/-- What the body finds in this window. -/
theorem before0_3 (c : Dev nD) (t : Fin cfg0.N) (d) : (dats m 0 c).before 3 t d = iblk m c 3 t :=
  before0_3_of m (dats m 0 c) (A_eq m c 3) (after0_3 m c) t d
/-- What the body finds in this window. -/
theorem before0_4 (c : Dev nD) (t : Fin cfg0.N) (d) : (dats m 0 c).before 4 t d = iblk m c 4 t :=
  before0_4_of m (dats m 0 c) (A_eq m c 4) (after0_4 m c) t d
/-- What the body finds in this window. -/
theorem before0_5 (c : Dev nD) (t : Fin cfg0.N) (d) : (dats m 0 c).before 5 t d = iblk m c 5 t :=
  before0_5_of m (dats m 0 c) (A_eq m c 5) (after0_5 m c) t d

/-- A point that leaves the window idle changes nothing in it. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 32 := lt_of_lt_of_eq t.isLt (show cfg0.N = 32 from N_0)
  rw [after0_6, after0_6]
  by_cases h0 : t.val % 8 = 0
  · by_cases h1 : t.val < 16
    · by_cases h2 : 16 ≤ t.val
      · exfalso; omega
      · rw [liveAt0_6_A t ((hcond0_0 t).mpr h0) ((hcond0_1 t).mpr h1) (fun h => h2 ((hcond0_2 t).mp h))] at hi
        exact absurd hi Bool.false_ne_true
    · by_cases h2 : 16 ≤ t.val
      · rw [liveAt0_6_C t ((hcond0_0 t).mpr h0) (fun h => h1 ((hcond0_1 t).mp h)) ((hcond0_2 t).mpr h2)] at hi
        exact absurd hi Bool.false_ne_true
      · exfalso; omega
  · by_cases h1 : t.val < 16
    · by_cases h2 : 16 ≤ t.val
      · exfalso; omega
      · rw [liveAt0_6_B t (fun h => h0 ((hcond0_0 t).mp h)) ((hcond0_1 t).mpr h1) (fun h => h2 ((hcond0_2 t).mp h))] at hi
        exact absurd hi Bool.false_ne_true
    · by_cases h2 : 16 ≤ t.val
      · rw [liveAt0_6_D t (fun h => h0 ((hcond0_0 t).mp h)) (fun h => h1 ((hcond0_1 t).mp h)) ((hcond0_2 t).mpr h2)] at hi
        exact absurd hi Bool.false_ne_true
      · exfalso; omega
/-- At a later point over the first half the output block still holds what the point before left. -/
theorem before0_6_B (c : Dev nD) (t : Fin cfg0.N) (h0 : ¬t.val % 8 = 0) (h1 : t.val < 16) (h2 : ¬16 ≤ t.val) (d) :
    (dats m 0 c).before 6 t d = (outsAt0 m c (t.val - 1) (Nat.lt_of_le_of_lt (Nat.sub_le _ _) t.isLt)) := by
  rw [Dat.before_out_traj _ 6 rfl whole0_6 (hcarry0_6 m c) t.val t rfl d,
    if_neg (by rw [notFresh0_6_B t (fun h => h0 ((hcond0_0 t).mp h)) ((hcond0_1 t).mpr h1) (fun h => h2 ((hcond0_2 t).mp h))]; exact Bool.false_ne_true)]
  dsimp only [dats]
/-- At a later point over the second half the output block still holds what the point before left. -/
theorem before0_6_D (c : Dev nD) (t : Fin cfg0.N) (h0 : ¬t.val % 8 = 0) (h1 : ¬t.val < 16) (h2 : 16 ≤ t.val) (d) :
    (dats m 0 c).before 6 t d = (outsAt0 m c (t.val - 1) (Nat.lt_of_le_of_lt (Nat.sub_le _ _) t.isLt)) := by
  rw [Dat.before_out_traj _ 6 rfl whole0_6 (hcarry0_6 m c) t.val t rfl d,
    if_neg (by rw [notFresh0_6_D t (fun h => h0 ((hcond0_0 t).mp h)) (fun h => h1 ((hcond0_1 t).mp h)) ((hcond0_2 t).mpr h2)]; exact Bool.false_ne_true)]
  dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body, run at any point, does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 8 = 0
  · by_cases h1 : t.val < 16
    · by_cases h2 : 16 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [outsAt0_A m c t h0 h1 h2]
        unfold out0_A_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_A_6 c _ _ _ _ _ _ _ _ _ _ _ _ _ _ _ _ _ _ _ _ _ _ _ _)
    · by_cases h2 : 16 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_C t ((hcond0_0 t).mpr h0) (fun h => h1 ((hcond0_1 t).mp h)) ((hcond0_2 t).mpr h2)], after0_6]
        rw [outsAt0_C m c t h0 h1 h2]
        unfold out0_C_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _)
      · exfalso; omega
  · by_cases h1 : t.val < 16
    · by_cases h2 : 16 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        rw [outsAt0_B m c t h0 h1 h2]
        simp only [before0_6_B m c t h0 h1 h2]
        unfold out0_B_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _)
    · by_cases h2 : 16 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2)], after0_6]
        rw [outsAt0_D m c t h0 h1 h2]
        simp only [before0_6_D m c t h0 h1 h2]
        unfold out0_D_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_D c (grid0.coords t) _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_D_6 c _ _ _ _ _ _ _ _ _ _ _ _ _ _ _ _ _ _ _ _ _ _ _ _ _)
      · exfalso; omega

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body meets the pipeline's demand at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run ends with the arrays that the data name and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run ends with the arrays that the data name. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The arguments end as they began and all counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- What a point writes back of the output block. -/
theorem flushed6 (c : Dev nD) (t : Fin cfg0.N) :
    (dats m 0 c).flushed 6 t = (cfg0.win 6).cut (grid0.coords t) (outsAt0 m c t.val t.isLt) := by
  show (cfg0.win 6).cut (grid0.coords t) ((dats m 0 c).after 6 t) = _
  rw [after0_6]

/-- What a point writes back of the output block. -/
theorem flushed6_A (c : Dev nD) (t : Fin cfg0.N) (h0 : t.val % 8 = 0) (h1 : t.val < 16) (h2 : ¬16 ≤ t.val) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) := by
  simp only [flushed6, outsAt0_A m c t h0 h1 h2]

/-- What a point writes back of the output block. -/
theorem flushed6_B (c : Dev nD) (t : Fin cfg0.N) (h0 : ¬t.val % 8 = 0) (h1 : t.val < 16) (h2 : ¬16 ≤ t.val) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt))) := by
  simp only [flushed6, outsAt0_B m c t h0 h1 h2]

/-- What a point writes back of the output block. -/
theorem flushed6_C (c : Dev nD) (t : Fin cfg0.N) (h0 : t.val % 8 = 0) (h1 : ¬t.val < 16) (h2 : 16 ≤ t.val) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) ((hcond0_2 t).mpr h2) (iblk m c 0 t) (iblk m c 1 t) (iblk m c 2 t) (iblk m c 3 t) (iblk m c 4 t) (iblk m c 5 t)) := by
  simp only [flushed6, outsAt0_C m c t h0 h1 h2]

/-- What a point writes back of the output block. -/
theorem flushed6_D (c : Dev nD) (t : Fin cfg0.N) (h0 : ¬t.val % 8 = 0) (h1 : ¬t.val < 16) (h2 : 16 ≤ t.val) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt))) := by
  simp only [flushed6, outsAt0_D m c t h0 h1 h2]

/-- What no block covers stays as it was found. -/
theorem entry6 (c : Dev nD) (i : S4x1792x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- The array of this window after the run. -/
theorem post6 (r : PUnit × MemSt nD τ sig (Elt F)) (h : Pipeline.FramePost cfgs (dats m) 0 (V m) r) (c : Dev nD) :
    r.2.mem ((c : Thread nD τ).loc main_v6) = (dats m 0 c).arrAt 6 cfg0.N :=
  (h c).1 6

/-- This argument ends as it began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- This argument ends as it began. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- This argument ends as it began. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- This argument ends as it began. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- This argument ends as it began. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- This argument ends as it began. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- This argument ends as it began. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run, with the result named as the array the points have written. -/
theorem run_blocks : θ_run defs (onTc (τ := τ) (main (F := F))) ⟨m, fun _ => 0, ρ⟩ fun r => ∀ c : Dev nD,
      r.2.mem ((c : Thread nD τ).loc main_v6) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.InW0Ideal.Step

end
-- ==== Proof.InW0Math.lean ====
/-
  The in-projection's gradient with respect to its weight where the sum starts from a given value, in plain mathematics,
  and the proof that the reference's terms are that mathematics.
-/
module

public import proofs.«01_k».proof.Proof.Gen.InW0RefIdeal.Read
public import proofs.«01_k».proof.Proof.InWMath

@[expose] public section

noncomputable section

namespace Cert.InW0Math

open Cert.InW0RefIdeal Cert.InW0RefIdeal.Read Idealize.ShloMosaic
open Cert.InFMath (H)
open Cert.InWMath (D DW)

/-- The gradient buffer: its first 1024 rows hold the given value plus the weight's gradient, cut in four along its columns,
    the others what they held. -/
def gw (x : Vec Ideal S8192x1024 .f32) (sc sh : Vec Ideal S1024 .f32) (du dg : Vec Ideal S8192x2048 .f32) (s : Vec Ideal S4x1024x1024 .f32) (gb : Vec Ideal S4x1792x1024 .f32) : Vec Ideal S4x1792x1024 .f32 :=
  fun i => if h : (i 1).val < 1024 then
      s (ix3 (i 0) ⟨(i 1).val, h⟩ (i 2)) + DW x sc sh du dg ⟨(i 1).val, h⟩ ⟨(i 0).val * 1024 + (i 2).val, by
        have h0 : (i 0).val < 4 := (i 0).isLt
        have h2 : (i 2).val < 1024 := (i 2).isLt
        omega⟩
    else gb i

/-- The gradient buffer within its first 1024 rows. -/
theorem gw_row (x : Vec Ideal S8192x1024 .f32) (sc sh : Vec Ideal S1024 .f32) (du dg : Vec Ideal S8192x2048 .f32) (s : Vec Ideal S4x1024x1024 .f32) (gb : Vec Ideal S4x1792x1024 .f32) (q : Fin 4) (k j : Fin 1024) (h : k.val < 1792) :
    gw x sc sh du dg s gb (ix3 q ⟨k.val, h⟩ j) = s (ix3 q k j) + DW x sc sh du dg k ⟨q.val * 1024 + j.val, by omega⟩ := by
  unfold gw
  rw [dif_pos (show ((ix3 q ⟨k.val, h⟩ j : S4x1792x1024.Idx) 1).val < 1024 from k.isLt)]
  rfl

/-- The reference's gradient of the weight is the one of the call that starts from zero: the two references say the same
    up to there. -/
theorem ref_cut (x : Vec Ideal S8192x1024 .f32) (sc sh : Vec Ideal S1024 .f32) (du dg : Vec Ideal S8192x2048 .f32) (q : Fin 4) (k j : Fin 1024) :
    val_main_v16 (F := Ideal) x sc sh du dg (ix3 q k j) = DW x sc sh du dg k ⟨q.val * 1024 + j.val, by omega⟩ :=
  (show val_main_v16 (F := Ideal) x sc sh du dg (ix3 q k j) = Cert.InWRefIdeal.Read.val_main_v16 (F := Ideal) x sc sh du dg (ix3 q k j) from rfl).trans
    (Cert.InWMath.ref_cut x sc sh du dg q k j)

set_option maxRecDepth 8000 in
/-- The reference's result is the gradient buffer. -/
theorem ref_gw (x : Vec Ideal S8192x1024 .f32) (sc sh : Vec Ideal S1024 .f32) (du dg : Vec Ideal S8192x2048 .f32) (s : Vec Ideal S4x1024x1024 .f32) (gb : Vec Ideal S4x1792x1024 .f32) :
    val_main_v19 (F := Ideal) x sc sh du dg s gb = gw x sc sh du dg s gb := by
  funext i
  idx_vars i
  unfold gw
  pointwise [val_main_v19, val_main_v18, val_main_v17]
  simp only [ref_cut]
  by_cases h : i1.val < 1024
  · rw [dif_pos h, dif_pos h]
  · rw [dif_neg h, dif_neg h]
    refine congrArg gb ?_
    idx_ext

end Cert.InW0Math
end
-- ==== Proof.InW0Array.lean ====
/-
  What the kernel of the in-projection's weight gradient, started from a given value, leaves in its result array: the plain mathematics of
  `InW0Math`.
-/
module

public import proofs.«01_k».proof.Proof.InW0Run
public import proofs.«01_k».proof.Proof.InW0Math
public import Idealize.ShloMosaic.Lib.Pipeline.ValueKit
public import Idealize.ShloMosaic.Lib.Pipeline.ReadBack

@[expose] public section

noncomputable section

namespace Cert.InW0Ideal.Step

open Cert.InW0Ideal Cert.InW0Ideal.Gen Idealize.ShloMosaic Idealize.ShloMosaic.TcCoe Idealize.SL.Sem
open Cert.InFMath (H)
open Cert.InWMath (D DW)

variable (m : (ℓ : Loc nD τ sig) → Buf (Elt Ideal) ℓ)

/-- Argument 0 on device `c`: the block's input. -/
abbrev A0 (c : Dev nD) : Vec Ideal S8192x1024 .f32 := m (c.tc.loc main_arg0)
/-- Argument 1 on device `c`: adaLN's scale. -/
abbrev A1 (c : Dev nD) : Vec Ideal S1024 .f32 := m (c.tc.loc main_arg1)
/-- Argument 2 on device `c`: adaLN's shift. -/
abbrev A2 (c : Dev nD) : Vec Ideal S1024 .f32 := m (c.tc.loc main_arg2)
/-- Argument 3 on device `c`: the gradient of the first half. -/
abbrev A3 (c : Dev nD) : Vec Ideal S8192x2048 .f32 := m (c.tc.loc main_arg3)
/-- Argument 4 on device `c`: the gradient of the second half. -/
abbrev A4 (c : Dev nD) : Vec Ideal S8192x2048 .f32 := m (c.tc.loc main_arg4)
/-- Argument 5 on device `c`: the value the sum starts from. -/
abbrev A5 (c : Dev nD) : Vec Ideal S4x1024x1024 .f32 := m (c.tc.loc main_arg5)
/-- Argument 6 on device `c`: the gradient buffer. -/
abbrev A6 (c : Dev nD) : Vec Ideal S4x1792x1024 .f32 := m (c.tc.loc main_arg6)

/-- The quarter of the weight's columns a grid point works on. -/
abbrev grp (t : Fin cfg0.N) : Fin 4 := ⟨t.val / 8, by have := t.isLt; have : cfg0.N = 32 := N_0; omega⟩

theorem row_lt (t : Fin cfg0.N) (r : Fin 1024) : t.val % 8 * 1024 + r.val < 8192 := by omega

/-- Row `r` of grid point `t`'s block. -/
abbrev row (t : Fin cfg0.N) (r : Fin 1024) : Fin 8192 := ⟨t.val % 8 * 1024 + r.val, row_lt t r⟩

theorem half_lt (t : Fin cfg0.N) (j : Fin 1024) : t.val / 8 % 2 * 1024 + j.val < 2048 := by omega

/-- Column `j` of grid point `t`'s block within its half of the projection. -/
abbrev half (t : Fin cfg0.N) (j : Fin 1024) : Fin 2048 := ⟨t.val / 8 % 2 * 1024 + j.val, half_lt t j⟩

theorem col_lt (q : Fin 4) (j : Fin 1024) : q.val * 1024 + j.val < 4096 := by omega

/-- Column `j` of quarter `q`. -/
abbrev col (q : Fin 4) (j : Fin 1024) : Fin 4096 := ⟨q.val * 1024 + j.val, col_lt q j⟩

theorem index0 : ∀ t : Fin cfg0.N, win0_0.index t 0 = t.val % 8 ∧ win0_0.index t 1 = 0 := (by decide +kernel : ∀ t : Fin grid0.N, win0_0.index t 0 = t.val % 8 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = t.val % 8 ∧ win0_3.index t 1 = t.val / 8 % 2 := (by decide +kernel : ∀ t : Fin grid0.N, win0_3.index t 0 = t.val % 8 ∧ win0_3.index t 1 = t.val / 8 % 2)
theorem index4 : ∀ t : Fin cfg0.N, win0_4.index t 0 = t.val % 8 ∧ win0_4.index t 1 = t.val / 8 % 2 := (by decide +kernel : ∀ t : Fin grid0.N, win0_4.index t 0 = t.val % 8 ∧ win0_4.index t 1 = t.val / 8 % 2)
theorem index5 : ∀ t : Fin cfg0.N, win0_5.index t 0 = t.val / 8 ∧ win0_5.index t 1 = 0 ∧ win0_5.index t 2 = 0 := (by decide +kernel : ∀ t : Fin grid0.N, win0_5.index t 0 = t.val / 8 ∧ win0_5.index t 1 = 0 ∧ win0_5.index t 2 = 0)
theorem index6 : ∀ t : Fin cfg0.N, win0_6.index t 0 = t.val / 8 ∧ win0_6.index t 1 = 0 ∧ win0_6.index t 2 = 0 := (by decide +kernel : ∀ t : Fin grid0.N, win0_6.index t 0 = t.val / 8 ∧ win0_6.index t 1 = 0 ∧ win0_6.index t 2 = 0)

/-- The input, a row block. -/
theorem blk0 (c : Dev nD) (t : Fin cfg0.N) (r k : Fin 1024) :
    (iblk m c 0 t : Vec Ideal S1024x1024 .f32) (ix2 r k) = A0 m c (ix2 (row t r) k) := by
  blk_ext! [iblk, index0 t]
/-- One plus adaLN's scale. -/
theorem blk1 (c : Dev nD) (t : Fin cfg0.N) (r : Fin 1) (k : Fin 1024) :
    (iblk m c 1 t : Vec Ideal S1x1024 .f32) (ix2 r k) = (1 + A1 m c (ix1 k) : EReal) := by
  blk_simp [iblk, index1 t]
  entry_read
  pointwise
  blk_point [index1 t]
/-- AdaLN's shift. -/
theorem blk2 (c : Dev nD) (t : Fin cfg0.N) (r : Fin 1) (k : Fin 1024) :
    (iblk m c 2 t : Vec Ideal S1x1024 .f32) (ix2 r k) = A2 m c (ix1 k) := by
  blk_simp [iblk, index2 t]
  entry_read
  pointwise
  blk_point [index2 t]
/-- The gradient of the first half, a row block of a column block. -/
theorem blk3 (c : Dev nD) (t : Fin cfg0.N) (r j : Fin 1024) :
    (iblk m c 3 t : Vec Ideal S1024x1024 .bf16) (ix2 r j) = A3 m c (ix2 (row t r) (half t j)) := by
  blk_simp [iblk, index3 t]
  entry_read
  pointwise
  blk_point [index3 t]
/-- The gradient of the second half, likewise. -/
theorem blk4 (c : Dev nD) (t : Fin cfg0.N) (r j : Fin 1024) :
    (iblk m c 4 t : Vec Ideal S1024x1024 .bf16) (ix2 r j) = A4 m c (ix2 (row t r) (half t j)) := by
  blk_simp [iblk, index4 t]
  entry_read
  pointwise
  blk_point [index4 t]
/-- The value the sum starts from, a quarter. -/
theorem blk5 (c : Dev nD) (t : Fin cfg0.N) (a : Fin 1) (k j : Fin 1024) :
    (iblk m c 5 t : Vec Ideal S1x1024x1024 .f32) (ix3 a k j) = A5 m c (ix3 (grp t) k j) := by
  blk_ext! [iblk, index5 t]

/-- The modulated input of a row block. -/
theorem mod_apply (c : Dev nD) (t : Fin cfg0.N) (r k : Fin 1024) :
    k0_pay2 (iblk m c 0 t) (iblk m c 1 t) (iblk m c 2 t) (ix2 r k) = H (A0 m c) (A1 m c) (A2 m c) (row t r) k := by
  unfold H
  pointwise [k0_pay2]
  simp only [blk0, blk1, blk2]

/-- The modulated input of a row block, as a block. -/
theorem mod_eq (c : Dev nD) (t : Fin cfg0.N) :
    k0_pay2 (iblk m c 0 t) (iblk m c 1 t) (iblk m c 2 t) = fun i => H (A0 m c) (A1 m c) (A2 m c) (row t (i 0)) (i 1) := by
  funext i
  idx_vars i
  exact mod_apply m c t i0 i1

/-- One point's term: the modulated input times the projection's gradient over the point's rows. -/
abbrev term (c : Dev nD) (t : Fin cfg0.N) (k j : Fin 1024) : EReal :=
  ∑ r : Fin 1024, H (A0 m c) (A1 m c) (A2 m c) (row t r) k * D (A3 m c) (A4 m c) (row t r) (col (grp t) j)

/-- One point's step over the first half, element by element. -/
theorem step_u (c : Dev nD) (t : Fin cfg0.N) (h : t.val < 16) (acc : Vec Ideal S1x1024x1024 .f32) (a : Fin 1) (k j : Fin 1024) :
    k0_pay4 (iblk m c 0 t) (iblk m c 1 t) (iblk m c 2 t) acc (iblk m c 3 t) (ix3 a k j) = acc (ix3 a k j) + term m c t k j := by
  have e : ∀ r, D (A3 m c) (A4 m c) (row t r) (col (grp t) j) = A3 m c (ix2 (row t r) (half t j)) := fun r => by
    unfold D
    rw [dif_pos (show t.val / 8 * 1024 + j.val < 2048 by omega)]
    refine congrArg (A3 m c) (congrArg (ix2 (row t r)) (Fin.ext ?_))
    show t.val / 8 * 1024 + j.val = t.val / 8 % 2 * 1024 + j.val
    omega
  unfold term
  simp only [e]
  unfold k0_pay4
  rw [mod_eq]
  obtain rfl : a = 0 := Subsingleton.elim _ _
  pointwise
  simp only [blk3]

/-- One point's step over the second half, element by element. -/
theorem step_g (c : Dev nD) (t : Fin cfg0.N) (h : 16 ≤ t.val) (acc : Vec Ideal S1x1024x1024 .f32) (a : Fin 1) (k j : Fin 1024) :
    k0_pay1 (k0_pay2 (iblk m c 0 t) (iblk m c 1 t) (iblk m c 2 t)) acc (iblk m c 4 t) (ix3 a k j) = acc (ix3 a k j) + term m c t k j := by
  have hN : t.val < 32 := Nat.lt_of_lt_of_eq t.isLt N_0
  have e : ∀ r, D (A3 m c) (A4 m c) (row t r) (col (grp t) j) = A4 m c (ix2 (row t r) (half t j)) := fun r => by
    unfold D
    rw [dif_neg (show ¬t.val / 8 * 1024 + j.val < 2048 by omega)]
    refine congrArg (A4 m c) (congrArg (ix2 (row t r)) (Fin.ext ?_))
    show t.val / 8 * 1024 + j.val - 2048 = t.val / 8 % 2 * 1024 + j.val
    omega
  unfold term
  simp only [e]
  unfold k0_pay1
  rw [mod_eq]
  obtain rfl : a = 0 := Subsingleton.elim _ _
  pointwise
  simp only [blk4]

/-- What the first point of a run leaves, over the first half. -/
theorem outs_A (c : Dev nD) (t : Fin cfg0.N) (h0 : t.val % 8 = 0) (h1 : t.val < 16) :
    outsAt0 m c t.val t.isLt = k0_pay4 (iblk m c 0 t) (iblk m c 1 t) (iblk m c 2 t) (k0_pay3 (iblk m c 5 t)) (iblk m c 3 t) := by
  rw [outsAt0_A m c t h0 h1 (by omega)]
  frame_out
/-- What a later point leaves, over the first half. -/
theorem outs_B (c : Dev nD) (t : Fin cfg0.N) (h0 : ¬t.val % 8 = 0) (h1 : t.val < 16) :
    outsAt0 m c t.val t.isLt = k0_pay4 (iblk m c 0 t) (iblk m c 1 t) (iblk m c 2 t) (outsAt0 m c (t.val - 1) (Nat.lt_of_le_of_lt (Nat.sub_le _ _) t.isLt)) (iblk m c 3 t) := by
  rw [outsAt0_B m c t h0 h1 (by omega)]
  frame_out
/-- What the first point of a run leaves, over the second half. -/
theorem outs_C (c : Dev nD) (t : Fin cfg0.N) (h0 : t.val % 8 = 0) (h1 : 16 ≤ t.val) :
    outsAt0 m c t.val t.isLt = k0_pay1 (k0_pay2 (iblk m c 0 t) (iblk m c 1 t) (iblk m c 2 t)) (k0_pay3 (iblk m c 5 t)) (iblk m c 4 t) := by
  rw [outsAt0_C m c t h0 (by omega) h1]
  frame_out
/-- What a later point leaves, over the second half. -/
theorem outs_D (c : Dev nD) (t : Fin cfg0.N) (h0 : ¬t.val % 8 = 0) (h1 : 16 ≤ t.val) :
    outsAt0 m c t.val t.isLt = k0_pay1 (k0_pay2 (iblk m c 0 t) (iblk m c 1 t) (iblk m c 2 t)) (outsAt0 m c (t.val - 1) (Nat.lt_of_le_of_lt (Nat.sub_le _ _) t.isLt)) (iblk m c 4 t) := by
  rw [outsAt0_D m c t h0 (by omega) h1]
  frame_out

/-- The value a run starts from. -/
theorem first_apply (c : Dev nD) (t : Fin cfg0.N) (a : Fin 1) (k j : Fin 1024) :
    k0_pay3 (iblk m c 5 t) (ix3 a k j) = A5 m c (ix3 (grp t) k j) := by
  pointwise [k0_pay3]
  exact blk5 m c t a k j

theorem grp_run (t : Fin cfg0.N) (s : Fin 8) (h : 8 * (t.val / 8) + s.val < cfg0.N) : grp ⟨8 * (t.val / 8) + s.val, h⟩ = grp t := Fin.ext (by simp only [grp]; omega)
theorem row_run (t : Fin cfg0.N) (s : Fin 8) (r : Fin 1024) (h : 8 * (t.val / 8) + s.val < cfg0.N) : row ⟨8 * (t.val / 8) + s.val, h⟩ r = ⟨s.val * 1024 + r.val, by omega⟩ := Fin.ext (by simp only [row]; omega)

/-- The block after a run's last point: the gradient of a quarter of the weight, added to the value it starts from. -/
theorem sum6 (c : Dev nD) (t : Fin cfg0.N) (h : t.val % 8 = 7) (a : Fin 1) (k j : Fin 1024) :
    outsAt0 m c t.val t.isLt (ix3 a k j) = A5 m c (ix3 (grp t) k j) + DW (A0 m c) (A1 m c) (A2 m c) (A3 m c) (A4 m c) k (col (grp t) j) := by
  rw [Pipeline.eq_sum_fin_of_reset_step_apply_of_flush (fun n h => outsAt0 m c n h) 8 (fun _ => (0 : EReal)) (fun t (j : S1x1024x1024.Idx) => (if t.val % 8 = 0 then A5 m c (ix3 (grp t) (j 1) (j 2)) else 0) + term m c t (j 1) (j 2))
    (fun t h j => by
      rw [if_pos h, zero_add]; by_cases h1 : t.val < 16
      · rw [outs_A m c t h h1]; idx_vars j; rw [step_u m c t h1, first_apply]
      · rw [outs_C m c t h (by omega)]; idx_vars j; rw [step_g m c t (by omega), first_apply])
    (fun t h j => by
      rw [if_neg h, zero_add]; by_cases h1 : t.val < 16
      · rw [outs_B m c t h h1]; idx_vars j; rw [step_u m c t h1]
      · rw [outs_D m c t h (by omega)]; idx_vars j; rw [step_g m c t (by omega)])
    t h (ix3 a k j), zero_add]
  have hf : ∑ s : Fin 8, (if (8 * (t.val / 8) + s.val) % 8 = 0 then A5 m c (ix3 (grp t) k j) else 0) = A5 m c (ix3 (grp t) k j) := by
    rw [Finset.sum_eq_single (0 : Fin 8)]
    · exact if_pos (by simp)
    · intro s _ hs
      have : s.val ≠ 0 := fun h => hs (Fin.ext h)
      exact if_neg (by have := s.isLt; omega)
    · exact fun h => absurd (Finset.mem_univ _) h
  show ∑ s : Fin 8, ((if (8 * (t.val / 8) + s.val) % 8 = 0 then A5 m c (ix3 (grp ⟨8 * (t.val / 8) + s.val, Pipeline.run_point_lt_of_flush t h s⟩) k j) else 0) + term m c ⟨8 * (t.val / 8) + s.val, Pipeline.run_point_lt_of_flush t h s⟩ k j) = _
  unfold term
  simp only [grp_run, row_run]
  rw [Finset.sum_add_distrib]
  refine congrArg₂ (· + ·) hf ?_
  exact (Fin.sum_univ_tiles 8 1024 (by norm_num) fun r => H (A0 m c) (A1 m c) (A2 m c) r k * D (A3 m c) (A4 m c) r (col (grp t) j)).symm

theorem tile_lt (b : Fin 1024) : b.val < 1792 := by omega

/-- The result's array: the gradient over the gradient buffer. -/
theorem arr6 (c : Dev nD) : (dats m 0 c).arrAt 6 cfg0.N = Cert.InW0Math.gw (A0 m c) (A1 m c) (A2 m c) (A3 m c) (A4 m c) (A5 m c) (A6 m c) := by
  have hV : V m c main_v6 = A6 m c := by entry_read; rfl
  refine ((dats m 0 c).arrAt_eq_of_coversWhere (P := fun i : S4x1792x1024.Idx => (i 1).val < 1024) 6 (Cert.InW0Math.gw (A0 m c) (A1 m c) (A2 m c) (A3 m c) (A4 m c) (A5 m c) (A6 m c)) (fun β => β (1 : Fin _) = 0) (by decide +kernel) (fun t hf y => ?_) (fun j => ?_)).trans ?_
  · have h := (flush0_6 t).mp hf
    blk_simp
    rw [after0_6]
    have he : ∀ x : S1x1024x1024.Idx, x = (cfg0.win 6).xinj (cfg0.grid.coords t) y →
        ((win0_6.blk t).view.emb y : S4x1792x1024.Idx) = ix3 (grp t) ⟨(x 1).val, tile_lt (x 1)⟩ (x 2) := by
      rintro x rfl
      have h0 : (y 0).val < 1 := ((cfg0.win 6).xinj (cfg0.grid.coords t) y 0).isLt
      blk_ext [index6 t]
    generalize hx : (cfg0.win 6).xinj (cfg0.grid.coords t) y = x at *
    rw [he x rfl]
    idx_vars x
    rw [sum6 m c t h]
    exact (Cert.InW0Math.gw_row (A0 m c) (A1 m c) (A2 m c) (A3 m c) (A4 m c) (A5 m c) (A6 m c) (grp t) x1 x2 (tile_lt x1)).symm
  · show (j (1 : Fin _)).val < 1024 ↔ (j (1 : Fin _)).val / 1024 = 0
    omega
  · funext i
    unfold Cert.InW0Math.gw
    split_ifs with h
    · rfl
    · exact congrFun hV i

end Cert.InW0Ideal.Step
end
-- ==== Proof.InW0Claim.lean ====
/-
  The claims about the gradient of the in-projection's weight, the sum started from a given value: the frames of the kernel, of its idealization and of the
  reference, and the equality of the two over the extended reals.
-/
module

public import proofs.«01_k».proof.Defs
public import proofs.«01_k».proof.Proof.Gen.InW0.Frame
public import proofs.«01_k».proof.Proof.InW0Array
public import Idealize.ShloMosaic.Adequacy
public import Idealize.ShloMosaic.Init

@[expose] public section

noncomputable section

namespace Cert.Proof.InW0

open Idealize.ShloMosaic Idealize.SL.Sem

/-- The kernel's body table is its idealization's. -/
theorem bodies_eq : Cert.InW0Ideal.defs₀ (F := Bits) = Cert.InW0.defs₀ (F := Bits) := by
  unfold Cert.InW0Ideal.defs₀ Cert.InW0.defs₀
  refine congrArg Defs.onTc (funext fun l => funext fun x => ?_)
  match l with
  | 0 => rfl

/-- So is its table of all bodies. -/
theorem defs_eq : Cert.InW0Ideal.defs (F := Bits) = Cert.InW0.defs (F := Bits) :=
  congrArg (Pipeline.defs Cert.InW0Ideal.pcfgs) bodies_eq

/-- The kernel runs, keeps its arguments and leaves every semaphore at zero: its text is its idealization's, whose run
    holds for any float values. -/
theorem frame_kernel : Cert.quiescent_InW0 := fun m ρ _ => by
  have h := Cert.InW0Ideal.Step.frame (F := Bits) m ρ
  rw [defs_eq] at h
  exact h

/-- So does its idealization. -/
theorem frame_ideal : Cert.quiescent_InW0Ideal := fun m ρ _ => Cert.InW0Ideal.Step.frame m ρ

/-- So does the reference, which has no semaphore. -/
theorem frame_ref : Cert.quiescent_InW0RefIdeal := fun m ρ _ =>
  (θ_run _ _ _).mono (fun r h => ⟨fun c => (h c).2, Idealize.ShloMosaic.sem_eq_zero_of_no_sems (by decide) r.2⟩)
    (Cert.InW0RefIdeal.Value.run m ρ)

/-- No rewrite was made on the way to the idealization. -/
theorem preserves : Cert.preserves_InW0_InW0Ideal := trivial

/-- Kernel and reference end with the same gradient buffer. -/
theorem algebraic : Cert.algebraic_InW0Ideal_InW0RefIdeal := by
  intro m g m' g' _ hargs
  refine ⟨fun c => Cert.InW0Math.gw (m (c.tc.loc Cert.InW0Ideal.main_arg0)) (m (c.tc.loc Cert.InW0Ideal.main_arg1)) (m (c.tc.loc Cert.InW0Ideal.main_arg2)) (m (c.tc.loc Cert.InW0Ideal.main_arg3)) (m (c.tc.loc Cert.InW0Ideal.main_arg4)) (m (c.tc.loc Cert.InW0Ideal.main_arg5)) (m (c.tc.loc Cert.InW0Ideal.main_arg6)),
    (θ_run _ _ _).mono (fun r h c => ?_) (Cert.InW0Ideal.Step.run_blocks m g),
    (θ_run _ _ _).mono (fun r h c => ?_) (Cert.InW0RefIdeal.Value.run m' g')⟩
  · obtain ⟨h0, hr⟩ := h c
    exact ⟨h0.trans (Cert.InW0Ideal.Step.arr6 m c), hr⟩
  · obtain ⟨h0, hr⟩ := h c
    obtain ⟨a0, a1, a2, a3, a4, a5, a6⟩ := hargs c
    refine ⟨h0.trans ?_, hr⟩
    rw [a0, a1, a2, a3, a4, a5, a6]
    exact Cert.InW0Math.ref_gw _ _ _ _ _ _ _

end Cert.Proof.InW0

end
-- ==== Proof.AdamMath.lean ====
/-
  The AdamW update of one entry in plain mathematics: the constants are those of the training step, as float32 rounds them.
-/
module

public import Idealize.ShloMosaic.PureOps.Ideal

@[expose] public section

noncomputable section

namespace Cert.AdamMath

open Idealize.ShloMosaic

/-- The new first moment: 0.9 of the old one and 0.1 of the gradient. -/
def mean (m g : EReal) : EReal :=
  Ideal.ofBits .f32 0x3F666666#32 * m + Ideal.ofBits .f32 0x3DCCCCCD#32 * g

/-- The new second moment: 0.999 of the old one and 0.001 of the gradient's square. -/
def square (v g : EReal) : EReal :=
  Ideal.ofBits .f32 0x3F7FBE77#32 * v + Ideal.ofBits .f32 0x3A83126F#32 * (g * g)

/-- The weight's change: minus the rate times the bias-corrected first moment over the root of the bias-corrected second
    moment, plus the decay's part of the weight. -/
def delta (w m v g : EReal) : EReal :=
  Ideal.ofBits .f32 0xBA83126F#32 *
    (Ideal.div (Ideal.div (mean m g) (Ideal.ofBits .f32 0x3F26BD02#32))
        (Ideal.sqrt (Ideal.div (square v g) (Ideal.ofBits .f32 0x3C231ACC#32)) + Ideal.ofBits .f32 0x322BCC77#32) +
      Ideal.ofBits .f32 0x3C23D70A#32 * w)

end Cert.AdamMath
end
-- ==== Proof.AdamInMath.lean ====
/-
  The AdamW update of the in-projection's weight in plain mathematics, and the proof that the reference's terms are that mathematics.
-/
module

public import proofs.«01_k».proof.Proof.Gen.AdamInRefIdeal.Read
public import proofs.«01_k».proof.Proof.AdamMath
public import Idealize.ShloMosaic.Lib.Pointwise
public import Idealize.ShloMosaic.Lib.Tactic
public import Idealize.ShloMosaic.Lib.Pipeline.ValueKit

@[expose] public section

noncomputable section

namespace Cert.AdamInMath

open Cert.AdamInRefIdeal Cert.AdamInRefIdeal.Read Idealize.ShloMosaic
open Cert.AdamMath (mean square delta)

/-- The gradient: layer 0 from the first buffer, layer 1 from the second, each in the first 1024 rows. -/
def G (red0 : Vec Ideal S1792x1024 .f32) (red1 : Vec Ideal S1792x1024 .f32) : Vec Ideal S2x1024x1024 .f32 := fun i => if h : (i 0).val < 1 then red0 (ix2 ⟨(i 1).val, by have : (i 1).val < 1024 := (i 1).isLt; omega⟩ (i 2)) else red1 (ix2 ⟨(i 1).val, by have : (i 1).val < 1024 := (i 1).isLt; omega⟩ (i 2))

/-- The weight's change. -/
def d (w m v : Vec Ideal S2x1024x1024 .f32) (red0 : Vec Ideal S1792x1024 .f32) (red1 : Vec Ideal S1792x1024 .f32) : Vec Ideal S2x1024x1024 .f32 := fun i => delta (w i) (m i) (v i) (G red0 red1 i)

/-- The new first moment. -/
def m1 (m : Vec Ideal S2x1024x1024 .f32) (red0 : Vec Ideal S1792x1024 .f32) (red1 : Vec Ideal S1792x1024 .f32) : Vec Ideal S2x1024x1024 .f32 := fun i => mean (m i) (G red0 red1 i)

/-- The new second moment. -/
def m2 (v : Vec Ideal S2x1024x1024 .f32) (red0 : Vec Ideal S1792x1024 .f32) (red1 : Vec Ideal S1792x1024 .f32) : Vec Ideal S2x1024x1024 .f32 := fun i => square (v i) (G red0 red1 i)

/-- The reference's gradient. -/
theorem ref_g (red0 : Vec Ideal S1792x1024 .f32) (red1 : Vec Ideal S1792x1024 .f32) :
    val_main_v4 (F := Ideal) red0 red1 = G red0 red1 := by
  funext i
  idx_vars i
  unfold G
  pointwise [val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

/-- The reference's change of the weight. -/
theorem ref_d (w : Vec Ideal S2x1024x1024 .f32) (m : Vec Ideal S2x1024x1024 .f32) (v : Vec Ideal S2x1024x1024 .f32) (red0 : Vec Ideal S1792x1024 .f32) (red1 : Vec Ideal S1792x1024 .f32) :
    val_main_v28 (F := Ideal) w m v red0 red1 = d w m v red0 red1 := by
  funext i
  idx_vars i
  unfold d G
  pointwise [delta, mean, square, val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

/-- The reference's new first moment. -/
theorem ref_m (m : Vec Ideal S2x1024x1024 .f32) (red0 : Vec Ideal S1792x1024 .f32) (red1 : Vec Ideal S1792x1024 .f32) :
    val_main_v9 (F := Ideal) m red0 red1 = m1 m red0 red1 := by
  funext i
  idx_vars i
  unfold m1 G
  pointwise [delta, mean, square, val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

/-- The reference's new second moment. -/
theorem ref_v (v : Vec Ideal S2x1024x1024 .f32) (red0 : Vec Ideal S1792x1024 .f32) (red1 : Vec Ideal S1792x1024 .f32) :
    val_main_v15 (F := Ideal) v red0 red1 = m2 v red0 red1 := by
  funext i
  idx_vars i
  unfold m2 G
  pointwise [delta, mean, square, val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

end Cert.AdamInMath
end
-- ==== Proof.AdamInArray.lean ====
/-
  What the kernel of the update of the in-projection's weight leaves in its four result arrays: the plain mathematics of `AdamInMath`.
-/
module

public import proofs.«01_k».proof.Proof.Gen.AdamInIdeal.Value
public import proofs.«01_k».proof.Proof.AdamInMath
public import Idealize.ShloMosaic.Lib.Pipeline.ValueKit

@[expose] public section

noncomputable section

namespace Cert.AdamInIdeal.Value

open Cert.AdamInIdeal Cert.AdamInIdeal.Gen Idealize.ShloMosaic Idealize.ShloMosaic.TcCoe Idealize.SL.Sem
open Cert.AdamMath (mean square delta)
open Cert.AdamInMath (G)

variable (m : (ℓ : Loc nD τ sig) → Buf (Elt Ideal) ℓ)

/-- Argument 0 on device `c`: the weight. -/
abbrev A0 (c : Dev nD) : Vec Ideal S2x1024x1024 .f32 := m (c.tc.loc main_arg0)
/-- Argument 1 on device `c`: its first moment. -/
abbrev A1 (c : Dev nD) : Vec Ideal S2x1024x1024 .f32 := m (c.tc.loc main_arg1)
/-- Argument 2 on device `c`: its second moment. -/
abbrev A2 (c : Dev nD) : Vec Ideal S2x1024x1024 .f32 := m (c.tc.loc main_arg2)
/-- Argument 3 on device `c`: layer 0's gradients. -/
abbrev A3 (c : Dev nD) : Vec Ideal S1792x1024 .f32 := m (c.tc.loc main_arg3)
/-- Argument 4 on device `c`: layer 1's gradients. -/
abbrev A4 (c : Dev nD) : Vec Ideal S1792x1024 .f32 := m (c.tc.loc main_arg4)

theorem layer_lt (t : Fin cfg0.N) : t.val / 4 < 2 := by
  have := t.isLt; have : cfg0.N = 8 := N_0; omega
theorem row_lt (t : Fin cfg0.N) (r : Fin 256) : t.val % 4 * 256 + r.val < 1024 := by omega

theorem index0 : ∀ t : Fin cfg0.N, win0_0.index t 0 = t.val / 4 ∧ win0_0.index t 1 = t.val % 4 ∧ win0_0.index t 2 = 0 := (by decide +kernel : ∀ t : Fin grid0.N, win0_0.index t 0 = t.val / 4 ∧ win0_0.index t 1 = t.val % 4 ∧ win0_0.index t 2 = 0)
theorem index1 : ∀ t : Fin cfg0.N, win0_1.index t 0 = t.val / 4 ∧ win0_1.index t 1 = t.val % 4 ∧ win0_1.index t 2 = 0 := (by decide +kernel : ∀ t : Fin grid0.N, win0_1.index t 0 = t.val / 4 ∧ win0_1.index t 1 = t.val % 4 ∧ win0_1.index t 2 = 0)
theorem index2 : ∀ t : Fin cfg0.N, win0_2.index t 0 = t.val / 4 ∧ win0_2.index t 1 = t.val % 4 ∧ win0_2.index t 2 = 0 := (by decide +kernel : ∀ t : Fin grid0.N, win0_2.index t 0 = t.val / 4 ∧ win0_2.index t 1 = t.val % 4 ∧ win0_2.index t 2 = 0)
theorem index3 : ∀ t : Fin cfg0.N, win0_3.index t 0 = t.val % 4 ∧ win0_3.index t 1 = 0 := (by decide +kernel : ∀ t : Fin grid0.N, win0_3.index t 0 = t.val % 4 ∧ win0_3.index t 1 = 0)
theorem index4 : ∀ t : Fin cfg0.N, win0_4.index t 0 = t.val % 4 ∧ win0_4.index t 1 = 0 := (by decide +kernel : ∀ t : Fin grid0.N, win0_4.index t 0 = t.val % 4 ∧ win0_4.index t 1 = 0)
theorem index5 : ∀ t : Fin cfg0.N, win0_5.index t 0 = t.val / 4 ∧ win0_5.index t 1 = t.val % 4 ∧ win0_5.index t 2 = 0 := (by decide +kernel : ∀ t : Fin grid0.N, win0_5.index t 0 = t.val / 4 ∧ win0_5.index t 1 = t.val % 4 ∧ win0_5.index t 2 = 0)
theorem index6 : ∀ t : Fin cfg0.N, win0_6.index t 0 = t.val / 4 ∧ win0_6.index t 1 = t.val % 4 ∧ win0_6.index t 2 = 0 := (by decide +kernel : ∀ t : Fin grid0.N, win0_6.index t 0 = t.val / 4 ∧ win0_6.index t 1 = t.val % 4 ∧ win0_6.index t 2 = 0)
theorem index7 : ∀ t : Fin cfg0.N, win0_7.index t 0 = t.val / 4 ∧ win0_7.index t 1 = t.val % 4 ∧ win0_7.index t 2 = 0 := (by decide +kernel : ∀ t : Fin grid0.N, win0_7.index t 0 = t.val / 4 ∧ win0_7.index t 1 = t.val % 4 ∧ win0_7.index t 2 = 0)
theorem index8 : ∀ t : Fin cfg0.N, win0_8.index t 0 = t.val / 4 ∧ win0_8.index t 1 = t.val % 4 ∧ win0_8.index t 2 = 0 := (by decide +kernel : ∀ t : Fin grid0.N, win0_8.index t 0 = t.val / 4 ∧ win0_8.index t 1 = t.val % 4 ∧ win0_8.index t 2 = 0)

/-- A block of the weight. -/
theorem blk0 (c : Dev nD) (t : Fin cfg0.N) (a : Fin 1) (r : Fin 256) (k : Fin 1024) :
    (iblk m c 0 t : Vec Ideal S1x256x1024 .f32) (ix3 a r k) = A0 m c (ix3 ⟨t.val / 4, layer_lt t⟩ ⟨t.val % 4 * 256 + (r).val, row_lt t r⟩ k) := by
  blk_ext! [iblk, index0 t]
/-- A block of its first moment. -/
theorem blk1 (c : Dev nD) (t : Fin cfg0.N) (a : Fin 1) (r : Fin 256) (k : Fin 1024) :
    (iblk m c 1 t : Vec Ideal S1x256x1024 .f32) (ix3 a r k) = A1 m c (ix3 ⟨t.val / 4, layer_lt t⟩ ⟨t.val % 4 * 256 + (r).val, row_lt t r⟩ k) := by
  blk_ext! [iblk, index1 t]
/-- A block of its second moment. -/
theorem blk2 (c : Dev nD) (t : Fin cfg0.N) (a : Fin 1) (r : Fin 256) (k : Fin 1024) :
    (iblk m c 2 t : Vec Ideal S1x256x1024 .f32) (ix3 a r k) = A2 m c (ix3 ⟨t.val / 4, layer_lt t⟩ ⟨t.val % 4 * 256 + (r).val, row_lt t r⟩ k) := by
  blk_ext! [iblk, index2 t]
/-- A block of layer 0's gradients. -/
theorem blk3 (c : Dev nD) (t : Fin cfg0.N) (r : Fin 256) (k : Fin 1024) :
    (iblk m c 3 t : Vec Ideal S256x1024 .f32) (ix2 r k) = A3 m c (ix2 ⟨(t.val % 4 * 256 + r.val), by have := row_lt t r; omega⟩ k) := by
  blk_ext! [iblk, index3 t]
/-- A block of layer 1's gradients. -/
theorem blk4 (c : Dev nD) (t : Fin cfg0.N) (r : Fin 256) (k : Fin 1024) :
    (iblk m c 4 t : Vec Ideal S256x1024 .f32) (ix2 r k) = A4 m c (ix2 ⟨(t.val % 4 * 256 + r.val), by have := row_lt t r; omega⟩ k) := by
  blk_ext! [iblk, index4 t]
/-- The grid's first coordinate is the layer. -/
theorem coord0 : ∀ t : Fin cfg0.N, (grid0.coords t 0).val = t.val / 4 := (by decide +kernel : ∀ t : Fin grid0.N, (grid0.coords t 0).val = t.val / 4)
/-- The gradient at a grid point. -/
theorem grad (c : Dev nD) (t : Fin cfg0.N) (r : Fin 256) (k : Fin 1024) :
    (k0_pay4 (grid0.coords t) (iblk m c 3 t) (iblk m c 4 t) : Vec Ideal S256x1024 .f32) (ix2 r k) = G (A3 m c) (A4 m c) (ix3 ⟨t.val / 4, layer_lt t⟩ ⟨t.val % 4 * 256 + r.val, row_lt t r⟩ k) := by
  have h := coord0 t
  have hl := layer_lt t
  unfold k0_pay4 G
  dsimp only
  obtain h0 | h0 : t.val / 4 = 0 ∨ t.val / 4 = 1 := by omega
  · rw [show Scalar.cmpi .eq (BitVec.ofNat 32 (grid0.coords t 0).val) 0#32 = 1#1 from by rw [h, h0]; rfl, dif_pos (by dsimp only [ix3]; omega)]
    exact blk3 m c t r k
  · rw [show Scalar.cmpi .eq (BitVec.ofNat 32 (grid0.coords t 0).val) 0#32 = 0#1 from by rw [h, h0]; rfl, dif_neg (by dsimp only [ix3]; omega)]
    exact blk4 m c t r k

/-- What a grid point leaves of the gradient. -/
theorem out5 (c : Dev nD) (t : Fin cfg0.N) (a : Fin 1) (r : Fin 256) (k : Fin 1024) :
    (outsAt0 m c t).1 (ix3 a r k) = G (A3 m c) (A4 m c) (ix3 ⟨t.val / 4, layer_lt t⟩ ⟨t.val % 4 * 256 + (r).val, row_lt t r⟩ k) := by
  unfold outsAt0
  dsimp only
  frame_out
  pointwise [k0_pay1, k0_pay2, k0_pay3, k0_pay5, k0_pay6, k0_pay7, k0_pay8, k0_pay9]
  simp only [blk0, blk1, blk2, grad]

/-- What a grid point leaves of the change of the weight. -/
theorem out6 (c : Dev nD) (t : Fin cfg0.N) (a : Fin 1) (r : Fin 256) (k : Fin 1024) :
    (outsAt0 m c t).2.1 (ix3 a r k) = delta (A0 m c (ix3 ⟨t.val / 4, layer_lt t⟩ ⟨t.val % 4 * 256 + (r).val, row_lt t r⟩ k)) (A1 m c (ix3 ⟨t.val / 4, layer_lt t⟩ ⟨t.val % 4 * 256 + (r).val, row_lt t r⟩ k)) (A2 m c (ix3 ⟨t.val / 4, layer_lt t⟩ ⟨t.val % 4 * 256 + (r).val, row_lt t r⟩ k)) (G (A3 m c) (A4 m c) (ix3 ⟨t.val / 4, layer_lt t⟩ ⟨t.val % 4 * 256 + (r).val, row_lt t r⟩ k)) := by
  unfold outsAt0
  dsimp only
  frame_out
  pointwise [delta, mean, square, k0_pay1, k0_pay2, k0_pay3, k0_pay5, k0_pay6, k0_pay7, k0_pay8, k0_pay9]
  simp only [blk0, blk1, blk2, grad]

/-- What a grid point leaves of the new first moment. -/
theorem out7 (c : Dev nD) (t : Fin cfg0.N) (a : Fin 1) (r : Fin 256) (k : Fin 1024) :
    (outsAt0 m c t).2.2.1 (ix3 a r k) = mean (A1 m c (ix3 ⟨t.val / 4, layer_lt t⟩ ⟨t.val % 4 * 256 + (r).val, row_lt t r⟩ k)) (G (A3 m c) (A4 m c) (ix3 ⟨t.val / 4, layer_lt t⟩ ⟨t.val % 4 * 256 + (r).val, row_lt t r⟩ k)) := by
  unfold outsAt0
  dsimp only
  frame_out
  pointwise [delta, mean, square, k0_pay1, k0_pay2, k0_pay3, k0_pay5, k0_pay6, k0_pay7, k0_pay8, k0_pay9]
  simp only [blk0, blk1, blk2, grad]

/-- What a grid point leaves of the new second moment. -/
theorem out8 (c : Dev nD) (t : Fin cfg0.N) (a : Fin 1) (r : Fin 256) (k : Fin 1024) :
    (outsAt0 m c t).2.2.2 (ix3 a r k) = square (A2 m c (ix3 ⟨t.val / 4, layer_lt t⟩ ⟨t.val % 4 * 256 + (r).val, row_lt t r⟩ k)) (G (A3 m c) (A4 m c) (ix3 ⟨t.val / 4, layer_lt t⟩ ⟨t.val % 4 * 256 + (r).val, row_lt t r⟩ k)) := by
  unfold outsAt0
  dsimp only
  frame_out
  pointwise [delta, mean, square, k0_pay1, k0_pay2, k0_pay3, k0_pay5, k0_pay6, k0_pay7, k0_pay8, k0_pay9]
  simp only [blk0, blk1, blk2, grad]

/-- The result's array: the gradient. -/
theorem arr5 (c : Dev nD) : (dats m 0 c).arrAt 5 cfg0.N = G (A3 m c) (A4 m c) := by
  refine (dats m 0 c).arrAt_eq_of_covers 5 _ (by decide +kernel) fun t hf y => ?_
  blk_simp
  rw [after0_5]
  idx_vars y
  have he : ((win0_5.blk t).view.emb (ix3 y0 y1 y2) : S2x1024x1024.Idx) = ix3 ⟨t.val / 4, layer_lt t⟩ ⟨t.val % 4 * 256 + (y1).val, row_lt t y1⟩ y2 := by
    blk_ext [index5 t]
  rw [he, out5]

/-- The result's array: the change of the weight. -/
theorem arr6 (c : Dev nD) : (dats m 0 c).arrAt 6 cfg0.N = Cert.AdamInMath.d (A0 m c) (A1 m c) (A2 m c) (A3 m c) (A4 m c) := by
  refine (dats m 0 c).arrAt_eq_of_covers 6 _ (by decide +kernel) fun t hf y => ?_
  blk_simp
  rw [after0_6]
  idx_vars y
  have he : ((win0_6.blk t).view.emb (ix3 y0 y1 y2) : S2x1024x1024.Idx) = ix3 ⟨t.val / 4, layer_lt t⟩ ⟨t.val % 4 * 256 + (y1).val, row_lt t y1⟩ y2 := by
    blk_ext [index6 t]
  rw [he, out6]
  rfl

/-- The result's array: the new first moment. -/
theorem arr7 (c : Dev nD) : (dats m 0 c).arrAt 7 cfg0.N = Cert.AdamInMath.m1 (A1 m c) (A3 m c) (A4 m c) := by
  refine (dats m 0 c).arrAt_eq_of_covers 7 _ (by decide +kernel) fun t hf y => ?_
  blk_simp
  rw [after0_7]
  idx_vars y
  have he : ((win0_7.blk t).view.emb (ix3 y0 y1 y2) : S2x1024x1024.Idx) = ix3 ⟨t.val / 4, layer_lt t⟩ ⟨t.val % 4 * 256 + (y1).val, row_lt t y1⟩ y2 := by
    blk_ext [index7 t]
  rw [he, out7]
  rfl

/-- The result's array: the new second moment. -/
theorem arr8 (c : Dev nD) : (dats m 0 c).arrAt 8 cfg0.N = Cert.AdamInMath.m2 (A2 m c) (A3 m c) (A4 m c) := by
  refine (dats m 0 c).arrAt_eq_of_covers 8 _ (by decide +kernel) fun t hf y => ?_
  blk_simp
  rw [after0_8]
  idx_vars y
  have he : ((win0_8.blk t).view.emb (ix3 y0 y1 y2) : S2x1024x1024.Idx) = ix3 ⟨t.val / 4, layer_lt t⟩ ⟨t.val % 4 * 256 + (y1).val, row_lt t y1⟩ y2 := by
    blk_ext [index8 t]
  rw [he, out8]
  rfl

end Cert.AdamInIdeal.Value
end
-- ==== Proof.AdamInClaim.lean ====
/-
  The claims about the update of the in-projection's weight: the frames of the kernel, of its idealization and of the reference, and the
  equality of the two over the extended reals.
-/
module

public import proofs.«01_k».proof.Defs
public import proofs.«01_k».proof.Proof.Gen.AdamIn.Frame
public import proofs.«01_k».proof.Proof.Gen.AdamInRefIdeal.Run
public import proofs.«01_k».proof.Proof.AdamInArray
public import Idealize.ShloMosaic.Adequacy
public import Idealize.ShloMosaic.Init

@[expose] public section

noncomputable section

namespace Cert.Proof.AdamIn

open Idealize.ShloMosaic Idealize.SL.Sem

/-- The kernel runs, keeps its arguments and leaves every semaphore at zero. -/
theorem frame_kernel : Cert.quiescent_AdamIn := fun m ρ _ => Cert.AdamIn.Gen.frame m ρ

/-- So does its idealization. -/
theorem frame_ideal : Cert.quiescent_AdamInIdeal := fun m ρ _ => Cert.AdamInIdeal.Gen.frame m ρ

/-- So does the reference, which has no semaphore. -/
theorem frame_ref : Cert.quiescent_AdamInRefIdeal := fun m ρ _ =>
  (θ_run _ _ _).mono (fun r h => ⟨fun c => (h c).2.2.2.2, Idealize.ShloMosaic.sem_eq_zero_of_no_sems (by decide) r.2⟩)
    (Cert.AdamInRefIdeal.Value.run m ρ)

/-- No rewrite was made on the way to the idealization. -/
theorem preserves : Cert.preserves_AdamIn_AdamInIdeal := trivial

/-- Kernel and reference end with equal results: the gradient, the change of the weight and the two new moments. -/
theorem algebraic : Cert.algebraic_AdamInIdeal_AdamInRefIdeal := by
  intro m g m' g' _ hargs
  refine ⟨fun c => Cert.AdamInMath.G (m (c.tc.loc Cert.AdamInIdeal.main_arg3)) (m (c.tc.loc Cert.AdamInIdeal.main_arg4)),
    fun c => Cert.AdamInMath.d (m (c.tc.loc Cert.AdamInIdeal.main_arg0)) (m (c.tc.loc Cert.AdamInIdeal.main_arg1)) (m (c.tc.loc Cert.AdamInIdeal.main_arg2)) (m (c.tc.loc Cert.AdamInIdeal.main_arg3)) (m (c.tc.loc Cert.AdamInIdeal.main_arg4)),
    fun c => Cert.AdamInMath.m1 (m (c.tc.loc Cert.AdamInIdeal.main_arg1)) (m (c.tc.loc Cert.AdamInIdeal.main_arg3)) (m (c.tc.loc Cert.AdamInIdeal.main_arg4)),
    fun c => Cert.AdamInMath.m2 (m (c.tc.loc Cert.AdamInIdeal.main_arg2)) (m (c.tc.loc Cert.AdamInIdeal.main_arg3)) (m (c.tc.loc Cert.AdamInIdeal.main_arg4)),
    (θ_run _ _ _).mono (fun r h c => ?_) (Cert.AdamInIdeal.Value.run_blocks m g),
    (θ_run _ _ _).mono (fun r h c => ?_) (Cert.AdamInRefIdeal.Value.run m' g')⟩
  · obtain ⟨h0, h1, h2, h3, hr⟩ := h c
    exact ⟨h0.trans (Cert.AdamInIdeal.Value.arr5 m c), h1.trans (Cert.AdamInIdeal.Value.arr6 m c), h2.trans (Cert.AdamInIdeal.Value.arr7 m c), h3.trans (Cert.AdamInIdeal.Value.arr8 m c), hr⟩
  · obtain ⟨h0, h1, h2, h3, hr⟩ := h c
    obtain ⟨a0, a1, a2, a3, a4, a5⟩ := hargs c
    refine ⟨h0.trans ?_, h1.trans ?_, h2.trans ?_, h3.trans ?_, hr⟩
    · rw [a3, a4]; exact Cert.AdamInMath.ref_g _ _
    · rw [a0, a1, a2, a3, a4]; exact Cert.AdamInMath.ref_d _ _ _ _ _
    · rw [a1, a3, a4]; exact Cert.AdamInMath.ref_m _ _ _
    · rw [a2, a3, a4]; exact Cert.AdamInMath.ref_v _ _ _

end Cert.Proof.AdamIn

end
-- ==== Proof.AdamOutMath.lean ====
/-
  The AdamW update of the out-projection's weight in plain mathematics, and the proof that the reference's terms are that mathematics.
-/
module

public import proofs.«01_k».proof.Proof.Gen.AdamOutRefIdeal.Read
public import proofs.«01_k».proof.Proof.AdamMath
public import Idealize.ShloMosaic.Lib.Pointwise
public import Idealize.ShloMosaic.Lib.Tactic
public import Idealize.ShloMosaic.Lib.Pipeline.ValueKit

@[expose] public section

noncomputable section

namespace Cert.AdamOutMath

open Cert.AdamOutRefIdeal Cert.AdamOutRefIdeal.Read Idealize.ShloMosaic
open Cert.AdamMath (mean square delta)

/-- The gradient: layer 0 from the first buffer, layer 1 from the second, each in rows 1024 to 1535. -/
def G (red0 : Vec Ideal S1792x1024 .f32) (red1 : Vec Ideal S1792x1024 .f32) : Vec Ideal S2x512x1024 .f32 := fun i => if h : (i 0).val < 1 then red0 (ix2 ⟨1024 + (i 1).val, by have : (i 1).val < 512 := (i 1).isLt; omega⟩ (i 2)) else red1 (ix2 ⟨1024 + (i 1).val, by have : (i 1).val < 512 := (i 1).isLt; omega⟩ (i 2))

/-- The weight's change. -/
def d (w m v : Vec Ideal S2x512x1024 .f32) (red0 : Vec Ideal S1792x1024 .f32) (red1 : Vec Ideal S1792x1024 .f32) : Vec Ideal S2x512x1024 .f32 := fun i => delta (w i) (m i) (v i) (G red0 red1 i)

/-- The new first moment. -/
def m1 (m : Vec Ideal S2x512x1024 .f32) (red0 : Vec Ideal S1792x1024 .f32) (red1 : Vec Ideal S1792x1024 .f32) : Vec Ideal S2x512x1024 .f32 := fun i => mean (m i) (G red0 red1 i)

/-- The new second moment. -/
def m2 (v : Vec Ideal S2x512x1024 .f32) (red0 : Vec Ideal S1792x1024 .f32) (red1 : Vec Ideal S1792x1024 .f32) : Vec Ideal S2x512x1024 .f32 := fun i => square (v i) (G red0 red1 i)

/-- The reference's gradient. -/
theorem ref_g (red0 : Vec Ideal S1792x1024 .f32) (red1 : Vec Ideal S1792x1024 .f32) :
    val_main_v4 (F := Ideal) red0 red1 = G red0 red1 := by
  funext i
  idx_vars i
  unfold G
  pointwise [val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

/-- The reference's change of the weight. -/
theorem ref_d (w : Vec Ideal S2x512x1024 .f32) (m : Vec Ideal S2x512x1024 .f32) (v : Vec Ideal S2x512x1024 .f32) (red0 : Vec Ideal S1792x1024 .f32) (red1 : Vec Ideal S1792x1024 .f32) :
    val_main_v28 (F := Ideal) w m v red0 red1 = d w m v red0 red1 := by
  funext i
  idx_vars i
  unfold d G
  pointwise [delta, mean, square, val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

/-- The reference's new first moment. -/
theorem ref_m (m : Vec Ideal S2x512x1024 .f32) (red0 : Vec Ideal S1792x1024 .f32) (red1 : Vec Ideal S1792x1024 .f32) :
    val_main_v9 (F := Ideal) m red0 red1 = m1 m red0 red1 := by
  funext i
  idx_vars i
  unfold m1 G
  pointwise [delta, mean, square, val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

/-- The reference's new second moment. -/
theorem ref_v (v : Vec Ideal S2x512x1024 .f32) (red0 : Vec Ideal S1792x1024 .f32) (red1 : Vec Ideal S1792x1024 .f32) :
    val_main_v15 (F := Ideal) v red0 red1 = m2 v red0 red1 := by
  funext i
  idx_vars i
  unfold m2 G
  pointwise [delta, mean, square, val_main_v28, val_main_v27, val_main_cst_7, val_main_v26, val_main_v25, val_main_v24, val_main_cst_6, val_main_v23, val_main_v22, val_main_v21, val_main_cst_5, val_main_v20, val_main_v19, val_main_v18, val_main_cst_4, val_main_v17, val_main_v16, val_main_cst_3, val_main_v15, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v1, val_main_v0]

end Cert.AdamOutMath
end
-- ==== Proof.AdamOutArray.lean ====
/-
  What the kernel of the update of the out-projection's weight leaves in its four result arrays: the plain mathematics of `AdamOutMath`.
-/
module

public import proofs.«01_k».proof.Proof.Gen.AdamOutIdeal.Value
public import proofs.«01_k».proof.Proof.AdamOutMath
public import Idealize.ShloMosaic.Lib.Pipeline.ValueKit

@[expose] public section

noncomputable section

namespace Cert.AdamOutIdeal.Value

open Cert.AdamOutIdeal Cert.AdamOutIdeal.Gen Idealize.ShloMosaic Idealize.ShloMosaic.TcCoe Idealize.SL.Sem
open Cert.AdamMath (mean square delta)
open Cert.AdamOutMath (G)

variable (m : (ℓ : Loc nD τ sig) → Buf (Elt Ideal) ℓ)

/-- Argument 0 on device `c`: the weight. -/
abbrev A0 (c : Dev nD) : Vec Ideal S2x512x1024 .f32 := m (c.tc.loc main_arg0)
/-- Argument 1 on device `c`: its first moment. -/
abbrev A1 (c : Dev nD) : Vec Ideal S2x512x1024 .f32 := m (c.tc.loc main_arg1)
/-- Argument 2 on device `c`: its second moment. -/
abbrev A2 (c : Dev nD) : Vec Ideal S2x512x1024 .f32 := m (c.tc.loc main_arg2)
/-- Argument 3 on device `c`: layer 0's gradients. -/
abbrev A3 (c : Dev nD) : Vec Ideal S1792x1024 .f32 := m (c.tc.loc main_arg3)
/-- Argument 4 on device `c`: layer 1's gradients. -/
abbrev A4 (c : Dev nD) : Vec Ideal S1792x1024 .f32 := m (c.tc.loc main_arg4)

theorem layer_lt (t : Fin cfg0.N) : t.val / 2 < 2 := by
  have := t.isLt; have : cfg0.N = 4 := N_0; omega
theorem row_lt (t : Fin cfg0.N) (r : Fin 256) : t.val % 2 * 256 + r.val < 512 := by omega

theorem index0 : ∀ t : Fin cfg0.N, win0_0.index t 0 = t.val / 2 ∧ win0_0.index t 1 = t.val % 2 ∧ win0_0.index t 2 = 0 := (by decide +kernel : ∀ t : Fin grid0.N, win0_0.index t 0 = t.val / 2 ∧ win0_0.index t 1 = t.val % 2 ∧ win0_0.index t 2 = 0)
theorem index1 : ∀ t : Fin cfg0.N, win0_1.index t 0 = t.val / 2 ∧ win0_1.index t 1 = t.val % 2 ∧ win0_1.index t 2 = 0 := (by decide +kernel : ∀ t : Fin grid0.N, win0_1.index t 0 = t.val / 2 ∧ win0_1.index t 1 = t.val % 2 ∧ win0_1.index t 2 = 0)
theorem index2 : ∀ t : Fin cfg0.N, win0_2.index t 0 = t.val / 2 ∧ win0_2.index t 1 = t.val % 2 ∧ win0_2.index t 2 = 0 := (by decide +kernel : ∀ t : Fin grid0.N, win0_2.index t 0 = t.val / 2 ∧ win0_2.index t 1 = t.val % 2 ∧ win0_2.index t 2 = 0)
theorem index3 : ∀ t : Fin cfg0.N, win0_3.index t 0 = 4 + t.val % 2 ∧ win0_3.index t 1 = 0 := (by decide +kernel : ∀ t : Fin grid0.N, win0_3.index t 0 = 4 + t.val % 2 ∧ win0_3.index t 1 = 0)
theorem index4 : ∀ t : Fin cfg0.N, win0_4.index t 0 = 4 + t.val % 2 ∧ win0_4.index t 1 = 0 := (by decide +kernel : ∀ t : Fin grid0.N, win0_4.index t 0 = 4 + t.val % 2 ∧ win0_4.index t 1 = 0)
theorem index5 : ∀ t : Fin cfg0.N, win0_5.index t 0 = t.val / 2 ∧ win0_5.index t 1 = t.val % 2 ∧ win0_5.index t 2 = 0 := (by decide +kernel : ∀ t : Fin grid0.N, win0_5.index t 0 = t.val / 2 ∧ win0_5.index t 1 = t.val % 2 ∧ win0_5.index t 2 = 0)
theorem index6 : ∀ t : Fin cfg0.N, win0_6.index t 0 = t.val / 2 ∧ win0_6.index t 1 = t.val % 2 ∧ win0_6.index t 2 = 0 := (by decide +kernel : ∀ t : Fin grid0.N, win0_6.index t 0 = t.val / 2 ∧ win0_6.index t 1 = t.val % 2 ∧ win0_6.index t 2 = 0)
theorem index7 : ∀ t : Fin cfg0.N, win0_7.index t 0 = t.val / 2 ∧ win0_7.index t 1 = t.val % 2 ∧ win0_7.index t 2 = 0 := (by decide +kernel : ∀ t : Fin grid0.N, win0_7.index t 0 = t.val / 2 ∧ win0_7.index t 1 = t.val % 2 ∧ win0_7.index t 2 = 0)
theorem index8 : ∀ t : Fin cfg0.N, win0_8.index t 0 = t.val / 2 ∧ win0_8.index t 1 = t.val % 2 ∧ win0_8.index t 2 = 0 := (by decide +kernel : ∀ t : Fin grid0.N, win0_8.index t 0 = t.val / 2 ∧ win0_8.index t 1 = t.val % 2 ∧ win0_8.index t 2 = 0)

/-- A block of the weight. -/
theorem blk0 (c : Dev nD) (t : Fin cfg0.N) (a : Fin 1) (r : Fin 256) (k : Fin 1024) :
    (iblk m c 0 t : Vec Ideal S1x256x1024 .f32) (ix3 a r k) = A0 m c (ix3 ⟨t.val / 2, layer_lt t⟩ ⟨t.val % 2 * 256 + (r).val, row_lt t r⟩ k) := by
  blk_ext! [iblk, index0 t]
/-- A block of its first moment. -/
theorem blk1 (c : Dev nD) (t : Fin cfg0.N) (a : Fin 1) (r : Fin 256) (k : Fin 1024) :
    (iblk m c 1 t : Vec Ideal S1x256x1024 .f32) (ix3 a r k) = A1 m c (ix3 ⟨t.val / 2, layer_lt t⟩ ⟨t.val % 2 * 256 + (r).val, row_lt t r⟩ k) := by
  blk_ext! [iblk, index1 t]
/-- A block of its second moment. -/
theorem blk2 (c : Dev nD) (t : Fin cfg0.N) (a : Fin 1) (r : Fin 256) (k : Fin 1024) :
    (iblk m c 2 t : Vec Ideal S1x256x1024 .f32) (ix3 a r k) = A2 m c (ix3 ⟨t.val / 2, layer_lt t⟩ ⟨t.val % 2 * 256 + (r).val, row_lt t r⟩ k) := by
  blk_ext! [iblk, index2 t]
/-- A block of layer 0's gradients. -/
theorem blk3 (c : Dev nD) (t : Fin cfg0.N) (r : Fin 256) (k : Fin 1024) :
    (iblk m c 3 t : Vec Ideal S256x1024 .f32) (ix2 r k) = A3 m c (ix2 ⟨1024 + (t.val % 2 * 256 + r.val), by have := row_lt t r; omega⟩ k) := by
  blk_ext! [iblk, index3 t]
/-- A block of layer 1's gradients. -/
theorem blk4 (c : Dev nD) (t : Fin cfg0.N) (r : Fin 256) (k : Fin 1024) :
    (iblk m c 4 t : Vec Ideal S256x1024 .f32) (ix2 r k) = A4 m c (ix2 ⟨1024 + (t.val % 2 * 256 + r.val), by have := row_lt t r; omega⟩ k) := by
  blk_ext! [iblk, index4 t]
/-- The grid's first coordinate is the layer. -/
theorem coord0 : ∀ t : Fin cfg0.N, (grid0.coords t 0).val = t.val / 2 := (by decide +kernel : ∀ t : Fin grid0.N, (grid0.coords t 0).val = t.val / 2)
/-- The gradient at a grid point. -/
theorem grad (c : Dev nD) (t : Fin cfg0.N) (r : Fin 256) (k : Fin 1024) :
    (k0_pay4 (grid0.coords t) (iblk m c 3 t) (iblk m c 4 t) : Vec Ideal S256x1024 .f32) (ix2 r k) = G (A3 m c) (A4 m c) (ix3 ⟨t.val / 2, layer_lt t⟩ ⟨t.val % 2 * 256 + r.val, row_lt t r⟩ k) := by
  have h := coord0 t
  have hl := layer_lt t
  unfold k0_pay4 G
  dsimp only
  obtain h0 | h0 : t.val / 2 = 0 ∨ t.val / 2 = 1 := by omega
  · rw [show Scalar.cmpi .eq (BitVec.ofNat 32 (grid0.coords t 0).val) 0#32 = 1#1 from by rw [h, h0]; rfl, dif_pos (by dsimp only [ix3]; omega)]
    exact blk3 m c t r k
  · rw [show Scalar.cmpi .eq (BitVec.ofNat 32 (grid0.coords t 0).val) 0#32 = 0#1 from by rw [h, h0]; rfl, dif_neg (by dsimp only [ix3]; omega)]
    exact blk4 m c t r k

/-- What a grid point leaves of the gradient. -/
theorem out5 (c : Dev nD) (t : Fin cfg0.N) (a : Fin 1) (r : Fin 256) (k : Fin 1024) :
    (out0_5 (grid0.coords t) (iblk m c 0 t) (iblk m c 1 t) (iblk m c 2 t) (iblk m c 3 t) (iblk m c 4 t) : Vec Ideal S1x256x1024 .f32) (ix3 a r k) = G (A3 m c) (A4 m c) (ix3 ⟨t.val / 2, layer_lt t⟩ ⟨t.val % 2 * 256 + (r).val, row_lt t r⟩ k) := by
  unfold out0_5
  frame_out
  pointwise [k0_pay1, k0_pay2, k0_pay3, k0_pay5, k0_pay6, k0_pay7, k0_pay8, k0_pay9]
  simp only [blk0, blk1, blk2, grad]

/-- What a grid point leaves of the change of the weight. -/
theorem out6 (c : Dev nD) (t : Fin cfg0.N) (a : Fin 1) (r : Fin 256) (k : Fin 1024) :
    (out0_6 (grid0.coords t) (iblk m c 0 t) (iblk m c 1 t) (iblk m c 2 t) (iblk m c 3 t) (iblk m c 4 t) : Vec Ideal S1x256x1024 .f32) (ix3 a r k) = delta (A0 m c (ix3 ⟨t.val / 2, layer_lt t⟩ ⟨t.val % 2 * 256 + (r).val, row_lt t r⟩ k)) (A1 m c (ix3 ⟨t.val / 2, layer_lt t⟩ ⟨t.val % 2 * 256 + (r).val, row_lt t r⟩ k)) (A2 m c (ix3 ⟨t.val / 2, layer_lt t⟩ ⟨t.val % 2 * 256 + (r).val, row_lt t r⟩ k)) (G (A3 m c) (A4 m c) (ix3 ⟨t.val / 2, layer_lt t⟩ ⟨t.val % 2 * 256 + (r).val, row_lt t r⟩ k)) := by
  unfold out0_6
  frame_out
  pointwise [delta, mean, square, k0_pay1, k0_pay2, k0_pay3, k0_pay5, k0_pay6, k0_pay7, k0_pay8, k0_pay9]
  simp only [blk0, blk1, blk2, grad]

/-- What a grid point leaves of the new first moment. -/
theorem out7 (c : Dev nD) (t : Fin cfg0.N) (a : Fin 1) (r : Fin 256) (k : Fin 1024) :
    (out0_7 (grid0.coords t) (iblk m c 0 t) (iblk m c 1 t) (iblk m c 2 t) (iblk m c 3 t) (iblk m c 4 t) : Vec Ideal S1x256x1024 .f32) (ix3 a r k) = mean (A1 m c (ix3 ⟨t.val / 2, layer_lt t⟩ ⟨t.val % 2 * 256 + (r).val, row_lt t r⟩ k)) (G (A3 m c) (A4 m c) (ix3 ⟨t.val / 2, layer_lt t⟩ ⟨t.val % 2 * 256 + (r).val, row_lt t r⟩ k)) := by
  unfold out0_7
  frame_out
  pointwise [delta, mean, square, k0_pay1, k0_pay2, k0_pay3, k0_pay5, k0_pay6, k0_pay7, k0_pay8, k0_pay9]
  simp only [blk0, blk1, blk2, grad]

/-- What a grid point leaves of the new second moment. -/
theorem out8 (c : Dev nD) (t : Fin cfg0.N) (a : Fin 1) (r : Fin 256) (k : Fin 1024) :
    (out0_8 (grid0.coords t) (iblk m c 0 t) (iblk m c 1 t) (iblk m c 2 t) (iblk m c 3 t) (iblk m c 4 t) : Vec Ideal S1x256x1024 .f32) (ix3 a r k) = square (A2 m c (ix3 ⟨t.val / 2, layer_lt t⟩ ⟨t.val % 2 * 256 + (r).val, row_lt t r⟩ k)) (G (A3 m c) (A4 m c) (ix3 ⟨t.val / 2, layer_lt t⟩ ⟨t.val % 2 * 256 + (r).val, row_lt t r⟩ k)) := by
  unfold out0_8
  frame_out
  pointwise [delta, mean, square, k0_pay1, k0_pay2, k0_pay3, k0_pay5, k0_pay6, k0_pay7, k0_pay8, k0_pay9]
  simp only [blk0, blk1, blk2, grad]

/-- The result's array: the gradient. -/
theorem arr5 (c : Dev nD) : (dats m 0 c).arrAt 5 cfg0.N = G (A3 m c) (A4 m c) := by
  refine (dats m 0 c).arrAt_eq_of_covers 5 _ (by decide +kernel) fun t hf y => ?_
  blk_simp
  rw [after0_5]
  idx_vars y
  have he : ((win0_5.blk t).view.emb (ix3 y0 y1 y2) : S2x512x1024.Idx) = ix3 ⟨t.val / 2, layer_lt t⟩ ⟨t.val % 2 * 256 + (y1).val, row_lt t y1⟩ y2 := by
    blk_ext [index5 t]
  rw [he, out5]

/-- The result's array: the change of the weight. -/
theorem arr6 (c : Dev nD) : (dats m 0 c).arrAt 6 cfg0.N = Cert.AdamOutMath.d (A0 m c) (A1 m c) (A2 m c) (A3 m c) (A4 m c) := by
  refine (dats m 0 c).arrAt_eq_of_covers 6 _ (by decide +kernel) fun t hf y => ?_
  blk_simp
  rw [after0_6]
  idx_vars y
  have he : ((win0_6.blk t).view.emb (ix3 y0 y1 y2) : S2x512x1024.Idx) = ix3 ⟨t.val / 2, layer_lt t⟩ ⟨t.val % 2 * 256 + (y1).val, row_lt t y1⟩ y2 := by
    blk_ext [index6 t]
  rw [he, out6]
  rfl

/-- The result's array: the new first moment. -/
theorem arr7 (c : Dev nD) : (dats m 0 c).arrAt 7 cfg0.N = Cert.AdamOutMath.m1 (A1 m c) (A3 m c) (A4 m c) := by
  refine (dats m 0 c).arrAt_eq_of_covers 7 _ (by decide +kernel) fun t hf y => ?_
  blk_simp
  rw [after0_7]
  idx_vars y
  have he : ((win0_7.blk t).view.emb (ix3 y0 y1 y2) : S2x512x1024.Idx) = ix3 ⟨t.val / 2, layer_lt t⟩ ⟨t.val % 2 * 256 + (y1).val, row_lt t y1⟩ y2 := by
    blk_ext [index7 t]
  rw [he, out7]
  rfl

/-- The result's array: the new second moment. -/
theorem arr8 (c : Dev nD) : (dats m 0 c).arrAt 8 cfg0.N = Cert.AdamOutMath.m2 (A2 m c) (A3 m c) (A4 m c) := by
  refine (dats m 0 c).arrAt_eq_of_covers 8 _ (by decide +kernel) fun t hf y => ?_
  blk_simp
  rw [after0_8]
  idx_vars y
  have he : ((win0_8.blk t).view.emb (ix3 y0 y1 y2) : S2x512x1024.Idx) = ix3 ⟨t.val / 2, layer_lt t⟩ ⟨t.val % 2 * 256 + (y1).val, row_lt t y1⟩ y2 := by
    blk_ext [index8 t]
  rw [he, out8]
  rfl

end Cert.AdamOutIdeal.Value
end
-- ==== Proof.AdamOutClaim.lean ====
/-
  The claims about the update of the out-projection's weight: the frames of the kernel, of its idealization and of the reference, and the
  equality of the two over the extended reals.
-/
module

public import proofs.«01_k».proof.Defs
public import proofs.«01_k».proof.Proof.Gen.AdamOut.Frame
public import proofs.«01_k».proof.Proof.Gen.AdamOutRefIdeal.Run
public import proofs.«01_k».proof.Proof.AdamOutArray
public import Idealize.ShloMosaic.Adequacy
public import Idealize.ShloMosaic.Init

@[expose] public section

noncomputable section

namespace Cert.Proof.AdamOut

open Idealize.ShloMosaic Idealize.SL.Sem

/-- The kernel runs, keeps its arguments and leaves every semaphore at zero. -/
theorem frame_kernel : Cert.quiescent_AdamOut := fun m ρ _ => Cert.AdamOut.Gen.frame m ρ

/-- So does its idealization. -/
theorem frame_ideal : Cert.quiescent_AdamOutIdeal := fun m ρ _ => Cert.AdamOutIdeal.Gen.frame m ρ

/-- So does the reference, which has no semaphore. -/
theorem frame_ref : Cert.quiescent_AdamOutRefIdeal := fun m ρ _ =>
  (θ_run _ _ _).mono (fun r h => ⟨fun c => (h c).2.2.2.2, Idealize.ShloMosaic.sem_eq_zero_of_no_sems (by decide) r.2⟩)
    (Cert.AdamOutRefIdeal.Value.run m ρ)

/-- No rewrite was made on the way to the idealization. -/
theorem preserves : Cert.preserves_AdamOut_AdamOutIdeal := trivial

/-- Kernel and reference end with equal results: the gradient, the change of the weight and the two new moments. -/
theorem algebraic : Cert.algebraic_AdamOutIdeal_AdamOutRefIdeal := by
  intro m g m' g' _ hargs
  refine ⟨fun c => Cert.AdamOutMath.G (m (c.tc.loc Cert.AdamOutIdeal.main_arg3)) (m (c.tc.loc Cert.AdamOutIdeal.main_arg4)),
    fun c => Cert.AdamOutMath.d (m (c.tc.loc Cert.AdamOutIdeal.main_arg0)) (m (c.tc.loc Cert.AdamOutIdeal.main_arg1)) (m (c.tc.loc Cert.AdamOutIdeal.main_arg2)) (m (c.tc.loc Cert.AdamOutIdeal.main_arg3)) (m (c.tc.loc Cert.AdamOutIdeal.main_arg4)),
    fun c => Cert.AdamOutMath.m1 (m (c.tc.loc Cert.AdamOutIdeal.main_arg1)) (m (c.tc.loc Cert.AdamOutIdeal.main_arg3)) (m (c.tc.loc Cert.AdamOutIdeal.main_arg4)),
    fun c => Cert.AdamOutMath.m2 (m (c.tc.loc Cert.AdamOutIdeal.main_arg2)) (m (c.tc.loc Cert.AdamOutIdeal.main_arg3)) (m (c.tc.loc Cert.AdamOutIdeal.main_arg4)),
    (θ_run _ _ _).mono (fun r h c => ?_) (Cert.AdamOutIdeal.Value.run_blocks m g),
    (θ_run _ _ _).mono (fun r h c => ?_) (Cert.AdamOutRefIdeal.Value.run m' g')⟩
  · obtain ⟨h0, h1, h2, h3, hr⟩ := h c
    exact ⟨h0.trans (Cert.AdamOutIdeal.Value.arr5 m c), h1.trans (Cert.AdamOutIdeal.Value.arr6 m c), h2.trans (Cert.AdamOutIdeal.Value.arr7 m c), h3.trans (Cert.AdamOutIdeal.Value.arr8 m c), hr⟩
  · obtain ⟨h0, h1, h2, h3, hr⟩ := h c
    obtain ⟨a0, a1, a2, a3, a4⟩ := hargs c
    refine ⟨h0.trans ?_, h1.trans ?_, h2.trans ?_, h3.trans ?_, hr⟩
    · rw [a3, a4]; exact Cert.AdamOutMath.ref_g _ _
    · rw [a0, a1, a2, a3, a4]; exact Cert.AdamOutMath.ref_d _ _ _ _ _
    · rw [a1, a3, a4]; exact Cert.AdamOutMath.ref_m _ _ _
    · rw [a2, a3, a4]; exact Cert.AdamOutMath.ref_v _ _ _

end Cert.Proof.AdamOut

end
-- ==== Proof.AdamPoolMath.lean ====
/-
  The AdamW update of the pooling's weight in plain mathematics, and the proof that the reference's terms are that mathematics.
-/
module

public import proofs.«01_k».proof.Proof.Gen.AdamPoolRefIdeal.Read
public import proofs.«01_k».proof.Proof.AdamMath
public import Idealize.ShloMosaic.Lib.Pointwise
public import Idealize.ShloMosaic.Lib.Tactic
public import Idealize.ShloMosaic.Lib.Pipeline.ValueKit

@[expose] public section

noncomputable section

namespace Cert.AdamPoolMath

open Cert.AdamPoolRefIdeal Cert.AdamPoolRefIdeal.Read Idealize.ShloMosaic
open Cert.AdamMath (mean square delta)

/-- An array of the weight's shape, seen as the kernel's blocks. -/
def asBlocks (w : Vec Ideal S1x4x128x512 .f32) : Vec Ideal S4x128x512 .f32 := fun i => w (ix4 0 (i 0) (i 1) (i 2))

/-- The gradient: the groups' blocks of 128 rows and 512 columns, two side by side, in the buffer's last 256 rows. -/
def G (red1 : Vec Ideal S1792x1024 .f32) : Vec Ideal S4x128x512 .f32 := fun i => red1 (ix2 ⟨1536 + ((i 0).val / 2 * 128 + (i 1).val), by have : (i 0).val < 4 := (i 0).isLt; have : (i 1).val < 128 := (i 1).isLt; omega⟩ ⟨(i 0).val % 2 * 512 + (i 2).val, by have : (i 2).val < 512 := (i 2).isLt; omega⟩)

/-- The weight's change. -/
def d (w m v : Vec Ideal S1x4x128x512 .f32) (red1 : Vec Ideal S1792x1024 .f32) : Vec Ideal S4x128x512 .f32 := fun i => delta (asBlocks w i) (asBlocks m i) (asBlocks v i) (G red1 i)

/-- The new first moment. -/
def m1 (m : Vec Ideal S1x4x128x512 .f32) (red1 : Vec Ideal S1792x1024 .f32) : Vec Ideal S4x128x512 .f32 := fun i => mean (asBlocks m i) (G red1 i)

/-- The new second moment. -/
def m2 (v : Vec Ideal S1x4x128x512 .f32) (red1 : Vec Ideal S1792x1024 .f32) : Vec Ideal S4x128x512 .f32 := fun i => square (asBlocks v i) (G red1 i)

/-- The reference's gradient. -/
theorem ref_g (red1 : Vec Ideal S1792x1024 .f32) :
    val_main_v3 (F := Ideal) red1 = G red1 := by
  funext i
  idx_vars i
  unfold G
  pointwise [val_main_v30, val_main_v29, val_main_cst_7, val_main_v28, val_main_v27, val_main_v26, val_main_cst_6, val_main_v25, val_main_v24, val_main_v23, val_main_cst_5, val_main_v22, val_main_v21, val_main_v20, val_main_cst_4, val_main_v19, val_main_v18, val_main_cst_3, val_main_v17, val_main_v16, val_main_v15, val_main_cst_2, val_main_v14, val_main_v13, val_main_v12, val_main_cst_1, val_main_v11, val_main_v10, val_main_v9, val_main_cst_0, val_main_v8, val_main_v7, val_main_cst, val_main_v6, val_main_v5, val_main_v4, val_main_v3, val_main_v2, val_main_v1, val_main_v0]

/-- The reference's change of the weight. -/
theorem ref_d (w : Vec Ideal S1x4x128x512 .f32) (m : Vec Ideal S1x4x128x512 .f32) (v : Vec Ideal S1x4x128x512 .f32) (red1 : Vec Ideal S1792x1024 .f32) :
    val_main_v30 (F := Ideal) w m v red1 = d w m v red1 := by
  funext i
  idx_vars i
  unfold d G asBlocks
  pointwise [delta, mean, square, val_main_v30, val_main_v29, val_main_cst_7, val_main_v28, val_main_v27, val_main_v26, val_main_cst_6, val_main_v25, val_main_v24, val_main_v23, val_main_cst_5, val_main_v22, val_main_v21, val_main_v20, val_main_cst_4, val_main_v19, val_main_v18, val_main_cst_3, val_main_v17, val_main_v16, val_main_v15, val_main_cst_2, val_main_v14, val_main_v13, val_main_v12, val_main_cst_1, val_main_v11, val_main_v10, val_main_v9, val_main_cst_0, val_main_v8, val_main_v7, val_main_cst, val_main_v6, val_main_v5, val_main_v4, val_main_v3, val_main_v2, val_main_v1, val_main_v0]

/-- The reference's new first moment. -/
theorem ref_m (m : Vec Ideal S1x4x128x512 .f32) (red1 : Vec Ideal S1792x1024 .f32) :
    val_main_v11 (F := Ideal) m red1 = m1 m red1 := by
  funext i
  idx_vars i
  unfold m1 G asBlocks
  pointwise [delta, mean, square, val_main_v30, val_main_v29, val_main_cst_7, val_main_v28, val_main_v27, val_main_v26, val_main_cst_6, val_main_v25, val_main_v24, val_main_v23, val_main_cst_5, val_main_v22, val_main_v21, val_main_v20, val_main_cst_4, val_main_v19, val_main_v18, val_main_cst_3, val_main_v17, val_main_v16, val_main_v15, val_main_cst_2, val_main_v14, val_main_v13, val_main_v12, val_main_cst_1, val_main_v11, val_main_v10, val_main_v9, val_main_cst_0, val_main_v8, val_main_v7, val_main_cst, val_main_v6, val_main_v5, val_main_v4, val_main_v3, val_main_v2, val_main_v1, val_main_v0]

/-- The reference's new second moment. -/
theorem ref_v (v : Vec Ideal S1x4x128x512 .f32) (red1 : Vec Ideal S1792x1024 .f32) :
    val_main_v17 (F := Ideal) v red1 = m2 v red1 := by
  funext i
  idx_vars i
  unfold m2 G asBlocks
  pointwise [delta, mean, square, val_main_v30, val_main_v29, val_main_cst_7, val_main_v28, val_main_v27, val_main_v26, val_main_cst_6, val_main_v25, val_main_v24, val_main_v23, val_main_cst_5, val_main_v22, val_main_v21, val_main_v20, val_main_cst_4, val_main_v19, val_main_v18, val_main_cst_3, val_main_v17, val_main_v16, val_main_v15, val_main_cst_2, val_main_v14, val_main_v13, val_main_v12, val_main_cst_1, val_main_v11, val_main_v10, val_main_v9, val_main_cst_0, val_main_v8, val_main_v7, val_main_cst, val_main_v6, val_main_v5, val_main_v4, val_main_v3, val_main_v2, val_main_v1, val_main_v0]

end Cert.AdamPoolMath
end
-- ==== Proof.AdamPoolArray.lean ====
/-
  What the kernel of the update of the pooling's weight leaves in its four result arrays: the plain mathematics of `AdamPoolMath`.
-/
module

public import proofs.«01_k».proof.Proof.Gen.AdamPoolIdeal.Value
public import proofs.«01_k».proof.Proof.AdamPoolMath
public import Idealize.ShloMosaic.Lib.Pipeline.ValueKit

@[expose] public section

noncomputable section

namespace Cert.AdamPoolIdeal.Value

open Cert.AdamPoolIdeal Cert.AdamPoolIdeal.Gen Idealize.ShloMosaic Idealize.ShloMosaic.TcCoe Idealize.SL.Sem
open Cert.AdamMath (mean square delta)
open Cert.AdamPoolMath (G asBlocks)

variable (m : (ℓ : Loc nD τ sig) → Buf (Elt Ideal) ℓ)

/-- Argument 0 on device `c`: the weight. -/
abbrev A0 (c : Dev nD) : Vec Ideal S1x4x128x512 .f32 := m (c.tc.loc main_arg0)
/-- Argument 1 on device `c`: its first moment. -/
abbrev A1 (c : Dev nD) : Vec Ideal S1x4x128x512 .f32 := m (c.tc.loc main_arg1)
/-- Argument 2 on device `c`: its second moment. -/
abbrev A2 (c : Dev nD) : Vec Ideal S1x4x128x512 .f32 := m (c.tc.loc main_arg2)
/-- Argument 3 on device `c`: the gradient. -/
abbrev A3 (c : Dev nD) : Vec Ideal S1792x1024 .f32 := m (c.tc.loc main_arg3)

theorem layer_lt (t : Fin cfg0.N) : t.val < 4 := by
  have := t.isLt; have : cfg0.N = 4 := N_0; omega

theorem index0 : ∀ t : Fin cfg0.N, win0_0.index t 0 = t.val ∧ win0_0.index t 1 = 0 ∧ win0_0.index t 2 = 0 := (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 := (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 := (by decide +kernel : ∀ t : Fin grid0.N, win0_2.index t 0 = t.val ∧ win0_2.index t 1 = 0 ∧ win0_2.index t 2 = 0)
theorem index3 : ∀ t : Fin cfg0.N, win0_3.index t 0 = 12 + t.val / 2 ∧ win0_3.index t 1 = t.val % 2 := (by decide +kernel : ∀ t : Fin grid0.N, win0_3.index t 0 = 12 + t.val / 2 ∧ win0_3.index t 1 = t.val % 2)
theorem index4 : ∀ t : Fin cfg0.N, win0_4.index t 0 = t.val ∧ win0_4.index t 1 = 0 ∧ win0_4.index t 2 = 0 := (by decide +kernel : ∀ t : Fin grid0.N, win0_4.index t 0 = t.val ∧ win0_4.index t 1 = 0 ∧ win0_4.index t 2 = 0)
theorem index5 : ∀ t : Fin cfg0.N, win0_5.index t 0 = t.val ∧ win0_5.index t 1 = 0 ∧ win0_5.index t 2 = 0 := (by decide +kernel : ∀ t : Fin grid0.N, win0_5.index t 0 = t.val ∧ win0_5.index t 1 = 0 ∧ win0_5.index t 2 = 0)
theorem index6 : ∀ t : Fin cfg0.N, win0_6.index t 0 = t.val ∧ win0_6.index t 1 = 0 ∧ win0_6.index t 2 = 0 := (by decide +kernel : ∀ t : Fin grid0.N, win0_6.index t 0 = t.val ∧ win0_6.index t 1 = 0 ∧ win0_6.index t 2 = 0)
theorem index7 : ∀ t : Fin cfg0.N, win0_7.index t 0 = t.val ∧ win0_7.index t 1 = 0 ∧ win0_7.index t 2 = 0 := (by decide +kernel : ∀ t : Fin grid0.N, win0_7.index t 0 = t.val ∧ win0_7.index t 1 = 0 ∧ win0_7.index t 2 = 0)

/-- A block of the weight. -/
theorem blk0 (c : Dev nD) (t : Fin cfg0.N) (a : Fin 1) (r : Fin 128) (k : Fin 512) :
    (iblk m c 0 t : Vec Ideal S1x128x512 .f32) (ix3 a r k) = asBlocks (A0 m c) (ix3 ⟨t.val, layer_lt t⟩ r k) := by
  unfold asBlocks
  blk_simp [iblk, index0 t]
  entry_read
  pointwise
  blk_point [index0 t]
/-- A block of its first moment. -/
theorem blk1 (c : Dev nD) (t : Fin cfg0.N) (a : Fin 1) (r : Fin 128) (k : Fin 512) :
    (iblk m c 1 t : Vec Ideal S1x128x512 .f32) (ix3 a r k) = asBlocks (A1 m c) (ix3 ⟨t.val, layer_lt t⟩ r k) := by
  unfold asBlocks
  blk_simp [iblk, index1 t]
  entry_read
  pointwise
  blk_point [index1 t]
/-- A block of its second moment. -/
theorem blk2 (c : Dev nD) (t : Fin cfg0.N) (a : Fin 1) (r : Fin 128) (k : Fin 512) :
    (iblk m c 2 t : Vec Ideal S1x128x512 .f32) (ix3 a r k) = asBlocks (A2 m c) (ix3 ⟨t.val, layer_lt t⟩ r k) := by
  unfold asBlocks
  blk_simp [iblk, index2 t]
  entry_read
  pointwise
  blk_point [index2 t]
/-- A block of the gradients. -/
theorem grad (c : Dev nD) (t : Fin cfg0.N) (r : Fin 128) (k : Fin 512) :
    (iblk m c 3 t : Vec Ideal S128x512 .f32) (ix2 r k) = G (A3 m c) (ix3 ⟨t.val, layer_lt t⟩ r k) := by
  unfold G
  blk_ext! [iblk, index3 t]

/-- What a grid point leaves of the gradient. -/
theorem out4 (c : Dev nD) (t : Fin cfg0.N) (a : Fin 1) (r : Fin 128) (k : Fin 512) :
    (out0_4 (iblk m c 0 t) (iblk m c 1 t) (iblk m c 2 t) (iblk m c 3 t) : Vec Ideal S1x128x512 .f32) (ix3 a r k) = G (A3 m c) (ix3 ⟨t.val, layer_lt t⟩ r k) := by
  unfold out0_4
  frame_out
  pointwise [k0_pay1, k0_pay2, k0_pay3, k0_pay4, k0_pay5, k0_pay6, k0_pay7]
  simp only [blk0, blk1, blk2, grad]
  rfl

/-- What a grid point leaves of the change of the weight. -/
theorem out5 (c : Dev nD) (t : Fin cfg0.N) (a : Fin 1) (r : Fin 128) (k : Fin 512) :
    (out0_5 (iblk m c 0 t) (iblk m c 1 t) (iblk m c 2 t) (iblk m c 3 t) : Vec Ideal S1x128x512 .f32) (ix3 a r k) = delta (asBlocks (A0 m c) (ix3 ⟨t.val, layer_lt t⟩ r k)) (asBlocks (A1 m c) (ix3 ⟨t.val, layer_lt t⟩ r k)) (asBlocks (A2 m c) (ix3 ⟨t.val, layer_lt t⟩ r k)) (G (A3 m c) (ix3 ⟨t.val, layer_lt t⟩ r k)) := by
  unfold out0_5
  frame_out
  pointwise [delta, mean, square, k0_pay1, k0_pay2, k0_pay3, k0_pay4, k0_pay5, k0_pay6, k0_pay7]
  simp only [blk0, blk1, blk2, grad]
  rfl

/-- What a grid point leaves of the new first moment. -/
theorem out6 (c : Dev nD) (t : Fin cfg0.N) (a : Fin 1) (r : Fin 128) (k : Fin 512) :
    (out0_6 (iblk m c 0 t) (iblk m c 1 t) (iblk m c 2 t) (iblk m c 3 t) : Vec Ideal S1x128x512 .f32) (ix3 a r k) = mean (asBlocks (A1 m c) (ix3 ⟨t.val, layer_lt t⟩ r k)) (G (A3 m c) (ix3 ⟨t.val, layer_lt t⟩ r k)) := by
  unfold out0_6
  frame_out
  pointwise [delta, mean, square, k0_pay1, k0_pay2, k0_pay3, k0_pay4, k0_pay5, k0_pay6, k0_pay7]
  simp only [blk0, blk1, blk2, grad]
  rfl

/-- What a grid point leaves of the new second moment. -/
theorem out7 (c : Dev nD) (t : Fin cfg0.N) (a : Fin 1) (r : Fin 128) (k : Fin 512) :
    (out0_7 (iblk m c 0 t) (iblk m c 1 t) (iblk m c 2 t) (iblk m c 3 t) : Vec Ideal S1x128x512 .f32) (ix3 a r k) = square (asBlocks (A2 m c) (ix3 ⟨t.val, layer_lt t⟩ r k)) (G (A3 m c) (ix3 ⟨t.val, layer_lt t⟩ r k)) := by
  unfold out0_7
  frame_out
  pointwise [delta, mean, square, k0_pay1, k0_pay2, k0_pay3, k0_pay4, k0_pay5, k0_pay6, k0_pay7]
  simp only [blk0, blk1, blk2, grad]
  rfl

/-- The result's array: the gradient. -/
theorem arr4 (c : Dev nD) : (dats m 0 c).arrAt 4 cfg0.N = G (A3 m c) := by
  refine (dats m 0 c).arrAt_eq_of_covers 4 _ (by decide +kernel) fun t hf y => ?_
  blk_simp
  rw [after0_4]
  idx_vars y
  have he : ((win0_4.blk t).view.emb (ix3 y0 y1 y2) : S4x128x512.Idx) = ix3 ⟨t.val, layer_lt t⟩ y1 y2 := by
    blk_ext [index4 t]
  rw [he, out4]

/-- The result's array: the change of the weight. -/
theorem arr5 (c : Dev nD) : (dats m 0 c).arrAt 5 cfg0.N = Cert.AdamPoolMath.d (A0 m c) (A1 m c) (A2 m c) (A3 m c) := by
  refine (dats m 0 c).arrAt_eq_of_covers 5 _ (by decide +kernel) fun t hf y => ?_
  blk_simp
  rw [after0_5]
  idx_vars y
  have he : ((win0_5.blk t).view.emb (ix3 y0 y1 y2) : S4x128x512.Idx) = ix3 ⟨t.val, layer_lt t⟩ y1 y2 := by
    blk_ext [index5 t]
  rw [he, out5]
  rfl

/-- The result's array: the new first moment. -/
theorem arr6 (c : Dev nD) : (dats m 0 c).arrAt 6 cfg0.N = Cert.AdamPoolMath.m1 (A1 m c) (A3 m c) := by
  refine (dats m 0 c).arrAt_eq_of_covers 6 _ (by decide +kernel) fun t hf y => ?_
  blk_simp
  rw [after0_6]
  idx_vars y
  have he : ((win0_6.blk t).view.emb (ix3 y0 y1 y2) : S4x128x512.Idx) = ix3 ⟨t.val, layer_lt t⟩ y1 y2 := by
    blk_ext [index6 t]
  rw [he, out6]
  rfl

/-- The result's array: the new second moment. -/
theorem arr7 (c : Dev nD) : (dats m 0 c).arrAt 7 cfg0.N = Cert.AdamPoolMath.m2 (A2 m c) (A3 m c) := by
  refine (dats m 0 c).arrAt_eq_of_covers 7 _ (by decide +kernel) fun t hf y => ?_
  blk_simp
  rw [after0_7]
  idx_vars y
  have he : ((win0_7.blk t).view.emb (ix3 y0 y1 y2) : S4x128x512.Idx) = ix3 ⟨t.val, layer_lt t⟩ y1 y2 := by
    blk_ext [index7 t]
  rw [he, out7]
  rfl

end Cert.AdamPoolIdeal.Value
end
-- ==== Proof.AdamPoolClaim.lean ====
/-
  The claims about the update of the pooling's weight: the frames of the kernel, of its idealization and of the reference, and the
  equality of the two over the extended reals.
-/
module

public import proofs.«01_k».proof.Defs
public import proofs.«01_k».proof.Proof.Gen.AdamPool.Frame
public import proofs.«01_k».proof.Proof.Gen.AdamPoolRefIdeal.Run
public import proofs.«01_k».proof.Proof.AdamPoolArray
public import Idealize.ShloMosaic.Adequacy
public import Idealize.ShloMosaic.Init

@[expose] public section

noncomputable section

namespace Cert.Proof.AdamPool

open Idealize.ShloMosaic Idealize.SL.Sem

/-- The kernel runs, keeps its arguments and leaves every semaphore at zero. -/
theorem frame_kernel : Cert.quiescent_AdamPool := fun m ρ _ => Cert.AdamPool.Gen.frame m ρ

/-- So does its idealization. -/
theorem frame_ideal : Cert.quiescent_AdamPoolIdeal := fun m ρ _ => Cert.AdamPoolIdeal.Gen.frame m ρ

/-- So does the reference, which has no semaphore. -/
theorem frame_ref : Cert.quiescent_AdamPoolRefIdeal := fun m ρ _ =>
  (θ_run _ _ _).mono (fun r h => ⟨fun c => (h c).2.2.2.2, Idealize.ShloMosaic.sem_eq_zero_of_no_sems (by decide) r.2⟩)
    (Cert.AdamPoolRefIdeal.Value.run m ρ)

/-- No rewrite was made on the way to the idealization. -/
theorem preserves : Cert.preserves_AdamPool_AdamPoolIdeal := trivial

/-- Kernel and reference end with equal results: the gradient, the change of the weight and the two new moments. -/
theorem algebraic : Cert.algebraic_AdamPoolIdeal_AdamPoolRefIdeal := by
  intro m g m' g' _ hargs
  refine ⟨fun c => Cert.AdamPoolMath.G (m (c.tc.loc Cert.AdamPoolIdeal.main_arg3)),
    fun c => Cert.AdamPoolMath.d (m (c.tc.loc Cert.AdamPoolIdeal.main_arg0)) (m (c.tc.loc Cert.AdamPoolIdeal.main_arg1)) (m (c.tc.loc Cert.AdamPoolIdeal.main_arg2)) (m (c.tc.loc Cert.AdamPoolIdeal.main_arg3)),
    fun c => Cert.AdamPoolMath.m1 (m (c.tc.loc Cert.AdamPoolIdeal.main_arg1)) (m (c.tc.loc Cert.AdamPoolIdeal.main_arg3)),
    fun c => Cert.AdamPoolMath.m2 (m (c.tc.loc Cert.AdamPoolIdeal.main_arg2)) (m (c.tc.loc Cert.AdamPoolIdeal.main_arg3)),
    (θ_run _ _ _).mono (fun r h c => ?_) (Cert.AdamPoolIdeal.Value.run_blocks m g),
    (θ_run _ _ _).mono (fun r h c => ?_) (Cert.AdamPoolRefIdeal.Value.run m' g')⟩
  · obtain ⟨h0, h1, h2, h3, hr⟩ := h c
    exact ⟨h0.trans (Cert.AdamPoolIdeal.Value.arr4 m c), h1.trans (Cert.AdamPoolIdeal.Value.arr5 m c), h2.trans (Cert.AdamPoolIdeal.Value.arr6 m c), h3.trans (Cert.AdamPoolIdeal.Value.arr7 m c), hr⟩
  · obtain ⟨h0, h1, h2, h3, hr⟩ := h c
    obtain ⟨a0, a1, a2, a3⟩ := hargs c
    refine ⟨h0.trans ?_, h1.trans ?_, h2.trans ?_, h3.trans ?_, hr⟩
    · rw [a3]; exact Cert.AdamPoolMath.ref_g _
    · rw [a0, a1, a2, a3]; exact Cert.AdamPoolMath.ref_d _ _ _ _
    · rw [a1, a3]; exact Cert.AdamPoolMath.ref_m _ _
    · rw [a2, a3]; exact Cert.AdamPoolMath.ref_v _ _

end Cert.Proof.AdamPool

end
-- ==== Proof.AdamModMath.lean ====
/-
  The AdamW update of adaLN's weight in plain mathematics, and the proof that the reference's terms are that mathematics.
-/
module

public import proofs.«01_k».proof.Proof.Gen.AdamModRefIdeal.Read
public import proofs.«01_k».proof.Proof.AdamMath
public import Idealize.ShloMosaic.Lib.Pointwise
public import Idealize.ShloMosaic.Lib.Tactic
public import Idealize.ShloMosaic.Lib.Pipeline.ValueKit

@[expose] public section

noncomputable section

namespace Cert.AdamModMath

open Cert.AdamModRefIdeal Cert.AdamModRefIdeal.Read Idealize.ShloMosaic
open Cert.AdamMath (mean square delta)

/-- The gradient is the argument. -/
def G (g : Vec Ideal S2x1024x768 .f32) : Vec Ideal S2x1024x768 .f32 := fun i => g i

/-- The weight's change. -/
def d (w m v : Vec Ideal S2x1024x768 .f32) (g : Vec Ideal S2x1024x768 .f32) : Vec Ideal S2x1024x768 .f32 := fun i => delta (w i) (m i) (v i) (G g i)

/-- The new first moment. -/
def m1 (m : Vec Ideal S2x1024x768 .f32) (g : Vec Ideal S2x1024x768 .f32) : Vec Ideal S2x1024x768 .f32 := fun i => mean (m i) (G g i)

/-- The new second moment. -/
def m2 (v : Vec Ideal S2x1024x768 .f32) (g : Vec Ideal S2x1024x768 .f32) : Vec Ideal S2x1024x768 .f32 := fun i => square (v i) (G g i)

/-- The reference's change of the weight. -/
theorem ref_d (w : Vec Ideal S2x1024x768 .f32) (m : Vec Ideal S2x1024x768 .f32) (v : Vec Ideal S2x1024x768 .f32) (g : Vec Ideal S2x1024x768 .f32) :
    val_main_v23 (F := Ideal) w m v g = d w m v g := by
  funext i
  idx_vars i
  unfold d G
  pointwise [delta, mean, square, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The reference's new first moment. -/
theorem ref_m (m : Vec Ideal S2x1024x768 .f32) (g : Vec Ideal S2x1024x768 .f32) :
    val_main_v4 (F := Ideal) m g = m1 m g := by
  funext i
  idx_vars i
  unfold m1 G
  pointwise [delta, mean, square, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The reference's new second moment. -/
theorem ref_v (v : Vec Ideal S2x1024x768 .f32) (g : Vec Ideal S2x1024x768 .f32) :
    val_main_v10 (F := Ideal) v g = m2 v g := by
  funext i
  idx_vars i
  unfold m2 G
  pointwise [delta, mean, square, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

end Cert.AdamModMath
end
-- ==== Proof.AdamModArray.lean ====
/-
  What the kernel of the update of adaLN's weight leaves in its four result arrays: the plain mathematics of `AdamModMath`.
-/
module

public import proofs.«01_k».proof.Proof.Gen.AdamModIdeal.Value
public import proofs.«01_k».proof.Proof.AdamModMath
public import Idealize.ShloMosaic.Lib.Pipeline.ValueKit

@[expose] public section

noncomputable section

namespace Cert.AdamModIdeal.Value

open Cert.AdamModIdeal Cert.AdamModIdeal.Gen Idealize.ShloMosaic Idealize.ShloMosaic.TcCoe Idealize.SL.Sem
open Cert.AdamMath (mean square delta)
open Cert.AdamModMath (G)

variable (m : (ℓ : Loc nD τ sig) → Buf (Elt Ideal) ℓ)

/-- Argument 0 on device `c`: the weight. -/
abbrev A0 (c : Dev nD) : Vec Ideal S2x1024x768 .f32 := m (c.tc.loc main_arg0)
/-- Argument 1 on device `c`: its first moment. -/
abbrev A1 (c : Dev nD) : Vec Ideal S2x1024x768 .f32 := m (c.tc.loc main_arg1)
/-- Argument 2 on device `c`: its second moment. -/
abbrev A2 (c : Dev nD) : Vec Ideal S2x1024x768 .f32 := m (c.tc.loc main_arg2)
/-- Argument 3 on device `c`: the gradient. -/
abbrev A3 (c : Dev nD) : Vec Ideal S2x1024x768 .f32 := m (c.tc.loc main_arg3)

theorem layer_lt (t : Fin cfg0.N) : t.val / 4 < 2 := by
  have := t.isLt; have : cfg0.N = 8 := N_0; omega
theorem row_lt (t : Fin cfg0.N) (r : Fin 256) : t.val % 4 * 256 + r.val < 1024 := by omega

theorem index0 : ∀ t : Fin cfg0.N, win0_0.index t 0 = t.val / 4 ∧ win0_0.index t 1 = t.val % 4 ∧ win0_0.index t 2 = 0 := (by decide +kernel : ∀ t : Fin grid0.N, win0_0.index t 0 = t.val / 4 ∧ win0_0.index t 1 = t.val % 4 ∧ win0_0.index t 2 = 0)
theorem index1 : ∀ t : Fin cfg0.N, win0_1.index t 0 = t.val / 4 ∧ win0_1.index t 1 = t.val % 4 ∧ win0_1.index t 2 = 0 := (by decide +kernel : ∀ t : Fin grid0.N, win0_1.index t 0 = t.val / 4 ∧ win0_1.index t 1 = t.val % 4 ∧ win0_1.index t 2 = 0)
theorem index2 : ∀ t : Fin cfg0.N, win0_2.index t 0 = t.val / 4 ∧ win0_2.index t 1 = t.val % 4 ∧ win0_2.index t 2 = 0 := (by decide +kernel : ∀ t : Fin grid0.N, win0_2.index t 0 = t.val / 4 ∧ win0_2.index t 1 = t.val % 4 ∧ win0_2.index t 2 = 0)
theorem index3 : ∀ t : Fin cfg0.N, win0_3.index t 0 = t.val / 4 ∧ win0_3.index t 1 = t.val % 4 ∧ win0_3.index t 2 = 0 := (by decide +kernel : ∀ t : Fin grid0.N, win0_3.index t 0 = t.val / 4 ∧ win0_3.index t 1 = t.val % 4 ∧ win0_3.index t 2 = 0)
theorem index4 : ∀ t : Fin cfg0.N, win0_4.index t 0 = t.val / 4 ∧ win0_4.index t 1 = t.val % 4 ∧ win0_4.index t 2 = 0 := (by decide +kernel : ∀ t : Fin grid0.N, win0_4.index t 0 = t.val / 4 ∧ win0_4.index t 1 = t.val % 4 ∧ win0_4.index t 2 = 0)
theorem index5 : ∀ t : Fin cfg0.N, win0_5.index t 0 = t.val / 4 ∧ win0_5.index t 1 = t.val % 4 ∧ win0_5.index t 2 = 0 := (by decide +kernel : ∀ t : Fin grid0.N, win0_5.index t 0 = t.val / 4 ∧ win0_5.index t 1 = t.val % 4 ∧ win0_5.index t 2 = 0)
theorem index6 : ∀ t : Fin cfg0.N, win0_6.index t 0 = t.val / 4 ∧ win0_6.index t 1 = t.val % 4 ∧ win0_6.index t 2 = 0 := (by decide +kernel : ∀ t : Fin grid0.N, win0_6.index t 0 = t.val / 4 ∧ win0_6.index t 1 = t.val % 4 ∧ win0_6.index t 2 = 0)
theorem index7 : ∀ t : Fin cfg0.N, win0_7.index t 0 = t.val / 4 ∧ win0_7.index t 1 = t.val % 4 ∧ win0_7.index t 2 = 0 := (by decide +kernel : ∀ t : Fin grid0.N, win0_7.index t 0 = t.val / 4 ∧ win0_7.index t 1 = t.val % 4 ∧ win0_7.index t 2 = 0)

/-- A block of the weight. -/
theorem blk0 (c : Dev nD) (t : Fin cfg0.N) (a : Fin 1) (r : Fin 256) (k : Fin 768) :
    (iblk m c 0 t : Vec Ideal S1x256x768 .f32) (ix3 a r k) = A0 m c (ix3 ⟨t.val / 4, layer_lt t⟩ ⟨t.val % 4 * 256 + (r).val, row_lt t r⟩ k) := by
  blk_ext! [iblk, index0 t]
/-- A block of its first moment. -/
theorem blk1 (c : Dev nD) (t : Fin cfg0.N) (a : Fin 1) (r : Fin 256) (k : Fin 768) :
    (iblk m c 1 t : Vec Ideal S1x256x768 .f32) (ix3 a r k) = A1 m c (ix3 ⟨t.val / 4, layer_lt t⟩ ⟨t.val % 4 * 256 + (r).val, row_lt t r⟩ k) := by
  blk_ext! [iblk, index1 t]
/-- A block of its second moment. -/
theorem blk2 (c : Dev nD) (t : Fin cfg0.N) (a : Fin 1) (r : Fin 256) (k : Fin 768) :
    (iblk m c 2 t : Vec Ideal S1x256x768 .f32) (ix3 a r k) = A2 m c (ix3 ⟨t.val / 4, layer_lt t⟩ ⟨t.val % 4 * 256 + (r).val, row_lt t r⟩ k) := by
  blk_ext! [iblk, index2 t]
/-- A block of the gradients. -/
theorem grad (c : Dev nD) (t : Fin cfg0.N) (a : Fin 1) (r : Fin 256) (k : Fin 768) :
    (iblk m c 3 t : Vec Ideal S1x256x768 .f32) (ix3 a r k) = G (A3 m c) (ix3 ⟨t.val / 4, layer_lt t⟩ ⟨t.val % 4 * 256 + r.val, row_lt t r⟩ k) := by
  unfold G
  blk_ext! [iblk, index3 t]

/-- What a grid point leaves of the gradient. -/
theorem out4 (c : Dev nD) (t : Fin cfg0.N) (a : Fin 1) (r : Fin 256) (k : Fin 768) :
    (outsAt0 m c t).1 (ix3 a r k) = G (A3 m c) (ix3 ⟨t.val / 4, layer_lt t⟩ ⟨t.val % 4 * 256 + (r).val, row_lt t r⟩ k) := by
  unfold outsAt0
  dsimp only
  frame_out
  pointwise [k0_pay1, k0_pay2, k0_pay3, k0_pay4, k0_pay5, k0_pay6, k0_pay7, k0_pay8]
  simp only [blk0, blk1, blk2, grad]

/-- What a grid point leaves of the change of the weight. -/
theorem out5 (c : Dev nD) (t : Fin cfg0.N) (a : Fin 1) (r : Fin 256) (k : Fin 768) :
    (outsAt0 m c t).2.1 (ix3 a r k) = delta (A0 m c (ix3 ⟨t.val / 4, layer_lt t⟩ ⟨t.val % 4 * 256 + (r).val, row_lt t r⟩ k)) (A1 m c (ix3 ⟨t.val / 4, layer_lt t⟩ ⟨t.val % 4 * 256 + (r).val, row_lt t r⟩ k)) (A2 m c (ix3 ⟨t.val / 4, layer_lt t⟩ ⟨t.val % 4 * 256 + (r).val, row_lt t r⟩ k)) (G (A3 m c) (ix3 ⟨t.val / 4, layer_lt t⟩ ⟨t.val % 4 * 256 + (r).val, row_lt t r⟩ k)) := by
  unfold outsAt0
  dsimp only
  frame_out
  pointwise [delta, mean, square, k0_pay1, k0_pay2, k0_pay3, k0_pay4, k0_pay5, k0_pay6, k0_pay7, k0_pay8]
  simp only [blk0, blk1, blk2, grad]

/-- What a grid point leaves of the new first moment. -/
theorem out6 (c : Dev nD) (t : Fin cfg0.N) (a : Fin 1) (r : Fin 256) (k : Fin 768) :
    (outsAt0 m c t).2.2.1 (ix3 a r k) = mean (A1 m c (ix3 ⟨t.val / 4, layer_lt t⟩ ⟨t.val % 4 * 256 + (r).val, row_lt t r⟩ k)) (G (A3 m c) (ix3 ⟨t.val / 4, layer_lt t⟩ ⟨t.val % 4 * 256 + (r).val, row_lt t r⟩ k)) := by
  unfold outsAt0
  dsimp only
  frame_out
  pointwise [delta, mean, square, k0_pay1, k0_pay2, k0_pay3, k0_pay4, k0_pay5, k0_pay6, k0_pay7, k0_pay8]
  simp only [blk0, blk1, blk2, grad]

/-- What a grid point leaves of the new second moment. -/
theorem out7 (c : Dev nD) (t : Fin cfg0.N) (a : Fin 1) (r : Fin 256) (k : Fin 768) :
    (outsAt0 m c t).2.2.2 (ix3 a r k) = square (A2 m c (ix3 ⟨t.val / 4, layer_lt t⟩ ⟨t.val % 4 * 256 + (r).val, row_lt t r⟩ k)) (G (A3 m c) (ix3 ⟨t.val / 4, layer_lt t⟩ ⟨t.val % 4 * 256 + (r).val, row_lt t r⟩ k)) := by
  unfold outsAt0
  dsimp only
  frame_out
  pointwise [delta, mean, square, k0_pay1, k0_pay2, k0_pay3, k0_pay4, k0_pay5, k0_pay6, k0_pay7, k0_pay8]
  simp only [blk0, blk1, blk2, grad]

/-- The result's array: the gradient. -/
theorem arr4 (c : Dev nD) : (dats m 0 c).arrAt 4 cfg0.N = G (A3 m c) := by
  refine (dats m 0 c).arrAt_eq_of_covers 4 _ (by decide +kernel) fun t hf y => ?_
  blk_simp
  rw [after0_4]
  idx_vars y
  have he : ((win0_4.blk t).view.emb (ix3 y0 y1 y2) : S2x1024x768.Idx) = ix3 ⟨t.val / 4, layer_lt t⟩ ⟨t.val % 4 * 256 + (y1).val, row_lt t y1⟩ y2 := by
    blk_ext [index4 t]
  rw [he, out4]

/-- The result's array: the change of the weight. -/
theorem arr5 (c : Dev nD) : (dats m 0 c).arrAt 5 cfg0.N = Cert.AdamModMath.d (A0 m c) (A1 m c) (A2 m c) (A3 m c) := by
  refine (dats m 0 c).arrAt_eq_of_covers 5 _ (by decide +kernel) fun t hf y => ?_
  blk_simp
  rw [after0_5]
  idx_vars y
  have he : ((win0_5.blk t).view.emb (ix3 y0 y1 y2) : S2x1024x768.Idx) = ix3 ⟨t.val / 4, layer_lt t⟩ ⟨t.val % 4 * 256 + (y1).val, row_lt t y1⟩ y2 := by
    blk_ext [index5 t]
  rw [he, out5]
  rfl

/-- The result's array: the new first moment. -/
theorem arr6 (c : Dev nD) : (dats m 0 c).arrAt 6 cfg0.N = Cert.AdamModMath.m1 (A1 m c) (A3 m c) := by
  refine (dats m 0 c).arrAt_eq_of_covers 6 _ (by decide +kernel) fun t hf y => ?_
  blk_simp
  rw [after0_6]
  idx_vars y
  have he : ((win0_6.blk t).view.emb (ix3 y0 y1 y2) : S2x1024x768.Idx) = ix3 ⟨t.val / 4, layer_lt t⟩ ⟨t.val % 4 * 256 + (y1).val, row_lt t y1⟩ y2 := by
    blk_ext [index6 t]
  rw [he, out6]
  rfl

/-- The result's array: the new second moment. -/
theorem arr7 (c : Dev nD) : (dats m 0 c).arrAt 7 cfg0.N = Cert.AdamModMath.m2 (A2 m c) (A3 m c) := by
  refine (dats m 0 c).arrAt_eq_of_covers 7 _ (by decide +kernel) fun t hf y => ?_
  blk_simp
  rw [after0_7]
  idx_vars y
  have he : ((win0_7.blk t).view.emb (ix3 y0 y1 y2) : S2x1024x768.Idx) = ix3 ⟨t.val / 4, layer_lt t⟩ ⟨t.val % 4 * 256 + (y1).val, row_lt t y1⟩ y2 := by
    blk_ext [index7 t]
  rw [he, out7]
  rfl

end Cert.AdamModIdeal.Value
end
-- ==== Proof.AdamModClaim.lean ====
/-
  The claims about the update of adaLN's weight: the frames of the kernel, of its idealization and of the reference, and the
  equality of the two over the extended reals.
-/
module

public import proofs.«01_k».proof.Defs
public import proofs.«01_k».proof.Proof.Gen.AdamMod.Frame
public import proofs.«01_k».proof.Proof.Gen.AdamModRefIdeal.Run
public import proofs.«01_k».proof.Proof.AdamModArray
public import Idealize.ShloMosaic.Adequacy
public import Idealize.ShloMosaic.Init

@[expose] public section

noncomputable section

namespace Cert.Proof.AdamMod

open Idealize.ShloMosaic Idealize.SL.Sem

/-- The kernel runs, keeps its arguments and leaves every semaphore at zero. -/
theorem frame_kernel : Cert.quiescent_AdamMod := fun m ρ _ => Cert.AdamMod.Gen.frame m ρ

/-- So does its idealization. -/
theorem frame_ideal : Cert.quiescent_AdamModIdeal := fun m ρ _ => Cert.AdamModIdeal.Gen.frame m ρ

/-- So does the reference, which has no semaphore. -/
theorem frame_ref : Cert.quiescent_AdamModRefIdeal := fun m ρ _ =>
  (θ_run _ _ _).mono (fun r h => ⟨fun c => (h c).2.2.2.2, Idealize.ShloMosaic.sem_eq_zero_of_no_sems (by decide) r.2⟩)
    (Cert.AdamModRefIdeal.Value.run m ρ)

/-- No rewrite was made on the way to the idealization. -/
theorem preserves : Cert.preserves_AdamMod_AdamModIdeal := trivial

/-- Kernel and reference end with equal results: the gradient, the change of the weight and the two new moments. -/
theorem algebraic : Cert.algebraic_AdamModIdeal_AdamModRefIdeal := by
  intro m g m' g' _ hargs
  refine ⟨fun c => Cert.AdamModMath.G (m (c.tc.loc Cert.AdamModIdeal.main_arg3)),
    fun c => Cert.AdamModMath.d (m (c.tc.loc Cert.AdamModIdeal.main_arg0)) (m (c.tc.loc Cert.AdamModIdeal.main_arg1)) (m (c.tc.loc Cert.AdamModIdeal.main_arg2)) (m (c.tc.loc Cert.AdamModIdeal.main_arg3)),
    fun c => Cert.AdamModMath.m1 (m (c.tc.loc Cert.AdamModIdeal.main_arg1)) (m (c.tc.loc Cert.AdamModIdeal.main_arg3)),
    fun c => Cert.AdamModMath.m2 (m (c.tc.loc Cert.AdamModIdeal.main_arg2)) (m (c.tc.loc Cert.AdamModIdeal.main_arg3)),
    (θ_run _ _ _).mono (fun r h c => ?_) (Cert.AdamModIdeal.Value.run_blocks m g),
    (θ_run _ _ _).mono (fun r h c => ?_) (Cert.AdamModRefIdeal.Value.run m' g')⟩
  · obtain ⟨h0, h1, h2, h3, hr⟩ := h c
    exact ⟨h0.trans (Cert.AdamModIdeal.Value.arr4 m c), h1.trans (Cert.AdamModIdeal.Value.arr5 m c), h2.trans (Cert.AdamModIdeal.Value.arr6 m c), h3.trans (Cert.AdamModIdeal.Value.arr7 m c), hr⟩
  · obtain ⟨h0, h1, h2, h3, hr⟩ := h c
    obtain ⟨a0, a1, a2, a3, a4⟩ := hargs c
    refine ⟨h0.trans ?_, h1.trans ?_, h2.trans ?_, h3.trans ?_, hr⟩
    · exact a3
    · rw [a0, a1, a2, a3]; exact Cert.AdamModMath.ref_d _ _ _ _
    · rw [a1, a3]; exact Cert.AdamModMath.ref_m _ _
    · rw [a2, a3]; exact Cert.AdamModMath.ref_v _ _

end Cert.Proof.AdamMod

end
-- ==== Proof.AdamWaMath.lean ====
/-
  The AdamW update of the recurrence's first gate's weight in plain mathematics, and the proof that the reference's terms are that mathematics.
-/
module

public import proofs.«01_k».proof.Proof.Gen.AdamWaRefIdeal.Read
public import proofs.«01_k».proof.Proof.AdamMath
public import Idealize.ShloMosaic.Lib.Pointwise
public import Idealize.ShloMosaic.Lib.Tactic
public import Idealize.ShloMosaic.Lib.Pipeline.ValueKit

@[expose] public section

noncomputable section

namespace Cert.AdamWaMath

open Cert.AdamWaRefIdeal Cert.AdamWaRefIdeal.Read Idealize.ShloMosaic
open Cert.AdamMath (mean square delta)

/-- An array of the weight's shape, seen as the kernel's blocks. -/
def asBlocks (w : Vec Ideal S1x2x16x128x128 .f32) : Vec Ideal S8x512x128 .f32 := fun i => w (ix5 0 ⟨(i 0).val / 4, by have : (i 0).val < 8 := (i 0).isLt; omega⟩ ⟨(i 0).val % 4 * 4 + (i 1).val / 128, by have : (i 1).val < 512 := (i 1).isLt; omega⟩ ⟨(i 1).val % 128, by omega⟩ (i 2))

/-- The gradient: block `4 d + q` of direction `d` and chip `q` lies in that chip's quarter, its four sub-blocks side by side. -/
def G (rep : Vec Ideal S4x256x1024 .f32) : Vec Ideal S8x512x128 .f32 := fun i => rep (ix3 ⟨(i 0).val % 4, by omega⟩ ⟨(i 1).val % 128, by omega⟩ ⟨(i 0).val / 4 * 512 + (i 1).val / 128 * 128 + (i 2).val, by have : (i 0).val < 8 := (i 0).isLt; have : (i 1).val < 512 := (i 1).isLt; have : (i 2).val < 128 := (i 2).isLt; omega⟩)

/-- The weight's change. -/
def d (w m v : Vec Ideal S1x2x16x128x128 .f32) (rep : Vec Ideal S4x256x1024 .f32) : Vec Ideal S8x512x128 .f32 := fun i => delta (asBlocks w i) (asBlocks m i) (asBlocks v i) (G rep i)

/-- The new first moment. -/
def m1 (m : Vec Ideal S1x2x16x128x128 .f32) (rep : Vec Ideal S4x256x1024 .f32) : Vec Ideal S8x512x128 .f32 := fun i => mean (asBlocks m i) (G rep i)

/-- The new second moment. -/
def m2 (v : Vec Ideal S1x2x16x128x128 .f32) (rep : Vec Ideal S4x256x1024 .f32) : Vec Ideal S8x512x128 .f32 := fun i => square (asBlocks v i) (G rep i)

/-- The reference's gradient. -/
theorem ref_g (rep : Vec Ideal S4x256x1024 .f32) :
    val_main_v28 (F := Ideal) rep = G rep := by
  funext i
  idx_vars i
  unfold G
  pointwise [val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

/-- The reference's change of the weight. -/
theorem ref_d (w : Vec Ideal S1x2x16x128x128 .f32) (m : Vec Ideal S1x2x16x128x128 .f32) (v : Vec Ideal S1x2x16x128x128 .f32) (rep : Vec Ideal S4x256x1024 .f32) :
    val_main_v29 (F := Ideal) w m v rep = d w m v rep := by
  funext i
  idx_vars i
  unfold d G asBlocks
  pointwise [delta, mean, square, val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

/-- The reference's new first moment. -/
theorem ref_m (m : Vec Ideal S1x2x16x128x128 .f32) (rep : Vec Ideal S4x256x1024 .f32) :
    val_main_v30 (F := Ideal) m rep = m1 m rep := by
  funext i
  idx_vars i
  unfold m1 G asBlocks
  pointwise [delta, mean, square, val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

/-- The reference's new second moment. -/
theorem ref_v (v : Vec Ideal S1x2x16x128x128 .f32) (rep : Vec Ideal S4x256x1024 .f32) :
    val_main_v31 (F := Ideal) v rep = m2 v rep := by
  funext i
  idx_vars i
  unfold m2 G asBlocks
  pointwise [delta, mean, square, val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

end Cert.AdamWaMath
end
-- ==== Proof.AdamWaArray.lean ====
/-
  What the kernel of the update of the recurrence's first gate's weight leaves in its four result arrays: the plain mathematics of `AdamWaMath`.
-/
module

public import proofs.«01_k».proof.Proof.Gen.AdamWaIdeal.Value
public import proofs.«01_k».proof.Proof.AdamWaMath
public import Idealize.ShloMosaic.Lib.Pipeline.ValueKit

@[expose] public section

noncomputable section

namespace Cert.AdamWaIdeal.Value

open Cert.AdamWaIdeal Cert.AdamWaIdeal.Gen Idealize.ShloMosaic Idealize.ShloMosaic.TcCoe Idealize.SL.Sem
open Cert.AdamMath (mean square delta)
open Cert.AdamWaMath (G asBlocks)

variable (m : (ℓ : Loc nD τ sig) → Buf (Elt Ideal) ℓ)

/-- Argument 0 on device `c`: the weight. -/
abbrev A0 (c : Dev nD) : Vec Ideal S1x2x16x128x128 .f32 := m (c.tc.loc main_arg0)
/-- Argument 1 on device `c`: its first moment. -/
abbrev A1 (c : Dev nD) : Vec Ideal S1x2x16x128x128 .f32 := m (c.tc.loc main_arg1)
/-- Argument 2 on device `c`: its second moment. -/
abbrev A2 (c : Dev nD) : Vec Ideal S1x2x16x128x128 .f32 := m (c.tc.loc main_arg2)
/-- Argument 3 on device `c`: the gradient. -/
abbrev A3 (c : Dev nD) : Vec Ideal S4x256x1024 .f32 := m (c.tc.loc main_arg3)

theorem layer_lt (t : Fin cfg0.N) : t.val < 8 := by
  have := t.isLt; have : cfg0.N = 8 := N_0; omega

theorem index0 : ∀ t : Fin cfg0.N, win0_0.index t 0 = t.val ∧ win0_0.index t 1 = 0 ∧ win0_0.index t 2 = 0 := (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 := (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 := (by decide +kernel : ∀ t : Fin grid0.N, win0_2.index t 0 = t.val ∧ win0_2.index t 1 = 0 ∧ win0_2.index t 2 = 0)
theorem index3 : ∀ t : Fin cfg0.N, win0_3.index t 0 = t.val % 4 ∧ win0_3.index t 1 = 0 ∧ win0_3.index t 2 = t.val / 4 := (by decide +kernel : ∀ t : Fin grid0.N, win0_3.index t 0 = t.val % 4 ∧ win0_3.index t 1 = 0 ∧ win0_3.index t 2 = t.val / 4)
theorem index4 : ∀ t : Fin cfg0.N, win0_4.index t 0 = t.val ∧ win0_4.index t 1 = 0 ∧ win0_4.index t 2 = 0 := (by decide +kernel : ∀ t : Fin grid0.N, win0_4.index t 0 = t.val ∧ win0_4.index t 1 = 0 ∧ win0_4.index t 2 = 0)
theorem index5 : ∀ t : Fin cfg0.N, win0_5.index t 0 = t.val ∧ win0_5.index t 1 = 0 ∧ win0_5.index t 2 = 0 := (by decide +kernel : ∀ t : Fin grid0.N, win0_5.index t 0 = t.val ∧ win0_5.index t 1 = 0 ∧ win0_5.index t 2 = 0)
theorem index6 : ∀ t : Fin cfg0.N, win0_6.index t 0 = t.val ∧ win0_6.index t 1 = 0 ∧ win0_6.index t 2 = 0 := (by decide +kernel : ∀ t : Fin grid0.N, win0_6.index t 0 = t.val ∧ win0_6.index t 1 = 0 ∧ win0_6.index t 2 = 0)
theorem index7 : ∀ t : Fin cfg0.N, win0_7.index t 0 = t.val ∧ win0_7.index t 1 = 0 ∧ win0_7.index t 2 = 0 := (by decide +kernel : ∀ t : Fin grid0.N, win0_7.index t 0 = t.val ∧ win0_7.index t 1 = 0 ∧ win0_7.index t 2 = 0)

/-- A block of the weight. -/
theorem blk0 (c : Dev nD) (t : Fin cfg0.N) (a : Fin 1) (r : Fin 512) (k : Fin 128) :
    (iblk m c 0 t : Vec Ideal S1x512x128 .f32) (ix3 a r k) = asBlocks (A0 m c) (ix3 ⟨t.val, layer_lt t⟩ r k) := by
  unfold asBlocks
  blk_simp [iblk, index0 t]
  entry_read
  pointwise
  blk_point [index0 t]
/-- A block of its first moment. -/
theorem blk1 (c : Dev nD) (t : Fin cfg0.N) (a : Fin 1) (r : Fin 512) (k : Fin 128) :
    (iblk m c 1 t : Vec Ideal S1x512x128 .f32) (ix3 a r k) = asBlocks (A1 m c) (ix3 ⟨t.val, layer_lt t⟩ r k) := by
  unfold asBlocks
  blk_simp [iblk, index1 t]
  entry_read
  pointwise
  blk_point [index1 t]
/-- A block of its second moment. -/
theorem blk2 (c : Dev nD) (t : Fin cfg0.N) (a : Fin 1) (r : Fin 512) (k : Fin 128) :
    (iblk m c 2 t : Vec Ideal S1x512x128 .f32) (ix3 a r k) = asBlocks (A2 m c) (ix3 ⟨t.val, layer_lt t⟩ r k) := by
  unfold asBlocks
  blk_simp [iblk, index2 t]
  entry_read
  pointwise
  blk_point [index2 t]
/-- A block of the gradients. -/
theorem blk3 (c : Dev nD) (t : Fin cfg0.N) (a : Fin 1) (r : Fin 128) (k : Fin 512) :
    (iblk m c 3 t : Vec Ideal S1x128x512 .f32) (ix3 a r k) = A3 m c (ix3 ⟨t.val % 4, by omega⟩ ⟨r.val, by omega⟩ ⟨t.val / 4 * 512 + k.val, by have := layer_lt t; omega⟩) := by
  blk_ext! [iblk, index3 t]
/-- The gradient at a grid point: the block's four squares on top of each other. -/
theorem grad (c : Dev nD) (t : Fin cfg0.N) (r : Fin 512) (k : Fin 128) :
    (k0_pay4 (iblk m c 3 t) : Vec Ideal S512x128 .f32) (ix2 r k) = G (A3 m c) (ix3 ⟨t.val, layer_lt t⟩ r k) := by
  unfold G
  pointwise [k0_pay4]
  simp only [blk3]
  split_ifs <;> (refine congrArg _ ?_; idx_ext)

/-- What a grid point leaves of the gradient. -/
theorem out4 (c : Dev nD) (t : Fin cfg0.N) (a : Fin 1) (r : Fin 512) (k : Fin 128) :
    (out0_4 (iblk m c 0 t) (iblk m c 1 t) (iblk m c 2 t) (iblk m c 3 t) : Vec Ideal S1x512x128 .f32) (ix3 a r k) = G (A3 m c) (ix3 ⟨t.val, layer_lt t⟩ r k) := by
  unfold out0_4
  frame_out
  pointwise [k0_pay1, k0_pay2, k0_pay3, k0_pay5, k0_pay6, k0_pay7, k0_pay8, k0_pay9]
  simp only [blk0, blk1, blk2, grad]
  rfl

/-- What a grid point leaves of the change of the weight. -/
theorem out5 (c : Dev nD) (t : Fin cfg0.N) (a : Fin 1) (r : Fin 512) (k : Fin 128) :
    (out0_5 (iblk m c 0 t) (iblk m c 1 t) (iblk m c 2 t) (iblk m c 3 t) : Vec Ideal S1x512x128 .f32) (ix3 a r k) = delta (asBlocks (A0 m c) (ix3 ⟨t.val, layer_lt t⟩ r k)) (asBlocks (A1 m c) (ix3 ⟨t.val, layer_lt t⟩ r k)) (asBlocks (A2 m c) (ix3 ⟨t.val, layer_lt t⟩ r k)) (G (A3 m c) (ix3 ⟨t.val, layer_lt t⟩ r k)) := by
  unfold out0_5
  frame_out
  pointwise [delta, mean, square, k0_pay1, k0_pay2, k0_pay3, k0_pay5, k0_pay6, k0_pay7, k0_pay8, k0_pay9]
  simp only [blk0, blk1, blk2, grad]
  rfl

/-- What a grid point leaves of the new first moment. -/
theorem out6 (c : Dev nD) (t : Fin cfg0.N) (a : Fin 1) (r : Fin 512) (k : Fin 128) :
    (out0_6 (iblk m c 0 t) (iblk m c 1 t) (iblk m c 2 t) (iblk m c 3 t) : Vec Ideal S1x512x128 .f32) (ix3 a r k) = mean (asBlocks (A1 m c) (ix3 ⟨t.val, layer_lt t⟩ r k)) (G (A3 m c) (ix3 ⟨t.val, layer_lt t⟩ r k)) := by
  unfold out0_6
  frame_out
  pointwise [delta, mean, square, k0_pay1, k0_pay2, k0_pay3, k0_pay5, k0_pay6, k0_pay7, k0_pay8, k0_pay9]
  simp only [blk0, blk1, blk2, grad]
  rfl

/-- What a grid point leaves of the new second moment. -/
theorem out7 (c : Dev nD) (t : Fin cfg0.N) (a : Fin 1) (r : Fin 512) (k : Fin 128) :
    (out0_7 (iblk m c 0 t) (iblk m c 1 t) (iblk m c 2 t) (iblk m c 3 t) : Vec Ideal S1x512x128 .f32) (ix3 a r k) = square (asBlocks (A2 m c) (ix3 ⟨t.val, layer_lt t⟩ r k)) (G (A3 m c) (ix3 ⟨t.val, layer_lt t⟩ r k)) := by
  unfold out0_7
  frame_out
  pointwise [delta, mean, square, k0_pay1, k0_pay2, k0_pay3, k0_pay5, k0_pay6, k0_pay7, k0_pay8, k0_pay9]
  simp only [blk0, blk1, blk2, grad]
  rfl

/-- The result's array: the gradient. -/
theorem arr4 (c : Dev nD) : (dats m 0 c).arrAt 4 cfg0.N = G (A3 m c) := by
  refine (dats m 0 c).arrAt_eq_of_covers 4 _ (by decide +kernel) fun t hf y => ?_
  blk_simp
  rw [after0_4]
  idx_vars y
  have he : ((win0_4.blk t).view.emb (ix3 y0 y1 y2) : S8x512x128.Idx) = ix3 ⟨t.val, layer_lt t⟩ y1 y2 := by
    blk_ext [index4 t]
  rw [he, out4]

/-- The result's array: the change of the weight. -/
theorem arr5 (c : Dev nD) : (dats m 0 c).arrAt 5 cfg0.N = Cert.AdamWaMath.d (A0 m c) (A1 m c) (A2 m c) (A3 m c) := by
  refine (dats m 0 c).arrAt_eq_of_covers 5 _ (by decide +kernel) fun t hf y => ?_
  blk_simp
  rw [after0_5]
  idx_vars y
  have he : ((win0_5.blk t).view.emb (ix3 y0 y1 y2) : S8x512x128.Idx) = ix3 ⟨t.val, layer_lt t⟩ y1 y2 := by
    blk_ext [index5 t]
  rw [he, out5]
  rfl

/-- The result's array: the new first moment. -/
theorem arr6 (c : Dev nD) : (dats m 0 c).arrAt 6 cfg0.N = Cert.AdamWaMath.m1 (A1 m c) (A3 m c) := by
  refine (dats m 0 c).arrAt_eq_of_covers 6 _ (by decide +kernel) fun t hf y => ?_
  blk_simp
  rw [after0_6]
  idx_vars y
  have he : ((win0_6.blk t).view.emb (ix3 y0 y1 y2) : S8x512x128.Idx) = ix3 ⟨t.val, layer_lt t⟩ y1 y2 := by
    blk_ext [index6 t]
  rw [he, out6]
  rfl

/-- The result's array: the new second moment. -/
theorem arr7 (c : Dev nD) : (dats m 0 c).arrAt 7 cfg0.N = Cert.AdamWaMath.m2 (A2 m c) (A3 m c) := by
  refine (dats m 0 c).arrAt_eq_of_covers 7 _ (by decide +kernel) fun t hf y => ?_
  blk_simp
  rw [after0_7]
  idx_vars y
  have he : ((win0_7.blk t).view.emb (ix3 y0 y1 y2) : S8x512x128.Idx) = ix3 ⟨t.val, layer_lt t⟩ y1 y2 := by
    blk_ext [index7 t]
  rw [he, out7]
  rfl

end Cert.AdamWaIdeal.Value
end
-- ==== Proof.AdamWaClaim.lean ====
/-
  The claims about the update of the recurrence's first gate's weight: the frames of the kernel, of its idealization and of the reference, and the
  equality of the two over the extended reals.
-/
module

public import proofs.«01_k».proof.Defs
public import proofs.«01_k».proof.Proof.Gen.AdamWa.Frame
public import proofs.«01_k».proof.Proof.Gen.AdamWaRefIdeal.Run
public import proofs.«01_k».proof.Proof.AdamWaArray
public import Idealize.ShloMosaic.Adequacy
public import Idealize.ShloMosaic.Init

@[expose] public section

noncomputable section

namespace Cert.Proof.AdamWa

open Idealize.ShloMosaic Idealize.SL.Sem

/-- The kernel runs, keeps its arguments and leaves every semaphore at zero. -/
theorem frame_kernel : Cert.quiescent_AdamWa := fun m ρ _ => Cert.AdamWa.Gen.frame m ρ

/-- So does its idealization. -/
theorem frame_ideal : Cert.quiescent_AdamWaIdeal := fun m ρ _ => Cert.AdamWaIdeal.Gen.frame m ρ

/-- So does the reference, which has no semaphore. -/
theorem frame_ref : Cert.quiescent_AdamWaRefIdeal := fun m ρ _ =>
  (θ_run _ _ _).mono (fun r h => ⟨fun c => (h c).2.2.2.2, Idealize.ShloMosaic.sem_eq_zero_of_no_sems (by decide) r.2⟩)
    (Cert.AdamWaRefIdeal.Value.run m ρ)

/-- No rewrite was made on the way to the idealization. -/
theorem preserves : Cert.preserves_AdamWa_AdamWaIdeal := trivial

/-- Kernel and reference end with equal results: the gradient, the change of the weight and the two new moments. -/
theorem algebraic : Cert.algebraic_AdamWaIdeal_AdamWaRefIdeal := by
  intro m g m' g' _ hargs
  refine ⟨fun c => Cert.AdamWaMath.G (m (c.tc.loc Cert.AdamWaIdeal.main_arg3)),
    fun c => Cert.AdamWaMath.d (m (c.tc.loc Cert.AdamWaIdeal.main_arg0)) (m (c.tc.loc Cert.AdamWaIdeal.main_arg1)) (m (c.tc.loc Cert.AdamWaIdeal.main_arg2)) (m (c.tc.loc Cert.AdamWaIdeal.main_arg3)),
    fun c => Cert.AdamWaMath.m1 (m (c.tc.loc Cert.AdamWaIdeal.main_arg1)) (m (c.tc.loc Cert.AdamWaIdeal.main_arg3)),
    fun c => Cert.AdamWaMath.m2 (m (c.tc.loc Cert.AdamWaIdeal.main_arg2)) (m (c.tc.loc Cert.AdamWaIdeal.main_arg3)),
    (θ_run _ _ _).mono (fun r h c => ?_) (Cert.AdamWaIdeal.Value.run_blocks m g),
    (θ_run _ _ _).mono (fun r h c => ?_) (Cert.AdamWaRefIdeal.Value.run m' g')⟩
  · obtain ⟨h0, h1, h2, h3, hr⟩ := h c
    exact ⟨h0.trans (Cert.AdamWaIdeal.Value.arr4 m c), h1.trans (Cert.AdamWaIdeal.Value.arr5 m c), h2.trans (Cert.AdamWaIdeal.Value.arr6 m c), h3.trans (Cert.AdamWaIdeal.Value.arr7 m c), hr⟩
  · obtain ⟨h0, h1, h2, h3, hr⟩ := h c
    obtain ⟨a0, a1, a2, a3⟩ := hargs c
    refine ⟨h0.trans ?_, h1.trans ?_, h2.trans ?_, h3.trans ?_, hr⟩
    · rw [a3]; exact Cert.AdamWaMath.ref_g _
    · rw [a0, a1, a2, a3]; exact Cert.AdamWaMath.ref_d _ _ _ _
    · rw [a1, a3]; exact Cert.AdamWaMath.ref_m _ _
    · rw [a2, a3]; exact Cert.AdamWaMath.ref_v _ _

end Cert.Proof.AdamWa

end
-- ==== Proof.AdamWxMath.lean ====
/-
  The AdamW update of the recurrence's second gate's weight in plain mathematics, and the proof that the reference's terms are that mathematics.
-/
module

public import proofs.«01_k».proof.Proof.Gen.AdamWxRefIdeal.Read
public import proofs.«01_k».proof.Proof.AdamMath
public import Idealize.ShloMosaic.Lib.Pointwise
public import Idealize.ShloMosaic.Lib.Tactic
public import Idealize.ShloMosaic.Lib.Pipeline.ValueKit

@[expose] public section

noncomputable section

namespace Cert.AdamWxMath

open Cert.AdamWxRefIdeal Cert.AdamWxRefIdeal.Read Idealize.ShloMosaic
open Cert.AdamMath (mean square delta)

/-- An array of the weight's shape, seen as the kernel's blocks. -/
def asBlocks (w : Vec Ideal S1x2x16x128x128 .f32) : Vec Ideal S8x512x128 .f32 := fun i => w (ix5 0 ⟨(i 0).val / 4, by have : (i 0).val < 8 := (i 0).isLt; omega⟩ ⟨(i 0).val % 4 * 4 + (i 1).val / 128, by have : (i 1).val < 512 := (i 1).isLt; omega⟩ ⟨(i 1).val % 128, by omega⟩ (i 2))

/-- The gradient: block `4 d + q` of direction `d` and chip `q` lies in that chip's quarter, its four sub-blocks side by side. -/
def G (rep : Vec Ideal S4x256x1024 .f32) : Vec Ideal S8x512x128 .f32 := fun i => rep (ix3 ⟨(i 0).val % 4, by omega⟩ ⟨128 + (i 1).val % 128, by omega⟩ ⟨(i 0).val / 4 * 512 + (i 1).val / 128 * 128 + (i 2).val, by have : (i 0).val < 8 := (i 0).isLt; have : (i 1).val < 512 := (i 1).isLt; have : (i 2).val < 128 := (i 2).isLt; omega⟩)

/-- The weight's change. -/
def d (w m v : Vec Ideal S1x2x16x128x128 .f32) (rep : Vec Ideal S4x256x1024 .f32) : Vec Ideal S8x512x128 .f32 := fun i => delta (asBlocks w i) (asBlocks m i) (asBlocks v i) (G rep i)

/-- The new first moment. -/
def m1 (m : Vec Ideal S1x2x16x128x128 .f32) (rep : Vec Ideal S4x256x1024 .f32) : Vec Ideal S8x512x128 .f32 := fun i => mean (asBlocks m i) (G rep i)

/-- The new second moment. -/
def m2 (v : Vec Ideal S1x2x16x128x128 .f32) (rep : Vec Ideal S4x256x1024 .f32) : Vec Ideal S8x512x128 .f32 := fun i => square (asBlocks v i) (G rep i)

/-- The reference's gradient. -/
theorem ref_g (rep : Vec Ideal S4x256x1024 .f32) :
    val_main_v28 (F := Ideal) rep = G rep := by
  funext i
  idx_vars i
  unfold G
  pointwise [val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

/-- The reference's change of the weight. -/
theorem ref_d (w : Vec Ideal S1x2x16x128x128 .f32) (m : Vec Ideal S1x2x16x128x128 .f32) (v : Vec Ideal S1x2x16x128x128 .f32) (rep : Vec Ideal S4x256x1024 .f32) :
    val_main_v29 (F := Ideal) w m v rep = d w m v rep := by
  funext i
  idx_vars i
  unfold d G asBlocks
  pointwise [delta, mean, square, val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

/-- The reference's new first moment. -/
theorem ref_m (m : Vec Ideal S1x2x16x128x128 .f32) (rep : Vec Ideal S4x256x1024 .f32) :
    val_main_v30 (F := Ideal) m rep = m1 m rep := by
  funext i
  idx_vars i
  unfold m1 G asBlocks
  pointwise [delta, mean, square, val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

/-- The reference's new second moment. -/
theorem ref_v (v : Vec Ideal S1x2x16x128x128 .f32) (rep : Vec Ideal S4x256x1024 .f32) :
    val_main_v31 (F := Ideal) v rep = m2 v rep := by
  funext i
  idx_vars i
  unfold m2 G asBlocks
  pointwise [delta, mean, square, val_main_v31, val_main_v30, val_main_v29, val_main_v28, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  have e0 : (i0.val % 4 * 4 + i1.val / 128) / 4 = i0.val % 4 := by omega
  have e1 : (i0.val % 4 * 4 + i1.val / 128) % 4 = i1.val / 128 := by omega
  simp only [e0, e1]

end Cert.AdamWxMath
end
-- ==== Proof.AdamWxArray.lean ====
/-
  What the kernel of the update of the recurrence's second gate's weight leaves in its four result arrays: the plain mathematics of `AdamWxMath`.
-/
module

public import proofs.«01_k».proof.Proof.Gen.AdamWxIdeal.Value
public import proofs.«01_k».proof.Proof.AdamWxMath
public import Idealize.ShloMosaic.Lib.Pipeline.ValueKit

@[expose] public section

noncomputable section

namespace Cert.AdamWxIdeal.Value

open Cert.AdamWxIdeal Cert.AdamWxIdeal.Gen Idealize.ShloMosaic Idealize.ShloMosaic.TcCoe Idealize.SL.Sem
open Cert.AdamMath (mean square delta)
open Cert.AdamWxMath (G asBlocks)

variable (m : (ℓ : Loc nD τ sig) → Buf (Elt Ideal) ℓ)

/-- Argument 0 on device `c`: the weight. -/
abbrev A0 (c : Dev nD) : Vec Ideal S1x2x16x128x128 .f32 := m (c.tc.loc main_arg0)
/-- Argument 1 on device `c`: its first moment. -/
abbrev A1 (c : Dev nD) : Vec Ideal S1x2x16x128x128 .f32 := m (c.tc.loc main_arg1)
/-- Argument 2 on device `c`: its second moment. -/
abbrev A2 (c : Dev nD) : Vec Ideal S1x2x16x128x128 .f32 := m (c.tc.loc main_arg2)
/-- Argument 3 on device `c`: the gradient. -/
abbrev A3 (c : Dev nD) : Vec Ideal S4x256x1024 .f32 := m (c.tc.loc main_arg3)

theorem layer_lt (t : Fin cfg0.N) : t.val < 8 := by
  have := t.isLt; have : cfg0.N = 8 := N_0; omega

theorem index0 : ∀ t : Fin cfg0.N, win0_0.index t 0 = t.val ∧ win0_0.index t 1 = 0 ∧ win0_0.index t 2 = 0 := (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 := (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 := (by decide +kernel : ∀ t : Fin grid0.N, win0_2.index t 0 = t.val ∧ win0_2.index t 1 = 0 ∧ win0_2.index t 2 = 0)
theorem index3 : ∀ t : Fin cfg0.N, win0_3.index t 0 = t.val % 4 ∧ win0_3.index t 1 = 1 ∧ win0_3.index t 2 = t.val / 4 := (by decide +kernel : ∀ t : Fin grid0.N, win0_3.index t 0 = t.val % 4 ∧ win0_3.index t 1 = 1 ∧ win0_3.index t 2 = t.val / 4)
theorem index4 : ∀ t : Fin cfg0.N, win0_4.index t 0 = t.val ∧ win0_4.index t 1 = 0 ∧ win0_4.index t 2 = 0 := (by decide +kernel : ∀ t : Fin grid0.N, win0_4.index t 0 = t.val ∧ win0_4.index t 1 = 0 ∧ win0_4.index t 2 = 0)
theorem index5 : ∀ t : Fin cfg0.N, win0_5.index t 0 = t.val ∧ win0_5.index t 1 = 0 ∧ win0_5.index t 2 = 0 := (by decide +kernel : ∀ t : Fin grid0.N, win0_5.index t 0 = t.val ∧ win0_5.index t 1 = 0 ∧ win0_5.index t 2 = 0)
theorem index6 : ∀ t : Fin cfg0.N, win0_6.index t 0 = t.val ∧ win0_6.index t 1 = 0 ∧ win0_6.index t 2 = 0 := (by decide +kernel : ∀ t : Fin grid0.N, win0_6.index t 0 = t.val ∧ win0_6.index t 1 = 0 ∧ win0_6.index t 2 = 0)
theorem index7 : ∀ t : Fin cfg0.N, win0_7.index t 0 = t.val ∧ win0_7.index t 1 = 0 ∧ win0_7.index t 2 = 0 := (by decide +kernel : ∀ t : Fin grid0.N, win0_7.index t 0 = t.val ∧ win0_7.index t 1 = 0 ∧ win0_7.index t 2 = 0)

/-- A block of the weight. -/
theorem blk0 (c : Dev nD) (t : Fin cfg0.N) (a : Fin 1) (r : Fin 512) (k : Fin 128) :
    (iblk m c 0 t : Vec Ideal S1x512x128 .f32) (ix3 a r k) = asBlocks (A0 m c) (ix3 ⟨t.val, layer_lt t⟩ r k) := by
  unfold asBlocks
  blk_simp [iblk, index0 t]
  entry_read
  pointwise
  blk_point [index0 t]
/-- A block of its first moment. -/
theorem blk1 (c : Dev nD) (t : Fin cfg0.N) (a : Fin 1) (r : Fin 512) (k : Fin 128) :
    (iblk m c 1 t : Vec Ideal S1x512x128 .f32) (ix3 a r k) = asBlocks (A1 m c) (ix3 ⟨t.val, layer_lt t⟩ r k) := by
  unfold asBlocks
  blk_simp [iblk, index1 t]
  entry_read
  pointwise
  blk_point [index1 t]
/-- A block of its second moment. -/
theorem blk2 (c : Dev nD) (t : Fin cfg0.N) (a : Fin 1) (r : Fin 512) (k : Fin 128) :
    (iblk m c 2 t : Vec Ideal S1x512x128 .f32) (ix3 a r k) = asBlocks (A2 m c) (ix3 ⟨t.val, layer_lt t⟩ r k) := by
  unfold asBlocks
  blk_simp [iblk, index2 t]
  entry_read
  pointwise
  blk_point [index2 t]
/-- A block of the gradients. -/
theorem blk3 (c : Dev nD) (t : Fin cfg0.N) (a : Fin 1) (r : Fin 128) (k : Fin 512) :
    (iblk m c 3 t : Vec Ideal S1x128x512 .f32) (ix3 a r k) = A3 m c (ix3 ⟨t.val % 4, by omega⟩ ⟨128 + r.val, by omega⟩ ⟨t.val / 4 * 512 + k.val, by have := layer_lt t; omega⟩) := by
  blk_ext! [iblk, index3 t]
/-- The gradient at a grid point: the block's four squares on top of each other. -/
theorem grad (c : Dev nD) (t : Fin cfg0.N) (r : Fin 512) (k : Fin 128) :
    (k0_pay4 (iblk m c 3 t) : Vec Ideal S512x128 .f32) (ix2 r k) = G (A3 m c) (ix3 ⟨t.val, layer_lt t⟩ r k) := by
  unfold G
  pointwise [k0_pay4]
  simp only [blk3]
  split_ifs <;> (refine congrArg _ ?_; idx_ext)

/-- What a grid point leaves of the gradient. -/
theorem out4 (c : Dev nD) (t : Fin cfg0.N) (a : Fin 1) (r : Fin 512) (k : Fin 128) :
    (out0_4 (iblk m c 0 t) (iblk m c 1 t) (iblk m c 2 t) (iblk m c 3 t) : Vec Ideal S1x512x128 .f32) (ix3 a r k) = G (A3 m c) (ix3 ⟨t.val, layer_lt t⟩ r k) := by
  unfold out0_4
  frame_out
  pointwise [k0_pay1, k0_pay2, k0_pay3, k0_pay5, k0_pay6, k0_pay7, k0_pay8, k0_pay9]
  simp only [blk0, blk1, blk2, grad]
  rfl

/-- What a grid point leaves of the change of the weight. -/
theorem out5 (c : Dev nD) (t : Fin cfg0.N) (a : Fin 1) (r : Fin 512) (k : Fin 128) :
    (out0_5 (iblk m c 0 t) (iblk m c 1 t) (iblk m c 2 t) (iblk m c 3 t) : Vec Ideal S1x512x128 .f32) (ix3 a r k) = delta (asBlocks (A0 m c) (ix3 ⟨t.val, layer_lt t⟩ r k)) (asBlocks (A1 m c) (ix3 ⟨t.val, layer_lt t⟩ r k)) (asBlocks (A2 m c) (ix3 ⟨t.val, layer_lt t⟩ r k)) (G (A3 m c) (ix3 ⟨t.val, layer_lt t⟩ r k)) := by
  unfold out0_5
  frame_out
  pointwise [delta, mean, square, k0_pay1, k0_pay2, k0_pay3, k0_pay5, k0_pay6, k0_pay7, k0_pay8, k0_pay9]
  simp only [blk0, blk1, blk2, grad]
  rfl

/-- What a grid point leaves of the new first moment. -/
theorem out6 (c : Dev nD) (t : Fin cfg0.N) (a : Fin 1) (r : Fin 512) (k : Fin 128) :
    (out0_6 (iblk m c 0 t) (iblk m c 1 t) (iblk m c 2 t) (iblk m c 3 t) : Vec Ideal S1x512x128 .f32) (ix3 a r k) = mean (asBlocks (A1 m c) (ix3 ⟨t.val, layer_lt t⟩ r k)) (G (A3 m c) (ix3 ⟨t.val, layer_lt t⟩ r k)) := by
  unfold out0_6
  frame_out
  pointwise [delta, mean, square, k0_pay1, k0_pay2, k0_pay3, k0_pay5, k0_pay6, k0_pay7, k0_pay8, k0_pay9]
  simp only [blk0, blk1, blk2, grad]
  rfl

/-- What a grid point leaves of the new second moment. -/
theorem out7 (c : Dev nD) (t : Fin cfg0.N) (a : Fin 1) (r : Fin 512) (k : Fin 128) :
    (out0_7 (iblk m c 0 t) (iblk m c 1 t) (iblk m c 2 t) (iblk m c 3 t) : Vec Ideal S1x512x128 .f32) (ix3 a r k) = square (asBlocks (A2 m c) (ix3 ⟨t.val, layer_lt t⟩ r k)) (G (A3 m c) (ix3 ⟨t.val, layer_lt t⟩ r k)) := by
  unfold out0_7
  frame_out
  pointwise [delta, mean, square, k0_pay1, k0_pay2, k0_pay3, k0_pay5, k0_pay6, k0_pay7, k0_pay8, k0_pay9]
  simp only [blk0, blk1, blk2, grad]
  rfl

/-- The result's array: the gradient. -/
theorem arr4 (c : Dev nD) : (dats m 0 c).arrAt 4 cfg0.N = G (A3 m c) := by
  refine (dats m 0 c).arrAt_eq_of_covers 4 _ (by decide +kernel) fun t hf y => ?_
  blk_simp
  rw [after0_4]
  idx_vars y
  have he : ((win0_4.blk t).view.emb (ix3 y0 y1 y2) : S8x512x128.Idx) = ix3 ⟨t.val, layer_lt t⟩ y1 y2 := by
    blk_ext [index4 t]
  rw [he, out4]

/-- The result's array: the change of the weight. -/
theorem arr5 (c : Dev nD) : (dats m 0 c).arrAt 5 cfg0.N = Cert.AdamWxMath.d (A0 m c) (A1 m c) (A2 m c) (A3 m c) := by
  refine (dats m 0 c).arrAt_eq_of_covers 5 _ (by decide +kernel) fun t hf y => ?_
  blk_simp
  rw [after0_5]
  idx_vars y
  have he : ((win0_5.blk t).view.emb (ix3 y0 y1 y2) : S8x512x128.Idx) = ix3 ⟨t.val, layer_lt t⟩ y1 y2 := by
    blk_ext [index5 t]
  rw [he, out5]
  rfl

/-- The result's array: the new first moment. -/
theorem arr6 (c : Dev nD) : (dats m 0 c).arrAt 6 cfg0.N = Cert.AdamWxMath.m1 (A1 m c) (A3 m c) := by
  refine (dats m 0 c).arrAt_eq_of_covers 6 _ (by decide +kernel) fun t hf y => ?_
  blk_simp
  rw [after0_6]
  idx_vars y
  have he : ((win0_6.blk t).view.emb (ix3 y0 y1 y2) : S8x512x128.Idx) = ix3 ⟨t.val, layer_lt t⟩ y1 y2 := by
    blk_ext [index6 t]
  rw [he, out6]
  rfl

/-- The result's array: the new second moment. -/
theorem arr7 (c : Dev nD) : (dats m 0 c).arrAt 7 cfg0.N = Cert.AdamWxMath.m2 (A2 m c) (A3 m c) := by
  refine (dats m 0 c).arrAt_eq_of_covers 7 _ (by decide +kernel) fun t hf y => ?_
  blk_simp
  rw [after0_7]
  idx_vars y
  have he : ((win0_7.blk t).view.emb (ix3 y0 y1 y2) : S8x512x128.Idx) = ix3 ⟨t.val, layer_lt t⟩ y1 y2 := by
    blk_ext [index7 t]
  rw [he, out7]
  rfl

end Cert.AdamWxIdeal.Value
end
-- ==== Proof.AdamWxClaim.lean ====
/-
  The claims about the update of the recurrence's second gate's weight: the frames of the kernel, of its idealization and of the reference, and the
  equality of the two over the extended reals.
-/
module

public import proofs.«01_k».proof.Defs
public import proofs.«01_k».proof.Proof.Gen.AdamWx.Frame
public import proofs.«01_k».proof.Proof.Gen.AdamWxRefIdeal.Run
public import proofs.«01_k».proof.Proof.AdamWxArray
public import Idealize.ShloMosaic.Adequacy
public import Idealize.ShloMosaic.Init

@[expose] public section

noncomputable section

namespace Cert.Proof.AdamWx

open Idealize.ShloMosaic Idealize.SL.Sem

/-- The kernel runs, keeps its arguments and leaves every semaphore at zero. -/
theorem frame_kernel : Cert.quiescent_AdamWx := fun m ρ _ => Cert.AdamWx.Gen.frame m ρ

/-- So does its idealization. -/
theorem frame_ideal : Cert.quiescent_AdamWxIdeal := fun m ρ _ => Cert.AdamWxIdeal.Gen.frame m ρ

/-- So does the reference, which has no semaphore. -/
theorem frame_ref : Cert.quiescent_AdamWxRefIdeal := fun m ρ _ =>
  (θ_run _ _ _).mono (fun r h => ⟨fun c => (h c).2.2.2.2, Idealize.ShloMosaic.sem_eq_zero_of_no_sems (by decide) r.2⟩)
    (Cert.AdamWxRefIdeal.Value.run m ρ)

/-- No rewrite was made on the way to the idealization. -/
theorem preserves : Cert.preserves_AdamWx_AdamWxIdeal := trivial

/-- Kernel and reference end with equal results: the gradient, the change of the weight and the two new moments. -/
theorem algebraic : Cert.algebraic_AdamWxIdeal_AdamWxRefIdeal := by
  intro m g m' g' _ hargs
  refine ⟨fun c => Cert.AdamWxMath.G (m (c.tc.loc Cert.AdamWxIdeal.main_arg3)),
    fun c => Cert.AdamWxMath.d (m (c.tc.loc Cert.AdamWxIdeal.main_arg0)) (m (c.tc.loc Cert.AdamWxIdeal.main_arg1)) (m (c.tc.loc Cert.AdamWxIdeal.main_arg2)) (m (c.tc.loc Cert.AdamWxIdeal.main_arg3)),
    fun c => Cert.AdamWxMath.m1 (m (c.tc.loc Cert.AdamWxIdeal.main_arg1)) (m (c.tc.loc Cert.AdamWxIdeal.main_arg3)),
    fun c => Cert.AdamWxMath.m2 (m (c.tc.loc Cert.AdamWxIdeal.main_arg2)) (m (c.tc.loc Cert.AdamWxIdeal.main_arg3)),
    (θ_run _ _ _).mono (fun r h c => ?_) (Cert.AdamWxIdeal.Value.run_blocks m g),
    (θ_run _ _ _).mono (fun r h c => ?_) (Cert.AdamWxRefIdeal.Value.run m' g')⟩
  · obtain ⟨h0, h1, h2, h3, hr⟩ := h c
    exact ⟨h0.trans (Cert.AdamWxIdeal.Value.arr4 m c), h1.trans (Cert.AdamWxIdeal.Value.arr5 m c), h2.trans (Cert.AdamWxIdeal.Value.arr6 m c), h3.trans (Cert.AdamWxIdeal.Value.arr7 m c), hr⟩
  · obtain ⟨h0, h1, h2, h3, hr⟩ := h c
    obtain ⟨a0, a1, a2, a3⟩ := hargs c
    refine ⟨h0.trans ?_, h1.trans ?_, h2.trans ?_, h3.trans ?_, hr⟩
    · rw [a3]; exact Cert.AdamWxMath.ref_g _
    · rw [a0, a1, a2, a3]; exact Cert.AdamWxMath.ref_d _ _ _ _
    · rw [a1, a3]; exact Cert.AdamWxMath.ref_m _ _
    · rw [a2, a3]; exact Cert.AdamWxMath.ref_v _ _

end Cert.Proof.AdamWx

end
-- ==== Proof.ModRepMath.lean ====
/-
  The sums over the devices' packed rows in plain mathematics, and the proof that the reference's terms are that mathematics.
-/
module

public import proofs.«01_k».proof.Proof.Gen.ModRepRefIdeal.Read
public import Idealize.ShloMosaic.Lib.Pointwise
public import Idealize.ShloMosaic.Lib.Tactic
public import Idealize.ShloMosaic.Lib.Pipeline.ValueKit

@[expose] public section

noncomputable section

namespace Cert.ModRepMath

open Cert.ModRepRefIdeal Cert.ModRepRefIdeal.Read Idealize.ShloMosaic

/-- The sum over the eight devices of one entry of their packed rows. -/
def tot (x : Vec Ideal S8x24x3072 .f32) (r : Fin 24) (l : Fin 3072) : EReal := ∑ e : Fin 8, x (ix3 e r l)

/-- The gradient of adaLN's bias. -/
def b_mod (x : Vec Ideal S8x24x3072 .f32) : Vec Ideal S2x3072 .f32 := fun i => if _h : (i 0).val < 1 then tot x 1 (i 1) + tot x 2 (i 1) else tot x 3 (i 1)

/-- It is the reference's. -/
theorem ref_b_mod (x : Vec Ideal S8x24x3072 .f32) : val_main_v14 (F := Ideal) x = b_mod x := by
  funext i
  idx_vars i
  unfold b_mod tot
  pointwise [val_main_v14, val_main_v13, val_main_v11, val_main_v10, val_main_v0, val_main_cst, val_main_v12, val_main_v9, val_main_v8, val_main_v7, val_main_v6, val_main_v5]

/-- Its first row is the sum of two of the packed rows. -/
theorem b_mod_first (x : Vec Ideal S8x24x3072 .f32) (r : Fin 2) (l : Fin 3072) (h : r.val < 1) :
    b_mod x (ix2 r l) = (∑ e : Fin 8, x (ix3 e 1 l)) + ∑ e : Fin 8, x (ix3 e 2 l) := dif_pos h

/-- Its second row is one of them. -/
theorem b_mod_second (x : Vec Ideal S8x24x3072 .f32) (r : Fin 2) (l : Fin 3072) (h : ¬ r.val < 1) :
    b_mod x (ix2 r l) = ∑ e : Fin 8, x (ix3 e 3 l) := dif_neg h

/-- The loss, in each lane of a row. -/
def loss (x : Vec Ideal S8x24x3072 .f32) : Vec Ideal S1x128 .f32 := fun i => (∑ e : Fin 8, ∑ l : Fin 128, x (ix3 e 0 ⟨1024 + l.val, by omega⟩)) * Ideal.ofBits .f32 0x3A000000#32

/-- It is the reference's. -/
theorem ref_loss (x : Vec Ideal S8x24x3072 .f32) : val_main_v25 (F := Ideal) x = loss x := by
  funext i
  idx_vars i
  unfold loss
  pointwise [val_main_v25, val_main_v4, val_main_cst_1, val_main_v3, val_main_v2, val_main_v1, val_main_cst_0]

/-- The gradient of the convolution's bias. -/
def conv_b (x : Vec Ideal S8x24x3072 .f32) : Vec Ideal S1x2048 .f32 := fun i => tot x ⟨4, by have h0 : (i 0).val < 1 := (i 0).isLt; have h1 : (i 1).val < 2048 := (i 1).isLt; omega⟩ ⟨(i 1).val, by have h0 : (i 0).val < 1 := (i 0).isLt; have h1 : (i 1).val < 2048 := (i 1).isLt; omega⟩

/-- It is the reference's. -/
theorem ref_conv_b (x : Vec Ideal S8x24x3072 .f32) : val_main_v15 (F := Ideal) x = conv_b x := by
  funext i
  idx_vars i
  unfold conv_b tot
  pointwise [val_main_v15, val_main_v0, val_main_cst]

/-- The gradient of the layer norms' gains. -/
def ln_g (x : Vec Ideal S8x24x3072 .f32) : Vec Ideal S2x1024 .f32 := fun i => tot x ⟨4 + (i 0).val, by have h0 : (i 0).val < 2 := (i 0).isLt; have h1 : (i 1).val < 1024 := (i 1).isLt; omega⟩ ⟨2048 + (i 1).val, by have h0 : (i 0).val < 2 := (i 0).isLt; have h1 : (i 1).val < 1024 := (i 1).isLt; omega⟩

/-- It is the reference's. -/
theorem ref_ln_g (x : Vec Ideal S8x24x3072 .f32) : val_main_v17 (F := Ideal) x = ln_g x := by
  funext i
  idx_vars i
  unfold ln_g tot
  pointwise [val_main_v17, val_main_v0, val_main_cst]

/-- The gradient of the pooling's scale. -/
def pool_scale (x : Vec Ideal S8x24x3072 .f32) : Vec Ideal S1x2048 .f32 := fun i => tot x ⟨5, by have h0 : (i 0).val < 1 := (i 0).isLt; have h1 : (i 1).val < 2048 := (i 1).isLt; omega⟩ ⟨(i 1).val, by have h0 : (i 0).val < 1 := (i 0).isLt; have h1 : (i 1).val < 2048 := (i 1).isLt; omega⟩

/-- It is the reference's. -/
theorem ref_pool_scale (x : Vec Ideal S8x24x3072 .f32) : val_main_v16 (F := Ideal) x = pool_scale x := by
  funext i
  idx_vars i
  unfold pool_scale tot
  pointwise [val_main_v16, val_main_v0, val_main_cst]

/-- The gradient of the layer norms' biases. -/
def ln_b (x : Vec Ideal S8x24x3072 .f32) : Vec Ideal S2x1024 .f32 := fun i => tot x ⟨6, by have h0 : (i 0).val < 2 := (i 0).isLt; have h1 : (i 1).val < 1024 := (i 1).isLt; omega⟩ ⟨(i 0).val * 1024 + (i 1).val, by have h0 : (i 0).val < 2 := (i 0).isLt; have h1 : (i 1).val < 1024 := (i 1).isLt; omega⟩

/-- It is the reference's. -/
theorem ref_ln_b (x : Vec Ideal S8x24x3072 .f32) : val_main_v20 (F := Ideal) x = ln_b x := by
  funext i
  idx_vars i
  unfold ln_b tot
  pointwise [val_main_v20, val_main_v19, val_main_v18, val_main_v0, val_main_cst]

/-- The gradient of the convolution's weight. -/
def conv_w (x : Vec Ideal S8x24x3072 .f32) : Vec Ideal S4x2048 .f32 := fun i => tot x ⟨7 + (i 0).val, by have h0 : (i 0).val < 4 := (i 0).isLt; have h1 : (i 1).val < 2048 := (i 1).isLt; omega⟩ ⟨(i 1).val, by have h0 : (i 0).val < 4 := (i 0).isLt; have h1 : (i 1).val < 2048 := (i 1).isLt; omega⟩

/-- It is the reference's. -/
theorem ref_conv_w (x : Vec Ideal S8x24x3072 .f32) : val_main_v21 (F := Ideal) x = conv_w x := by
  funext i
  idx_vars i
  unfold conv_w tot
  pointwise [val_main_v21, val_main_v0, val_main_cst]

/-- The gradient of the first gate's bias. -/
def lru_ba (x : Vec Ideal S8x24x3072 .f32) : Vec Ideal S2x2048 .f32 := fun i => tot x ⟨11 + (i 0).val, by have h0 : (i 0).val < 2 := (i 0).isLt; have h1 : (i 1).val < 2048 := (i 1).isLt; omega⟩ ⟨(i 1).val, by have h0 : (i 0).val < 2 := (i 0).isLt; have h1 : (i 1).val < 2048 := (i 1).isLt; omega⟩

/-- It is the reference's. -/
theorem ref_lru_ba (x : Vec Ideal S8x24x3072 .f32) : val_main_v22 (F := Ideal) x = lru_ba x := by
  funext i
  idx_vars i
  unfold lru_ba tot
  pointwise [val_main_v22, val_main_v0, val_main_cst]

/-- The gradient of the second gate's bias. -/
def lru_bx (x : Vec Ideal S8x24x3072 .f32) : Vec Ideal S2x2048 .f32 := fun i => tot x ⟨13 + (i 0).val, by have h0 : (i 0).val < 2 := (i 0).isLt; have h1 : (i 1).val < 2048 := (i 1).isLt; omega⟩ ⟨(i 1).val, by have h0 : (i 0).val < 2 := (i 0).isLt; have h1 : (i 1).val < 2048 := (i 1).isLt; omega⟩

/-- It is the reference's. -/
theorem ref_lru_bx (x : Vec Ideal S8x24x3072 .f32) : val_main_v23 (F := Ideal) x = lru_bx x := by
  funext i
  idx_vars i
  unfold lru_bx tot
  pointwise [val_main_v23, val_main_v0, val_main_cst]

/-- The gradient of the recurrence's decay. -/
def lru_lam (x : Vec Ideal S8x24x3072 .f32) : Vec Ideal S2x2048 .f32 := fun i => tot x ⟨15 + (i 0).val, by have h0 : (i 0).val < 2 := (i 0).isLt; have h1 : (i 1).val < 2048 := (i 1).isLt; omega⟩ ⟨(i 1).val, by have h0 : (i 0).val < 2 := (i 0).isLt; have h1 : (i 1).val < 2048 := (i 1).isLt; omega⟩

/-- It is the reference's. -/
theorem ref_lru_lam (x : Vec Ideal S8x24x3072 .f32) : val_main_v24 (F := Ideal) x = lru_lam x := by
  funext i
  idx_vars i
  unfold lru_lam tot
  pointwise [val_main_v24, val_main_v0, val_main_cst]

end Cert.ModRepMath
end
-- ==== Proof.ModRepArray.lean ====
/-
  What the kernel of the sums over the devices leaves in its ten result arrays: the plain mathematics of `ModRepMath`.
-/
module

public import proofs.«01_k».proof.Proof.Gen.ModRepIdeal.Frame
public import proofs.«01_k».proof.Proof.ModRepMath
public import Idealize.ShloMosaic.Lib.Pipeline.Value
public import Idealize.ShloMosaic.Lib.Pipeline.ValueKit

@[expose] public section

noncomputable section

namespace Cert.ModRepIdeal.Value

open Cert.ModRepIdeal Cert.ModRepIdeal.Gen Idealize.ShloMosaic Idealize.ShloMosaic.TcCoe Idealize.SL.Sem
open Cert.ModRepMath (tot)

variable (m : (ℓ : Loc nD τ sig) → Buf (Elt Ideal) ℓ) (ρ : Dev nD → PrngReg)

/-- The run with each result array after it named, and the argument as launched. -/
theorem run_blocks : θ_run defs (onTc (τ := τ) (main (F := Ideal))) ⟨m, fun _ => 0, ρ⟩ fun r => ∀ c : Dev nD,
      r.2.mem ((c : Thread nD τ).loc main_v1_0) = (dats m 0 c).arrAt 1 cfg0.N
      ∧ r.2.mem ((c : Thread nD τ).loc main_v1_1) = (dats m 0 c).arrAt 2 cfg0.N
      ∧ r.2.mem ((c : Thread nD τ).loc main_v1_2) = (dats m 0 c).arrAt 3 cfg0.N
      ∧ r.2.mem ((c : Thread nD τ).loc main_v1_3) = (dats m 0 c).arrAt 4 cfg0.N
      ∧ r.2.mem ((c : Thread nD τ).loc main_v1_4) = (dats m 0 c).arrAt 5 cfg0.N
      ∧ r.2.mem ((c : Thread nD τ).loc main_v1_5) = (dats m 0 c).arrAt 6 cfg0.N
      ∧ r.2.mem ((c : Thread nD τ).loc main_v1_6) = (dats m 0 c).arrAt 7 cfg0.N
      ∧ r.2.mem ((c : Thread nD τ).loc main_v1_7) = (dats m 0 c).arrAt 8 cfg0.N
      ∧ r.2.mem ((c : Thread nD τ).loc main_v1_8) = (dats m 0 c).arrAt 9 cfg0.N
      ∧ r.2.mem ((c : Thread nD τ).loc main_v1_9) = (dats m 0 c).arrAt 10 cfg0.N
      ∧ r.2.mem ((c : Thread nD τ).loc main_arg0) = m ((c : Thread nD τ).loc main_arg0) :=
  (θ_run defs _ _).mono (fun r h c => ⟨(h c).1 1, (h c).1 2, (h c).1 3, (h c).1 4, (h c).1 5, (h c).1 6, (h c).1 7, (h c).1 8, (h c).1 9, (h c).1 10,
    ((h c).2 main_arg0 (Pipeline.mem_restRefs_of main_arg0 (by decide) (by decide))).trans (V_main_arg0 m c)⟩)
    (run_main m ρ)

/-- The argument on device `c`: the devices' packed rows. -/
abbrev A0 (c : Dev nD) : Vec Ideal S8x24x3072 .f32 := m (c.tc.loc main_arg0)

/-- Every step's block starts at the array's start. -/
theorem index0 : ∀ t : Fin cfg0.N, win0_0.index t 0 = 0 ∧ win0_0.index t 1 = 0 ∧ win0_0.index t 2 = 0 := (by decide +kernel : ∀ t : Fin grid0.N, win0_0.index t 0 = 0 ∧ win0_0.index t 1 = 0 ∧ win0_0.index t 2 = 0)
/-- Every step's block starts at the array's start. -/
theorem index1 : ∀ t : Fin cfg0.N, win0_1.index t 0 = 0 ∧ win0_1.index t 1 = 0 := (by decide +kernel : ∀ t : Fin grid0.N, win0_1.index t 0 = 0 ∧ win0_1.index t 1 = 0)
/-- Every step's block starts at the array's start. -/
theorem index2 : ∀ t : Fin cfg0.N, win0_2.index t 0 = 0 ∧ win0_2.index t 1 = 0 := (by decide +kernel : ∀ t : Fin grid0.N, win0_2.index t 0 = 0 ∧ win0_2.index t 1 = 0)
/-- Every step's block starts at the array's start. -/
theorem index3 : ∀ t : Fin cfg0.N, win0_3.index t 0 = 0 ∧ win0_3.index t 1 = 0 := (by decide +kernel : ∀ t : Fin grid0.N, win0_3.index t 0 = 0 ∧ win0_3.index t 1 = 0)
/-- Every step's block starts at the array's start. -/
theorem index4 : ∀ t : Fin cfg0.N, win0_4.index t 0 = 0 ∧ win0_4.index t 1 = 0 := (by decide +kernel : ∀ t : Fin grid0.N, win0_4.index t 0 = 0 ∧ win0_4.index t 1 = 0)
/-- Every step's block starts at the array's start. -/
theorem index5 : ∀ t : Fin cfg0.N, win0_5.index t 0 = 0 ∧ win0_5.index t 1 = 0 := (by decide +kernel : ∀ t : Fin grid0.N, win0_5.index t 0 = 0 ∧ win0_5.index t 1 = 0)
/-- Every step's block starts at the array's start. -/
theorem index6 : ∀ t : Fin cfg0.N, win0_6.index t 0 = 0 ∧ win0_6.index t 1 = 0 := (by decide +kernel : ∀ t : Fin grid0.N, win0_6.index t 0 = 0 ∧ win0_6.index t 1 = 0)
/-- Every step's block starts at the array's start. -/
theorem index7 : ∀ t : Fin cfg0.N, win0_7.index t 0 = 0 ∧ win0_7.index t 1 = 0 := (by decide +kernel : ∀ t : Fin grid0.N, win0_7.index t 0 = 0 ∧ win0_7.index t 1 = 0)
/-- Every step's block starts at the array's start. -/
theorem index8 : ∀ t : Fin cfg0.N, win0_8.index t 0 = 0 ∧ win0_8.index t 1 = 0 := (by decide +kernel : ∀ t : Fin grid0.N, win0_8.index t 0 = 0 ∧ win0_8.index t 1 = 0)
/-- Every step's block starts at the array's start. -/
theorem index9 : ∀ t : Fin cfg0.N, win0_9.index t 0 = 0 ∧ win0_9.index t 1 = 0 := (by decide +kernel : ∀ t : Fin grid0.N, win0_9.index t 0 = 0 ∧ win0_9.index t 1 = 0)
/-- Every step's block starts at the array's start. -/
theorem index10 : ∀ t : Fin cfg0.N, win0_10.index t 0 = 0 ∧ win0_10.index t 1 = 0 := (by decide +kernel : ∀ t : Fin grid0.N, win0_10.index t 0 = 0 ∧ win0_10.index t 1 = 0)

/-- The kernel's block is all of it, the rows first. -/
theorem blk0 (c : Dev nD) (t : Fin cfg0.N) (r : Fin 24) (e : Fin 8) (l : Fin 3072) :
    (iblk m c 0 t : Vec Ideal S24x8x3072 .f32) (ix3 r e l) = A0 m c (ix3 e r l) := by
  blk_simp [iblk, index0 t]
  entry_read
  pointwise
  blk_point [index0 t]

/-- The result's array: the gradient of adaLN's bias. -/
theorem arr1 (c : Dev nD) : (dats m 0 c).arrAt 1 cfg0.N = Cert.ModRepMath.b_mod (A0 m c) := by
  refine (dats m 0 c).arrAt_eq_of_covers 1 _ (by decide +kernel) fun t hf y => ?_
  blk_simp
  rw [after0_1]
  idx_vars y
  have he : ((win0_1.blk t).view.emb (ix2 y0 y1) : S2x3072.Idx) = ix2 y0 y1 := by
    blk_ext [index1 t]
  rw [he]
  canon_tiles x h
  · idx_vars x
    have hn : ¬ y0.val < 1 := by omega
    have e1 : y1 = x1 := Fin.ext h1
    subst e1
    refine Eq.trans ?_ (Cert.ModRepMath.b_mod_second (A0 m c) y0 y1 hn).symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
  · idx_vars x
    have hp : y0.val < 1 := by omega
    have e1 : y1 = x1 := Fin.ext h1
    subst e1
    refine Eq.trans ?_ (Cert.ModRepMath.b_mod_first (A0 m c) y0 y1 hp).symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]

/-- The result's array: the loss. -/
theorem arr2 (c : Dev nD) : (dats m 0 c).arrAt 2 cfg0.N = Cert.ModRepMath.loss (A0 m c) := by
  refine (dats m 0 c).arrAt_eq_of_covers 2 _ (by decide +kernel) fun t hf y => ?_
  blk_simp
  rw [after0_2]
  idx_vars y
  have he : ((win0_2.blk t).view.emb (ix2 y0 y1) : S1x128.Idx) = ix2 y0 y1 := by
    blk_ext [index2 t]
  rw [he]
  unfold Cert.ModRepMath.loss
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]

/-- The result's array: the gradient of the convolution's bias. -/
theorem arr3 (c : Dev nD) : (dats m 0 c).arrAt 3 cfg0.N = Cert.ModRepMath.conv_b (A0 m c) := by
  refine (dats m 0 c).arrAt_eq_of_covers 3 _ (by decide +kernel) fun t hf y => ?_
  blk_simp
  rw [after0_3]
  idx_vars y
  have he : ((win0_3.blk t).view.emb (ix2 y0 y1) : S1x2048.Idx) = ix2 y0 y1 := by
    blk_ext [index3 t]
  rw [he]
  unfold Cert.ModRepMath.conv_b tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the layer norms' gains. -/
theorem arr4 (c : Dev nD) : (dats m 0 c).arrAt 4 cfg0.N = Cert.ModRepMath.ln_g (A0 m c) := by
  refine (dats m 0 c).arrAt_eq_of_covers 4 _ (by decide +kernel) fun t hf y => ?_
  blk_simp
  rw [after0_4]
  idx_vars y
  have he : ((win0_4.blk t).view.emb (ix2 y0 y1) : S2x1024.Idx) = ix2 y0 y1 := by
    blk_ext [index4 t]
  rw [he]
  unfold Cert.ModRepMath.ln_g tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the pooling's scale. -/
theorem arr5 (c : Dev nD) : (dats m 0 c).arrAt 5 cfg0.N = Cert.ModRepMath.pool_scale (A0 m c) := by
  refine (dats m 0 c).arrAt_eq_of_covers 5 _ (by decide +kernel) fun t hf y => ?_
  blk_simp
  rw [after0_5]
  idx_vars y
  have he : ((win0_5.blk t).view.emb (ix2 y0 y1) : S1x2048.Idx) = ix2 y0 y1 := by
    blk_ext [index5 t]
  rw [he]
  unfold Cert.ModRepMath.pool_scale tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the layer norms' biases. -/
theorem arr6 (c : Dev nD) : (dats m 0 c).arrAt 6 cfg0.N = Cert.ModRepMath.ln_b (A0 m c) := by
  refine (dats m 0 c).arrAt_eq_of_covers 6 _ (by decide +kernel) fun t hf y => ?_
  blk_simp
  rw [after0_6]
  idx_vars y
  have he : ((win0_6.blk t).view.emb (ix2 y0 y1) : S2x1024.Idx) = ix2 y0 y1 := by
    blk_ext [index6 t]
  rw [he]
  unfold Cert.ModRepMath.ln_b tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the convolution's weight. -/
theorem arr7 (c : Dev nD) : (dats m 0 c).arrAt 7 cfg0.N = Cert.ModRepMath.conv_w (A0 m c) := by
  refine (dats m 0 c).arrAt_eq_of_covers 7 _ (by decide +kernel) fun t hf y => ?_
  blk_simp
  rw [after0_7]
  idx_vars y
  have he : ((win0_7.blk t).view.emb (ix2 y0 y1) : S4x2048.Idx) = ix2 y0 y1 := by
    blk_ext [index7 t]
  rw [he]
  unfold Cert.ModRepMath.conv_w tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the first gate's bias. -/
theorem arr8 (c : Dev nD) : (dats m 0 c).arrAt 8 cfg0.N = Cert.ModRepMath.lru_ba (A0 m c) := by
  refine (dats m 0 c).arrAt_eq_of_covers 8 _ (by decide +kernel) fun t hf y => ?_
  blk_simp
  rw [after0_8]
  idx_vars y
  have he : ((win0_8.blk t).view.emb (ix2 y0 y1) : S2x2048.Idx) = ix2 y0 y1 := by
    blk_ext [index8 t]
  rw [he]
  unfold Cert.ModRepMath.lru_ba tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the second gate's bias. -/
theorem arr9 (c : Dev nD) : (dats m 0 c).arrAt 9 cfg0.N = Cert.ModRepMath.lru_bx (A0 m c) := by
  refine (dats m 0 c).arrAt_eq_of_covers 9 _ (by decide +kernel) fun t hf y => ?_
  blk_simp
  rw [after0_9]
  idx_vars y
  have he : ((win0_9.blk t).view.emb (ix2 y0 y1) : S2x2048.Idx) = ix2 y0 y1 := by
    blk_ext [index9 t]
  rw [he]
  unfold Cert.ModRepMath.lru_bx tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

/-- The result's array: the gradient of the recurrence's decay. -/
theorem arr10 (c : Dev nD) : (dats m 0 c).arrAt 10 cfg0.N = Cert.ModRepMath.lru_lam (A0 m c) := by
  refine (dats m 0 c).arrAt_eq_of_covers 10 _ (by decide +kernel) fun t hf y => ?_
  blk_simp
  rw [after0_10]
  idx_vars y
  have he : ((win0_10.blk t).view.emb (ix2 y0 y1) : S2x2048.Idx) = ix2 y0 y1 := by
    blk_ext [index10 t]
  rw [he]
  unfold Cert.ModRepMath.lru_lam tot
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    simp only [blk0]
    refine Finset.sum_congr rfl fun e _ => congrArg _ ?_
    idx_ext

end Cert.ModRepIdeal.Value
end
-- ==== Proof.ModRepClaim.lean ====
/-
  The claims about the sums over the devices: the frames of the kernel, of its idealization and of the reference, and the
  equality of the two over the extended reals.
-/
module

public import proofs.«01_k».proof.Defs
public import proofs.«01_k».proof.Proof.Gen.ModRep.Frame
public import proofs.«01_k».proof.Proof.Gen.ModRepRefIdeal.Run
public import proofs.«01_k».proof.Proof.ModRepArray
public import Idealize.ShloMosaic.Adequacy
public import Idealize.ShloMosaic.Init

@[expose] public section

noncomputable section

namespace Cert.Proof.ModRep

open Idealize.ShloMosaic Idealize.SL.Sem

/-- The kernel runs, keeps its argument and leaves every semaphore at zero. -/
theorem frame_kernel : Cert.quiescent_ModRep := fun m ρ _ => Cert.ModRep.Gen.frame m ρ

/-- So does its idealization. -/
theorem frame_ideal : Cert.quiescent_ModRepIdeal := fun m ρ _ => Cert.ModRepIdeal.Gen.frame m ρ

/-- So does the reference, which has no semaphore. -/
theorem frame_ref : Cert.quiescent_ModRepRefIdeal := fun m ρ _ =>
  (θ_run _ _ _).mono (fun r h => ⟨fun c => (h c).2.2.2.2.2.2.2.2.2.2, Idealize.ShloMosaic.sem_eq_zero_of_no_sems (by decide) r.2⟩)
    (Cert.ModRepRefIdeal.Value.run m ρ)

/-- No rewrite was made on the way to the idealization. -/
theorem preserves : Cert.preserves_ModRep_ModRepIdeal := trivial

/-- Kernel and reference end with equal results: the loss and nine gradients, each summed over the devices. -/
theorem algebraic : Cert.algebraic_ModRepIdeal_ModRepRefIdeal := by
  intro m g m' g' _ hargs
  refine ⟨fun c => Cert.ModRepMath.b_mod (m (c.tc.loc Cert.ModRepIdeal.main_arg0)),
    fun c => Cert.ModRepMath.loss (m (c.tc.loc Cert.ModRepIdeal.main_arg0)),
    fun c => Cert.ModRepMath.conv_b (m (c.tc.loc Cert.ModRepIdeal.main_arg0)),
    fun c => Cert.ModRepMath.ln_g (m (c.tc.loc Cert.ModRepIdeal.main_arg0)),
    fun c => Cert.ModRepMath.pool_scale (m (c.tc.loc Cert.ModRepIdeal.main_arg0)),
    fun c => Cert.ModRepMath.ln_b (m (c.tc.loc Cert.ModRepIdeal.main_arg0)),
    fun c => Cert.ModRepMath.conv_w (m (c.tc.loc Cert.ModRepIdeal.main_arg0)),
    fun c => Cert.ModRepMath.lru_ba (m (c.tc.loc Cert.ModRepIdeal.main_arg0)),
    fun c => Cert.ModRepMath.lru_bx (m (c.tc.loc Cert.ModRepIdeal.main_arg0)),
    fun c => Cert.ModRepMath.lru_lam (m (c.tc.loc Cert.ModRepIdeal.main_arg0)),
    (θ_run _ _ _).mono (fun r h c => ?_) (Cert.ModRepIdeal.Value.run_blocks m g),
    (θ_run _ _ _).mono (fun r h c => ?_) (Cert.ModRepRefIdeal.Value.run m' g')⟩
  · obtain ⟨h0, h1, h2, h3, h4, h5, h6, h7, h8, h9, hr⟩ := h c
    exact ⟨h0.trans (Cert.ModRepIdeal.Value.arr1 m c), h1.trans (Cert.ModRepIdeal.Value.arr2 m c), h2.trans (Cert.ModRepIdeal.Value.arr3 m c), h3.trans (Cert.ModRepIdeal.Value.arr4 m c), h4.trans (Cert.ModRepIdeal.Value.arr5 m c), h5.trans (Cert.ModRepIdeal.Value.arr6 m c), h6.trans (Cert.ModRepIdeal.Value.arr7 m c), h7.trans (Cert.ModRepIdeal.Value.arr8 m c), h8.trans (Cert.ModRepIdeal.Value.arr9 m c), h9.trans (Cert.ModRepIdeal.Value.arr10 m c), hr⟩
  · obtain ⟨h0, h1, h2, h3, h4, h5, h6, h7, h8, h9, hr⟩ := h c
    have a0 := hargs c
    refine ⟨h0.trans ?_, h1.trans ?_, h2.trans ?_, h3.trans ?_, h4.trans ?_, h5.trans ?_, h6.trans ?_, h7.trans ?_, h8.trans ?_, h9.trans ?_, hr⟩
    · rw [a0]; exact Cert.ModRepMath.ref_b_mod _
    · rw [a0]; exact Cert.ModRepMath.ref_loss _
    · rw [a0]; exact Cert.ModRepMath.ref_conv_b _
    · rw [a0]; exact Cert.ModRepMath.ref_ln_g _
    · rw [a0]; exact Cert.ModRepMath.ref_pool_scale _
    · rw [a0]; exact Cert.ModRepMath.ref_ln_b _
    · rw [a0]; exact Cert.ModRepMath.ref_conv_w _
    · rw [a0]; exact Cert.ModRepMath.ref_lru_ba _
    · rw [a0]; exact Cert.ModRepMath.ref_lru_bx _
    · rw [a0]; exact Cert.ModRepMath.ref_lru_lam _

end Cert.Proof.ModRep

end
-- ==== Proof.lean ====
/- The claims about the calls taken from the training step, put together: each call's module proves its own five. -/
module

public import proofs.«01_k».proof.Defs
public import proofs.«01_k».proof.Proof.Gen.PoolB.Frame
public import proofs.«01_k».proof.Proof.Gen.PoolBIdeal.Frame
public import proofs.«01_k».proof.Proof.Gen.PoolBIdeal.Value
public import proofs.«01_k».proof.Proof.Gen.PoolBRefIdeal.Run
public import proofs.«01_k».proof.Proof.Gen.PoolBRefIdeal.Read
public import proofs.«01_k».proof.Proof.Gen.InX.Frame
public import proofs.«01_k».proof.Proof.Gen.InXIdeal.Frame
public import proofs.«01_k».proof.Proof.Gen.InXIdeal.Value
public import proofs.«01_k».proof.Proof.Gen.InXRefIdeal.Run
public import proofs.«01_k».proof.Proof.Gen.InXRefIdeal.Read
public import proofs.«01_k».proof.Proof.Gen.InF.Frame
public import proofs.«01_k».proof.Proof.Gen.InFIdeal.Frame
public import proofs.«01_k».proof.Proof.Gen.InFIdeal.Value
public import proofs.«01_k».proof.Proof.Gen.InFRefIdeal.Run
public import proofs.«01_k».proof.Proof.Gen.InFRefIdeal.Read
public import proofs.«01_k».proof.Proof.Gen.PoolF.Frame
public import proofs.«01_k».proof.Proof.Gen.PoolFIdeal.Frame
public import proofs.«01_k».proof.Proof.Gen.PoolFIdeal.Value
public import proofs.«01_k».proof.Proof.Gen.PoolFRefIdeal.Run
public import proofs.«01_k».proof.Proof.Gen.PoolFRefIdeal.Read
public import proofs.«01_k».proof.Proof.Gen.OutF.Frame
public import proofs.«01_k».proof.Proof.Gen.OutFIdeal.Frame
public import proofs.«01_k».proof.Proof.Gen.OutFIdeal.Value
public import proofs.«01_k».proof.Proof.Gen.OutFRefIdeal.Run
public import proofs.«01_k».proof.Proof.Gen.OutFRefIdeal.Read
public import proofs.«01_k».proof.Proof.Gen.OutW.Frame
public import proofs.«01_k».proof.Proof.Gen.OutWIdeal.Frame
public import proofs.«01_k».proof.Proof.Gen.OutWRefIdeal.Run
public import proofs.«01_k».proof.Proof.Gen.OutWRefIdeal.Read
public import proofs.«01_k».proof.Proof.Gen.InW.Frame
public import proofs.«01_k».proof.Proof.Gen.InWIdeal.Frame
public import proofs.«01_k».proof.Proof.Gen.InWRefIdeal.Run
public import proofs.«01_k».proof.Proof.Gen.InWRefIdeal.Read
public import proofs.«01_k».proof.Proof.Gen.InW0.Frame
public import proofs.«01_k».proof.Proof.Gen.InW0Ideal.Frame
public import proofs.«01_k».proof.Proof.Gen.InW0RefIdeal.Run
public import proofs.«01_k».proof.Proof.Gen.InW0RefIdeal.Read
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamPool.Frame
public import proofs.«01_k».proof.Proof.Gen.AdamPoolIdeal.Frame
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.AdamMod.Frame
public import proofs.«01_k».proof.Proof.Gen.AdamModIdeal.Frame
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Gen.AdamWa.Frame
public import proofs.«01_k».proof.Proof.Gen.AdamWaIdeal.Frame
public import proofs.«01_k».proof.Proof.Gen.AdamWaIdeal.Value
public import proofs.«01_k».proof.Proof.Gen.AdamWaRefIdeal.Run
public import proofs.«01_k».proof.Proof.Gen.AdamWaRefIdeal.Read
public import proofs.«01_k».proof.Proof.Gen.AdamWx.Frame
public import proofs.«01_k».proof.Proof.Gen.AdamWxIdeal.Frame
public import proofs.«01_k».proof.Proof.Gen.AdamWxIdeal.Value
public import proofs.«01_k».proof.Proof.Gen.AdamWxRefIdeal.Run
public import proofs.«01_k».proof.Proof.Gen.AdamWxRefIdeal.Read
public import proofs.«01_k».proof.Proof.Gen.ModRep.Frame
public import proofs.«01_k».proof.Proof.Gen.ModRepIdeal.Frame
public import proofs.«01_k».proof.Proof.Gen.ModRepRefIdeal.Run
public import proofs.«01_k».proof.Proof.Gen.ModRepRefIdeal.Read
public import proofs.«01_k».proof.Proof.PoolBClaim
public import proofs.«01_k».proof.Proof.InXClaim
public import proofs.«01_k».proof.Proof.InFClaim
public import proofs.«01_k».proof.Proof.PoolFClaim
public import proofs.«01_k».proof.Proof.OutFClaim
public import proofs.«01_k».proof.Proof.OutWClaim
public import proofs.«01_k».proof.Proof.InWClaim
public import proofs.«01_k».proof.Proof.InW0Claim
public import proofs.«01_k».proof.Proof.AdamInClaim
public import proofs.«01_k».proof.Proof.AdamOutClaim
public import proofs.«01_k».proof.Proof.AdamPoolClaim
public import proofs.«01_k».proof.Proof.AdamModClaim
public import proofs.«01_k».proof.Proof.AdamWaClaim
public import proofs.«01_k».proof.Proof.AdamWxClaim
public import proofs.«01_k».proof.Proof.ModRepClaim

@[expose] public section

noncomputable section

namespace Cert.Proof

/-- Everything that is claimed: the programs' side conditions, then each call's frames, idealization and value. -/
theorem claim : Cert.Claim :=
  ⟨Cert.PoolB.Gen.facts,
    Cert.PoolBIdeal.Gen.facts,
    Cert.PoolBRefIdeal.Gen.facts,
    Cert.InX.Gen.facts,
    Cert.InXIdeal.Gen.facts,
    Cert.InXRefIdeal.Gen.facts,
    Cert.InF.Gen.facts,
    Cert.InFIdeal.Gen.facts,
    Cert.InFRefIdeal.Gen.facts,
    Cert.PoolF.Gen.facts,
    Cert.PoolFIdeal.Gen.facts,
    Cert.PoolFRefIdeal.Gen.facts,
    Cert.OutF.Gen.facts,
    Cert.OutFIdeal.Gen.facts,
    Cert.OutFRefIdeal.Gen.facts,
    Cert.OutW.Gen.facts,
    Cert.OutWIdeal.Gen.facts,
    Cert.OutWRefIdeal.Gen.facts,
    Cert.InW.Gen.facts,
    Cert.InWIdeal.Gen.facts,
    Cert.InWRefIdeal.Gen.facts,
    Cert.InW0.Gen.facts,
    Cert.InW0Ideal.Gen.facts,
    Cert.InW0RefIdeal.Gen.facts,
    Cert.AdamIn.Gen.facts,
    Cert.AdamInIdeal.Gen.facts,
    Cert.AdamInRefIdeal.Gen.facts,
    Cert.AdamOut.Gen.facts,
    Cert.AdamOutIdeal.Gen.facts,
    Cert.AdamOutRefIdeal.Gen.facts,
    Cert.AdamPool.Gen.facts,
    Cert.AdamPoolIdeal.Gen.facts,
    Cert.AdamPoolRefIdeal.Gen.facts,
    Cert.AdamMod.Gen.facts,
    Cert.AdamModIdeal.Gen.facts,
    Cert.AdamModRefIdeal.Gen.facts,
    Cert.AdamWa.Gen.facts,
    Cert.AdamWaIdeal.Gen.facts,
    Cert.AdamWaRefIdeal.Gen.facts,
    Cert.AdamWx.Gen.facts,
    Cert.AdamWxIdeal.Gen.facts,
    Cert.AdamWxRefIdeal.Gen.facts,
    Cert.ModRep.Gen.facts,
    Cert.ModRepIdeal.Gen.facts,
    Cert.ModRepRefIdeal.Gen.facts,
    PoolB.frame_kernel,
    PoolB.frame_ideal,
    PoolB.frame_ref,
    InX.frame_kernel,
    InX.frame_ideal,
    InX.frame_ref,
    InF.frame_kernel,
    InF.frame_ideal,
    InF.frame_ref,
    PoolF.frame_kernel,
    PoolF.frame_ideal,
    PoolF.frame_ref,
    OutF.frame_kernel,
    OutF.frame_ideal,
    OutF.frame_ref,
    OutW.frame_kernel,
    OutW.frame_ideal,
    OutW.frame_ref,
    InW.frame_kernel,
    InW.frame_ideal,
    InW.frame_ref,
    InW0.frame_kernel,
    InW0.frame_ideal,
    InW0.frame_ref,
    AdamIn.frame_kernel,
    AdamIn.frame_ideal,
    AdamIn.frame_ref,
    AdamOut.frame_kernel,
    AdamOut.frame_ideal,
    AdamOut.frame_ref,
    AdamPool.frame_kernel,
    AdamPool.frame_ideal,
    AdamPool.frame_ref,
    AdamMod.frame_kernel,
    AdamMod.frame_ideal,
    AdamMod.frame_ref,
    AdamWa.frame_kernel,
    AdamWa.frame_ideal,
    AdamWa.frame_ref,
    AdamWx.frame_kernel,
    AdamWx.frame_ideal,
    AdamWx.frame_ref,
    ModRep.frame_kernel,
    ModRep.frame_ideal,
    ModRep.frame_ref,
    PoolB.preserves,
    PoolB.algebraic,
    InX.preserves,
    InX.algebraic,
    InF.preserves,
    InF.algebraic,
    PoolF.preserves,
    PoolF.algebraic,
    OutF.preserves,
    OutF.algebraic,
    OutW.preserves,
    OutW.algebraic,
    InW.preserves,
    InW.algebraic,
    InW0.preserves,
    InW0.algebraic,
    AdamIn.preserves,
    AdamIn.algebraic,
    AdamOut.preserves,
    AdamOut.algebraic,
    AdamPool.preserves,
    AdamPool.algebraic,
    AdamMod.preserves,
    AdamMod.algebraic,
    AdamWa.preserves,
    AdamWa.algebraic,
    AdamWx.preserves,
    AdamWx.algebraic,
    ModRep.preserves,
    ModRep.algebraic⟩

end Cert.Proof

end
